-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "q_scale" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_2)) (v2 : (c : Dev Cert.Kernel4Ideal.nD) → Buf (Elt Ideal) ((c.tc : Thread Cert.Kernel4Ideal.nD Cert.Kernel4Ideal.τ).loc Cert.Kernel4Ideal.main_v16_3)) (v3 : (c : Dev Cert.Kernel4Ideal.nD) → Buf (Elt Ideal) ((c.tc : Thread Cert.Kernel4Ideal.nD Cert.Kernel4Ideal.τ).loc Cert.Kernel4Ideal.main_v16_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_2) = v1 c
          ∧ r.2.mem ((c.tc : Thread Cert.Kernel4Ideal.nD Cert.Kernel4Ideal.τ).loc Cert.Kernel4Ideal.main_v16_3) = v2 c
          ∧ r.2.mem ((c.tc : Thread Cert.Kernel4Ideal.nD Cert.Kernel4Ideal.τ).loc Cert.Kernel4Ideal.main_v16_4) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v25_1)) (v1 : (c : Dev Cert.Kernel5Ideal.nD) → Buf (Elt Ideal) ((c.tc : Thread Cert.Kernel5Ideal.nD Cert.Kernel5Ideal.τ).loc Cert.Kernel5Ideal.main_v25_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_1) = v0 c
          ∧ r.2.mem ((c.tc : Thread Cert.Kernel5Ideal.nD Cert.Kernel5Ideal.τ).loc Cert.Kernel5Ideal.main_v25_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8192x4x128 : Shape := ⟨4, ![4, 8192, 4, 128]⟩
abbrev S4x8192x4x64 : Shape := ⟨4, ![4, 8192, 4, 64]⟩
abbrev S4x8192x64 : Shape := ⟨3, ![4, 8192, 64]⟩
abbrev S16x4x128 : Shape := ⟨3, ![16, 4, 128]⟩
abbrev S16x64 : Shape := ⟨2, ![16, 64]⟩
abbrev S_ : Shape := ⟨0, ![]⟩

class Facts : Prop where
  bcast_S_S4x8192x4x128 : S_.BroadcastsInDim S4x8192x4x128 (![] : Fin 0 → Fin S4x8192x4x128.rank)
  bcast_S_S4x8192x4x64 : S_.BroadcastsInDim S4x8192x4x64 (![] : Fin 0 → Fin S4x8192x4x64.rank)
  bcast_S_S4x8192x64 : S_.BroadcastsInDim S4x8192x64 (![] : Fin 0 → Fin S4x8192x64.rank)
  bcast_S_S16x4x128 : S_.BroadcastsInDim S16x4x128 (![] : Fin 0 → Fin S16x4x128.rank)
  bcast_S_S16x64 : S_.BroadcastsInDim S16x64 (![] : Fin 0 → Fin S16x64.rank)

variable [Facts]

def fn {F : FTy → Type} [FloatOps F] (main_arg0 : FVec F S4x8192x4x128 .f32) (main_arg1 : FVec F S4x8192x4x64 .f32) (main_arg2 : FVec F S4x8192x4x128 .f32) (main_arg3 : FVec F S4x8192x64 .f32) (main_arg4 : FVec F S4x8192x4x128 .f32) (main_arg5 : FVec F S16x4x128 .f32) (main_arg6 : FVec F S16x64 .f32) (main_arg7 : FVec F S16x4x128 .f32) : IVec S4x8192x4x128 1 × IVec S4x8192x4x64 1 × IVec S4x8192x4x128 1 × IVec S4x8192x64 1 × IVec S16x4x128 1 × IVec S16x64 1 :=
  let main_v0 : FVec F S4x8192x4x128 .f32 := Host.absf main_arg0
  let main_cst : FVec F S_ .f32 := constant S_ .f32 0x7F800000#32
  let main_v1 : FVec F S4x8192x4x128 .f32 := broadcastInDim S4x8192x4x128 ![] bcast_S_S4x8192x4x128 main_cst
  let main_v2 : IVec S4x8192x4x128 1 := cmpf .olt main_v0 main_v1
  let main_v3 : FVec F S4x8192x4x64 .f32 := Host.absf main_arg1
  let main_cst_0 : FVec F S_ .f32 := constant S_ .f32 0x7F800000#32
  let main_v4 : FVec F S4x8192x4x64 .f32 := broadcastInDim S4x8192x4x64 ![] bcast_S_S4x8192x4x64 main_cst_0
  let main_v5 : IVec S4x8192x4x64 1 := cmpf .olt main_v3 main_v4
  let main_v6 : FVec F S4x8192x4x128 .f32 := Host.absf main_arg2
  let main_cst_1 : FVec F S_ .f32 := constant S_ .f32 0x7F800000#32
  let main_v7 : FVec F S4x8192x4x128 .f32 := broadcastInDim S4x8192x4x128 ![] bcast_S_S4x8192x4x128 main_cst_1
  let main_v8 : IVec S4x8192x4x128 1 := cmpf .olt main_v6 main_v7
  let main_v9 : FVec F S4x8192x64 .f32 := Host.absf main_arg3
  let main_cst_2 : FVec F S_ .f32 := constant S_ .f32 0x7F800000#32
  let main_v10 : FVec F S4x8192x64 .f32 := broadcastInDim S4x8192x64 ![] bcast_S_S4x8192x64 main_cst_2
  let main_v11 : IVec S4x8192x64 1 := cmpf .olt main_v9 main_v10
  let main_v12 : FVec F S16x4x128 .f32 := Host.absf main_arg5
  let main_cst_3 : FVec F S_ .f32 := constant S_ .f32 0x7F800000#32
  let main_v13 : FVec F S16x4x128 .f32 := broadcastInDim S16x4x128 ![] bcast_S_S16x4x128 main_cst_3
  let main_v14 : IVec S16x4x128 1 := cmpf .olt main_v12 main_v13
  let main_v15 : FVec F S16x64 .f32 := Host.absf main_arg6
  let main_cst_4 : FVec F S_ .f32 := constant S_ .f32 0x7F800000#32
  let main_v16 : FVec F S16x64 .f32 := broadcastInDim S16x64 ![] bcast_S_S16x64 main_cst_4
  let main_v17 : IVec S16x64 1 := cmpf .olt main_v15 main_v16
  (main_v2, main_v5, main_v8, main_v11, main_v14, main_v17)
-- ==== Kernel.lean ====
abbrev S4x8192x4x128 : Shape := ⟨4, ![4, 8192, 4, 128]⟩
abbrev S4x8192x4x64 : Shape := ⟨4, ![4, 8192, 4, 64]⟩
abbrev S4x8192x64 : Shape := ⟨3, ![4, 8192, 64]⟩
abbrev S16x4x128 : Shape := ⟨3, ![16, 4, 128]⟩
abbrev S16x64 : Shape := ⟨2, ![16, 64]⟩
abbrev S4x8192x4x256 : Shape := ⟨4, ![4, 8192, 4, 256]⟩
abbrev S4x8192x1024 : Shape := ⟨3, ![4, 8192, 1024]⟩
abbrev S4x8192x1x64 : Shape := ⟨4, ![4, 8192, 1, 64]⟩
abbrev S_ : Shape := ⟨0, ![]⟩
abbrev S16x1x64 : Shape := ⟨3, ![16, 1, 64]⟩
abbrev S16x4x64 : Shape := ⟨3, ![16, 4, 64]⟩
abbrev S16x4x256 : Shape := ⟨3, ![16, 4, 256]⟩
abbrev S16x1024 : Shape := ⟨2, ![16, 1024]⟩
abbrev S32768x512 : Shape := ⟨2, ![32768, 512]⟩
abbrev S512x32768 : Shape := ⟨2, ![512, 32768]⟩
abbrev S16x512 : Shape := ⟨2, ![16, 512]⟩
abbrev S512x16 : Shape := ⟨2, ![512, 16]⟩
abbrev S4x8192x512 : Shape := ⟨3, ![4, 8192, 512]⟩
abbrev S1x1024x1024 : Shape := ⟨3, ![1, 1024, 1024]⟩
abbrev S1x8192x1024 : Shape := ⟨3, ![1, 8192, 1024]⟩
abbrev S512x8192 : Shape := ⟨2, ![512, 8192]⟩
abbrev S1x1024x512 : Shape := ⟨3, ![1, 1024, 512]⟩
abbrev S8x512x512 : Shape := ⟨3, ![8, 512, 512]⟩
abbrev S8x1x512 : Shape := ⟨3, ![8, 1, 512]⟩
abbrev S8x128x512 : Shape := ⟨3, ![8, 128, 512]⟩
abbrev S16x256 : Shape := ⟨2, ![16, 256]⟩
abbrev S1x512x256 : Shape := ⟨3, ![1, 512, 256]⟩
abbrev S512x256 : Shape := ⟨2, ![512, 256]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S128x16 : Shape := ⟨2, ![128, 16]⟩
abbrev S128x512 : Shape := ⟨2, ![128, 512]⟩
abbrev S1x128x512 : Shape := ⟨3, ![1, 128, 512]⟩
abbrev S512x128 : Shape := ⟨2, ![512, 128]⟩
abbrev S1x512x128 : Shape := ⟨3, ![1, 512, 128]⟩

abbrev nBuf : Space → Nat
  | .hbm => 31
  | .vmem => 12
  | .smem => 0
  | _ => 0

abbrev bufTy : (tb : Table) → Fin (tcTables nBuf tb) → BufTy
  | .hbm, ⟨0, _⟩ => ⟨S4x8192x4x128, .f32⟩
  | .hbm, ⟨1, _⟩ => ⟨S4x8192x4x64, .f32⟩
  | .hbm, ⟨2, _⟩ => ⟨S4x8192x4x128, .f32⟩
  | .hbm, ⟨3, _⟩ => ⟨S4x8192x64, .f32⟩
  | .hbm, ⟨4, _⟩ => ⟨S4x8192x4x128, .f32⟩
  | .hbm, ⟨5, _⟩ => ⟨S16x4x128, .f32⟩
  | .hbm, ⟨6, _⟩ => ⟨S16x64, .f32⟩
  | .hbm, ⟨7, _⟩ => ⟨S16x4x128, .f32⟩
  | .hbm, ⟨8, _⟩ => ⟨S4x8192x4x256, .f32⟩
  | .hbm, ⟨9, _⟩ => ⟨S4x8192x1024, .f32⟩
  | .hbm, ⟨10, _⟩ => ⟨S4x8192x1x64, .f32⟩
  | .hbm, ⟨11, _⟩ => ⟨S4x8192x4x64, .f32⟩
  | .hbm, ⟨12, _⟩ => ⟨S_, .f32⟩
  | .hbm, ⟨13, _⟩ => ⟨S4x8192x4x64, .f32⟩
  | .hbm, ⟨14, _⟩ => ⟨S4x8192x4x256, .f32⟩
  | .hbm, ⟨15, _⟩ => ⟨S4x8192x1024, .f32⟩
  | .hbm, ⟨16, _⟩ => ⟨S4x8192x1024, .bf16⟩
  | .hbm, ⟨17, _⟩ => ⟨S16x1x64, .f32⟩
  | .hbm, ⟨18, _⟩ => ⟨S16x4x64, .f32⟩
  | .hbm, ⟨19, _⟩ => ⟨S_, .f32⟩
  | .hbm, ⟨20, _⟩ => ⟨S16x4x64, .f32⟩
  | .hbm, ⟨21, _⟩ => ⟨S16x4x256, .f32⟩
  | .hbm, ⟨22, _⟩ => ⟨S16x1024, .f32⟩
  | .hbm, ⟨23, _⟩ => ⟨S16x1024, .bf16⟩
  | .hbm, ⟨24, _⟩ => ⟨S4x8192x4x128, .bf16⟩
  | .hbm, ⟨25, _⟩ => ⟨S32768x512, .bf16⟩
  | .hbm, ⟨26, _⟩ => ⟨S512x32768, .bf16⟩
  | .hbm, ⟨27, _⟩ => ⟨S16x4x128, .bf16⟩
  | .hbm, ⟨28, _⟩ => ⟨S16x512, .bf16⟩
  | .hbm, ⟨29, _⟩ => ⟨S512x16, .bf16⟩
  | .hbm, ⟨30, _⟩ => ⟨S4x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8192x1024, .bf16⟩
  | .local _ .vmem, ⟨3, _⟩ => ⟨S512x8192, .bf16⟩
  | .local _ .vmem, ⟨4, _⟩ => ⟨S16x1024, .bf16⟩
  | .local _ .vmem, ⟨5, _⟩ => ⟨S512x16, .bf16⟩
  | .local _ .vmem, ⟨6, _⟩ => ⟨S1x1024x512, .bf16⟩
  | .local _ .vmem, ⟨7, _⟩ => ⟨S1x1024x512, .bf16⟩
  | .local _ .vmem, ⟨8, _⟩ => ⟨S8x512x512, .f32⟩
  | .local _ .vmem, ⟨9, _⟩ => ⟨S8x1x512, .f32⟩
  | .local _ .vmem, ⟨10, _⟩ => ⟨S8x1x512, .f32⟩
  | .local _ .vmem, ⟨11, _⟩ => ⟨S8x128x512, .f32⟩
  | _, _ => ⟨S4x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
def k0_mult2 : BitVec 32 :=
  let c0_i32_61 : BitVec 32 := 0#32
  c0_i32_61
def k0_mult3 : BitVec 32 :=
  let c0_i32_71 : BitVec 32 := 0#32
  c0_i32_71
def k0_mult4 : BitVec 32 :=
  let c0_i32_81 : BitVec 32 := 0#32
  c0_i32_81
def k0_mult5 : BitVec 32 :=
  let c0_i32_91 : BitVec 32 := 0#32
  c0_i32_91
def k0_mult6 : BitVec 32 :=
  let c0_i32_101 : BitVec 32 := 0#32
  c0_i32_101
def k0_mult7 : BitVec 32 :=
  let c0_i32_111 : BitVec 32 := 0#32
  c0_i32_111
def k0_mult8 : BitVec 32 :=
  let c0_i32_121 : BitVec 32 := 0#32
  c0_i32_121
@[reducible] def k0_t1_loop (i : grid0.Coords) : Scf.Loop 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_243 : BitVec 32 := 1#32
  ⟨c0_i32_242, v333, c1_i32_243⟩
def k0_mult9 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_799 : BitVec 32 := 1#32
  let v1378 : BitVec 32 := Scalar.addi v1377 c1_i32_799
  let c512_i32_800 : BitVec 32 := 512#32
  let v1379 : BitVec 32 := Scalar.muli v1378 c512_i32_800
  v1379
def k0_off1 (i : grid0.Coords) (k0_t1 : Fin (k0_t1_loop i).trips) (c0_i32_798 : BitVec 32) : Fin 3 → Nat :=
  let c0_801 : Index := 0#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c1_i32_799 : BitVec 32 := 1#32
  let v1378 : BitVec 32 := Scalar.addi v1377 c1_i32_799
  let c512_i32_800 : BitVec 32 := 512#32
  let v1379 : BitVec 32 := Scalar.muli v1378 c512_i32_800
  let v1380 : BitVec 32 := v1379
  let v1381 : Index := Scalar.indexCast v1380
  let c0_802 : Index := 0#32
  ![0, v1381.toNat, 0]
def k0_mult10 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_808 : BitVec 32 := 512#32
  let v1390 : BitVec 32 := Scalar.muli v1377 c512_i32_808
  v1390
def k0_off2 (i : grid0.Coords) (k0_t1 : Fin (k0_t1_loop i).trips) (c0_i32_798 : BitVec 32) : Fin 2 → Nat :=
  let c0_829 : Index := 0#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c512_i32_808 : BitVec 32 := 512#32
  let v1390 : BitVec 32 := Scalar.muli v1377 c512_i32_808
  let v1391 : BitVec 32 := v1390
  let v1420 : Index := Scalar.indexCast v1391
  ![0, v1420.toNat]
def k0_mult11 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_837 : BitVec 32 := 1#32
  let v1432 : BitVec 32 := Scalar.addi v1377 c1_i32_837
  let c512_i32_838 : BitVec 32 := 512#32
  let v1433 : BitVec 32 := Scalar.muli v1432 c512_i32_838
  v1433
def k0_off3 (i : grid0.Coords) (k0_t1 : Fin (k0_t1_loop i).trips) (c0_i32_798 : BitVec 32) : Fin 3 → Nat :=
  let c0_839 : Index := 0#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c1_i32_837 : BitVec 32 := 1#32
  let v1432 : BitVec 32 := Scalar.addi v1377 c1_i32_837
  let c512_i32_838 : BitVec 32 := 512#32
  let v1433 : BitVec 32 := Scalar.muli v1432 c512_i32_838
  let v1434 : BitVec 32 := v1433
  let v1435 : Index := Scalar.indexCast v1434
  let c256_840 : Index := 256#32
  ![0, v1435.toNat, 256]
def k0_mult12 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_846 : BitVec 32 := 512#32
  let v1444 : BitVec 32 := Scalar.muli v1377 c512_i32_846
  v1444
def k0_off4 (i : grid0.Coords) (k0_t1 : Fin (k0_t1_loop i).trips) (c0_i32_798 : BitVec 32) : Fin 2 → Nat :=
  let c128_867 : Index := 128#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c512_i32_846 : BitVec 32 := 512#32
  let v1444 : BitVec 32 := Scalar.muli v1377 c512_i32_846
  let v1445 : BitVec 32 := v1444
  let v1474 : Index := Scalar.indexCast v1445
  ![128, v1474.toNat]
def k0_mult13 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_875 : BitVec 32 := 1#32
  let v1486 : BitVec 32 := Scalar.addi v1377 c1_i32_875
  let c512_i32_876 : BitVec 32 := 512#32
  let v1487 : BitVec 32 := Scalar.muli v1486 c512_i32_876
  v1487
def k0_off5 (i : grid0.Coords) (k0_t1 : Fin (k0_t1_loop i).trips) (c0_i32_798 : BitVec 32) : Fin 3 → Nat :=
  let c0_877 : Index := 0#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c1_i32_875 : BitVec 32 := 1#32
  let v1486 : BitVec 32 := Scalar.addi v1377 c1_i32_875
  let c512_i32_876 : BitVec 32 := 512#32
  let v1487 : BitVec 32 := Scalar.muli v1486 c512_i32_876
  let v1488 : BitVec 32 := v1487
  let v1489 : Index := Scalar.indexCast v1488
  let c512_878 : Index := 512#32
  ![0, v1489.toNat, 512]
def k0_mult14 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_884 : BitVec 32 := 512#32
  let v1498 : BitVec 32 := Scalar.muli v1377 c512_i32_884
  v1498
def k0_off6 (i : grid0.Coords) (k0_t1 : Fin (k0_t1_loop i).trips) (c0_i32_798 : BitVec 32) : Fin 2 → Nat :=
  let c256_905 : Index := 256#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c512_i32_884 : BitVec 32 := 512#32
  let v1498 : BitVec 32 := Scalar.muli v1377 c512_i32_884
  let v1499 : BitVec 32 := v1498
  let v1528 : Index := Scalar.indexCast v1499
  ![256, v1528.toNat]
def k0_mult15 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_913 : BitVec 32 := 1#32
  let v1540 : BitVec 32 := Scalar.addi v1377 c1_i32_913
  let c512_i32_914 : BitVec 32 := 512#32
  let v1541 : BitVec 32 := Scalar.muli v1540 c512_i32_914
  v1541
def k0_off7 (i : grid0.Coords) (k0_t1 : Fin (k0_t1_loop i).trips) (c0_i32_798 : BitVec 32) : Fin 3 → Nat :=
  let c0_915 : Index := 0#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c1_i32_913 : BitVec 32 := 1#32
  let v1540 : BitVec 32 := Scalar.addi v1377 c1_i32_913
  let c512_i32_914 : BitVec 32 := 512#32
  let v1541 : BitVec 32 := Scalar.muli v1540 c512_i32_914
  let v1542 : BitVec 32 := v1541
  let v1543 : Index := Scalar.indexCast v1542
  let c768_916 : Index := 768#32
  ![0, v1543.toNat, 768]
def k0_mult16 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_922 : BitVec 32 := 512#32
  let v1552 : BitVec 32 := Scalar.muli v1377 c512_i32_922
  v1552
def k0_off8 (i : grid0.Coords) (k0_t1 : Fin (k0_t1_loop i).trips) (c0_i32_798 : BitVec 32) : Fin 2 → Nat :=
  let c384_943 : Index := 384#32
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let v1377 : BitVec 32 := Scalar.addi v1376 c0_i32_798
  let c512_i32_922 : BitVec 32 := 512#32
  let v1552 : BitVec 32 := Scalar.muli v1377 c512_i32_922
  let v1553 : BitVec 32 := v1552
  let v1582 : Index := Scalar.indexCast v1553
  ![384, v1582.toNat]
def k0_mult17 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_951 : BitVec 32 := 1#32
  let v1594 : BitVec 32 := Scalar.addi v1377 c1_i32_951
  let c512_i32_952 : BitVec 32 := 512#32
  let v1595 : BitVec 32 := Scalar.muli v1594 c512_i32_952
  v1595
def k0_mult18 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_960 : BitVec 32 := 512#32
  let v1606 : BitVec 32 := Scalar.muli v1377 c512_i32_960
  v1606
def k0_mult19 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_989 : BitVec 32 := 1#32
  let v1648 : BitVec 32 := Scalar.addi v1377 c1_i32_989
  let c512_i32_990 : BitVec 32 := 512#32
  let v1649 : BitVec 32 := Scalar.muli v1648 c512_i32_990
  v1649
def k0_mult20 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_998 : BitVec 32 := 512#32
  let v1660 : BitVec 32 := Scalar.muli v1377 c512_i32_998
  v1660
def k0_mult21 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_1027 : BitVec 32 := 1#32
  let v1702 : BitVec 32 := Scalar.addi v1377 c1_i32_1027
  let c512_i32_1028 : BitVec 32 := 512#32
  let v1703 : BitVec 32 := Scalar.muli v1702 c512_i32_1028
  v1703
def k0_mult22 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_1036 : BitVec 32 := 512#32
  let v1714 : BitVec 32 := Scalar.muli v1377 c512_i32_1036
  v1714
def k0_mult23 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_1065 : BitVec 32 := 1#32
  let v1756 : BitVec 32 := Scalar.addi v1377 c1_i32_1065
  let c512_i32_1066 : BitVec 32 := 512#32
  let v1757 : BitVec 32 := Scalar.muli v1756 c512_i32_1066
  v1757
def k0_mult24 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_1074 : BitVec 32 := 512#32
  let v1768 : BitVec 32 := Scalar.muli v1377 c512_i32_1074
  v1768
def k0_mult25 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1105 : BitVec 32 := 1#32
  let v1812 : BitVec 32 := Scalar.addi v1811 c1_i32_1105
  let c512_i32_1106 : BitVec 32 := 512#32
  let v1813 : BitVec 32 := Scalar.muli v1812 c512_i32_1106
  v1813
def k0_mult26 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1114 : BitVec 32 := 512#32
  let v1824 : BitVec 32 := Scalar.muli v1811 c512_i32_1114
  v1824
def k0_mult27 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1143 : BitVec 32 := 1#32
  let v1866 : BitVec 32 := Scalar.addi v1811 c1_i32_1143
  let c512_i32_1144 : BitVec 32 := 512#32
  let v1867 : BitVec 32 := Scalar.muli v1866 c512_i32_1144
  v1867
def k0_mult28 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1152 : BitVec 32 := 512#32
  let v1878 : BitVec 32 := Scalar.muli v1811 c512_i32_1152
  v1878
def k0_mult29 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1181 : BitVec 32 := 1#32
  let v1920 : BitVec 32 := Scalar.addi v1811 c1_i32_1181
  let c512_i32_1182 : BitVec 32 := 512#32
  let v1921 : BitVec 32 := Scalar.muli v1920 c512_i32_1182
  v1921
def k0_mult30 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1190 : BitVec 32 := 512#32
  let v1932 : BitVec 32 := Scalar.muli v1811 c512_i32_1190
  v1932
def k0_mult31 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1219 : BitVec 32 := 1#32
  let v1974 : BitVec 32 := Scalar.addi v1811 c1_i32_1219
  let c512_i32_1220 : BitVec 32 := 512#32
  let v1975 : BitVec 32 := Scalar.muli v1974 c512_i32_1220
  v1975
def k0_mult32 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1228 : BitVec 32 := 512#32
  let v1986 : BitVec 32 := Scalar.muli v1811 c512_i32_1228
  v1986
def k0_mult33 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1257 : BitVec 32 := 1#32
  let v2028 : BitVec 32 := Scalar.addi v1811 c1_i32_1257
  let c512_i32_1258 : BitVec 32 := 512#32
  let v2029 : BitVec 32 := Scalar.muli v2028 c512_i32_1258
  v2029
def k0_mult34 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1266 : BitVec 32 := 512#32
  let v2040 : BitVec 32 := Scalar.muli v1811 c512_i32_1266
  v2040
def k0_mult35 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1295 : BitVec 32 := 1#32
  let v2082 : BitVec 32 := Scalar.addi v1811 c1_i32_1295
  let c512_i32_1296 : BitVec 32 := 512#32
  let v2083 : BitVec 32 := Scalar.muli v2082 c512_i32_1296
  v2083
def k0_mult36 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1304 : BitVec 32 := 512#32
  let v2094 : BitVec 32 := Scalar.muli v1811 c512_i32_1304
  v2094
def k0_mult37 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1333 : BitVec 32 := 1#32
  let v2136 : BitVec 32 := Scalar.addi v1811 c1_i32_1333
  let c512_i32_1334 : BitVec 32 := 512#32
  let v2137 : BitVec 32 := Scalar.muli v2136 c512_i32_1334
  v2137
def k0_mult38 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1342 : BitVec 32 := 512#32
  let v2148 : BitVec 32 := Scalar.muli v1811 c512_i32_1342
  v2148
def k0_mult39 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1371 : BitVec 32 := 1#32
  let v2190 : BitVec 32 := Scalar.addi v1811 c1_i32_1371
  let c512_i32_1372 : BitVec 32 := 512#32
  let v2191 : BitVec 32 := Scalar.muli v2190 c512_i32_1372
  v2191
def k0_mult40 (i : grid0.Coords) (k0_t1 : Fin (k0_t1_loop i).trips) : BitVec 32 :=
  let c0_i32_242 : BitVec 32 := 0#32
  let c1_i32_243 : BitVec 32 := 1#32
  let arg12 : BitVec 32 := Scf.iv c0_i32_242 c1_i32_243 k0_t1
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1380 : BitVec 32 := 512#32
  let v2202 : BitVec 32 := Scalar.muli v1811 c512_i32_1380
  v2202
@[reducible] def k0_t2_loop (i : grid0.Coords) : Scf.Loop 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let v330 : BitVec 32 := Scalar.addi c0_i32_242 v329
  let c1_i32_244 : BitVec 32 := 1#32
  ⟨v333, v330, c1_i32_244⟩
def k0_mult41 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_799 : BitVec 32 := 1#32
  let v1378 : BitVec 32 := Scalar.addi v1377 c1_i32_799
  let c512_i32_800 : BitVec 32 := 512#32
  let v1379 : BitVec 32 := Scalar.muli v1378 c512_i32_800
  v1379
def k0_off9 (i : grid0.Coords) (k0_t2 : Fin (k0_t2_loop i).trips) (c0_i32_798 : BitVec 32) : Fin 3 → Nat :=
  let c0_801 : Index := 0#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c1_i32_799 : BitVec 32 := 1#32
  let v1378 : BitVec 32 := Scalar.addi v1377 c1_i32_799
  let c512_i32_800 : BitVec 32 := 512#32
  let v1379 : BitVec 32 := Scalar.muli v1378 c512_i32_800
  let v1380 : BitVec 32 := v1379
  let v1381 : Index := Scalar.indexCast v1380
  let c0_802 : Index := 0#32
  ![0, v1381.toNat, 0]
def k0_mult42 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_808 : BitVec 32 := 512#32
  let v1390 : BitVec 32 := Scalar.muli v1377 c512_i32_808
  v1390
def k0_off10 (i : grid0.Coords) (k0_t2 : Fin (k0_t2_loop i).trips) (c0_i32_798 : BitVec 32) : Fin 2 → Nat :=
  let c0_829 : Index := 0#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c512_i32_808 : BitVec 32 := 512#32
  let v1390 : BitVec 32 := Scalar.muli v1377 c512_i32_808
  let v1391 : BitVec 32 := v1390
  let v1420 : Index := Scalar.indexCast v1391
  ![0, v1420.toNat]
def k0_mult43 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_837 : BitVec 32 := 1#32
  let v1432 : BitVec 32 := Scalar.addi v1377 c1_i32_837
  let c512_i32_838 : BitVec 32 := 512#32
  let v1433 : BitVec 32 := Scalar.muli v1432 c512_i32_838
  v1433
def k0_off11 (i : grid0.Coords) (k0_t2 : Fin (k0_t2_loop i).trips) (c0_i32_798 : BitVec 32) : Fin 3 → Nat :=
  let c0_839 : Index := 0#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c1_i32_837 : BitVec 32 := 1#32
  let v1432 : BitVec 32 := Scalar.addi v1377 c1_i32_837
  let c512_i32_838 : BitVec 32 := 512#32
  let v1433 : BitVec 32 := Scalar.muli v1432 c512_i32_838
  let v1434 : BitVec 32 := v1433
  let v1435 : Index := Scalar.indexCast v1434
  let c256_840 : Index := 256#32
  ![0, v1435.toNat, 256]
def k0_mult44 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_846 : BitVec 32 := 512#32
  let v1444 : BitVec 32 := Scalar.muli v1377 c512_i32_846
  v1444
def k0_off12 (i : grid0.Coords) (k0_t2 : Fin (k0_t2_loop i).trips) (c0_i32_798 : BitVec 32) : Fin 2 → Nat :=
  let c128_867 : Index := 128#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c512_i32_846 : BitVec 32 := 512#32
  let v1444 : BitVec 32 := Scalar.muli v1377 c512_i32_846
  let v1445 : BitVec 32 := v1444
  let v1474 : Index := Scalar.indexCast v1445
  ![128, v1474.toNat]
def k0_mult45 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_875 : BitVec 32 := 1#32
  let v1486 : BitVec 32 := Scalar.addi v1377 c1_i32_875
  let c512_i32_876 : BitVec 32 := 512#32
  let v1487 : BitVec 32 := Scalar.muli v1486 c512_i32_876
  v1487
def k0_off13 (i : grid0.Coords) (k0_t2 : Fin (k0_t2_loop i).trips) (c0_i32_798 : BitVec 32) : Fin 3 → Nat :=
  let c0_877 : Index := 0#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c1_i32_875 : BitVec 32 := 1#32
  let v1486 : BitVec 32 := Scalar.addi v1377 c1_i32_875
  let c512_i32_876 : BitVec 32 := 512#32
  let v1487 : BitVec 32 := Scalar.muli v1486 c512_i32_876
  let v1488 : BitVec 32 := v1487
  let v1489 : Index := Scalar.indexCast v1488
  let c512_878 : Index := 512#32
  ![0, v1489.toNat, 512]
def k0_mult46 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_884 : BitVec 32 := 512#32
  let v1498 : BitVec 32 := Scalar.muli v1377 c512_i32_884
  v1498
def k0_off14 (i : grid0.Coords) (k0_t2 : Fin (k0_t2_loop i).trips) (c0_i32_798 : BitVec 32) : Fin 2 → Nat :=
  let c256_905 : Index := 256#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c512_i32_884 : BitVec 32 := 512#32
  let v1498 : BitVec 32 := Scalar.muli v1377 c512_i32_884
  let v1499 : BitVec 32 := v1498
  let v1528 : Index := Scalar.indexCast v1499
  ![256, v1528.toNat]
def k0_mult47 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_913 : BitVec 32 := 1#32
  let v1540 : BitVec 32 := Scalar.addi v1377 c1_i32_913
  let c512_i32_914 : BitVec 32 := 512#32
  let v1541 : BitVec 32 := Scalar.muli v1540 c512_i32_914
  v1541
def k0_off15 (i : grid0.Coords) (k0_t2 : Fin (k0_t2_loop i).trips) (c0_i32_798 : BitVec 32) : Fin 3 → Nat :=
  let c0_915 : Index := 0#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c1_i32_913 : BitVec 32 := 1#32
  let v1540 : BitVec 32 := Scalar.addi v1377 c1_i32_913
  let c512_i32_914 : BitVec 32 := 512#32
  let v1541 : BitVec 32 := Scalar.muli v1540 c512_i32_914
  let v1542 : BitVec 32 := v1541
  let v1543 : Index := Scalar.indexCast v1542
  let c768_916 : Index := 768#32
  ![0, v1543.toNat, 768]
def k0_mult48 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_922 : BitVec 32 := 512#32
  let v1552 : BitVec 32 := Scalar.muli v1377 c512_i32_922
  v1552
def k0_off16 (i : grid0.Coords) (k0_t2 : Fin (k0_t2_loop i).trips) (c0_i32_798 : BitVec 32) : Fin 2 → Nat :=
  let c384_943 : Index := 384#32
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let v1377 : BitVec 32 := Scalar.addi v1376 c0_i32_798
  let c512_i32_922 : BitVec 32 := 512#32
  let v1552 : BitVec 32 := Scalar.muli v1377 c512_i32_922
  let v1553 : BitVec 32 := v1552
  let v1582 : Index := Scalar.indexCast v1553
  ![384, v1582.toNat]
def k0_mult49 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_951 : BitVec 32 := 1#32
  let v1594 : BitVec 32 := Scalar.addi v1377 c1_i32_951
  let c512_i32_952 : BitVec 32 := 512#32
  let v1595 : BitVec 32 := Scalar.muli v1594 c512_i32_952
  v1595
def k0_mult50 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_960 : BitVec 32 := 512#32
  let v1606 : BitVec 32 := Scalar.muli v1377 c512_i32_960
  v1606
def k0_mult51 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_989 : BitVec 32 := 1#32
  let v1648 : BitVec 32 := Scalar.addi v1377 c1_i32_989
  let c512_i32_990 : BitVec 32 := 512#32
  let v1649 : BitVec 32 := Scalar.muli v1648 c512_i32_990
  v1649
def k0_mult52 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_998 : BitVec 32 := 512#32
  let v1660 : BitVec 32 := Scalar.muli v1377 c512_i32_998
  v1660
def k0_mult53 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_1027 : BitVec 32 := 1#32
  let v1702 : BitVec 32 := Scalar.addi v1377 c1_i32_1027
  let c512_i32_1028 : BitVec 32 := 512#32
  let v1703 : BitVec 32 := Scalar.muli v1702 c512_i32_1028
  v1703
def k0_mult54 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_1036 : BitVec 32 := 512#32
  let v1714 : BitVec 32 := Scalar.muli v1377 c512_i32_1036
  v1714
def k0_mult55 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c1_i32_1065 : BitVec 32 := 1#32
  let v1756 : BitVec 32 := Scalar.addi v1377 c1_i32_1065
  let c512_i32_1066 : BitVec 32 := 512#32
  let v1757 : BitVec 32 := Scalar.muli v1756 c512_i32_1066
  v1757
def k0_mult56 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_797 : BitVec 32 := 2#32
  let v1376 : BitVec 32 := Scalar.muli arg12 c2_i32_797
  let c0_i32_798 : BitVec 32 := 0#32
  let v1377 : BitVec 32 := Scalar.addi v1376 c0_i32_798
  let c512_i32_1074 : BitVec 32 := 512#32
  let v1768 : BitVec 32 := Scalar.muli v1377 c512_i32_1074
  v1768
def k0_mult57 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1105 : BitVec 32 := 1#32
  let v1812 : BitVec 32 := Scalar.addi v1811 c1_i32_1105
  let c512_i32_1106 : BitVec 32 := 512#32
  let v1813 : BitVec 32 := Scalar.muli v1812 c512_i32_1106
  v1813
def k0_mult58 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1114 : BitVec 32 := 512#32
  let v1824 : BitVec 32 := Scalar.muli v1811 c512_i32_1114
  v1824
def k0_mult59 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1143 : BitVec 32 := 1#32
  let v1866 : BitVec 32 := Scalar.addi v1811 c1_i32_1143
  let c512_i32_1144 : BitVec 32 := 512#32
  let v1867 : BitVec 32 := Scalar.muli v1866 c512_i32_1144
  v1867
def k0_mult60 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1152 : BitVec 32 := 512#32
  let v1878 : BitVec 32 := Scalar.muli v1811 c512_i32_1152
  v1878
def k0_mult61 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1181 : BitVec 32 := 1#32
  let v1920 : BitVec 32 := Scalar.addi v1811 c1_i32_1181
  let c512_i32_1182 : BitVec 32 := 512#32
  let v1921 : BitVec 32 := Scalar.muli v1920 c512_i32_1182
  v1921
def k0_mult62 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1190 : BitVec 32 := 512#32
  let v1932 : BitVec 32 := Scalar.muli v1811 c512_i32_1190
  v1932
def k0_mult63 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1219 : BitVec 32 := 1#32
  let v1974 : BitVec 32 := Scalar.addi v1811 c1_i32_1219
  let c512_i32_1220 : BitVec 32 := 512#32
  let v1975 : BitVec 32 := Scalar.muli v1974 c512_i32_1220
  v1975
def k0_mult64 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1228 : BitVec 32 := 512#32
  let v1986 : BitVec 32 := Scalar.muli v1811 c512_i32_1228
  v1986
def k0_mult65 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1257 : BitVec 32 := 1#32
  let v2028 : BitVec 32 := Scalar.addi v1811 c1_i32_1257
  let c512_i32_1258 : BitVec 32 := 512#32
  let v2029 : BitVec 32 := Scalar.muli v2028 c512_i32_1258
  v2029
def k0_mult66 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1266 : BitVec 32 := 512#32
  let v2040 : BitVec 32 := Scalar.muli v1811 c512_i32_1266
  v2040
def k0_mult67 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1295 : BitVec 32 := 1#32
  let v2082 : BitVec 32 := Scalar.addi v1811 c1_i32_1295
  let c512_i32_1296 : BitVec 32 := 512#32
  let v2083 : BitVec 32 := Scalar.muli v2082 c512_i32_1296
  v2083
def k0_mult68 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1304 : BitVec 32 := 512#32
  let v2094 : BitVec 32 := Scalar.muli v1811 c512_i32_1304
  v2094
def k0_mult69 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1333 : BitVec 32 := 1#32
  let v2136 : BitVec 32 := Scalar.addi v1811 c1_i32_1333
  let c512_i32_1334 : BitVec 32 := 512#32
  let v2137 : BitVec 32 := Scalar.muli v2136 c512_i32_1334
  v2137
def k0_mult70 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1342 : BitVec 32 := 512#32
  let v2148 : BitVec 32 := Scalar.muli v1811 c512_i32_1342
  v2148
def k0_mult71 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c1_i32_1371 : BitVec 32 := 1#32
  let v2190 : BitVec 32 := Scalar.addi v1811 c1_i32_1371
  let c512_i32_1372 : BitVec 32 := 512#32
  let v2191 : BitVec 32 := Scalar.muli v2190 c512_i32_1372
  v2191
def k0_mult72 (i : grid0.Coords) (k0_t2 : Fin (k0_t2_loop i).trips) : BitVec 32 :=
  let c0_i32_242 : BitVec 32 := 0#32
  let arg1 : BitVec 32 := BitVec.ofNat 32 (i 1).val
  let v329 : BitVec 32 := Scalar.subi arg1 c0_i32_242
  let c1_i32 : BitVec 32 := 1#32
  let v331 : BitVec 32 := Scalar.divsi v329 c1_i32
  let v332 : BitVec 32 := Scalar.muli v331 c1_i32
  let v333 : BitVec 32 := Scalar.addi c0_i32_242 v332
  let c1_i32_244 : BitVec 32 := 1#32
  let arg12 : BitVec 32 := Scf.iv v333 c1_i32_244 k0_t2
  let c2_i32_1103 : BitVec 32 := 2#32
  let v1810 : BitVec 32 := Scalar.muli arg12 c2_i32_1103
  let c1_i32_1104 : BitVec 32 := 1#32
  let v1811 : BitVec 32 := Scalar.addi v1810 c1_i32_1104
  let c512_i32_1380 : BitVec 32 := 512#32
  let v2202 : BitVec 32 := Scalar.muli v1811 c512_i32_1380
  v2202
def k0_mult73 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32 : BitVec 32 := 512#32
  let v335 : BitVec 32 := Scalar.muli v334 c512_i32
  v335
def k0_off17 (i : grid0.Coords) (c0_i32_245 : BitVec 32) : Fin 2 → Nat :=
  let c0_280 : Index := 0#32
  let arg1 : BitVec 32 := BitVec.ofNat 32 (i 1).val
  let c2_i32 : BitVec 32 := 2#32
  let v0 : BitVec 32 := Scalar.muli arg1 c2_i32
  let v334 : BitVec 32 := Scalar.addi v0 c0_i32_245
  let c512_i32 : BitVec 32 := 512#32
  let v335 : BitVec 32 := Scalar.muli v334 c512_i32
  let v336 : BitVec 32 := v335
  let v418 : Index := Scalar.indexCast v336
  ![0, v418.toNat]
def k0_mult74 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_285 : BitVec 32 := 512#32
  let v427 : BitVec 32 := Scalar.muli v334 c512_i32_285
  v427
def k0_off18 (i : grid0.Coords) (c0_i32_245 : BitVec 32) : Fin 2 → Nat :=
  let c128_321 : Index := 128#32
  let arg1 : BitVec 32 := BitVec.ofNat 32 (i 1).val
  let c2_i32 : BitVec 32 := 2#32
  let v0 : BitVec 32 := Scalar.muli arg1 c2_i32
  let v334 : BitVec 32 := Scalar.addi v0 c0_i32_245
  let c512_i32_285 : BitVec 32 := 512#32
  let v427 : BitVec 32 := Scalar.muli v334 c512_i32_285
  let v428 : BitVec 32 := v427
  let v510 : Index := Scalar.indexCast v428
  ![128, v510.toNat]
def k0_mult75 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_326 : BitVec 32 := 512#32
  let v519 : BitVec 32 := Scalar.muli v334 c512_i32_326
  v519
def k0_off19 (i : grid0.Coords) (c0_i32_245 : BitVec 32) : Fin 2 → Nat :=
  let c256_362 : Index := 256#32
  let arg1 : BitVec 32 := BitVec.ofNat 32 (i 1).val
  let c2_i32 : BitVec 32 := 2#32
  let v0 : BitVec 32 := Scalar.muli arg1 c2_i32
  let v334 : BitVec 32 := Scalar.addi v0 c0_i32_245
  let c512_i32_326 : BitVec 32 := 512#32
  let v519 : BitVec 32 := Scalar.muli v334 c512_i32_326
  let v520 : BitVec 32 := v519
  let v602 : Index := Scalar.indexCast v520
  ![256, v602.toNat]
def k0_mult76 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_367 : BitVec 32 := 512#32
  let v611 : BitVec 32 := Scalar.muli v334 c512_i32_367
  v611
def k0_off20 (i : grid0.Coords) (c0_i32_245 : BitVec 32) : Fin 2 → Nat :=
  let c384_403 : Index := 384#32
  let arg1 : BitVec 32 := BitVec.ofNat 32 (i 1).val
  let c2_i32 : BitVec 32 := 2#32
  let v0 : BitVec 32 := Scalar.muli arg1 c2_i32
  let v334 : BitVec 32 := Scalar.addi v0 c0_i32_245
  let c512_i32_367 : BitVec 32 := 512#32
  let v611 : BitVec 32 := Scalar.muli v334 c512_i32_367
  let v612 : BitVec 32 := v611
  let v694 : Index := Scalar.indexCast v612
  ![384, v694.toNat]
def k0_mult77 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_408 : BitVec 32 := 1#32
  let v703 : BitVec 32 := Scalar.addi v334 c1_i32_408
  let c512_i32_409 : BitVec 32 := 512#32
  let v704 : BitVec 32 := Scalar.muli v703 c512_i32_409
  v704
def k0_off21 (i : grid0.Coords) : Fin 3 → Nat :=
  let c0_410 : Index := 0#32
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_408 : BitVec 32 := 1#32
  let v703 : BitVec 32 := Scalar.addi v334 c1_i32_408
  let c512_i32_409 : BitVec 32 := 512#32
  let v704 : BitVec 32 := Scalar.muli v703 c512_i32_409
  let v705 : BitVec 32 := v704
  let v706 : Index := Scalar.indexCast v705
  let c0_411 : Index := 0#32
  ![0, v706.toNat, 0]
def k0_mult78 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_417 : BitVec 32 := 512#32
  let v715 : BitVec 32 := Scalar.muli v334 c512_i32_417
  v715
def k0_mult79 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_446 : BitVec 32 := 1#32
  let v757 : BitVec 32 := Scalar.addi v334 c1_i32_446
  let c512_i32_447 : BitVec 32 := 512#32
  let v758 : BitVec 32 := Scalar.muli v757 c512_i32_447
  v758
def k0_off22 (i : grid0.Coords) : Fin 3 → Nat :=
  let c0_448 : Index := 0#32
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_446 : BitVec 32 := 1#32
  let v757 : BitVec 32 := Scalar.addi v334 c1_i32_446
  let c512_i32_447 : BitVec 32 := 512#32
  let v758 : BitVec 32 := Scalar.muli v757 c512_i32_447
  let v759 : BitVec 32 := v758
  let v760 : Index := Scalar.indexCast v759
  let c256_449 : Index := 256#32
  ![0, v760.toNat, 256]
def k0_mult80 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_455 : BitVec 32 := 512#32
  let v769 : BitVec 32 := Scalar.muli v334 c512_i32_455
  v769
def k0_mult81 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_484 : BitVec 32 := 1#32
  let v811 : BitVec 32 := Scalar.addi v334 c1_i32_484
  let c512_i32_485 : BitVec 32 := 512#32
  let v812 : BitVec 32 := Scalar.muli v811 c512_i32_485
  v812
def k0_off23 (i : grid0.Coords) : Fin 3 → Nat :=
  let c0_486 : Index := 0#32
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_484 : BitVec 32 := 1#32
  let v811 : BitVec 32 := Scalar.addi v334 c1_i32_484
  let c512_i32_485 : BitVec 32 := 512#32
  let v812 : BitVec 32 := Scalar.muli v811 c512_i32_485
  let v813 : BitVec 32 := v812
  let v814 : Index := Scalar.indexCast v813
  let c512_487 : Index := 512#32
  ![0, v814.toNat, 512]
def k0_mult82 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_493 : BitVec 32 := 512#32
  let v823 : BitVec 32 := Scalar.muli v334 c512_i32_493
  v823
def k0_mult83 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_522 : BitVec 32 := 1#32
  let v865 : BitVec 32 := Scalar.addi v334 c1_i32_522
  let c512_i32_523 : BitVec 32 := 512#32
  let v866 : BitVec 32 := Scalar.muli v865 c512_i32_523
  v866
def k0_off24 (i : grid0.Coords) : Fin 3 → Nat :=
  let c0_524 : Index := 0#32
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c1_i32_522 : BitVec 32 := 1#32
  let v865 : BitVec 32 := Scalar.addi v334 c1_i32_522
  let c512_i32_523 : BitVec 32 := 512#32
  let v866 : BitVec 32 := Scalar.muli v865 c512_i32_523
  let v867 : BitVec 32 := v866
  let v868 : Index := Scalar.indexCast v867
  let c768_525 : Index := 768#32
  ![0, v868.toNat, 768]
def k0_mult84 (i : grid0.Coords) : BitVec 32 :=
  let arg1 : BitVec 32 := BitVec.ofNat 32 (i 1).val
  let c2_i32 : BitVec 32 := 2#32
  let v0 : BitVec 32 := Scalar.muli arg1 c2_i32
  let c0_i32_245 : BitVec 32 := 0#32
  let v334 : BitVec 32 := Scalar.addi v0 c0_i32_245
  let c512_i32_531 : BitVec 32 := 512#32
  let v877 : BitVec 32 := Scalar.muli v334 c512_i32_531
  v877
def k0_mult85 (i : grid0.Coords) : BitVec 32 :=
  let arg1 : BitVec 32 := BitVec.ofNat 32 (i 1).val
  let c2_i32 : BitVec 32 := 2#32
  let v0 : BitVec 32 := Scalar.muli arg1 c2_i32
  let c1_i32_560 : BitVec 32 := 1#32
  let v919 : BitVec 32 := Scalar.addi v0 c1_i32_560
  let c512_i32_561 : BitVec 32 := 512#32
  let v920 : BitVec 32 := Scalar.muli v919 c512_i32_561
  v920
def k0_mult86 (i : grid0.Coords) : BitVec 32 :=
  let arg1 : BitVec 32 := BitVec.ofNat 32 (i 1).val
  let c2_i32 : BitVec 32 := 2#32
  let v0 : BitVec 32 := Scalar.muli arg1 c2_i32
  let c1_i32_560 : BitVec 32 := 1#32
  let v919 : BitVec 32 := Scalar.addi v0 c1_i32_560
  let c512_i32_602 : BitVec 32 := 512#32
  let v1012 : BitVec 32 := Scalar.muli v919 c512_i32_602
  v1012
def k0_mult87 (i : grid0.Coords) : BitVec 32 :=
  let arg1 : BitVec 32 := BitVec.ofNat 32 (i 1).val
  let c2_i32 : BitVec 32 := 2#32
  let v0 : BitVec 32 := Scalar.muli arg1 c2_i32
  let c1_i32_560 : BitVec 32 := 1#32
  let v919 : BitVec 32 := Scalar.addi v0 c1_i32_560
  let c512_i32_643 : BitVec 32 := 512#32
  let v1104 : BitVec 32 := Scalar.muli v919 c512_i32_643
  v1104
def k0_mult88 (i : grid0.Coords) : BitVec 32 :=
  let arg1 : BitVec 32 := BitVec.ofNat 32 (i 1).val
  let c2_i32 : BitVec 32 := 2#32
  let v0 : BitVec 32 := Scalar.muli arg1 c2_i32
  let c1_i32_560 : BitVec 32 := 1#32
  let v919 : BitVec 32 := Scalar.addi v0 c1_i32_560
  let c512_i32_684 : BitVec 32 := 512#32
  let v1196 : BitVec 32 := Scalar.muli v919 c512_i32_684
  v1196
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "q_scale" => some (((Real.sqrt 192)⁻¹ * (Real.log 2)⁻¹ : ℝ) : EReal)
  | _ => none
-- ==== ReferenceIdeal.lean ====
abbrev S4x8192x4x128 : Shape := ⟨4, ![4, 8192, 4, 128]⟩
abbrev S4x8192x4x64 : Shape := ⟨4, ![4, 8192, 4, 64]⟩
abbrev S4x8192x64 : Shape := ⟨3, ![4, 8192, 64]⟩
abbrev S16x4x128 : Shape := ⟨3, ![16, 4, 128]⟩
abbrev S16x64 : Shape := ⟨2, ![16, 64]⟩
abbrev S1x16x4x128 : Shape := ⟨4, ![1, 16, 4, 128]⟩
abbrev S4x16x4x128 : Shape := ⟨4, ![4, 16, 4, 128]⟩
abbrev S4x8208x4x128 : Shape := ⟨4, ![4, 8208, 4, 128]⟩
abbrev S1x16x64 : Shape := ⟨3, ![1, 16, 64]⟩
abbrev S4x16x64 : Shape := ⟨3, ![4, 16, 64]⟩
abbrev S4x8208x64 : Shape := ⟨3, ![4, 8208, 64]⟩
abbrev S_ : Shape := ⟨0, ![]⟩
abbrev S16 : Shape := ⟨1, ![16]⟩
abbrev S8192 : Shape := ⟨1, ![8192]⟩
abbrev S8208 : Shape := ⟨1, ![8208]⟩
abbrev S1x8208 : Shape := ⟨2, ![1, 8208]⟩
abbrev S8192x1 : Shape := ⟨2, ![8192, 1]⟩
abbrev S8192x8208 : Shape := ⟨2, ![8192, 8208]⟩
abbrev S4x4x8192x8208 : Shape := ⟨4, ![4, 4, 8192, 8208]⟩
abbrev S4x8208x8192x4 : Shape := ⟨4, ![4, 8208, 8192, 4]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x512 : Shape := ⟨3, ![4, 8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x4x128, .f32⟩
  | .hbm, ⟨1, _⟩ => ⟨S4x8192x4x64, .f32⟩
  | .hbm, ⟨2, _⟩ => ⟨S4x8192x4x128, .f32⟩
  | .hbm, ⟨3, _⟩ => ⟨S4x8192x64, .f32⟩
  | .hbm, ⟨4, _⟩ => ⟨S4x8192x4x128, .f32⟩
  | .hbm, ⟨5, _⟩ => ⟨S16x4x128, .f32⟩
  | .hbm, ⟨6, _⟩ => ⟨S16x64, .f32⟩
  | .hbm, ⟨7, _⟩ => ⟨S16x4x128, .f32⟩
  | .hbm, ⟨8, _⟩ => ⟨S1x16x4x128, .f32⟩
  | .hbm, ⟨9, _⟩ => ⟨S4x16x4x128, .f32⟩
  | .hbm, ⟨10, _⟩ => ⟨S4x8208x4x128, .f32⟩
  | .hbm, ⟨11, _⟩ => ⟨S1x16x64, .f32⟩
  | .hbm, ⟨12, _⟩ => ⟨S4x16x64, .f32⟩
  | .hbm, ⟨13, _⟩ => ⟨S4x8208x64, .f32⟩
  | .hbm, ⟨14, _⟩ => ⟨S1x16x4x128, .f32⟩
  | .hbm, ⟨15, _⟩ => ⟨S4x16x4x128, .f32⟩
  | .hbm, ⟨16, _⟩ => ⟨S4x8208x4x128, .f32⟩
  | .hbm, ⟨17, _⟩ => ⟨S_, .i32⟩
  | .hbm, ⟨18, _⟩ => ⟨S16, .i32⟩
  | .hbm, ⟨19, _⟩ => ⟨S8192, .i32⟩
  | .hbm, ⟨20, _⟩ => ⟨S_, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8208, .i32⟩
  | .hbm, ⟨39, _⟩ => ⟨S8192, .i32⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S1x8208, .i32⟩
  | .hbm, ⟨59, _⟩ => ⟨S8192x1, .i32⟩
  | .hbm, ⟨60, _⟩ => ⟨S8192x8208, .i32⟩
  | .hbm, ⟨61, _⟩ => ⟨S8192x8208, .i32⟩
  | .hbm, ⟨62, _⟩ => ⟨S8192x8208, .i1⟩
  | .hbm, ⟨63, _⟩ => ⟨S4x4x8192x8208, .f32⟩
  | .hbm, ⟨64, _⟩ => ⟨S4x8208x8192x4, .f32⟩
  | .hbm, ⟨65, _⟩ => ⟨S4x4x8192x8208, .f32⟩
  | .hbm, ⟨66, _⟩ => ⟨S4x4x8192x8208, .f32⟩
  | .hbm, ⟨67, _⟩ => ⟨S_, .f32⟩
  | .hbm, ⟨68, _⟩ => ⟨S_, .f32⟩
  | .hbm, ⟨69, _⟩ => ⟨S4x4x8192x8208, .f32⟩
  | .hbm, ⟨70, _⟩ => ⟨S4x4x8192x8208, .f32⟩
  | .hbm, ⟨71, _⟩ => ⟨S_, .f32⟩
  | .hbm, ⟨72, _⟩ => ⟨S_, .f32⟩
  | .hbm, ⟨73, _⟩ => ⟨S4x4x8192x8208, .i1⟩
  | .hbm, ⟨74, _⟩ => ⟨S4x4x8192x8208, .f32⟩
  | .hbm, ⟨75, _⟩ => ⟨S4x4x8192x8208, .f32⟩
  | .hbm, ⟨76, _⟩ => ⟨S_, .f32⟩
  | .hbm, ⟨77, _⟩ => ⟨S4x4x8192, .f32⟩
  | .hbm, ⟨78, _⟩ => ⟨S_, .f32⟩
  | .hbm, ⟨79, _⟩ => ⟨S4x4x8192, .f32⟩
  | .hbm, ⟨80, _⟩ => ⟨S4x4x8192, .f32⟩
  | .hbm, ⟨81, _⟩ => ⟨S4x4x8192x1, .f32⟩
  | .hbm, ⟨82, _⟩ => ⟨S4x4x8192x8208, .f32⟩
  | .hbm, ⟨83, _⟩ => ⟨S4x4x8192x8208, .f32⟩
  | .hbm, ⟨84, _⟩ => ⟨S4x4x8192x8208, .f32⟩
  | .hbm, ⟨85, _⟩ => ⟨S_, .f32⟩
  | .hbm, ⟨86, _⟩ => ⟨S4x4x8192, .f32⟩
  | .hbm, ⟨87, _⟩ => ⟨S4x4x8192x1, .f32⟩
  | .hbm, ⟨88, _⟩ => ⟨S4x4x8192x8208, .f32⟩
  | .hbm, ⟨89, _⟩ => ⟨S4x4x8192x8208, .f32⟩
  | .hbm, ⟨90, _⟩ => ⟨S4x4x128x8192, .f32⟩
  | .hbm, ⟨91, _⟩ => ⟨S4x8192x4x128, .f32⟩
  | .hbm, ⟨92, _⟩ => ⟨S4x8192x512, .f32⟩
  | .hbm, ⟨93, _⟩ => ⟨S4x8192x512, .bf16⟩
  | _, _ => ⟨S4x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_2 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v27 : Ref sig .tc := ⟨.hbm, 75, rfl⟩
abbrev main_cst_3 : Ref sig .tc := ⟨.hbm, 76, rfl⟩
abbrev main_v28 : Ref sig .tc := ⟨.hbm, 77, rfl⟩
abbrev main_cst_4 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_5 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 24
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S32768x1024, .f32⟩
  | .hbm, ⟨19, _⟩ => ⟨S4x8192x512, .bf16⟩
  | .hbm, ⟨20, _⟩ => ⟨S32768x512, .bf16⟩
  | .hbm, ⟨21, _⟩ => ⟨S4x8192x512, .bf16⟩
  | .hbm, ⟨22, _⟩ => ⟨S32768x512, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x1024, .f32⟩
  | .hbm, ⟨41, _⟩ => ⟨S_, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S1x1x1024, .f32⟩
  | .hbm, ⟨59, _⟩ => ⟨S4x8192x1024, .f32⟩
  | .hbm, ⟨60, _⟩ => ⟨S4x8192x1024, .f32⟩
  | .hbm, ⟨61, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel3.lean ====
abbrev S32x64x1024 : Shape := ⟨3, ![32, 64, 1024]⟩
abbrev S1024 : Shape := ⟨1, ![1024]⟩
abbrev S1024x2816 : Shape := ⟨2, ![1024, 2816]⟩
abbrev S2816x1024 : Shape := ⟨2, ![2816, 1024]⟩
abbrev S1024x2760 : Shape := ⟨2, ![1024, 2760]⟩
abbrev S1x1024 : Shape := ⟨2, ![1, 1024]⟩
abbrev S1024x1536 : Shape := ⟨2, ![1024, 1536]⟩
abbrev S1024x512 : Shape := ⟨2, ![1024, 512]⟩
abbrev S_ : Shape := ⟨0, ![]⟩
abbrev S1024x56 : Shape := ⟨2, ![1024, 56]⟩
abbrev S1024x640 : Shape := ⟨2, ![1024, 640]⟩
abbrev S1024x64 : Shape := ⟨2, ![1024, 64]⟩
abbrev S1024x8 : Shape := ⟨2, ![1024, 8]⟩
abbrev S1024x768 : Shape := ⟨2, ![1024, 768]⟩
abbrev S2048x1024 : Shape := ⟨2, ![2048, 1024]⟩
abbrev S2048x1536 : Shape := ⟨2, ![2048, 1536]⟩
abbrev S2048x512 : Shape := ⟨2, ![2048, 512]⟩
abbrev S2048x768 : Shape := ⟨2, ![2048, 768]⟩
abbrev S512x1024 : Shape := ⟨2, ![512, 1024]⟩
abbrev S512x1536 : Shape := ⟨2, ![512, 1536]⟩
abbrev S512x512 : Shape := ⟨2, ![512, 512]⟩
abbrev S512x768 : Shape := ⟨2, ![512, 768]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 28
  | .vmem => 20
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2760, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024x1536, .f32⟩
  | .hbm, ⟨13, _⟩ => ⟨S1024x1536, .bf16⟩
  | .hbm, ⟨14, _⟩ => ⟨S1024x512, .f32⟩
  | .hbm, ⟨15, _⟩ => ⟨S1024x512, .bf16⟩
  | .hbm, ⟨16, _⟩ => ⟨S_, .f32⟩
  | .hbm, ⟨17, _⟩ => ⟨S1024x56, .f32⟩
  | .hbm, ⟨18, _⟩ => ⟨S1024x640, .f32⟩
  | .hbm, ⟨19, _⟩ => ⟨S1024x64, .f32⟩
  | .hbm, ⟨20, _⟩ => ⟨S1024x8, .f32⟩
  | .hbm, ⟨21, _⟩ => ⟨S1024x768, .f32⟩
  | .hbm, ⟨22, _⟩ => ⟨S1024x768, .bf16⟩
  | .hbm, ⟨23, _⟩ => ⟨S2048x1024, .f32⟩
  | .hbm, ⟨24, _⟩ => ⟨S2048x1024, .f32⟩
  | .hbm, ⟨25, _⟩ => ⟨S2048x1536, .f32⟩
  | .hbm, ⟨26, _⟩ => ⟨S2048x512, .f32⟩
  | .hbm, ⟨27, _⟩ => ⟨S2048x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x768, .bf16⟩
  | .local _ .vmem, ⟨10, _⟩ => ⟨S512x1024, .f32⟩
  | .local _ .vmem, ⟨11, _⟩ => ⟨S512x1024, .f32⟩
  | .local _ .vmem, ⟨12, _⟩ => ⟨S512x1536, .f32⟩
  | .local _ .vmem, ⟨13, _⟩ => ⟨S512x1536, .f32⟩
  | .local _ .vmem, ⟨14, _⟩ => ⟨S512x512, .f32⟩
  | .local _ .vmem, ⟨15, _⟩ => ⟨S512x512, .f32⟩
  | .local _ .vmem, ⟨16, _⟩ => ⟨S512x768, .f32⟩
  | .local _ .vmem, ⟨17, _⟩ => ⟨S512x768, .f32⟩
  | .local _ .vmem, ⟨18, _⟩ => ⟨S512x1024, .bf16⟩
  | .local _ .vmem, ⟨19, _⟩ => ⟨S512x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32x64x1024 : Shape := ⟨3, ![32, 64, 1024]⟩
abbrev S1024 : Shape := ⟨1, ![1024]⟩
abbrev S1024x2816 : Shape := ⟨2, ![1024, 2816]⟩
abbrev S2816x1024 : Shape := ⟨2, ![2816, 1024]⟩
abbrev S1024x2760 : Shape := ⟨2, ![1024, 2760]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x2816 : Shape := ⟨3, ![32, 64, 2816]⟩
abbrev S32x64x2760 : Shape := ⟨3, ![32, 64, 2760]⟩
abbrev S32x64x1536 : Shape := ⟨3, ![32, 64, 1536]⟩
abbrev S32x64x512 : Shape := ⟨3, ![32, 64, 512]⟩
abbrev S32x64x4 : Shape := ⟨3, ![32, 64, 4]⟩
abbrev S32x64x384 : Shape := ⟨3, ![32, 64, 384]⟩
abbrev S32x64x256 : Shape := ⟨3, ![32, 64, 256]⟩
abbrev S32x64x64 : Shape := ⟨3, ![32, 64, 64]⟩
abbrev S32x64x56 : Shape := ⟨3, ![32, 64, 56]⟩
abbrev S32x64x768 : Shape := ⟨3, ![32, 64, 768]⟩
abbrev S2048x1024 : Shape := ⟨2, ![2048, 1024]⟩
abbrev S2048x1536 : Shape := ⟨2, ![2048, 1536]⟩
abbrev S2048x512 : Shape := ⟨2, ![2048, 512]⟩
abbrev S2048x768 : Shape := ⟨2, ![2048, 768]⟩

abbrev nBuf : Space → Nat
  | .hbm => 71
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2760, .f32⟩
  | .hbm, ⟨7, _⟩ => ⟨S32x64x1024, .f32⟩
  | .hbm, ⟨8, _⟩ => ⟨S_, .f32⟩
  | .hbm, ⟨9, _⟩ => ⟨S32x64, .f32⟩
  | .hbm, ⟨10, _⟩ => ⟨S32x64x1, .f32⟩
  | .hbm, ⟨11, _⟩ => ⟨S_, .f32⟩
  | .hbm, ⟨12, _⟩ => ⟨S32x64x1, .f32⟩
  | .hbm, ⟨13, _⟩ => ⟨S32x64x1, .f32⟩
  | .hbm, ⟨14, _⟩ => ⟨S_, .f32⟩
  | .hbm, ⟨15, _⟩ => ⟨S32x64x1, .f32⟩
  | .hbm, ⟨16, _⟩ => ⟨S32x64x1, .f32⟩
  | .hbm, ⟨17, _⟩ => ⟨S32x64x1, .f32⟩
  | .hbm, ⟨18, _⟩ => ⟨S32x64x1024, .f32⟩
  | .hbm, ⟨19, _⟩ => ⟨S32x64x1024, .f32⟩
  | .hbm, ⟨20, _⟩ => ⟨S1x1x1024, .f32⟩
  | .hbm, ⟨21, _⟩ => ⟨S32x64x1024, .f32⟩
  | .hbm, ⟨22, _⟩ => ⟨S32x64x1024, .f32⟩
  | .hbm, ⟨23, _⟩ => ⟨S32x64x2816, .f32⟩
  | .hbm, ⟨24, _⟩ => ⟨S32x64x2816, .f32⟩
  | .hbm, ⟨25, _⟩ => ⟨S32x64x2816, .f32⟩
  | .hbm, ⟨26, _⟩ => ⟨S_, .f32⟩
  | .hbm, ⟨27, _⟩ => ⟨S32x64x2816, .f32⟩
  | .hbm, ⟨28, _⟩ => ⟨S32x64x2816, .f32⟩
  | .hbm, ⟨29, _⟩ => ⟨S_, .f32⟩
  | .hbm, ⟨30, _⟩ => ⟨S32x64x2816, .f32⟩
  | .hbm, ⟨31, _⟩ => ⟨S32x64x2816, .f32⟩
  | .hbm, ⟨32, _⟩ => ⟨S32x64x2816, .f32⟩
  | .hbm, ⟨33, _⟩ => ⟨S32x64x2816, .f32⟩
  | .hbm, ⟨34, _⟩ => ⟨S32x64x2816, .f32⟩
  | .hbm, ⟨35, _⟩ => ⟨S32x64x1024, .f32⟩
  | .hbm, ⟨36, _⟩ => ⟨S_, .f32⟩
  | .hbm, ⟨37, _⟩ => ⟨S32x64x1024, .f32⟩
  | .hbm, ⟨38, _⟩ => ⟨S32x64x1024, .f32⟩
  | .hbm, ⟨39, _⟩ => ⟨S32x64x1024, .f32⟩
  | .hbm, ⟨40, _⟩ => ⟨S32x64x1024, .f32⟩
  | .hbm, ⟨41, _⟩ => ⟨S_, .f32⟩
  | .hbm, ⟨42, _⟩ => ⟨S32x64, .f32⟩
  | .hbm, ⟨43, _⟩ => ⟨S32x64x1, .f32⟩
  | .hbm, ⟨44, _⟩ => ⟨S_, .f32⟩
  | .hbm, ⟨45, _⟩ => ⟨S32x64x1, .f32⟩
  | .hbm, ⟨46, _⟩ => ⟨S32x64x1, .f32⟩
  | .hbm, ⟨47, _⟩ => ⟨S_, .f32⟩
  | .hbm, ⟨48, _⟩ => ⟨S32x64x1, .f32⟩
  | .hbm, ⟨49, _⟩ => ⟨S32x64x1, .f32⟩
  | .hbm, ⟨50, _⟩ => ⟨S32x64x1, .f32⟩
  | .hbm, ⟨51, _⟩ => ⟨S32x64x1024, .f32⟩
  | .hbm, ⟨52, _⟩ => ⟨S32x64x1024, .f32⟩
  | .hbm, ⟨53, _⟩ => ⟨S1x1x1024, .f32⟩
  | .hbm, ⟨54, _⟩ => ⟨S32x64x1024, .f32⟩
  | .hbm, ⟨55, _⟩ => ⟨S32x64x1024, .f32⟩
  | .hbm, ⟨56, _⟩ => ⟨S32x64x2760, .f32⟩
  | .hbm, ⟨57, _⟩ => ⟨S32x64x1536, .f32⟩
  | .hbm, ⟨58, _⟩ => ⟨S32x64x512, .f32⟩
  | .hbm, ⟨59, _⟩ => ⟨S32x64x4, .f32⟩
  | .hbm, ⟨60, _⟩ => ⟨S32x64x4, .f32⟩
  | .hbm, ⟨61, _⟩ => ⟨S32x64x384, .f32⟩
  | .hbm, ⟨62, _⟩ => ⟨S32x64x256, .f32⟩
  | .hbm, ⟨63, _⟩ => ⟨S32x64x64, .f32⟩
  | .hbm, ⟨64, _⟩ => ⟨S_, .f32⟩
  | .hbm, ⟨65, _⟩ => ⟨S32x64x56, .f32⟩
  | .hbm, ⟨66, _⟩ => ⟨S32x64x768, .f32⟩
  | .hbm, ⟨67, _⟩ => ⟨S2048x1024, .f32⟩
  | .hbm, ⟨68, _⟩ => ⟨S2048x1536, .f32⟩
  | .hbm, ⟨69, _⟩ => ⟨S2048x512, .f32⟩
  | .hbm, ⟨70, _⟩ => ⟨S2048x768, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Kernel4.lean ====
abbrev S4x8192x1024 : Shape := ⟨3, ![4, 8192, 1024]⟩
abbrev S8x1536 : Shape := ⟨2, ![8, 1536]⟩
abbrev S4x1536 : Shape := ⟨2, ![4, 1536]⟩
abbrev S1024 : Shape := ⟨1, ![1024]⟩
abbrev S1024x2816 : Shape := ⟨2, ![1024, 2816]⟩
abbrev S2816x1024 : Shape := ⟨2, ![2816, 1024]⟩
abbrev S1024x2760 : Shape := ⟨2, ![1024, 2760]⟩
abbrev S1x1024 : Shape := ⟨2, ![1, 1024]⟩
abbrev S1024x1536 : Shape := ⟨2, ![1024, 1536]⟩
abbrev S1024x512 : Shape := ⟨2, ![1024, 512]⟩
abbrev S_ : Shape := ⟨0, ![]⟩
abbrev S1024x56 : Shape := ⟨2, ![1024, 56]⟩
abbrev S1024x640 : Shape := ⟨2, ![1024, 640]⟩
abbrev S1024x64 : Shape := ⟨2, ![1024, 64]⟩
abbrev S1024x8 : Shape := ⟨2, ![1024, 8]⟩
abbrev S1024x768 : Shape := ⟨2, ![1024, 768]⟩
abbrev S32768x1024 : Shape := ⟨2, ![32768, 1024]⟩
abbrev S32768x1536 : Shape := ⟨2, ![32768, 1536]⟩
abbrev S32768x512 : Shape := ⟨2, ![32768, 512]⟩
abbrev S32768x768 : Shape := ⟨2, ![32768, 768]⟩
abbrev S64x8x1536 : Shape := ⟨3, ![64, 8, 1536]⟩
abbrev S512x1024 : Shape := ⟨2, ![512, 1024]⟩
abbrev S512x1536 : Shape := ⟨2, ![512, 1536]⟩
abbrev S512x512 : Shape := ⟨2, ![512, 512]⟩
abbrev S512x768 : Shape := ⟨2, ![512, 768]⟩
abbrev S1x8x1536 : Shape := ⟨3, ![1, 8, 1536]⟩
abbrev S1x520x1536 : Shape := ⟨3, ![1, 520, 1536]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x64x128 : Shape := ⟨3, ![1, 64, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S64x1536 : Shape := ⟨2, ![64, 1536]⟩
abbrev S256x1024 : Shape := ⟨2, ![256, 1024]⟩
abbrev S1x512x1536 : Shape := ⟨3, ![1, 512, 1536]⟩

abbrev nBuf : Space → Nat
  | .hbm => 31
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S8x1536, .f32⟩
  | .hbm, ⟨2, _⟩ => ⟨S4x1536, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x2760, .f32⟩
  | .hbm, ⟨9, _⟩ => ⟨S1x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1024x1536, .f32⟩
  | .hbm, ⟨15, _⟩ => ⟨S1024x1536, .bf16⟩
  | .hbm, ⟨16, _⟩ => ⟨S1024x512, .f32⟩
  | .hbm, ⟨17, _⟩ => ⟨S1024x512, .bf16⟩
  | .hbm, ⟨18, _⟩ => ⟨S_, .f32⟩
  | .hbm, ⟨19, _⟩ => ⟨S1024x56, .f32⟩
  | .hbm, ⟨20, _⟩ => ⟨S1024x640, .f32⟩
  | .hbm, ⟨21, _⟩ => ⟨S1024x64, .f32⟩
  | .hbm, ⟨22, _⟩ => ⟨S1024x8, .f32⟩
  | .hbm, ⟨23, _⟩ => ⟨S1024x768, .f32⟩
  | .hbm, ⟨24, _⟩ => ⟨S1024x768, .bf16⟩
  | .hbm, ⟨25, _⟩ => ⟨S32768x1024, .f32⟩
  | .hbm, ⟨26, _⟩ => ⟨S32768x1024, .f32⟩
  | .hbm, ⟨27, _⟩ => ⟨S32768x1536, .f32⟩
  | .hbm, ⟨28, _⟩ => ⟨S32768x512, .f32⟩
  | .hbm, ⟨29, _⟩ => ⟨S32768x768, .f32⟩
  | .hbm, ⟨30, _⟩ => ⟨S64x8x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x768, .bf16⟩
  | .local _ .vmem, ⟨10, _⟩ => ⟨S8x1536, .f32⟩
  | .local _ .vmem, ⟨11, _⟩ => ⟨S4x1536, .f32⟩
  | .local _ .vmem, ⟨12, _⟩ => ⟨S512x1024, .f32⟩
  | .local _ .vmem, ⟨13, _⟩ => ⟨S512x1024, .f32⟩
  | .local _ .vmem, ⟨14, _⟩ => ⟨S512x1536, .f32⟩
  | .local _ .vmem, ⟨15, _⟩ => ⟨S512x1536, .f32⟩
  | .local _ .vmem, ⟨16, _⟩ => ⟨S512x512, .f32⟩
  | .local _ .vmem, ⟨17, _⟩ => ⟨S512x512, .f32⟩
  | .local _ .vmem, ⟨18, _⟩ => ⟨S512x768, .f32⟩
  | .local _ .vmem, ⟨19, _⟩ => ⟨S512x768, .f32⟩
  | .local _ .vmem, ⟨20, _⟩ => ⟨S1x8x1536, .f32⟩
  | .local _ .vmem, ⟨21, _⟩ => ⟨S1x8x1536, .f32⟩
  | .local _ .vmem, ⟨22, _⟩ => ⟨S512x1024, .bf16⟩
  | .local _ .vmem, ⟨23, _⟩ => ⟨S512x1024, .f32⟩
  | .local _ .vmem, ⟨24, _⟩ => ⟨S1x520x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4x8192x1024 : Shape := ⟨3, ![4, 8192, 1024]⟩
abbrev S8x1536 : Shape := ⟨2, ![8, 1536]⟩
abbrev S4x1536 : Shape := ⟨2, ![4, 1536]⟩
abbrev S1024 : Shape := ⟨1, ![1024]⟩
abbrev S1024x2816 : Shape := ⟨2, ![1024, 2816]⟩
abbrev S2816x1024 : Shape := ⟨2, ![2816, 1024]⟩
abbrev S1024x2760 : Shape := ⟨2, ![1024, 2760]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S4x8192x2760 : Shape := ⟨3, ![4, 8192, 2760]⟩
abbrev S4x8192x1536 : Shape := ⟨3, ![4, 8192, 1536]⟩
abbrev S4x8192x512 : Shape := ⟨3, ![4, 8192, 512]⟩
abbrev S4x8192x4 : Shape := ⟨3, ![4, 8192, 4]⟩
abbrev S4x8192x384 : Shape := ⟨3, ![4, 8192, 384]⟩
abbrev S4x8192x256 : Shape := ⟨3, ![4, 8192, 256]⟩
abbrev S4x8192x64 : Shape := ⟨3, ![4, 8192, 64]⟩
abbrev S4x8192x56 : Shape := ⟨3, ![4, 8192, 56]⟩
abbrev S4x8192x768 : Shape := ⟨3, ![4, 8192, 768]⟩
abbrev S32768x1024 : Shape := ⟨2, ![32768, 1024]⟩
abbrev S32768x512 : Shape := ⟨2, ![32768, 512]⟩
abbrev S32768x768 : Shape := ⟨2, ![32768, 768]⟩
abbrev S64x512x1536 : Shape := ⟨3, ![64, 512, 1536]⟩
abbrev S64x8x1536 : Shape := ⟨3, ![64, 8, 1536]⟩

abbrev nBuf : Space → Nat
  | .hbm => 74
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x1536, .f32⟩
  | .hbm, ⟨2, _⟩ => ⟨S4x1536, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x2760, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S4x8192x2760, .f32⟩
  | .hbm, ⟨59, _⟩ => ⟨S4x8192x1536, .f32⟩
  | .hbm, ⟨60, _⟩ => ⟨S4x8192x512, .f32⟩
  | .hbm, ⟨61, _⟩ => ⟨S4x8192x4, .f32⟩
  | .hbm, ⟨62, _⟩ => ⟨S4x8192x4, .f32⟩
  | .hbm, ⟨63, _⟩ => ⟨S4x8192x384, .f32⟩
  | .hbm, ⟨64, _⟩ => ⟨S4x8192x256, .f32⟩
  | .hbm, ⟨65, _⟩ => ⟨S4x8192x64, .f32⟩
  | .hbm, ⟨66, _⟩ => ⟨S_, .f32⟩
  | .hbm, ⟨67, _⟩ => ⟨S4x8192x56, .f32⟩
  | .hbm, ⟨68, _⟩ => ⟨S4x8192x768, .f32⟩
  | .hbm, ⟨69, _⟩ => ⟨S32768x1024, .f32⟩
  | .hbm, ⟨70, _⟩ => ⟨S32768x512, .f32⟩
  | .hbm, ⟨71, _⟩ => ⟨S32768x768, .f32⟩
  | .hbm, ⟨72, _⟩ => ⟨S64x512x1536, .f32⟩
  | .hbm, ⟨73, _⟩ => ⟨S64x8x1536, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Kernel5.lean ====
abbrev S32x64x768 : Shape := ⟨3, ![32, 64, 768]⟩
abbrev S64x32 : Shape := ⟨2, ![64, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S1x384 : Shape := ⟨2, ![1, 384]⟩
abbrev S1x256 : Shape := ⟨2, ![1, 256]⟩
abbrev S384x4x192 : Shape := ⟨3, ![384, 4, 192]⟩
abbrev S384x4x64 : Shape := ⟨3, ![384, 4, 64]⟩
abbrev S384x4x256 : Shape := ⟨3, ![384, 4, 256]⟩
abbrev S384x1024 : Shape := ⟨2, ![384, 1024]⟩
abbrev S256x4x256 : Shape := ⟨3, ![256, 4, 256]⟩
abbrev S256x4x128 : Shape := ⟨3, ![256, 4, 128]⟩
abbrev S256x512 : Shape := ⟨2, ![256, 512]⟩
abbrev S512x256 : Shape := ⟨2, ![512, 256]⟩
abbrev S_ : Shape := ⟨0, ![]⟩
abbrev S64x64 : Shape := ⟨2, ![64, 64]⟩
abbrev S2048x768 : Shape := ⟨2, ![2048, 768]⟩
abbrev S64x128 : Shape := ⟨2, ![64, 128]⟩
abbrev S1x64x1x128 : Shape := ⟨4, ![1, 64, 1, 128]⟩
abbrev S16x64x1x128 : Shape := ⟨4, ![16, 64, 1, 128]⟩
abbrev S1024x128 : Shape := ⟨2, ![1024, 128]⟩
abbrev S2048x1024 : Shape := ⟨2, ![2048, 1024]⟩
abbrev S2048x256 : Shape := ⟨2, ![2048, 256]⟩
abbrev S2048x128 : Shape := ⟨2, ![2048, 128]⟩
abbrev S1024x768 : Shape := ⟨2, ![1024, 768]⟩
abbrev S1024x1024 : Shape := ⟨2, ![1024, 1024]⟩
abbrev S1024x256 : Shape := ⟨2, ![1024, 256]⟩
abbrev S1024x384 : Shape := ⟨2, ![1024, 384]⟩
abbrev S1024 : Shape := ⟨1, ![1024]⟩
abbrev S1024x1 : Shape := ⟨2, ![1024, 1]⟩

abbrev nBuf : Space → Nat
  | .hbm => 36
  | .vmem => 15
  | .smem => 0
  | _ => 0

abbrev bufTy : (tb : Table) → Fin (tcTables nBuf tb) → BufTy
  | .hbm, ⟨0, _⟩ => ⟨S32x64x768, .f32⟩
  | .hbm, ⟨1, _⟩ => ⟨S64x32, .f32⟩
  | .hbm, ⟨2, _⟩ => ⟨S64x32, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S1x384, .f32⟩
  | .hbm, ⟨8, _⟩ => ⟨S1x256, .f32⟩
  | .hbm, ⟨9, _⟩ => ⟨S384x4x192, .f32⟩
  | .hbm, ⟨10, _⟩ => ⟨S384x4x64, .f32⟩
  | .hbm, ⟨11, _⟩ => ⟨S384x4x256, .f32⟩
  | .hbm, ⟨12, _⟩ => ⟨S384x1024, .f32⟩
  | .hbm, ⟨13, _⟩ => ⟨S384x1024, .bf16⟩
  | .hbm, ⟨14, _⟩ => ⟨S256x1024, .bf16⟩
  | .hbm, ⟨15, _⟩ => ⟨S256x4x256, .bf16⟩
  | .hbm, ⟨16, _⟩ => ⟨S256x4x128, .bf16⟩
  | .hbm, ⟨17, _⟩ => ⟨S256x512, .bf16⟩
  | .hbm, ⟨18, _⟩ => ⟨S256x4x128, .bf16⟩
  | .hbm, ⟨19, _⟩ => ⟨S256x512, .bf16⟩
  | .hbm, ⟨20, _⟩ => ⟨S512x256, .bf16⟩
  | .hbm, ⟨21, _⟩ => ⟨S_, .f32⟩
  | .hbm, ⟨22, _⟩ => ⟨S64x64, .f32⟩
  | .hbm, ⟨23, _⟩ => ⟨S2048x768, .f32⟩
  | .hbm, ⟨24, _⟩ => ⟨S64x128, .f32⟩
  | .hbm, ⟨25, _⟩ => ⟨S1x64x1x128, .f32⟩
  | .hbm, ⟨26, _⟩ => ⟨S16x64x1x128, .f32⟩
  | .hbm, ⟨27, _⟩ => ⟨S1024x128, .f32⟩
  | .hbm, ⟨28, _⟩ => ⟨S64x32, .f32⟩
  | .hbm, ⟨29, _⟩ => ⟨S64x128, .f32⟩
  | .hbm, ⟨30, _⟩ => ⟨S1x64x1x128, .f32⟩
  | .hbm, ⟨31, _⟩ => ⟨S16x64x1x128, .f32⟩
  | .hbm, ⟨32, _⟩ => ⟨S1024x128, .f32⟩
  | .hbm, ⟨33, _⟩ => ⟨S2048x1024, .bf16⟩
  | .hbm, ⟨34, _⟩ => ⟨S2048x256, .f32⟩
  | .hbm, ⟨35, _⟩ => ⟨S2048x128, .f32⟩
  | .local _ .vmem, ⟨0, _⟩ => ⟨S1024x768, .f32⟩
  | .local _ .vmem, ⟨1, _⟩ => ⟨S1024x768, .f32⟩
  | .local _ .vmem, ⟨2, _⟩ => ⟨S1024x128, .f32⟩
  | .local _ .vmem, ⟨3, _⟩ => ⟨S1024x128, .f32⟩
  | .local _ .vmem, ⟨4, _⟩ => ⟨S1x384, .f32⟩
  | .local _ .vmem, ⟨5, _⟩ => ⟨S1x256, .f32⟩
  | .local _ .vmem, ⟨6, _⟩ => ⟨S384x1024, .bf16⟩
  | .local _ .vmem, ⟨7, _⟩ => ⟨S256x512, .bf16⟩
  | .local _ .vmem, ⟨8, _⟩ => ⟨S512x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x256, .f32⟩
  | .local _ .vmem, ⟨12, _⟩ => ⟨S1024x256, .f32⟩
  | .local _ .vmem, ⟨13, _⟩ => ⟨S1024x128, .f32⟩
  | .local _ .vmem, ⟨14, _⟩ => ⟨S1024x128, .f32⟩
  | _, _ => ⟨S32x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S32x64x768 : Shape := ⟨3, ![32, 64, 768]⟩
abbrev S64x32 : Shape := ⟨2, ![64, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S32x64x256 : Shape := ⟨3, ![32, 64, 256]⟩
abbrev S32x64x64 : Shape := ⟨3, ![32, 64, 64]⟩
abbrev S_ : Shape := ⟨0, ![]⟩
abbrev S32x64 : Shape := ⟨2, ![32, 64]⟩
abbrev S32x64x1 : Shape := ⟨3, ![32, 64, 1]⟩
abbrev S1x1x256 : Shape := ⟨3, ![1, 1, 256]⟩
abbrev S32x64x32 : Shape := ⟨3, ![32, 64, 32]⟩
abbrev S1x64x32 : Shape := ⟨3, ![1, 64, 32]⟩
abbrev S32x64x128 : Shape := ⟨3, ![32, 64, 128]⟩
abbrev S2048x256 : Shape := ⟨2, ![2048, 256]⟩
abbrev S2048x128 : Shape := ⟨2, ![2048, 128]⟩

abbrev nBuf : Space → Nat
  | .hbm => 47
  | .vmem => 0
  | .smem => 0
  | _ => 0

abbrev bufTy : (tb : Table) → Fin (tcTables nBuf tb) → BufTy
  | .hbm, ⟨0, _⟩ => ⟨S32x64x768, .f32⟩
  | .hbm, ⟨1, _⟩ => ⟨S64x32, .f32⟩
  | .hbm, ⟨2, _⟩ => ⟨S64x32, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S32x64x256, .f32⟩
  | .hbm, ⟨8, _⟩ => ⟨S32x64x64, .f32⟩
  | .hbm, ⟨9, _⟩ => ⟨S32x64x256, .f32⟩
  | .hbm, ⟨10, _⟩ => ⟨S_, .f32⟩
  | .hbm, ⟨11, _⟩ => ⟨S32x64, .f32⟩
  | .hbm, ⟨12, _⟩ => ⟨S32x64x1, .f32⟩
  | .hbm, ⟨13, _⟩ => ⟨S_, .f32⟩
  | .hbm, ⟨14, _⟩ => ⟨S32x64x1, .f32⟩
  | .hbm, ⟨15, _⟩ => ⟨S32x64x1, .f32⟩
  | .hbm, ⟨16, _⟩ => ⟨S_, .f32⟩
  | .hbm, ⟨17, _⟩ => ⟨S32x64x1, .f32⟩
  | .hbm, ⟨18, _⟩ => ⟨S32x64x1, .f32⟩
  | .hbm, ⟨19, _⟩ => ⟨S32x64x1, .f32⟩
  | .hbm, ⟨20, _⟩ => ⟨S32x64x256, .f32⟩
  | .hbm, ⟨21, _⟩ => ⟨S32x64x256, .f32⟩
  | .hbm, ⟨22, _⟩ => ⟨S1x1x256, .f32⟩
  | .hbm, ⟨23, _⟩ => ⟨S32x64x256, .f32⟩
  | .hbm, ⟨24, _⟩ => ⟨S32x64x256, .f32⟩
  | .hbm, ⟨25, _⟩ => ⟨S32x64x32, .f32⟩
  | .hbm, ⟨26, _⟩ => ⟨S32x64x32, .f32⟩
  | .hbm, ⟨27, _⟩ => ⟨S1x64x32, .f32⟩
  | .hbm, ⟨28, _⟩ => ⟨S32x64x32, .f32⟩
  | .hbm, ⟨29, _⟩ => ⟨S32x64x32, .f32⟩
  | .hbm, ⟨30, _⟩ => ⟨S1x64x32, .f32⟩
  | .hbm, ⟨31, _⟩ => ⟨S32x64x32, .f32⟩
  | .hbm, ⟨32, _⟩ => ⟨S32x64x32, .f32⟩
  | .hbm, ⟨33, _⟩ => ⟨S32x64x32, .f32⟩
  | .hbm, ⟨34, _⟩ => ⟨S1x64x32, .f32⟩
  | .hbm, ⟨35, _⟩ => ⟨S32x64x32, .f32⟩
  | .hbm, ⟨36, _⟩ => ⟨S32x64x32, .f32⟩
  | .hbm, ⟨37, _⟩ => ⟨S1x64x32, .f32⟩
  | .hbm, ⟨38, _⟩ => ⟨S32x64x32, .f32⟩
  | .hbm, ⟨39, _⟩ => ⟨S32x64x32, .f32⟩
  | .hbm, ⟨40, _⟩ => ⟨S32x64x32, .f32⟩
  | .hbm, ⟨41, _⟩ => ⟨S32x64x64, .f32⟩
  | .hbm, ⟨42, _⟩ => ⟨S_, .f32⟩
  | .hbm, ⟨43, _⟩ => ⟨S32x64x64, .f32⟩
  | .hbm, ⟨44, _⟩ => ⟨S32x64x128, .f32⟩
  | .hbm, ⟨45, _⟩ => ⟨S2048x256, .f32⟩
  | .hbm, ⟨46, _⟩ => ⟨S2048x128, .f32⟩
  | _, _ => ⟨S32x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Slots.lean ====
/-
The pieces the kernel's value is built of, named once for all eight chains.

The kernel keeps eight chains of an online softmax (two row blocks of 512 queries by four heads).
Chain `c` owns slot `c` of four scratch buffers: the scores of the next key tile, the running
maximum, the running sum and the running weighted values.  Here are the reads of a slot, the reads
of the key, value and query windows, and what a fold stores.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Slots

open Idealize.ShloMosaic Cert.KernelIdeal Cert.KernelIdeal.Gen

section Reads

variable {sig' : RefSig} {κ' : Kind} {sp : Space} {s : Shape} {e : EltTy} {Val : EltTy → Type}

/-- A read of a box away from the last write sees the earlier writes. -/
theorem readAt_skip (v : View sig' κ' sp s e) (f : v.ty.Contents Val) (r : Rect s)
    (w : r.shape.Idx → Val e) (L : List (View.Piece Val s e)) (B : LoadRect s)
    (h : LoadRect.disj r B = true) :
    v.readAt Val B (v.writes Val f (⟨r, w⟩ :: L)) = v.readAt Val B (v.writes Val f L) := by
  funext j
  have hj : B.idx j ∉ Finset.univ.map r.emb := by
    rw [Rect.map_emb_univ]; exact LoadRect.idx_not_mem_of_disj h j
  rw [View.readAt_apply, View.readAt_apply, View.writes_cons,
    View.read_slice_write_of_not_mem r _ _ _ hj]

/-- A read of the box last written sees what was written. -/
theorem readAt_hit (v : View sig' κ' sp s e) (f : v.ty.Contents Val) (r : Rect s)
    (w : r.shape.Idx → Val e) (L : List (View.Piece Val s e)) :
    v.readAt Val r.toLoadRect (v.writes Val f (⟨r, w⟩ :: L)) = w := by
  funext j
  rw [View.readAt_apply]
  exact View.read_writes_cons_emb v f r w L j

end Reads

variable {F : FTy → Type} [FloatOps F] [Named F]

/-! ## Windows -/

theorem inbS (c : Fin 8) : ∀ a, (![c.val, 0, 0] : Fin 3 → ℕ) a + S1x512x512.size a ≤ S8x512x512.size a := by
  revert c; decide
theorem inbM (c : Fin 8) : ∀ a, (![c.val, 0, 0] : Fin 3 → ℕ) a + S1x1x512.size a ≤ S8x1x512.size a := by
  revert c; decide
theorem inbA (c : Fin 8) : ∀ a, (![c.val, 0, 0] : Fin 3 → ℕ) a + S1x128x512.size a ≤ S8x128x512.size a := by
  revert c; decide
theorem inbQ (a : Fin 2) (h : Fin 4) :
    ∀ x, (![0, 512 * a.val, 256 * h.val] : Fin 3 → ℕ) x + S1x512x256.size x ≤ S1x1024x1024.size x := by
  revert a h; decide
theorem inbK (h : Fin 4) :
    ∀ x, (![0, 0, 256 * h.val] : Fin 3 → ℕ) x + S1x512x256.size x ≤ S1x8192x1024.size x := by
  revert h; decide

/-- Chain `c`'s slot of the score buffer. -/
def rS (b : Memref sig .tc .vmem S8x512x512 .f32) (f : BufTy.Contents (Elt F) b.view.ty) (c : Fin 8) :
    Vec F S1x512x512 .f32 :=
  b.view.readAt (Elt F) (Rect.unit (s := S8x512x512) ![c.val, 0, 0] S1x512x512.size (inbS c)).toLoadRect f

/-- Chain `c`'s slot of the buffer of running maxima, or of running sums. -/
def rM (b : Memref sig .tc .vmem S8x1x512 .f32) (f : BufTy.Contents (Elt F) b.view.ty) (c : Fin 8) :
    Vec F S1x1x512 .f32 :=
  b.view.readAt (Elt F) (Rect.unit (s := S8x1x512) ![c.val, 0, 0] S1x1x512.size (inbM c)).toLoadRect f

/-- Chain `c`'s slot of the buffer of weighted values. -/
def rA (b : Memref sig .tc .vmem S8x128x512 .f32) (f : BufTy.Contents (Elt F) b.view.ty) (c : Fin 8) :
    Vec F S1x128x512 .f32 :=
  b.view.readAt (Elt F) (Rect.unit (s := S8x128x512) ![c.val, 0, 0] S1x128x512.size (inbA c)).toLoadRect f

/-- Row block `a` of head `h`'s queries. -/
def qWin (b : Memref sig .tc .vmem S1x1024x1024 .f32) (X : BufTy.Contents (Elt F) b.view.ty)
    (a : Fin 2) (h : Fin 4) : Vec F S1x512x256 .f32 :=
  b.view.readAt (Elt F) (Rect.unit (s := S1x1024x1024) ![0, 512 * a.val, 256 * h.val] S1x512x256.size (inbQ a h)).toLoadRect X

/-- The first key tile of head `h`. -/
def kWin0 (b : Memref sig .tc .vmem S1x8192x1024 .bf16) (X : BufTy.Contents (Elt F) b.view.ty)
    (h : Fin 4) : Vec F S1x512x256 .bf16 :=
  b.view.readAt (Elt F) (Rect.unit (s := S1x8192x1024) ![0, 0, 256 * h.val] S1x512x256.size (inbK h)).toLoadRect X

/-- The key tile trip `k` of the loop loads for head `h` in its fold `u`. -/
def kWin (b : Memref sig .tc .vmem S1x8192x1024 .bf16) (X : BufTy.Contents (Elt F) b.view.ty)
    (i : grid0.Coords) (k : Fin (k0_t1_loop i).trips) (u : Fin 2) : Fin 4 → Vec F S1x512x256 .bf16
  | 0 => b.view.readAt (Elt F) (Rect.unit (s := S1x8192x1024) (k0_off1 i k (BitVec.ofNat 32 u.val)) S1x512x256.size (k0_off1_inb i k u)).toLoadRect X
  | 1 => b.view.readAt (Elt F) (Rect.unit (s := S1x8192x1024) (k0_off3 i k (BitVec.ofNat 32 u.val)) S1x512x256.size (k0_off3_inb i k u)).toLoadRect X
  | 2 => b.view.readAt (Elt F) (Rect.unit (s := S1x8192x1024) (k0_off5 i k (BitVec.ofNat 32 u.val)) S1x512x256.size (k0_off5_inb i k u)).toLoadRect X
  | 3 => b.view.readAt (Elt F) (Rect.unit (s := S1x8192x1024) (k0_off7 i k (BitVec.ofNat 32 u.val)) S1x512x256.size (k0_off7_inb i k u)).toLoadRect X

/-- The value tile trip `k` of the loop loads for head `h` in its fold `u`. -/
def vWin (b : Memref sig .tc .vmem S512x8192 .bf16) (X : BufTy.Contents (Elt F) b.view.ty)
    (i : grid0.Coords) (k : Fin (k0_t1_loop i).trips) (u : Fin 2) : Fin 4 → Vec F S128x512 .bf16
  | 0 => b.view.readAt (Elt F) (Rect.unit (s := S512x8192) (k0_off2 i k (BitVec.ofNat 32 u.val)) S128x512.size (k0_off2_inb i k u)).toLoadRect X
  | 1 => b.view.readAt (Elt F) (Rect.unit (s := S512x8192) (k0_off4 i k (BitVec.ofNat 32 u.val)) S128x512.size (k0_off4_inb i k u)).toLoadRect X
  | 2 => b.view.readAt (Elt F) (Rect.unit (s := S512x8192) (k0_off6 i k (BitVec.ofNat 32 u.val)) S128x512.size (k0_off6_inb i k u)).toLoadRect X
  | 3 => b.view.readAt (Elt F) (Rect.unit (s := S512x8192) (k0_off8 i k (BitVec.ofNat 32 u.val)) S128x512.size (k0_off8_inb i k u)).toLoadRect X

/-- The key tile the last unmasked fold loads for head `h`: the second half of the row tile. -/
def kWinT (b : Memref sig .tc .vmem S1x8192x1024 .bf16) (X : BufTy.Contents (Elt F) b.view.ty)
    (i : grid0.Coords) : Fin 4 → Vec F S1x512x256 .bf16
  | 0 => b.view.readAt (Elt F) (Rect.unit (s := S1x8192x1024) (k0_off21 i) S1x512x256.size (k0_off21_inb i)).toLoadRect X
  | 1 => b.view.readAt (Elt F) (Rect.unit (s := S1x8192x1024) (k0_off22 i) S1x512x256.size (k0_off22_inb i)).toLoadRect X
  | 2 => b.view.readAt (Elt F) (Rect.unit (s := S1x8192x1024) (k0_off23 i) S1x512x256.size (k0_off23_inb i)).toLoadRect X
  | 3 => b.view.readAt (Elt F) (Rect.unit (s := S1x8192x1024) (k0_off24 i) S1x512x256.size (k0_off24_inb i)).toLoadRect X

/-- The value tile the folds after the loop load for head `h`: half `u` of the row tile. -/
def vWinT (b : Memref sig .tc .vmem S512x8192 .bf16) (X : BufTy.Contents (Elt F) b.view.ty)
    (i : grid0.Coords) (u : Fin 2) : Fin 4 → Vec F S128x512 .bf16
  | 0 => b.view.readAt (Elt F) (Rect.unit (s := S512x8192) (k0_off17 i (BitVec.ofNat 32 u.val)) S128x512.size (k0_off17_inb i u)).toLoadRect X
  | 1 => b.view.readAt (Elt F) (Rect.unit (s := S512x8192) (k0_off18 i (BitVec.ofNat 32 u.val)) S128x512.size (k0_off18_inb i u)).toLoadRect X
  | 2 => b.view.readAt (Elt F) (Rect.unit (s := S512x8192) (k0_off19 i (BitVec.ofNat 32 u.val)) S128x512.size (k0_off19_inb i u)).toLoadRect X
  | 3 => b.view.readAt (Elt F) (Rect.unit (s := S512x8192) (k0_off20 i (BitVec.ofNat 32 u.val)) S128x512.size (k0_off20_inb i u)).toLoadRect X

theorem inbMK (h : Fin 4) :
    ∀ x, (![0, 256 * h.val] : Fin 2 → ℕ) x + S16x256.size x ≤ S16x1024.size x := by
  revert h; decide
theorem inbMV (h : Fin 4) :
    ∀ x, (![128 * h.val, 0] : Fin 2 → ℕ) x + S128x16.size x ≤ S512x16.size x := by
  revert h; decide

/-- Head `h`'s meta keys. -/
def mkWin (b : Memref sig .tc .vmem S16x1024 .bf16) (X : BufTy.Contents (Elt F) b.view.ty)
    (h : Fin 4) : Vec F S16x256 .bf16 :=
  b.view.readAt (Elt F) (Rect.unit (s := S16x1024) ![0, 256 * h.val] S16x256.size (inbMK h)).toLoadRect X

/-- Head `h`'s meta values. -/
def mvWin (b : Memref sig .tc .vmem S512x16 .bf16) (X : BufTy.Contents (Elt F) b.view.ty)
    (h : Fin 4) : Vec F S128x16 .bf16 :=
  b.view.readAt (Elt F) (Rect.unit (s := S512x16) ![128 * h.val, 0] S128x16.size (inbMV h)).toLoadRect X

/-! ## One fold -/

/-- The scores of a key tile against a block of queries, keys first. -/
def scores (k : Vec F S1x512x256 .bf16) (q : Vec F S1x512x256 .f32) : FVec F S512x512 .f32 :=
  matmul dot_S512x256_S512x256_S512x512_1_1_0_0_n_n none
    (shapeCast S512x256 k shapeCasts_S1x512x256_S512x256)
    (truncf .bf16 (mulf (shapeCast S512x256 q shapeCasts_S1x512x256_S512x256)
      (broadcast S512x256 (Named.named κ "q_scale" 0x3DD53B95#32))) bitsLt_bf16_f32)
    (constant S512x512 .f32 0x00000000#32)

/-- A block of scores as the buffer holds it. -/
def putS (x : FVec F S512x512 .f32) : FVec F S1x512x512 .f32 :=
  shapeCast S1x512x512 x shapeCasts_S512x512_S1x512x512

/-- A block of scores as read back. -/
def getS (x : Vec F S1x512x512 .f32) : FVec F S512x512 .f32 :=
  shapeCast S512x512 x shapeCasts_S1x512x512_S512x512

/-- The running maximum after a tile of scores. -/
def newMax (s : FVec F S512x512 .f32) (m : Vec F S1x1x512 .f32) : FVec F S1x512 .f32 :=
  maximumf (shapeCast S1x512 m shapeCasts_S1x1x512_S1x512)
    (shapeCast S1x512 (multiReduction .maximumf [0] S512 s 0xFF800000#32 reduces_S512x512_S512 (.inl rfl) rfl)
      shapeCasts_S512_S1x512)

/-- The factor the old sums are scaled by. -/
def scaleOld (s : FVec F S512x512 .f32) (m : Vec F S1x1x512 .f32) : FVec F S1x512 .f32 :=
  exp2 (subf (shapeCast S1x512 m shapeCasts_S1x1x512_S1x512) (newMax s m))

/-- The tile's weights. -/
def weights (s : FVec F S512x512 .f32) (m : Vec F S1x1x512 .f32) : FVec F S512x512 .f32 :=
  exp2 (subf s (broadcastTo S512x512 (newMax s m) broadcasts_S1x512_S512x512))

def foldM (s : FVec F S512x512 .f32) (m : Vec F S1x1x512 .f32) : FVec F S1x1x512 .f32 :=
  shapeCast S1x1x512 (newMax s m) shapeCasts_S1x512_S1x1x512

def foldL (s : FVec F S512x512 .f32) (m l : Vec F S1x1x512 .f32) : FVec F S1x1x512 .f32 :=
  shapeCast S1x1x512
    (addf (mulf (scaleOld s m) (shapeCast S1x512 l shapeCasts_S1x1x512_S1x512))
      (shapeCast S1x512 (multiReduction .add [0] S512 (weights s m) 0x00000000#32 reduces_S512x512_S512 (.inl rfl) rfl)
        shapeCasts_S512_S1x512))
    shapeCasts_S1x512_S1x1x512

def foldA (s : FVec F S512x512 .f32) (m : Vec F S1x1x512 .f32) (a : Vec F S1x128x512 .f32)
    (v : Vec F S128x512 .bf16) : FVec F S1x128x512 .f32 :=
  shapeCast S1x128x512
    (addf (mulf (broadcastTo S128x512 (scaleOld s m) broadcasts_S1x512_S128x512)
        (shapeCast S128x512 a shapeCasts_S1x128x512_S128x512))
      (matmul dot_S128x512_S512x512_S128x512_1_0_0_1_n_n none
        (shapeCast S128x512 v shapeCasts_S128x512_S128x512)
        (truncf .bf16 (weights s m) bitsLt_bf16_f32) (constant S128x512 .f32 0x00000000#32)))
    shapeCasts_S128x512_S1x128x512

/-- The scores with the keys of a later chunk struck out: rows are keys and columns queries, both
counted from the start of the same 512-row tile. -/
noncomputable def masked (s : FVec F S512x512 .f32) : FVec F S512x512 .f32 :=
  select (cmpi .sle kernelRun0_A.sl.v363 kernelRun0_A.sl.v388) s
    (broadcast S512x512 (FloatOps.ofBits .f32 0xFF800000#32))

/-! ## The meta keys -/

/-- The scores of the meta keys. -/
def metaScores (k : Vec F S16x256 .bf16) (q : Vec F S1x512x256 .f32) : FVec F S16x512 .f32 :=
  matmul dot_S16x256_S512x256_S16x512_1_1_0_0_n_n none
    (shapeCast S16x256 k shapeCasts_S16x256_S16x256)
    (truncf .bf16 (mulf (shapeCast S512x256 q shapeCasts_S1x512x256_S512x256)
      (broadcast S512x256 (Named.named κ "q_scale" 0x3DD53B95#32))) bitsLt_bf16_f32)
    (constant S16x512 .f32 0x00000000#32)

/-- Their maximum. -/
def metaMax (s : FVec F S16x512 .f32) : FVec F S1x512 .f32 :=
  shapeCast S1x512 (multiReduction .maximumf [0] S512 s 0xFF800000#32 reduces_S16x512_S512 (.inl rfl) rfl)
    shapeCasts_S512_S1x512

/-- Their weights. -/
def metaWeights (s : FVec F S16x512 .f32) : FVec F S16x512 .f32 :=
  exp2 (subf s (broadcastTo S16x512 (metaMax s) broadcasts_S1x512_S16x512))

def metaM (s : FVec F S16x512 .f32) : FVec F S1x1x512 .f32 :=
  shapeCast S1x1x512 (metaMax s) shapeCasts_S1x512_S1x1x512

def metaL (s : FVec F S16x512 .f32) : FVec F S1x1x512 .f32 :=
  shapeCast S1x1x512
    (shapeCast S1x512 (multiReduction .add [0] S512 (metaWeights s) 0x00000000#32 reduces_S16x512_S512 (.inl rfl) rfl)
      shapeCasts_S512_S1x512)
    shapeCasts_S1x512_S1x1x512

def metaA (s : FVec F S16x512 .f32) (v : Vec F S128x16 .bf16) : FVec F S1x128x512 .f32 :=
  shapeCast S1x128x512
    (matmul dot_S128x16_S16x512_S128x512_1_0_0_1_n_n none
      (shapeCast S128x16 v shapeCasts_S128x16_S128x16)
      (truncf .bf16 (metaWeights s) bitsLt_bf16_f32) (constant S128x512 .f32 0x00000000#32))
    shapeCasts_S128x512_S1x128x512

/-- The block of results a chain ends with: weighted values over the sum, queries first. -/
def outT (a : Vec F S1x128x512 .f32) (l : Vec F S1x1x512 .f32) : FVec F S1x512x128 .bf16 :=
  shapeCast S1x512x128
    (truncf .bf16
      (transpose S512x128 [1, 0]
        (divf (shapeCast S128x512 a shapeCasts_S1x128x512_S128x512)
          (broadcastTo S128x512 (shapeCast S1x512 l shapeCasts_S1x1x512_S1x512) broadcasts_S1x512_S128x512))
        transposes_S128x512_p1_0_S512x128) bitsLt_bf16_f32)
    shapeCasts_S512x128_S1x512x128

end Cert.Slots
-- ==== Proof.Softmax.lean ====
module

public import Idealize.ShloMosaic.PureOps.Ideal

/-!
# A softmax-weighted sum computed tile by tile

A row of the attention has a real score `x j` in base two for every key `j`, a predicate
`vis` of the keys it sees, and the values `v j d`.  After the keys below `n` the kernel holds a
real offset `M`, the sum of the weights `2 ^ (x j - M)` and the weighted sums of the values.
`Held.fold` says that taking in another tile keeps this, whatever the order of the two
products, and `Held.quotient` that the last division gives the softmax in base `e`.
-/

@[expose] public section

noncomputable section

namespace Cert.Softmax

open Idealize.ShloMosaic

/-- The weight of key `j` against the offset `M`: zero when the key is hidden. -/
def wt (x : ℕ → ℝ) (vis : ℕ → Prop) [DecidablePred vis] (M : ℝ) (j : ℕ) : ℝ :=
  if vis j then Real.rpow 2 (x j - M) else 0

theorem wt_nonneg (x : ℕ → ℝ) (vis : ℕ → Prop) [DecidablePred vis] (M : ℝ) (j : ℕ) :
    0 ≤ wt x vis M j := by
  unfold wt; split
  · exact Real.rpow_nonneg (by norm_num) _
  · exact le_refl _

theorem wt_move (x : ℕ → ℝ) (vis : ℕ → Prop) [DecidablePred vis] (M M' : ℝ) (j : ℕ) :
    Real.rpow 2 (M - M') * wt x vis M j = wt x vis M' j := by
  unfold wt; split
  · show (2:ℝ) ^ (M - M') * (2:ℝ) ^ (x j - M) = (2:ℝ) ^ (x j - M')
    rw [← Real.rpow_add (by norm_num)]; congr 1; ring
  · ring

/-- A nonnegative real goes into a sum. -/
theorem mul_sum_real {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
      rw [Finset.sum_insert hi, Finset.sum_insert hi,
        EReal.left_distrib_of_nonneg_of_ne_top (by exact_mod_cast ha) (EReal.coe_ne_top _), ih]

theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A score as the kernel holds it: `⊥` where the key is hidden. -/
def score (x : ℕ → ℝ) (vis : ℕ → Prop) [DecidablePred vis] (j : ℕ) : EReal :=
  if vis j then (x j : EReal) else ⊥

theorem exp2_score (x : ℕ → ℝ) (vis : ℕ → Prop) [DecidablePred vis] (M : ℝ) (j : ℕ) :
    Ideal.exp2 (score x vis j - (M : EReal)) = (wt x vis M j : EReal) := by
  unfold score wt; split
  · rw [← EReal.coe_sub, Ideal.exp2_coe]
  · rw [EReal.bot_sub, Ideal.exp2_bot]; rfl

/-- What a row holds after the keys below `n`. -/
def Held {D : Type} (x : ℕ → ℝ) (vis : ℕ → Prop) [DecidablePred vis] (v : ℕ → D → EReal)
    (n : ℕ) (m l : EReal) (acc : D → EReal) : Prop :=
  ∃ M : ℝ, m = (M : EReal) ∧ l = ((∑ j ∈ Finset.range n, wt x vis M j : ℝ) : EReal) ∧
    ∀ d, acc d = ∑ j ∈ Finset.range n, (wt x vis M j : EReal) * v j d

theorem score_lt_top (x : ℕ → ℝ) (vis : ℕ → Prop) [DecidablePred vis] (j : ℕ) :
    score x vis j < ⊤ := by
  unfold score; split
  · exact EReal.coe_lt_top _
  · exact bot_lt_top

/-- The maximum over a tile stays below `⊤`. -/
theorem fold_lt_top {K : ℕ} (s : Fin K → EReal) (hs : ∀ k, s k < ⊤) :
    Finset.univ.fold max ⊥ s < ⊤ :=
  (Finset.fold_max_lt _).mpr ⟨bot_lt_top, fun k _ => hs k⟩

theorem real_of_between {e : EReal} {M : ℝ} (h₁ : (M : EReal) ≤ e) (h₂ : e < ⊤) :
    ∃ M' : ℝ, e = (M' : EReal) :=
  ⟨e.toReal, (EReal.coe_toReal h₂.ne (fun h => absurd (h ▸ h₁) (by simp))).symm⟩

theorem sum_range_tile {A : Type} [AddCommMonoid A] (n K : ℕ) (f : ℕ → A) :
    ∑ j ∈ Finset.range (n + K), f j
      = ∑ j ∈ Finset.range n, f j + ∑ k : Fin K, f (n + k.val) := by
  rw [Finset.sum_range_add, Fin.sum_univ_eq_sum_range (fun k => f (n + k))]

/-- One more tile of keys. -/
theorem Held.fold {D : Type} {x : ℕ → ℝ} {vis : ℕ → Prop} [DecidablePred vis]
    {v : ℕ → D → EReal} {n : ℕ} {m l : EReal} {acc : D → EReal}
    (h : Held x vis v n m l acc) (K : ℕ) {s : Fin K → EReal} {w : Fin K → D → EReal}
    (hs : ∀ k, s k = score x vis (n + k.val)) (hw : ∀ k d, w k d = v (n + k.val) d)
    {m' l' : EReal} {acc' : D → EReal}
    (hm : m' = max m (Finset.univ.fold max ⊥ s))
    (hl : l' = l * Ideal.exp2 (m - m') + ∑ k, Ideal.exp2 (s k - m'))
    (ha : ∀ d, acc' d = acc d * Ideal.exp2 (m - m') + ∑ k, w k d * Ideal.exp2 (s k - m')) :
    Held x vis v (n + K) m' l' acc' := by
  obtain ⟨M, rfl, rfl, hacc⟩ := h
  obtain ⟨M', hM'⟩ : ∃ M' : ℝ, m' = (M' : EReal) :=
    real_of_between (M := M) (hm ▸ le_max_left _ _)
      (hm ▸ max_lt (EReal.coe_lt_top _) (fold_lt_top _ fun k => hs k ▸ score_lt_top x vis _))
  have hmul : Ideal.exp2 ((M : EReal) - m') = ((Real.rpow 2 (M - M') : ℝ) : EReal) := by
    rw [hM', ← EReal.coe_sub, Ideal.exp2_coe]
  have hnn : 0 ≤ Real.rpow 2 (M - M') := Real.rpow_nonneg (by norm_num) _
  have hk : ∀ k, Ideal.exp2 (s k - m') = (wt x vis M' (n + k.val) : EReal) := fun k => by
    rw [hs, hM', exp2_score]
  refine ⟨M', hM', ?_, fun d => ?_⟩
  · rw [hl, hmul, sum_range_tile, EReal.coe_add, ← EReal.coe_mul, mul_comm, Finset.mul_sum]
    congr 1
    · simp only [wt_move]
    · rw [coe_sum]; exact Finset.sum_congr rfl fun k _ => hk k
  · rw [ha, hacc, hmul, sum_range_tile, mul_comm, mul_sum_real _ hnn]
    congr 1
    · refine Finset.sum_congr rfl fun j _ => ?_
      rw [← mul_assoc, ← EReal.coe_mul, wt_move]
    · refine Finset.sum_congr rfl fun k _ => ?_
      rw [hk, hw, mul_comm]

/-- The first tile, all of whose keys are seen. -/
theorem Held.start {D : Type} {x : ℕ → ℝ} {vis : ℕ → Prop} [DecidablePred vis]
    {v : ℕ → D → EReal} (K : ℕ) (hK : 0 < K) {s : Fin K → EReal} {w : Fin K → D → EReal}
    (hv : ∀ k : Fin K, vis k.val)
    (hs : ∀ k, s k = (x k.val : EReal)) (hw : ∀ k d, w k d = v k.val d)
    {m l : EReal} {acc : D → EReal}
    (hm : m = Finset.univ.fold max ⊥ s)
    (hl : l = ∑ k, Ideal.exp2 (s k - m))
    (ha : ∀ d, acc d = ∑ k, w k d * Ideal.exp2 (s k - m)) :
    Held x vis v K m l acc := by
  have hs' : ∀ k, s k = score x vis k.val := fun k => by rw [hs, score, if_pos (hv k)]
  obtain ⟨M, hM⟩ : ∃ M : ℝ, m = (M : EReal) := by
    refine real_of_between (M := x 0) ?_ ?_
    · rw [hm, ← hs ⟨0, hK⟩]
      exact (Finset.le_fold_max _).mpr (Or.inr ⟨_, Finset.mem_univ _, le_refl _⟩)
    · rw [hm]; exact fold_lt_top _ fun k => hs' k ▸ score_lt_top x vis _
  have hk : ∀ k, Ideal.exp2 (s k - m) = (wt x vis M k.val : EReal) := fun k => by
    rw [hs', hM, exp2_score]
  refine ⟨M, hM, ?_, fun d => ?_⟩
  · rw [hl, coe_sum, ← Fin.sum_univ_eq_sum_range (fun j => (wt x vis M j : EReal))]
    exact Finset.sum_congr rfl fun k _ => hk k
  · rw [ha, ← Fin.sum_univ_eq_sum_range (fun j => (wt x vis M j : EReal) * v j d)]
    refine Finset.sum_congr rfl fun k _ => ?_
    rw [hk, hw, mul_comm]

/-- Hidden keys may be added. -/
theorem Held.extend {D : Type} {x : ℕ → ℝ} {vis : ℕ → Prop} [DecidablePred vis]
    {v : ℕ → D → EReal} {n : ℕ} {m l : EReal} {acc : D → EReal}
    (h : Held x vis v n m l acc) (N : ℕ) (hn : n ≤ N) (hv : ∀ j, n ≤ j → j < N → ¬ vis j) :
    Held x vis v N m l acc := by
  obtain ⟨M, hm, hl, ha⟩ := h
  have h0 : ∀ j ∈ Finset.range N, j ∉ Finset.range n → wt x vis M j = 0 := fun j hj hj' => by
    rw [wt, if_neg (hv j (by simpa using hj') (by simpa using hj))]
  have hsub : Finset.range n ⊆ Finset.range N := Finset.range_mono hn
  refine ⟨M, hm, ?_, fun d => ?_⟩
  · rw [hl, Finset.sum_subset hsub h0]
  · rw [ha, Finset.sum_subset hsub fun j hj hj' => by rw [h0 j hj hj', EReal.coe_zero, zero_mul]]

/-- The weight of key `j` in base `e` against the offset `C`. -/
theorem exp_score (y : ℕ → ℝ) (vis : ℕ → Prop) [DecidablePred vis] (C : ℝ) (j : ℕ) :
    Ideal.exp (score y vis j - (C : EReal))
      = ((if vis j then Real.exp (y j - C) else 0 : ℝ) : EReal) := by
  unfold score; split
  · rw [← EReal.coe_sub, Ideal.exp_coe]
  · rw [EReal.bot_sub, Ideal.exp_bot]; rfl

/-- The last division gives the softmax, written with the offset `C` and in base `e`. -/
theorem Held.quotient {D : Type} {x : ℕ → ℝ} {vis : ℕ → Prop} [DecidablePred vis]
    {v : ℕ → D → EReal} {n : ℕ} {m l : EReal} {acc : D → EReal}
    (h : Held x vis v n m l acc) (hn : 0 < n) (h0 : vis 0)
    (y : ℕ → ℝ) (hy : ∀ j, x j = y j * (Real.log 2)⁻¹) (C : ℝ) (d : D) :
    Ideal.div (acc d) l
      = ∑ j ∈ Finset.range n,
          Ideal.div (Ideal.exp (score y vis j - (C : EReal)))
            (∑ i ∈ Finset.range n, Ideal.exp (score y vis i - (C : EReal))) * v j d := by
  obtain ⟨M, -, hl, ha⟩ := h
  have hlog : Real.log 2 ≠ 0 := (Real.log_pos (by norm_num)).ne'
  set c : ℝ := Real.exp (C - M * Real.log 2) with hc
  have hcpos : 0 < c := Real.exp_pos _
  set u : ℕ → ℝ := fun j => if vis j then Real.exp (y j - C) else 0 with hu
  have hunn : ∀ j, 0 ≤ u j := fun j => by
    simp only [hu]; split
    · exact (Real.exp_pos _).le
    · exact le_refl _
  have hw : ∀ j, wt x vis M j = c * u j := fun j => by
    simp only [wt, hu]; split
    · show (2:ℝ) ^ (x j - M) = _
      rw [Real.rpow_def_of_pos (by norm_num), hc, ← Real.exp_add, hy]
      congr 1; field_simp; ring
    · ring
  have hU : 0 < ∑ j ∈ Finset.range n, u j := by
    refine Finset.sum_pos' (fun j _ => hunn j) ⟨0, by simpa using hn, ?_⟩
    simp only [hu, if_pos h0]; exact Real.exp_pos _
  set U := ∑ j ∈ Finset.range n, u j with hUdef
  have hden : (∑ i ∈ Finset.range n, Ideal.exp (score y vis i - (C : EReal))) = (U : EReal) := by
    rw [hUdef, coe_sum]; exact Finset.sum_congr rfl fun i _ => exp_score y vis C i
  have hL : ∑ j ∈ Finset.range n, wt x vis M j = c * U := by
    rw [hUdef, Finset.mul_sum]; exact Finset.sum_congr rfl fun j _ => hw j
  rw [hden, hl, hL, Ideal.div_coe (mul_pos hcpos hU).ne', ha, mul_comm,
    mul_sum_real _ (by positivity)]
  refine Finset.sum_congr rfl fun j _ => ?_
  rw [exp_score, Ideal.div_coe hU.ne', ← mul_assoc, ← EReal.coe_mul, ← EReal.coe_mul, hw]
  congr 2
  show 1 / (c * U) * (c * u j) = u j * (1 / U)
  field_simp

end Cert.Softmax

end
-- ==== Proof.Pure.lean ====
/-
The kernel's fold read at an element, over the extended reals.
-/
module

public import proofs.«01_k».proof.Proof.Slots
public import proofs.«01_k».proof.Proof.Softmax
public import Idealize.ShloMosaic.Lib.Pointwise

@[expose] public section

set_option maxRecDepth 16384

noncomputable section

namespace Cert.Slots

open Idealize.ShloMosaic Cert.KernelIdeal Cert.KernelIdeal.Gen

/-- The scale of the scores: one over the root of 192, in base two. -/
def qs : ℝ := (Real.sqrt 192)⁻¹ * (Real.log 2)⁻¹

theorem named_qs : (Named.named (F := Ideal) (φ := .f32) κ "q_scale" 0x3DD53B95#32 : EReal) = (qs : EReal) :=
  IdealRules.named_const.ideal_named_scalar _ _ _ _ rfl

theorem negInf : Ideal.ofBits .f32 0xFF800000#32 = (⊥ : EReal) := by
  simp [Ideal.ofBits, Ideal.ieee]

theorem scores_apply (k : Vec Ideal S1x512x256 .bf16) (q : Vec Ideal S1x512x256 .f32) (r j : Fin 512) :
    scores (F := Ideal) k q (ix2 r j)
      = ∑ d : Fin 256, (k (ix3 0 r d) : EReal) * ((q (ix3 0 j d) : EReal) * (qs : EReal)) := by
  rw [← named_qs]
  pointwise [scores]

theorem metaScores_apply (k : Vec Ideal S16x256 .bf16) (q : Vec Ideal S1x512x256 .f32) (r : Fin 16) (j : Fin 512) :
    metaScores (F := Ideal) k q (ix2 r j)
      = ∑ d : Fin 256, (k (ix2 r d) : EReal) * ((q (ix3 0 j d) : EReal) * (qs : EReal)) := by
  rw [← named_qs]
  pointwise [metaScores]

theorem getS_apply (s : Vec Ideal S1x512x512 .f32) (r j : Fin 512) : getS (F := Ideal) s (ix2 r j) = s (ix3 0 r j) := by
  pointwise [getS]

theorem putS_apply (s : FVec Ideal S512x512 .f32) (r j : Fin 512) : putS (F := Ideal) s (ix3 0 r j) = s (ix2 r j) := by
  pointwise [putS]

theorem foldM_apply (s : FVec Ideal S512x512 .f32) (m : Vec Ideal S1x1x512 .f32) (j : Fin 512) :
    foldM (F := Ideal) s m (ix3 0 0 j)
      = max (m (ix3 0 0 j) : EReal) (Finset.univ.fold max ⊥ fun r : Fin 512 => (s (ix2 r j) : EReal)) := by
  pointwise [foldM, newMax]
  rw [negInf]

theorem foldL_apply (s : FVec Ideal S512x512 .f32) (m l : Vec Ideal S1x1x512 .f32) (j : Fin 512) :
    foldL (F := Ideal) s m l (ix3 0 0 j)
      = Ideal.exp2 ((m (ix3 0 0 j) : EReal) - foldM (F := Ideal) s m (ix3 0 0 j)) * (l (ix3 0 0 j) : EReal)
        + ∑ r : Fin 512, Ideal.exp2 ((s (ix2 r j) : EReal) - foldM (F := Ideal) s m (ix3 0 0 j)) := by
  pointwise [foldL, foldM, scaleOld, weights, newMax]
  rfl

theorem foldA_apply (s : FVec Ideal S512x512 .f32) (m : Vec Ideal S1x1x512 .f32) (a : Vec Ideal S1x128x512 .f32)
    (v : Vec Ideal S128x512 .bf16) (d : Fin 128) (j : Fin 512) :
    foldA (F := Ideal) s m a v (ix3 0 d j)
      = Ideal.exp2 ((m (ix3 0 0 j) : EReal) - foldM (F := Ideal) s m (ix3 0 0 j)) * (a (ix3 0 d j) : EReal)
        + ∑ r : Fin 512, (v (ix2 d r) : EReal) * Ideal.exp2 ((s (ix2 r j) : EReal) - foldM (F := Ideal) s m (ix3 0 0 j)) := by
  pointwise [foldA, foldM, scaleOld, weights, newMax]
  rfl

theorem metaM_apply (s : FVec Ideal S16x512 .f32) (j : Fin 512) :
    metaM (F := Ideal) s (ix3 0 0 j) = (Finset.univ.fold max ⊥ fun r : Fin 16 => (s (ix2 r j) : EReal)) := by
  pointwise [metaM, metaMax]
  rw [negInf]

theorem metaL_apply (s : FVec Ideal S16x512 .f32) (j : Fin 512) :
    metaL (F := Ideal) s (ix3 0 0 j)
      = ∑ r : Fin 16, Ideal.exp2 ((s (ix2 r j) : EReal) - metaM (F := Ideal) s (ix3 0 0 j)) := by
  pointwise [metaL, metaM, metaMax, metaWeights]
  rfl

theorem metaA_apply (s : FVec Ideal S16x512 .f32) (v : Vec Ideal S128x16 .bf16) (d : Fin 128) (j : Fin 512) :
    metaA (F := Ideal) s v (ix3 0 d j)
      = ∑ r : Fin 16, (v (ix2 d r) : EReal) * Ideal.exp2 ((s (ix2 r j) : EReal) - metaM (F := Ideal) s (ix3 0 0 j)) := by
  pointwise [metaA, metaM, metaMax, metaWeights]
  rfl

theorem outT_apply (a : Vec Ideal S1x128x512 .f32) (l : Vec Ideal S1x1x512 .f32) (j : Fin 512) (d : Fin 128) :
    outT (F := Ideal) a l (ix3 0 j d) = Ideal.div (a (ix3 0 d j)) (l (ix3 0 0 j)) := by
  pointwise [outT]

/-! ## The mask -/

/-- The chunk of a row counted in the tile: division by 64, rounding down, as the kernel spells it. -/
theorem chunk_word : ∀ r : Fin 512,
    Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32))) 1#32)
        (IntOp.cmpi .ne (IntOp.remsi .vector (BitVec.ofNat 32 r.val) 64#32) 0#32))
      (IntOp.subi (IntOp.divsi .vector (BitVec.ofNat 32 r.val) 64#32) 1#32)
      (IntOp.divsi .vector (BitVec.ofNat 32 r.val) 64#32)
    = BitVec.ofNat 32 (r.val / 64) := by decide +kernel

theorem rowChunk_apply (r j : Fin 512) : kernelRun0_A.sl.v363 (ix2 r j) = BitVec.ofNat 32 (r.val / 64) := by
  unfold kernelRun0_A.sl.v363 kernelRun0_A.sl.v360 kernelRun0_A.sl.v354 kernelRun0_A.sl.v359 kernelRun0_A.sl.v339
    kernelRun0_A.sl.v356 kernelRun0_A.sl.v358
  pointwise [k0_pay440, k0_pay441]
  exact chunk_word r

theorem colChunk_apply (r j : Fin 512) : kernelRun0_A.sl.v388 (ix2 r j) = BitVec.ofNat 32 (j.val / 64) := by
  unfold kernelRun0_A.sl.v388 kernelRun0_A.sl.v380 kernelRun0_A.sl.v384 kernelRun0_A.sl.v387 kernelRun0_A.sl.v369
    kernelRun0_A.sl.v372 kernelRun0_A.sl.v354 kernelRun0_A.sl.v356 kernelRun0_A.sl.v358 kernelRun0_A.sl.v364
  pointwise
  exact chunk_word j

theorem le_word : ∀ a b : Fin 8, (IntOp.cmpi .sle (BitVec.ofNat 32 a.val) (BitVec.ofNat 32 b.val) = 1#1) ↔ a.val ≤ b.val := by
  decide +kernel

theorem masked_apply (s : FVec Ideal S512x512 .f32) (r j : Fin 512) :
    masked (F := Ideal) s (ix2 r j) = if r.val / 64 ≤ j.val / 64 then (s (ix2 r j) : EReal) else ⊥ := by
  have h := le_word ⟨r.val / 64, by omega⟩ ⟨j.val / 64, by omega⟩
  dsimp only at h
  unfold masked
  show Scalar.select (IntOp.cmpi .sle (kernelRun0_A.sl.v363 (ix2 r j)) (kernelRun0_A.sl.v388 (ix2 r j))) (s (ix2 r j))
    (Ideal.ofBits .f32 0xFF800000#32) = _
  rw [rowChunk_apply, colChunk_apply, negInf]
  by_cases hc : r.val / 64 ≤ j.val / 64
  · rw [if_pos hc, h.2 hc]; rfl
  · rw [if_neg hc]
    exact if_neg fun h' => hc (h.1 h')

end Cert.Slots
-- ==== Proof.Chain.lean ====
/-
One chain of the kernel's softmax: after the meta keys and any number of key tiles, each query's
lane holds the sums that `Cert.Softmax.Held` names.
-/
module

public import proofs.«01_k».proof.Proof.Pure

@[expose] public section

set_option maxRecDepth 16384

noncomputable section

namespace Cert.Slots

open Idealize.ShloMosaic Cert.KernelIdeal Cert.KernelIdeal.Gen Cert.Softmax

/-! ## Windows at an element -/

section Windows

variable {F : FTy → Type} [FloatOps F] [Named F]

theorem win_apply {sg : RefSig} {κ' : Kind} {sp : Space} {s : Shape} {e : EltTy} (b : Memref sg κ' sp s e)
    (hb : b.IsWhole) (x : Vec F s e) (off size : Fin s.rank → ℕ) (inb : ∀ a, off a + size a ≤ s.size a)
    (y : (Rect.unit off size inb).shape.Idx) (z : s.Idx) (hz : ∀ a, (z a).val = off a + (y a).val) :
    b.view.readAt (Elt F) (Rect.unit off size inb).toLoadRect (hb.unread x) y = x z := by
  rw [View.readAt_apply, hb.read_unread]
  exact congrArg x (funext fun a => Fin.ext ((Rect.idx_unit_val off size inb y a).trans (hz a).symm))

theorem win_apply_at {sg : RefSig} {κ' : Kind} {sp : Space} {s : Shape} {e : EltTy} (b : Memref sg κ' sp s e)
    (hb : b.IsWhole) (x : Vec F s e) (off size : Fin s.rank → ℕ) (inb : ∀ a, off a + size a ≤ s.size a)
    (y : (Rect.unit off size inb).shape.Idx) (z : s.Idx) (off' : Fin s.rank → ℕ) (ho : off = off')
    (hz : ∀ a, (z a).val = off' a + (y a).val) :
    b.view.readAt (Elt F) (Rect.unit off size inb).toLoadRect (hb.unread x) y = x z :=
  win_apply b hb x off size inb y z fun a => by subst ho; exact hz a

/-- Rows `512 a + j`, as the block holds them. -/
def row2 (a : Fin 2) (j : Fin 512) : Fin 1024 := ⟨512 * a.val + j.val, by omega⟩
/-- Column `256 h + d` of the packed queries and keys. -/
def col (h : Fin 4) (d : Fin 256) : Fin 1024 := ⟨256 * h.val + d.val, by omega⟩
/-- Row `128 h + d` of the transposed values. -/
def vrow (h : Fin 4) (d : Fin 128) : Fin 512 := ⟨128 * h.val + d.val, by omega⟩

variable (i : grid0.Coords)

theorem qWin_apply (b : Memref sig .tc .vmem S1x1024x1024 .f32) (hb : b.IsWhole) (x : Vec F S1x1024x1024 .f32)
    (a : Fin 2) (h : Fin 4) (j : Fin 512) (d : Fin 256) :
    qWin b (hb.unread x) a h (ix3 0 j d) = x (ix3 0 (row2 a j) (col h d)) :=
  win_apply b hb x _ _ _ _ _ fun c => by fin_cases c <;> rfl

theorem kWin0_apply (b : Memref sig .tc .vmem S1x8192x1024 .bf16) (hb : b.IsWhole) (x : Vec F S1x8192x1024 .bf16)
    (h : Fin 4) (r : Fin 512) (d : Fin 256) (p : Fin 8192) (hp : p.val = r.val) :
    kWin0 b (hb.unread x) h (ix3 0 r d) = x (ix3 0 p (col h d)) :=
  win_apply b hb x _ _ _ _ _ fun c => by
    fin_cases c
    · rfl
    · exact hp.trans (Nat.zero_add _).symm
    · rfl

theorem kWin_apply (b : Memref sig .tc .vmem S1x8192x1024 .bf16) (hb : b.IsWhole) (x : Vec F S1x8192x1024 .bf16)
    (k : Fin (k0_t1_loop i).trips) (u : Fin 2) (h : Fin 4) (r : Fin 512) (d : Fin 256) (p : Fin 8192)
    (hp : p.val = 1024 * k.val + 512 * u.val + 512 + r.val) :
    kWin b (hb.unread x) i k u h (ix3 0 r d) = x (ix3 0 p (col h d)) := by
  match h with
  | 0 => exact win_apply_at b hb x _ _ _ _ _ _ (k0_off1_eq i k u) fun c => by
            fin_cases c; exacts [rfl, hp, rfl]
  | 1 => exact win_apply_at b hb x _ _ _ _ _ _ (k0_off3_eq i k u) fun c => by
            fin_cases c; exacts [rfl, hp, rfl]
  | 2 => exact win_apply_at b hb x _ _ _ _ _ _ (k0_off5_eq i k u) fun c => by
            fin_cases c; exacts [rfl, hp, rfl]
  | 3 => exact win_apply_at b hb x _ _ _ _ _ _ (k0_off7_eq i k u) fun c => by
            fin_cases c; exacts [rfl, hp, rfl]

theorem kWinT_apply (b : Memref sig .tc .vmem S1x8192x1024 .bf16) (hb : b.IsWhole) (x : Vec F S1x8192x1024 .bf16)
    (h : Fin 4) (r : Fin 512) (d : Fin 256) (p : Fin 8192) (hp : p.val = 1024 * (i 1).val + 512 + r.val) :
    kWinT b (hb.unread x) i h (ix3 0 r d) = x (ix3 0 p (col h d)) := by
  match h with
  | 0 => exact win_apply_at b hb x _ _ _ _ _ _ (k0_off21_eq i) fun c => by
            fin_cases c; exacts [rfl, hp, rfl]
  | 1 => exact win_apply_at b hb x _ _ _ _ _ _ (k0_off22_eq i) fun c => by
            fin_cases c; exacts [rfl, hp, rfl]
  | 2 => exact win_apply_at b hb x _ _ _ _ _ _ (k0_off23_eq i) fun c => by
            fin_cases c; exacts [rfl, hp, rfl]
  | 3 => exact win_apply_at b hb x _ _ _ _ _ _ (k0_off24_eq i) fun c => by
            fin_cases c; exacts [rfl, hp, rfl]

theorem vWin_apply (b : Memref sig .tc .vmem S512x8192 .bf16) (hb : b.IsWhole) (x : Vec F S512x8192 .bf16)
    (k : Fin (k0_t1_loop i).trips) (u : Fin 2) (h : Fin 4) (d : Fin 128) (r : Fin 512) (p : Fin 8192)
    (hp : p.val = 1024 * k.val + 512 * u.val + r.val) :
    vWin b (hb.unread x) i k u h (ix2 d r) = x (ix2 (vrow h d) p) := by
  match h with
  | 0 => exact win_apply_at b hb x _ _ _ _ _ _ (k0_off2_eq i k u) fun c => by
            fin_cases c; exacts [rfl, hp]
  | 1 => exact win_apply_at b hb x _ _ _ _ _ _ (k0_off4_eq i k u) fun c => by
            fin_cases c; exacts [rfl, hp]
  | 2 => exact win_apply_at b hb x _ _ _ _ _ _ (k0_off6_eq i k u) fun c => by
            fin_cases c; exacts [rfl, hp]
  | 3 => exact win_apply_at b hb x _ _ _ _ _ _ (k0_off8_eq i k u) fun c => by
            fin_cases c; exacts [rfl, hp]

theorem vWinT_apply (b : Memref sig .tc .vmem S512x8192 .bf16) (hb : b.IsWhole) (x : Vec F S512x8192 .bf16)
    (u : Fin 2) (h : Fin 4) (d : Fin 128) (r : Fin 512) (p : Fin 8192)
    (hp : p.val = 1024 * (i 1).val + 512 * u.val + r.val) :
    vWinT b (hb.unread x) i u h (ix2 d r) = x (ix2 (vrow h d) p) := by
  match h with
  | 0 => exact win_apply_at b hb x _ _ _ _ _ _ (k0_off17_eq i u) fun c => by
            fin_cases c; exacts [rfl, hp]
  | 1 => exact win_apply_at b hb x _ _ _ _ _ _ (k0_off18_eq i u) fun c => by
            fin_cases c; exacts [rfl, hp]
  | 2 => exact win_apply_at b hb x _ _ _ _ _ _ (k0_off19_eq i u) fun c => by
            fin_cases c; exacts [rfl, hp]
  | 3 => exact win_apply_at b hb x _ _ _ _ _ _ (k0_off20_eq i u) fun c => by
            fin_cases c; exacts [rfl, hp]

theorem mkWin_apply (b : Memref sig .tc .vmem S16x1024 .bf16) (hb : b.IsWhole) (x : Vec F S16x1024 .bf16)
    (h : Fin 4) (r : Fin 16) (d : Fin 256) :
    mkWin b (hb.unread x) h (ix2 r d) = x (ix2 r (col h d)) :=
  win_apply b hb x _ _ _ _ _ fun c => by
    fin_cases c
    · exact (Nat.zero_add _).symm
    · rfl

theorem mvWin_apply (b : Memref sig .tc .vmem S512x16 .bf16) (hb : b.IsWhole) (x : Vec F S512x16 .bf16)
    (h : Fin 4) (d : Fin 128) (r : Fin 16) :
    mvWin b (hb.unread x) h (ix2 d r) = x (ix2 (vrow h d) r) :=
  win_apply b hb x _ _ _ _ _ fun c => by
    fin_cases c
    · rfl
    · exact (Nat.zero_add _).symm

theorem trips1 : ∀ i : grid0.Coords, (k0_t1_loop i).trips = (i 1).val := by decide +kernel
theorem trips2 : ∀ i : grid0.Coords, (k0_t2_loop i).trips = 0 := by decide +kernel
theorem tile_lt : ∀ i : grid0.Coords, (i 1).val < 8 := by decide +kernel

end Windows

/-! ## A chain at the extended reals -/

variable (x0 : Vec Ideal S1x1024x1024 .f32) (x1 : Vec Ideal S1x8192x1024 .bf16) (x2 : Vec Ideal S512x8192 .bf16)
  (x3 : Vec Ideal S16x1024 .bf16) (x4 : Vec Ideal S512x16 .bf16)

/-- Key `n` of head `h`: the sixteen meta keys, then the sequence. -/
def key (h : Fin 4) (n : ℕ) (d : Fin 256) : EReal :=
  if hn : n < 16 then (x3 (ix2 ⟨n, hn⟩ (col h d)) : EReal)
  else if hn' : n - 16 < 8192 then (x1 (ix3 0 ⟨n - 16, hn'⟩ (col h d)) : EReal) else 0

/-- Value `n` of head `h`. -/
def vl (h : Fin 4) (n : ℕ) (d : Fin 128) : EReal :=
  if hn : n < 16 then (x4 (ix2 (vrow h d) ⟨n, hn⟩) : EReal)
  else if hn' : n - 16 < 8192 then (x2 (ix2 (vrow h d) ⟨n - 16, hn'⟩) : EReal) else 0

/-- The score, in base two, of key `n` for query `512 a + j` of the block. -/
def sc (a : Fin 2) (h : Fin 4) (j : Fin 512) (n : ℕ) : EReal :=
  ∑ d : Fin 256, key x1 x3 h n d * ((x0 (ix3 0 (row2 a j) (col h d)) : EReal) * (qs : EReal))

/-- Query `512 a + j` of row tile `t` sees the meta keys and every key of its chunk or before. -/
def vis (t : ℕ) (a : Fin 2) (j : Fin 512) (n : ℕ) : Prop :=
  n < 16 ∨ (n - 16) / 64 ≤ (1024 * t + 512 * a.val + j.val) / 64

instance (t : ℕ) (a : Fin 2) (j : Fin 512) : DecidablePred (vis t a j) := fun n => by unfold vis; infer_instance

variable {x0 x1 x2 x3 x4}

theorem key_meta (h : Fin 4) (r : Fin 16) (d : Fin 256) : key x1 x3 h r.val d = x3 (ix2 r (col h d)) := by
  unfold key; rw [dif_pos r.isLt]

theorem key_seq (h : Fin 4) (p : Fin 8192) (n : ℕ) (hn : n = 16 + p.val) (d : Fin 256) :
    key x1 x3 h n d = x1 (ix3 0 p (col h d)) := by
  subst hn
  unfold key
  rw [dif_neg (by omega), dif_pos (by omega)]
  exact congrArg (fun p => (x1 (ix3 0 p (col h d)) : EReal)) (Fin.ext (by simp))

theorem vl_meta (h : Fin 4) (r : Fin 16) (d : Fin 128) : vl x2 x4 h r.val d = x4 (ix2 (vrow h d) r) := by
  unfold vl; rw [dif_pos r.isLt]

theorem vl_seq (h : Fin 4) (p : Fin 8192) (n : ℕ) (hn : n = 16 + p.val) (d : Fin 128) :
    vl x2 x4 h n d = x2 (ix2 (vrow h d) p) := by
  subst hn
  unfold vl
  rw [dif_neg (by omega), dif_pos (by omega)]
  exact congrArg (fun p => (x2 (ix2 (vrow h d) p) : EReal)) (Fin.ext (by simp))

/-- One fold of a tile of scores, at a lane. -/
theorem fold_held {x : ℕ → ℝ} {vi : ℕ → Prop} [DecidablePred vi] {v : ℕ → Fin 128 → EReal} {n : ℕ}
    {m l : Vec Ideal S1x1x512 .f32} {acc : Vec Ideal S1x128x512 .f32} {S : FVec Ideal S512x512 .f32}
    {V : Vec Ideal S128x512 .bf16} (j : Fin 512)
    (hH : Held x vi v n (m (ix3 0 0 j)) (l (ix3 0 0 j)) fun d => acc (ix3 0 d j))
    (hS : ∀ r : Fin 512, (S (ix2 r j) : EReal) = score x vi (n + r.val))
    (hV : ∀ (r : Fin 512) (d : Fin 128), (V (ix2 d r) : EReal) = v (n + r.val) d) :
    Held x vi v (n + 512) (foldM S m (ix3 0 0 j)) (foldL S m l (ix3 0 0 j)) fun d => foldA S m acc V (ix3 0 d j) :=
  hH.fold 512 (s := fun r => S (ix2 r j)) (w := fun r d => V (ix2 d r)) hS hV (foldM_apply S m j)
    ((foldL_apply S m l j).trans (by rw [mul_comm])) fun d => (foldA_apply S m acc V d j).trans (by rw [mul_comm])

variable (x0 x1 x2 x3 x4)

/-- Chain `(a, h)` after the keys below `n`: the tile from `n` on scored, the sums held. -/
def Chain (xr : Fin 2 → Fin 4 → Fin 512 → ℕ → ℝ) (t n : ℕ) (a : Fin 2) (h : Fin 4) (s : Vec Ideal S1x512x512 .f32)
    (m l : Vec Ideal S1x1x512 .f32) (acc : Vec Ideal S1x128x512 .f32) : Prop :=
  ∀ j : Fin 512, (∀ r : Fin 512, (s (ix3 0 r j) : EReal) = (xr a h j (n + r.val) : EReal)) ∧
    Held (xr a h j) (vis t a j) (vl x2 x4 h) n (m (ix3 0 0 j)) (l (ix3 0 0 j)) fun d => acc (ix3 0 d j)

variable (i : grid0.Coords)
  (arg2 : Memref sig .tc .vmem S1x1024x1024 .f32) (harg2 : arg2.IsWhole)
  (arg3 : Memref sig .tc .vmem S1x8192x1024 .bf16) (harg3 : arg3.IsWhole)
  (arg4 : Memref sig .tc .vmem S512x8192 .bf16) (harg4 : arg4.IsWhole)
  (arg5 : Memref sig .tc .vmem S16x1024 .bf16) (harg5 : arg5.IsWhole)
  (arg6 : Memref sig .tc .vmem S512x16 .bf16) (harg6 : arg6.IsWhole)
  (xr : Fin 2 → Fin 4 → Fin 512 → ℕ → ℝ) (hxr : ∀ a h j n, sc x0 x1 x3 a h j n = (xr a h j n : EReal))
include hxr

theorem tile_scores (k : Vec Ideal S1x512x256 .bf16) (a : Fin 2) (h : Fin 4) (n : ℕ) (hn : n + 512 ≤ 8192)
    (hk : ∀ (r : Fin 512) (d : Fin 256) (p : Fin 8192), p.val = n + r.val → k (ix3 0 r d) = x1 (ix3 0 p (col h d)))
    (r j : Fin 512) :
    (putS (scores k (qWin arg2 (harg2.unread x0) a h)) (ix3 0 r j) : EReal) = (xr a h j (16 + n + r.val) : EReal) := by
  rw [putS_apply, scores_apply, ← hxr]
  refine Finset.sum_congr rfl fun d _ => ?_
  rw [qWin_apply, hk r d ⟨n + r.val, by omega⟩ rfl,
    key_seq (x1 := x1) (x3 := x3) h ⟨n + r.val, by omega⟩ _ (by simp [Nat.add_assoc]) d]

/-- What the meta keys leave, with the first key tile scored. -/
theorem chain_start (a : Fin 2) (h : Fin 4) :
    Chain x2 x4 xr (i 1).val 16 a h (putS (scores (kWin0 arg3 (harg3.unread x1) h) (qWin arg2 (harg2.unread x0) a h)))
      (metaM (metaScores (mkWin arg5 (harg5.unread x3) h) (qWin arg2 (harg2.unread x0) a h)))
      (metaL (metaScores (mkWin arg5 (harg5.unread x3) h) (qWin arg2 (harg2.unread x0) a h)))
      (metaA (metaScores (mkWin arg5 (harg5.unread x3) h) (qWin arg2 (harg2.unread x0) a h))
        (mvWin arg6 (harg6.unread x4) h)) := by
  intro j
  refine ⟨fun r => ?_, ?_⟩
  · exact tile_scores x0 x1 x3 arg2 harg2 xr hxr _ a h 0 (by omega)
      (fun r d p hp => kWin0_apply arg3 harg3 x1 h r d p (by omega)) r j
  · refine Held.start 16 (by omega)
      (s := fun r => metaScores (mkWin arg5 (harg5.unread x3) h) (qWin arg2 (harg2.unread x0) a h) (ix2 r j))
      (w := fun r d => mvWin arg6 (harg6.unread x4) h (ix2 d r))
      (fun k => Or.inl k.isLt) (fun r => ?_) (fun r d => ?_) (metaM_apply _ j) (metaL_apply _ j)
      fun d => metaA_apply _ _ d j
    · rw [metaScores_apply, ← hxr]
      refine Finset.sum_congr rfl fun d _ => ?_
      rw [qWin_apply, mkWin_apply, key_meta]
    · rw [mvWin_apply, vl_meta]

/-- One trip of the loop: two folds. -/
theorem chain_trip (k : Fin (k0_t1_loop i).trips) (a : Fin 2) (h : Fin 4) (s : Vec Ideal S1x512x512 .f32)
    (m l : Vec Ideal S1x1x512 .f32) (acc : Vec Ideal S1x128x512 .f32)
    (hc : Chain x2 x4 xr (i 1).val (16 + 1024 * k.val) a h s m l acc) :
    Chain x2 x4 xr (i 1).val (16 + 1024 * (k.val + 1)) a h
      (putS (scores (kWin arg3 (harg3.unread x1) i k 1 h) (qWin arg2 (harg2.unread x0) a h)))
      (foldM (getS (putS (scores (kWin arg3 (harg3.unread x1) i k 0 h) (qWin arg2 (harg2.unread x0) a h))))
        (foldM (getS s) m))
      (foldL (getS (putS (scores (kWin arg3 (harg3.unread x1) i k 0 h) (qWin arg2 (harg2.unread x0) a h))))
        (foldM (getS s) m) (foldL (getS s) m l))
      (foldA (getS (putS (scores (kWin arg3 (harg3.unread x1) i k 0 h) (qWin arg2 (harg2.unread x0) a h))))
        (foldM (getS s) m) (foldA (getS s) m acc (vWin arg4 (harg4.unread x2) i k 0 h))
        (vWin arg4 (harg4.unread x2) i k 1 h)) := by
  have hk : k.val < (i 1).val := (trips1 i) ▸ k.isLt
  have ht := tile_lt i
  intro j
  obtain ⟨h1, h2⟩ := hc j
  have hsc : ∀ n, n < 16 + 1024 * (k.val + 1) → score (xr a h j) (vis (i 1).val a j) n = (xr a h j n : EReal) := by
    intro n hn
    unfold score
    exact if_pos (by unfold vis; right; apply Nat.div_le_div_right; omega)
  refine ⟨fun r => ?_, ?_⟩
  · rw [tile_scores x0 x1 x3 arg2 harg2 xr hxr _ a h (1024 * k.val + 512 + 512) (by omega)
      (fun r d p hp => kWin_apply i arg3 harg3 x1 k 1 h r d p (by simp; omega)) r j]
    exact congrArg (fun n => (xr a h j n : EReal)) (by omega)
  · have e : 16 + 1024 * (k.val + 1) = 16 + 1024 * k.val + 512 + 512 := by omega
    rw [e]
    refine fold_held j (fold_held j h2 (fun r => ?_) fun r d => ?_) (fun r => ?_) fun r d => ?_
    · rw [getS_apply, h1, hsc _ (by omega)]
    · rw [vWin_apply i arg4 harg4 x2 k 0 h d r ⟨1024 * k.val + r.val, by omega⟩ (by simp)]
      exact (vl_seq h _ _ (by simp; omega) d).symm
    · rw [getS_apply, tile_scores x0 x1 x3 arg2 harg2 xr hxr _ a h (1024 * k.val + 512) (by omega)
        (fun r d p hp => kWin_apply i arg3 harg3 x1 k 0 h r d p (by simp; omega)) r j, hsc _ (by omega)]
      exact congrArg (fun n => (xr a h j n : EReal)) (by omega)
    · rw [vWin_apply i arg4 harg4 x2 k 1 h d r ⟨1024 * k.val + 512 + r.val, by omega⟩ (by simp)]
      exact (vl_seq h _ _ (by simp; omega) d).symm

omit hxr in
theorem masked_score (a : Fin 2) (h : Fin 4) (j : Fin 512) (S : FVec Ideal S512x512 .f32) (n : ℕ)
    (hn : n = 16 + 1024 * (i 1).val + 512 * a.val)
    (hS : ∀ r : Fin 512, (S (ix2 r j) : EReal) = (xr a h j (n + r.val) : EReal)) (r : Fin 512) :
    (masked S (ix2 r j) : EReal) = score (xr a h j) (vis (i 1).val a j) (n + r.val) := by
  rw [masked_apply, hS]
  unfold score
  refine if_congr ?_ rfl rfl
  unfold vis
  subst hn
  constructor
  · intro hle; right; omega
  · rintro (hlt | hle) <;> omega

/-- The chains of the first row block end with one masked fold. -/
theorem chain_last0 (h : Fin 4) (s : Vec Ideal S1x512x512 .f32) (m l : Vec Ideal S1x1x512 .f32)
    (acc : Vec Ideal S1x128x512 .f32) (hc : Chain x2 x4 xr (i 1).val (16 + 1024 * (i 1).val) 0 h s m l acc) (j : Fin 512) :
    Held (xr 0 h j) (vis (i 1).val 0 j) (vl x2 x4 h) 8208
      (foldM (masked (getS s)) m (ix3 0 0 j)) (foldL (masked (getS s)) m l (ix3 0 0 j))
      fun d => foldA (masked (getS s)) m acc (vWinT arg4 (harg4.unread x2) i 0 h) (ix3 0 d j) := by
  have ht := tile_lt i
  obtain ⟨h1, h2⟩ := hc j
  refine Held.extend (fold_held j h2 (fun r => ?_) fun r d => ?_) 8208 (by omega) ?_
  · exact masked_score i xr 0 h j _ _ (by simp) (fun r => by rw [getS_apply, h1]) r
  · rw [vWinT_apply i arg4 harg4 x2 0 h d r ⟨1024 * (i 1).val + r.val, by omega⟩ (by simp)]
    exact (vl_seq h _ _ (by simp; omega) d).symm
  · intro n h3 _
    unfold vis
    simp only [Fin.val_zero, Nat.mul_zero, Nat.add_zero]
    omega

/-- The chains of the second row block end with a fold and a masked fold. -/
theorem chain_last1 (h : Fin 4) (s : Vec Ideal S1x512x512 .f32) (m l : Vec Ideal S1x1x512 .f32)
    (acc : Vec Ideal S1x128x512 .f32) (hc : Chain x2 x4 xr (i 1).val (16 + 1024 * (i 1).val) 1 h s m l acc) (j : Fin 512) :
    Held (xr 1 h j) (vis (i 1).val 1 j) (vl x2 x4 h) 8208
      (foldM (masked (getS (putS (scores (kWinT arg3 (harg3.unread x1) i h) (qWin arg2 (harg2.unread x0) 1 h)))))
        (foldM (getS s) m) (ix3 0 0 j))
      (foldL (masked (getS (putS (scores (kWinT arg3 (harg3.unread x1) i h) (qWin arg2 (harg2.unread x0) 1 h)))))
        (foldM (getS s) m) (foldL (getS s) m l) (ix3 0 0 j))
      fun d => foldA (masked (getS (putS (scores (kWinT arg3 (harg3.unread x1) i h) (qWin arg2 (harg2.unread x0) 1 h)))))
        (foldM (getS s) m) (foldA (getS s) m acc (vWinT arg4 (harg4.unread x2) i 0 h))
        (vWinT arg4 (harg4.unread x2) i 1 h) (ix3 0 d j) := by
  have ht := tile_lt i
  obtain ⟨h1, h2⟩ := hc j
  refine Held.extend (fold_held j (fold_held j h2 (fun r => ?_) fun r d => ?_) (fun r => ?_) fun r d => ?_) 8208 (by omega) ?_
  · rw [getS_apply, h1]
    unfold score
    exact (if_pos (by unfold vis; right; apply Nat.div_le_div_right; simp; omega)).symm
  · rw [vWinT_apply i arg4 harg4 x2 0 h d r ⟨1024 * (i 1).val + r.val, by omega⟩ (by simp)]
    exact (vl_seq h _ _ (by simp; omega) d).symm
  · refine masked_score i xr 1 h j _ _ (by simp) (fun r => ?_) r
    rw [getS_apply, tile_scores x0 x1 x3 arg2 harg2 xr hxr _ 1 h (1024 * (i 1).val + 512) (by omega)
        (fun r d p hp => kWinT_apply i arg3 harg3 x1 h r d p (by omega)) r j]
    exact congrArg (fun n => (xr 1 h j n : EReal)) (by omega)
  · rw [vWinT_apply i arg4 harg4 x2 1 h d r ⟨1024 * (i 1).val + 512 + r.val, by omega⟩ (by simp)]
    exact (vl_seq h _ _ (by simp; omega) d).symm
  · intro n h3 _
    unfold vis
    simp only [Fin.val_one, Nat.mul_one]
    omega

end Cert.Slots
-- ==== Proof.Attend.lean ====
module

public import Mathlib.Data.EReal.Operations
public import Mathlib.Algebra.BigOperators.Fin
public import proofs.«01_k».proof.Proof.Softmax

@[expose] public section

/-!
# Attention over a shared prefix, on the extended reals

The layer's own mathematics, read from the eight arrays as functions of their indices: a query attends to sixteen shared
keys and then to the keys of its own batch row, as far as the end of its chunk of sixty-four.
-/

noncomputable section

open Idealize.ShloMosaic Cert.Softmax

namespace Cert.Attend

/-- The eight arrays the attention is taken over, as functions of their indices. -/
structure Inputs where
  qn : Fin 4 → Fin 8192 → Fin 4 → Fin 128 → EReal
  qr : Fin 4 → Fin 8192 → Fin 4 → Fin 64 → EReal
  kn : Fin 4 → Fin 8192 → Fin 4 → Fin 128 → EReal
  kr : Fin 4 → Fin 8192 → Fin 64 → EReal
  v : Fin 4 → Fin 8192 → Fin 4 → Fin 128 → EReal
  knm : Fin 16 → Fin 4 → Fin 128 → EReal
  krm : Fin 16 → Fin 64 → EReal
  vm : Fin 16 → Fin 4 → Fin 128 → EReal

/-- Neither infinity. -/
def IsReal (x : EReal) : Prop := x ≠ ⊤ ∧ x ≠ ⊥

theorem IsReal.coe {x : EReal} (h : IsReal x) : x = (x.toReal : EReal) := (EReal.coe_toReal h.1 h.2).symm

theorem real_zero : IsReal 0 := ⟨by simp, by simp⟩

/-- Queries and keys hold real numbers; the values may be anything. -/
structure Inputs.Finite (I : Inputs) : Prop where
  qn : ∀ b p h d, IsReal (I.qn b p h d)
  qr : ∀ b p h d, IsReal (I.qr b p h d)
  kn : ∀ b p h d, IsReal (I.kn b p h d)
  kr : ∀ b p d, IsReal (I.kr b p d)
  knm : ∀ n h d, IsReal (I.knm n h d)
  krm : ∀ n d, IsReal (I.krm n d)

variable (I : Inputs)

/-- Key `n` of row `b`: the sixteen shared ones first. -/
def Inputs.K (b : Fin 4) (h : Fin 4) (n : ℕ) (d : Fin 128) : EReal :=
  if hn : n < 16 then I.knm ⟨n, hn⟩ h d else if hs : n - 16 < 8192 then I.kn b ⟨n - 16, hs⟩ h d else 0

/-- The rotary part of key `n` of row `b`, one for all heads. -/
def Inputs.R (b : Fin 4) (n : ℕ) (d : Fin 64) : EReal :=
  if hn : n < 16 then I.krm ⟨n, hn⟩ d else if hs : n - 16 < 8192 then I.kr b ⟨n - 16, hs⟩ d else 0

/-- Value `n` of row `b`. -/
def Inputs.W (b : Fin 4) (h : Fin 4) (n : ℕ) (d : Fin 128) : EReal :=
  if hn : n < 16 then I.vm ⟨n, hn⟩ h d else if hs : n - 16 < 8192 then I.v b ⟨n - 16, hs⟩ h d else 0

/-- The score of query `p` against key `n`. -/
def Inputs.y (b : Fin 4) (p : Fin 8192) (h : Fin 4) (n : ℕ) : ℝ :=
  ((∑ d, (I.qn b p h d).toReal * (I.K b h n d).toReal) + ∑ d, (I.qr b p h d).toReal * (I.R b n d).toReal)
    * (Real.sqrt 192)⁻¹

/-- Query `p` sees the shared keys and those no later than its own chunk. -/
def sees (p : Fin 8192) (n : ℕ) : Prop := n < 16 ∨ (n - 16) / 64 ≤ p.val / 64

instance (p : Fin 8192) : DecidablePred (sees p) := fun n => by unfold sees; infer_instance

/-- The attention's result, every score lowered by `C`. -/
def Inputs.out (C : Fin 4 → Fin 8192 → Fin 4 → ℝ) (b : Fin 4) (p : Fin 8192) (h : Fin 4) (d : Fin 128) : EReal :=
  ∑ n ∈ Finset.range 8208,
    Ideal.div (Ideal.exp (score (I.y b p h) (sees p) n - (C b p h : EReal)))
      (∑ i ∈ Finset.range 8208, Ideal.exp (score (I.y b p h) (sees p) i - (C b p h : EReal))) * I.W b h n d

variable {I}

theorem Inputs.Finite.K (H : I.Finite) (b h n d) : IsReal (I.K b h n d) := by
  unfold Inputs.K; split
  · exact H.knm _ _ _
  · split
    · exact H.kn _ _ _ _
    · exact real_zero

theorem Inputs.Finite.R (H : I.Finite) (b n d) : IsReal (I.R b n d) := by
  unfold Inputs.R; split
  · exact H.krm _ _
  · split
    · exact H.kr _ _ _
    · exact real_zero

/-- A sum over 256 in its three parts. -/
theorem sum_parts {M : Type} [AddCommMonoid M] (f : Fin 256 → M) :
    ∑ d, f d = (∑ d : Fin 128, f ⟨d.val, by omega⟩) + ((∑ d : Fin 64, f ⟨128 + d.val, by omega⟩) + ∑ d : Fin 64, f ⟨192 + d.val, by omega⟩) := by
  have h := Fin.sum_univ_add (a := 128) (b := 128) f
  have h' := Fin.sum_univ_add (a := 64) (b := 64) fun d : Fin 128 => f (Fin.natAdd 128 d)
  rw [h]
  refine congr_arg₂ (· + ·) (Finset.sum_congr rfl fun d _ => rfl) (h'.trans ?_)
  refine congr_arg₂ (· + ·) (Finset.sum_congr rfl fun d _ => rfl) (Finset.sum_congr rfl fun d _ => congrArg f (Fin.ext ?_))
  simp only [Fin.val_natAdd]; omega

theorem coe_sum {n : ℕ} (f : Fin n → ℝ) : ((∑ d, f d : ℝ) : EReal) = ∑ d, (f d : EReal) :=
  map_sum (⟨⟨Real.toEReal, rfl⟩, EReal.coe_add⟩ : ℝ →+ EReal) f Finset.univ

/-- The score as it is taken over packed rows of 256: the unpacked score on the base-two scale. -/
theorem packed_score (H : I.Finite) (b : Fin 4) (p : Fin 8192) (h : Fin 4) (n : ℕ) (k q : Fin 256 → EReal)
    (k0 : ∀ d : Fin 128, k ⟨d.val, by omega⟩ = I.K b h n d) (k1 : ∀ d : Fin 64, k ⟨128 + d.val, by omega⟩ = I.R b n d)
    (k2 : ∀ d : Fin 64, k ⟨192 + d.val, by omega⟩ = 0) (q0 : ∀ d : Fin 128, q ⟨d.val, by omega⟩ = I.qn b p h d)
    (q1 : ∀ d : Fin 64, q ⟨128 + d.val, by omega⟩ = I.qr b p h d) (s : ℝ) :
    (∑ d, k d * (q d * (((Real.sqrt 192)⁻¹ * s : ℝ) : EReal))) = ((I.y b p h n * s : ℝ) : EReal) := by
  rw [sum_parts]
  simp only [k0, k1, k2, q0, q1, zero_mul, Finset.sum_const_zero, add_zero]
  have e : I.y b p h n * s = (∑ d, (I.K b h n d).toReal * ((I.qn b p h d).toReal * ((Real.sqrt 192)⁻¹ * s)))
      + ∑ d, (I.R b n d).toReal * ((I.qr b p h d).toReal * ((Real.sqrt 192)⁻¹ * s)) := by
    unfold Inputs.y
    rw [mul_assoc, add_mul, Finset.sum_mul, Finset.sum_mul]
    congr 1 <;> exact Finset.sum_congr rfl fun d _ => by ring
  rw [e, EReal.coe_add, coe_sum, coe_sum]
  congr 1 <;> refine Finset.sum_congr rfl fun d _ => ?_
  · rw [EReal.coe_mul (I.K b h n d).toReal, EReal.coe_mul (I.qn b p h d).toReal, ← (H.K b h n d).coe, ← (H.qn b p h d).coe]
  · rw [EReal.coe_mul (I.R b n d).toReal, EReal.coe_mul (I.qr b p h d).toReal, ← (H.R b n d).coe, ← (H.qr b p h d).coe]

/-- The score as the layer writes it: the two products added, then scaled. -/
theorem plain_score (H : I.Finite) (b : Fin 4) (p : Fin 8192) (h : Fin 4) (n : ℕ) :
    ((∑ d, I.qn b p h d * I.K b h n d) + ∑ d, I.R b n d * I.qr b p h d) * (((Real.sqrt 192)⁻¹ : ℝ) : EReal)
      = ((I.y b p h n : ℝ) : EReal) := by
  unfold Inputs.y
  rw [EReal.coe_mul, EReal.coe_add, coe_sum, coe_sum]
  congr 2 <;> refine Finset.sum_congr rfl fun d _ => ?_
  · rw [EReal.coe_mul, ← (H.K b h n d).coe, ← (H.qn b p h d).coe]
  · rw [EReal.coe_mul, ← (H.R b n d).coe, ← (H.qr b p h d).coe, mul_comm]

end Cert.Attend
-- ==== Proof.Blocks.lean ====
/-
The blocks a grid point reads, as entries of the eight arrays: each window's block is part of an array the host lines
prepare, and each prepared array is a packing of the arguments.
-/
module

public import proofs.«01_k».proof.Proof.Chain
public import proofs.«01_k».proof.Proof.Attend
public import proofs.«01_k».proof.Proof.Gen.KernelIdeal.Frame
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Blocks

open Cert.KernelIdeal Cert.KernelIdeal.Gen Cert.Slots Cert.Attend

variable (m : (ℓ : Loc nD τ sig) → Buf (Elt Ideal) ℓ)

/-- Which block each window takes at each grid point. -/
theorem idx : ∀ t : Fin cfg0.N, win0_0.index t = ![(grid0.coords t 0).val, (grid0.coords t 1).val, 0]
    ∧ win0_1.index t = ![(grid0.coords t 0).val, 0, 0] ∧ win0_2.index t = ![0, (grid0.coords t 0).val]
    ∧ win0_3.index t = ![0, 0] ∧ win0_4.index t = ![0, 0]
    ∧ win0_5.index t = ![(grid0.coords t 0).val, (grid0.coords t 1).val, 0] ∧ (grid0.coords t 0).val < 4 ∧ (grid0.coords t 1).val < 8 :=
  (by decide +kernel : ∀ t : Fin grid0.N, _)

theorem iblk_def (c : Dev nD) (w : Fin cfg0.W) (t : Fin cfg0.N) :
    iblk m c w t = ((cfg0.win w).blk t).view.read (Elt Ideal) (V m c (Pipeline.arrRef spec0 w)) := rfl

theorem rd0 (t : Fin cfg0.N) (f : FVec Ideal S4x8192x1024 .f32) (y : S1x1024x1024.Idx) :
    (show Vec Ideal S1x1024x1024 .f32 from ((cfg0.win 0).blk t).view.read (Elt Ideal) f) y = f (((cfg0.win 0).blk t).view.emb y) := rfl

theorem em0 (t : Fin cfg0.N) (y : S1x1024x1024.Idx) (b : Fin 4) (p : Fin 8192) (q : Fin 1024)
    (h0 : b.val = (grid0.coords t 0).val) (h1 : p.val = 1024 * (grid0.coords t 1).val + (y 1).val) (h2 : q.val = (y 2).val) :
    (show S4x8192x1024.Idx from ((cfg0.win 0).blk t).view.emb y) = ix3 b p q := by
  blk_ext [idx t]

theorem blk0 (c : Dev nD) (t : Fin cfg0.N) (y : S1x1024x1024.Idx) (b : Fin 4) (p : Fin 8192) (q : Fin 1024)
    (h0 : b.val = (grid0.coords t 0).val) (h1 : p.val = 1024 * (grid0.coords t 1).val + (y 1).val) (h2 : q.val = (y 2).val) :
    (show Vec Ideal S1x1024x1024 .f32 from iblk m c 0 t) y = (V m c main_v1 : FVec Ideal S4x8192x1024 .f32) (ix3 b p q) := by
  rw [iblk_def]
  exact (rd0 t (V m c (Pipeline.arrRef spec0 0)) y).trans (congrArg (V m c main_v1 : FVec Ideal S4x8192x1024 .f32) (em0 t y b p q h0 h1 h2))

theorem rd1 (t : Fin cfg0.N) (f : FVec Ideal S4x8192x1024 .bf16) (y : S1x8192x1024.Idx) :
    (show Vec Ideal S1x8192x1024 .bf16 from ((cfg0.win 1).blk t).view.read (Elt Ideal) f) y = f (((cfg0.win 1).blk t).view.emb y) := rfl

theorem em1 (t : Fin cfg0.N) (y : S1x8192x1024.Idx) (b : Fin 4) (p : Fin 8192) (q : Fin 1024)
    (h0 : b.val = (grid0.coords t 0).val) (h1 : p.val = (y 1).val) (h2 : q.val = (y 2).val) :
    (show S4x8192x1024.Idx from ((cfg0.win 1).blk t).view.emb y) = ix3 b p q := by
  blk_ext [idx t]

theorem blk1 (c : Dev nD) (t : Fin cfg0.N) (y : S1x8192x1024.Idx) (b : Fin 4) (p : Fin 8192) (q : Fin 1024)
    (h0 : b.val = (grid0.coords t 0).val) (h1 : p.val = (y 1).val) (h2 : q.val = (y 2).val) :
    (show Vec Ideal S1x8192x1024 .bf16 from iblk m c 1 t) y = (V m c main_v7 : FVec Ideal S4x8192x1024 .bf16) (ix3 b p q) := by
  rw [iblk_def]
  exact (rd1 t (V m c (Pipeline.arrRef spec0 1)) y).trans (congrArg (V m c main_v7 : FVec Ideal S4x8192x1024 .bf16) (em1 t y b p q h0 h1 h2))

theorem rd2 (t : Fin cfg0.N) (f : FVec Ideal S512x32768 .bf16) (y : S512x8192.Idx) :
    (show Vec Ideal S512x8192 .bf16 from ((cfg0.win 2).blk t).view.read (Elt Ideal) f) y = f (((cfg0.win 2).blk t).view.emb y) := rfl

theorem em2 (t : Fin cfg0.N) (y : S512x8192.Idx) (p : Fin 512) (q : Fin 32768)
    (h0 : p.val = (y 0).val) (h1 : q.val = 8192 * (grid0.coords t 0).val + (y 1).val) :
    (show S512x32768.Idx from ((cfg0.win 2).blk t).view.emb y) = ix2 p q := by
  blk_ext [idx t]

theorem blk2 (c : Dev nD) (t : Fin cfg0.N) (y : S512x8192.Idx) (p : Fin 512) (q : Fin 32768)
    (h0 : p.val = (y 0).val) (h1 : q.val = 8192 * (grid0.coords t 0).val + (y 1).val) :
    (show Vec Ideal S512x8192 .bf16 from iblk m c 2 t) y = (V m c main_v16 : FVec Ideal S512x32768 .bf16) (ix2 p q) := by
  rw [iblk_def]
  exact (rd2 t (V m c (Pipeline.arrRef spec0 2)) y).trans (congrArg (V m c main_v16 : FVec Ideal S512x32768 .bf16) (em2 t y p q h0 h1))

theorem rd3 (t : Fin cfg0.N) (f : FVec Ideal S16x1024 .bf16) (y : S16x1024.Idx) :
    (show Vec Ideal S16x1024 .bf16 from ((cfg0.win 3).blk t).view.read (Elt Ideal) f) y = f (((cfg0.win 3).blk t).view.emb y) := rfl

theorem em3 (t : Fin cfg0.N) (y : S16x1024.Idx) (p : Fin 16) (q : Fin 1024)
    (h0 : p.val = (y 0).val) (h1 : q.val = (y 1).val) :
    (show S16x1024.Idx from ((cfg0.win 3).blk t).view.emb y) = ix2 p q := by
  blk_ext [idx t]

theorem blk3 (c : Dev nD) (t : Fin cfg0.N) (y : S16x1024.Idx) (p : Fin 16) (q : Fin 1024)
    (h0 : p.val = (y 0).val) (h1 : q.val = (y 1).val) :
    (show Vec Ideal S16x1024 .bf16 from iblk m c 3 t) y = (V m c main_v13 : FVec Ideal S16x1024 .bf16) (ix2 p q) := by
  rw [iblk_def]
  exact (rd3 t (V m c (Pipeline.arrRef spec0 3)) y).trans (congrArg (V m c main_v13 : FVec Ideal S16x1024 .bf16) (em3 t y p q h0 h1))

theorem rd4 (t : Fin cfg0.N) (f : FVec Ideal S512x16 .bf16) (y : S512x16.Idx) :
    (show Vec Ideal S512x16 .bf16 from ((cfg0.win 4).blk t).view.read (Elt Ideal) f) y = f (((cfg0.win 4).blk t).view.emb y) := rfl

theorem em4 (t : Fin cfg0.N) (y : S512x16.Idx) (p : Fin 512) (q : Fin 16)
    (h0 : p.val = (y 0).val) (h1 : q.val = (y 1).val) :
    (show S512x16.Idx from ((cfg0.win 4).blk t).view.emb y) = ix2 p q := by
  blk_ext [idx t]

theorem blk4 (c : Dev nD) (t : Fin cfg0.N) (y : S512x16.Idx) (p : Fin 512) (q : Fin 16)
    (h0 : p.val = (y 0).val) (h1 : q.val = (y 1).val) :
    (show Vec Ideal S512x16 .bf16 from iblk m c 4 t) y = (V m c main_v19 : FVec Ideal S512x16 .bf16) (ix2 p q) := by
  rw [iblk_def]
  exact (rd4 t (V m c (Pipeline.arrRef spec0 4)) y).trans (congrArg (V m c main_v19 : FVec Ideal S512x16 .bf16) (em4 t y p q h0 h1))

/-! ## What the host lines leave -/

/-- The eight arguments as functions of their indices. -/
def inp (c : Dev nD) : Inputs where
  qn b p h d := (m (c, Proc.tc.devRef main_arg0) : FVec Ideal S4x8192x4x128 .f32) (ix4 b p h d)
  qr b p h d := (m (c, Proc.tc.devRef main_arg1) : FVec Ideal S4x8192x4x64 .f32) (ix4 b p h d)
  kn b p h d := (m (c, Proc.tc.devRef main_arg2) : FVec Ideal S4x8192x4x128 .f32) (ix4 b p h d)
  kr b p d := (m (c, Proc.tc.devRef main_arg3) : FVec Ideal S4x8192x64 .f32) (ix3 b p d)
  v b p h d := (m (c, Proc.tc.devRef main_arg4) : FVec Ideal S4x8192x4x128 .f32) (ix4 b p h d)
  knm n h d := (m (c, Proc.tc.devRef main_arg5) : FVec Ideal S16x4x128 .f32) (ix3 n h d)
  krm n d := (m (c, Proc.tc.devRef main_arg6) : FVec Ideal S16x64 .f32) (ix2 n d)
  vm n h d := (m (c, Proc.tc.devRef main_arg7) : FVec Ideal S16x4x128 .f32) (ix3 n h d)

/-- Three arrays packed side by side, head by head. -/
theorem pack (A : FVec Ideal S4x8192x4x128 .f32) (B C : FVec Ideal S4x8192x4x64 .f32) (b : Fin 4) (p : Fin 8192) (q : Fin 1024) :
    ((truncf .bf16 (fun i => shapeCast S4x8192x1024 (concatenate S4x8192x4x256 3 [⟨S4x8192x4x128, A⟩, ⟨S4x8192x4x64, B⟩, ⟨S4x8192x4x64, C⟩]
      concatenates_S4x8192x4x128_S4x8192x4x64_S4x8192x4x64_S4x8192x4x256_d3) shapeCasts_S4x8192x4x256_S4x8192x1024 i) bitsLt_bf16_f32 :
      FVec Ideal S4x8192x1024 .bf16) (ix3 b p q) : EReal)
      = if h : q.val % 256 < 128 then A (ix4 b p ⟨q.val / 256, by omega⟩ ⟨q.val % 256, h⟩)
        else if h' : q.val % 256 - 128 < 64 then B (ix4 b p ⟨q.val / 256, by omega⟩ ⟨q.val % 256 - 128, h'⟩)
        else C (ix4 b p ⟨q.val / 256, by omega⟩ ⟨q.val % 256 - 128 - 64, by omega⟩) := by
  pointwise

theorem packm (A : FVec Ideal S16x4x128 .f32) (B C : FVec Ideal S16x4x64 .f32) (p : Fin 16) (q : Fin 1024) :
    ((truncf .bf16 (fun i => shapeCast S16x1024 (concatenate S16x4x256 2 [⟨S16x4x128, A⟩, ⟨S16x4x64, B⟩, ⟨S16x4x64, C⟩]
      concatenates_S16x4x128_S16x4x64_S16x4x64_S16x4x256_d2) shapeCasts_S16x4x256_S16x1024 i) bitsLt_bf16_f32 :
      FVec Ideal S16x1024 .bf16) (ix2 p q) : EReal)
      = if h : q.val % 256 < 128 then A (ix3 p ⟨q.val / 256, by omega⟩ ⟨q.val % 256, h⟩)
        else if h' : q.val % 256 - 128 < 64 then B (ix3 p ⟨q.val / 256, by omega⟩ ⟨q.val % 256 - 128, h'⟩)
        else C (ix3 p ⟨q.val / 256, by omega⟩ ⟨q.val % 256 - 128 - 64, by omega⟩) := by
  pointwise

theorem packq (A : FVec Ideal S4x8192x4x128 .f32) (B C : FVec Ideal S4x8192x4x64 .f32) (b : Fin 4) (p : Fin 8192) (q : Fin 1024) :
    ((fun i => shapeCast S4x8192x1024 (concatenate S4x8192x4x256 3 [⟨S4x8192x4x128, A⟩, ⟨S4x8192x4x64, B⟩, ⟨S4x8192x4x64, C⟩]
      concatenates_S4x8192x4x128_S4x8192x4x64_S4x8192x4x64_S4x8192x4x256_d3) shapeCasts_S4x8192x4x256_S4x8192x1024 i :
      FVec Ideal S4x8192x1024 .f32) (ix3 b p q) : EReal)
      = if h : q.val % 256 < 128 then A (ix4 b p ⟨q.val / 256, by omega⟩ ⟨q.val % 256, h⟩)
        else if h' : q.val % 256 - 128 < 64 then B (ix4 b p ⟨q.val / 256, by omega⟩ ⟨q.val % 256 - 128, h'⟩)
        else C (ix4 b p ⟨q.val / 256, by omega⟩ ⟨q.val % 256 - 128 - 64, by omega⟩) := by
  pointwise

theorem up2_6 (c : Dev nD) : StableHlo.upto hostOps0 (fun b => m (c, b)) 6 (Proc.tc.devRef main_arg2) = m (c, Proc.tc.devRef main_arg2) := by
  after_reads_simp

theorem up5_13 (c : Dev nD) : StableHlo.upto hostOps0 (fun b => m (c, b)) 13 (Proc.tc.devRef main_arg5) = m (c, Proc.tc.devRef main_arg5) := by
  after_reads_simp

theorem up_v3 (c : Dev nD) (b : Fin 4) (p : Fin 8192) (h : Fin 4) (d : Fin 64) :
    (StableHlo.upto hostOps0 (fun b => m (c, b)) 6 (Proc.tc.devRef main_v3) : FVec Ideal S4x8192x4x64 .f32) (ix4 b p h d) = (inp m c).kr b p d := by
  after_reads_simp
  pointwise
  rfl

theorem up_v4 (c : Dev nD) (b : Fin 4) (p : Fin 8192) (h : Fin 4) (d : Fin 64) :
    (StableHlo.upto hostOps0 (fun b => m (c, b)) 6 (Proc.tc.devRef main_v4) : FVec Ideal S4x8192x4x64 .f32) (ix4 b p h d) = (0 : EReal) := by
  after_reads_simp
  pointwise

theorem up_v9 (c : Dev nD) (p : Fin 16) (h : Fin 4) (d : Fin 64) :
    (StableHlo.upto hostOps0 (fun b => m (c, b)) 13 (Proc.tc.devRef main_v9) : FVec Ideal S16x4x64 .f32) (ix3 p h d) = (inp m c).krm p d := by
  after_reads_simp
  pointwise
  rfl

theorem up_v10 (c : Dev nD) (p : Fin 16) (h : Fin 4) (d : Fin 64) :
    (StableHlo.upto hostOps0 (fun b => m (c, b)) 13 (Proc.tc.devRef main_v10) : FVec Ideal S16x4x64 .f32) (ix3 p h d) = (0 : EReal) := by
  after_reads_simp
  pointwise

theorem cat7 (c : Dev nD) (A : FVec Ideal S4x8192x4x128 .f32) (B C : FVec Ideal S4x8192x4x64 .f32)
    (hA : A = StableHlo.upto hostOps0 (fun b => m (c, b)) 6 (Proc.tc.devRef main_arg2))
    (hB : B = StableHlo.upto hostOps0 (fun b => m (c, b)) 6 (Proc.tc.devRef main_v3))
    (hC : C = StableHlo.upto hostOps0 (fun b => m (c, b)) 6 (Proc.tc.devRef main_v4)) :
    (V m c main_v7 : FVec Ideal S4x8192x1024 .bf16) = truncf .bf16 (fun i => shapeCast S4x8192x1024 (concatenate S4x8192x4x256 3
      [⟨S4x8192x4x128, A⟩, ⟨S4x8192x4x64, B⟩, ⟨S4x8192x4x64, C⟩]
      concatenates_S4x8192x4x128_S4x8192x4x64_S4x8192x4x64_S4x8192x4x256_d3) shapeCasts_S4x8192x4x256_S4x8192x1024 i) bitsLt_bf16_f32 := by
  show StableHlo.after hostOps0 _ _ = _
  after_reads_simp
  subst hA hB hC
  rfl

theorem cat13 (c : Dev nD) (A : FVec Ideal S16x4x128 .f32) (B C : FVec Ideal S16x4x64 .f32)
    (hA : A = StableHlo.upto hostOps0 (fun b => m (c, b)) 13 (Proc.tc.devRef main_arg5))
    (hB : B = StableHlo.upto hostOps0 (fun b => m (c, b)) 13 (Proc.tc.devRef main_v9))
    (hC : C = StableHlo.upto hostOps0 (fun b => m (c, b)) 13 (Proc.tc.devRef main_v10)) :
    (V m c main_v13 : FVec Ideal S16x1024 .bf16) = truncf .bf16 (fun i => shapeCast S16x1024 (concatenate S16x4x256 2
      [⟨S16x4x128, A⟩, ⟨S16x4x64, B⟩, ⟨S16x4x64, C⟩]
      concatenates_S16x4x128_S16x4x64_S16x4x64_S16x4x256_d2) shapeCasts_S16x4x256_S16x1024 i) bitsLt_bf16_f32 := by
  show StableHlo.after hostOps0 _ _ = _
  after_reads_simp
  subst hA hB hC
  rfl

theorem cat1 (c : Dev nD) (A : FVec Ideal S4x8192x4x128 .f32) (B : FVec Ideal S4x8192x4x64 .f32)
    (hA : A = m (c, Proc.tc.devRef main_arg0)) (hB : B = m (c, Proc.tc.devRef main_arg1)) :
    (V m c main_v1 : FVec Ideal S4x8192x1024 .f32) = fun i => shapeCast S4x8192x1024 (concatenate S4x8192x4x256 3
      [⟨S4x8192x4x128, A⟩, ⟨S4x8192x4x64, B⟩, ⟨S4x8192x4x64, B⟩]
      concatenates_S4x8192x4x128_S4x8192x4x64_S4x8192x4x64_S4x8192x4x256_d3) shapeCasts_S4x8192x4x256_S4x8192x1024 i := by
  show StableHlo.after hostOps0 _ _ = _
  after_reads_simp
  subst hA hB
  rfl

/-- The packed keys. -/
theorem host7 (c : Dev nD) (b : Fin 4) (p : Fin 8192) (q : Fin 1024) :
    ((V m c main_v7 : FVec Ideal S4x8192x1024 .bf16) (ix3 b p q) : EReal)
      = if h : q.val % 256 < 128 then (inp m c).kn b p ⟨q.val / 256, by omega⟩ ⟨q.val % 256, h⟩
        else if h' : q.val % 256 - 128 < 64 then (inp m c).kr b p ⟨q.val % 256 - 128, h'⟩ else 0 := by
  refine (congrFun (cat7 m c (m (c, Proc.tc.devRef main_arg2)) _ _ (up2_6 m c).symm rfl rfl) _).trans ((pack _ _ _ b p q).trans ?_)
  by_cases h : q.val % 256 < 128
  · rw [dif_pos h, dif_pos h]; rfl
  · rw [dif_neg h, dif_neg h]
    by_cases h' : q.val % 256 - 128 < 64
    · rw [dif_pos h', dif_pos h']; exact up_v3 m c b p _ _
    · rw [dif_neg h', dif_neg h']; exact up_v4 m c b p _ _

/-- The packed shared keys. -/
theorem host13 (c : Dev nD) (p : Fin 16) (q : Fin 1024) :
    ((V m c main_v13 : FVec Ideal S16x1024 .bf16) (ix2 p q) : EReal)
      = if h : q.val % 256 < 128 then (inp m c).knm p ⟨q.val / 256, by omega⟩ ⟨q.val % 256, h⟩
        else if h' : q.val % 256 - 128 < 64 then (inp m c).krm p ⟨q.val % 256 - 128, h'⟩ else 0 := by
  refine (congrFun (cat13 m c (m (c, Proc.tc.devRef main_arg5)) _ _ (up5_13 m c).symm rfl rfl) _).trans ((packm _ _ _ p q).trans ?_)
  by_cases h : q.val % 256 < 128
  · rw [dif_pos h, dif_pos h]; rfl
  · rw [dif_neg h, dif_neg h]
    by_cases h' : q.val % 256 - 128 < 64
    · rw [dif_pos h', dif_pos h']; exact up_v9 m c p _ _
    · rw [dif_neg h', dif_neg h']; exact up_v10 m c p _ _

/-- The packed queries: the rotary part twice. -/
theorem host1 (c : Dev nD) (b : Fin 4) (p : Fin 8192) (q : Fin 1024) :
    ((V m c main_v1 : FVec Ideal S4x8192x1024 .f32) (ix3 b p q) : EReal)
      = if h : q.val % 256 < 128 then (inp m c).qn b p ⟨q.val / 256, by omega⟩ ⟨q.val % 256, h⟩
        else if h' : q.val % 256 - 128 < 64 then (inp m c).qr b p ⟨q.val / 256, by omega⟩ ⟨q.val % 256 - 128, h'⟩
        else (inp m c).qr b p ⟨q.val / 256, by omega⟩ ⟨q.val % 256 - 128 - 64, by omega⟩ := by
  refine (congrFun (cat1 m c _ _ rfl rfl) _).trans ((packq _ _ _ b p q).trans ?_)
  rfl

/-- The transposed values. -/
theorem host16 (c : Dev nD) (p : Fin 512) (q : Fin 32768) :
    ((V m c main_v16 : FVec Ideal S512x32768 .bf16) (ix2 p q) : EReal)
      = (inp m c).v ⟨q.val / 8192, by omega⟩ ⟨q.val % 8192, by omega⟩ ⟨p.val / 128, by omega⟩ ⟨p.val % 128, by omega⟩ := by
  entry_read
  pointwise
  rfl

/-- The transposed shared values. -/
theorem host19 (c : Dev nD) (p : Fin 512) (q : Fin 16) :
    ((V m c main_v19 : FVec Ideal S512x16 .bf16) (ix2 p q) : EReal)
      = (inp m c).vm q ⟨p.val / 128, by omega⟩ ⟨p.val % 128, by omega⟩ := by
  entry_read
  pointwise
  rfl

end Cert.Blocks
-- ==== Proof.Trip.lean ====
/-
What one trip of the loop over unmasked key tiles leaves in each chain's slots: two folds, and the
scores of the tile after them.
-/
module

public import proofs.«01_k».proof.Proof.Slots

@[expose] public section

set_option maxRecDepth 16384

noncomputable section

namespace Cert.Slots

open Idealize.ShloMosaic Cert.KernelIdeal Cert.KernelIdeal.Gen
open Idealize.SL Idealize.SL.Sem

variable {F : FTy → Type} [FloatOps F] [Named F]
variable (𝒱 : Variants)
  (c : Dev nD)
  (bd : Option 𝒱.V)
  (i : grid0.Coords)
  (arg2 : Memref sig .tc .vmem S1x1024x1024 .f32)
  (harg2 : arg2.IsWhole)
  (arg3 : Memref sig .tc .vmem S1x8192x1024 .bf16)
  (harg3 : arg3.IsWhole)
  (arg4 : Memref sig .tc .vmem S512x8192 .bf16)
  (harg4 : arg4.IsWhole)
  (arg5 : Memref sig .tc .vmem S16x1024 .bf16)
  (harg5 : arg5.IsWhole)
  (arg6 : Memref sig .tc .vmem S512x16 .bf16)
  (harg6 : arg6.IsWhole)
  (arg7 : Memref sig .tc .vmem S1x1024x512 .bf16)
  (harg7 : arg7.IsWhole)
  (arg8 : Memref sig .tc .vmem S8x512x512 .f32)
  (harg8 : arg8.IsWhole)
  (arg9 : Memref sig .tc .vmem S8x1x512 .f32)
  (harg9 : arg9.IsWhole)
  (arg10 : Memref sig .tc .vmem S8x1x512 .f32)
  (harg10 : arg10.IsWhole)
  (arg11 : Memref sig .tc .vmem S8x128x512 .f32)
  (harg11 : arg11.IsWhole)
  (arg1 : BitVec 32)
  (v0 : BitVec 32)
  (v280 : FVec F S16x512 .bf16)
  (v319 : FVec F S128x512 .f32)
  (X_arg2 : BufTy.Contents (Elt F) arg2.view.ty)
  (X_arg3 : BufTy.Contents (Elt F) arg3.view.ty)
  (X_arg4 : BufTy.Contents (Elt F) arg4.view.ty)
  (k : Fin (k0_t1_loop i).trips)
  (f_arg8 : BufTy.Contents (Elt F) arg8.view.ty)
  (f_arg9 : BufTy.Contents (Elt F) arg9.view.ty)
  (f_arg10 : BufTy.Contents (Elt F) arg10.view.ty)
  (f_arg11 : BufTy.Contents (Elt F) arg11.view.ty)

theorem mid8_0 : (trip_k0_t1.sl.v1826 i arg2 arg3 arg8 X_arg2 X_arg3 k) = (putS (scores (kWin arg3 X_arg3 i k 0 0) (qWin arg2 X_arg2 0 0))) := by
  unfold trip_k0_t1.sl.v1826 trip_k0_t1.sl.HW_arg8_8
  iterate 7 rw [View.readCov_skip _ _ _ _ _ (by decide)]
  rw [View.readCov_cons_toLoadRect]
  rfl

theorem mid9_0 : (trip_k0_t1.sl.v1828 arg8 arg9 f_arg8 f_arg9) = (foldM (getS (rS arg8 f_arg8 0)) (rM arg9 f_arg9 0)) := by
  unfold trip_k0_t1.sl.v1828 trip_k0_t1.sl.HW_arg9_8
  iterate 7 rw [View.readCov_skip _ _ _ _ _ (by decide)]
  rw [View.readCov_cons_toLoadRect]
  rfl

theorem mid10_0 : (trip_k0_t1.sl.v1841 arg8 arg9 arg10 f_arg8 f_arg9 f_arg10) = (foldL (getS (rS arg8 f_arg8 0)) (rM arg9 f_arg9 0) (rM arg10 f_arg10 0)) := by
  unfold trip_k0_t1.sl.v1841 trip_k0_t1.sl.HW_arg10_8
  iterate 7 rw [View.readCov_skip _ _ _ _ _ (by decide)]
  rw [View.readCov_cons_toLoadRect]
  rfl

theorem mid11_0 : (trip_k0_t1.sl.v1850 i arg4 arg8 arg9 arg11 X_arg4 k f_arg8 f_arg9 f_arg11) = (foldA (getS (rS arg8 f_arg8 0)) (rM arg9 f_arg9 0) (rA arg11 f_arg11 0) (vWin arg4 X_arg4 i k 0 0)) := by
  unfold trip_k0_t1.sl.v1850 trip_k0_t1.sl.HW_arg11_8
  iterate 7 rw [View.readCov_skip _ _ _ _ _ (by decide)]
  rw [View.readCov_cons_toLoadRect]
  rfl

theorem trip8_0 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 0 =
    (putS (scores (kWin arg3 X_arg3 i k 1 0) (qWin arg2 X_arg2 0 0))) := by
  unfold trip_k0_t1; dsimp only
  unfold trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9
  show arg8.view.readAt (Elt F) (Rect.unit (s := S8x512x512) ![0, 0, 0] S1x512x512.size inb_S8x512x512_S1x512x512_0_0_0).toLoadRect (arg8.view.writes (Elt F) f_arg8 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem trip9_0 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 0 =
    (foldM (getS (putS (scores (kWin arg3 X_arg3 i k 0 0) (qWin arg2 X_arg2 0 0)))) (foldM (getS (rS arg8 f_arg8 0)) (rM arg9 f_arg9 0))) := by
  unfold trip_k0_t1; dsimp only
  unfold trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9
  show arg9.view.readAt (Elt F) (Rect.unit (s := S8x1x512) ![0, 0, 0] S1x1x512.size inb_S8x1x512_S1x1x512_0_0_0).toLoadRect (arg9.view.writes (Elt F) f_arg9 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldM (getS (trip_k0_t1.sl.v1826 i arg2 arg3 arg8 X_arg2 X_arg3 k)) (trip_k0_t1.sl.v1828 arg8 arg9 f_arg8 f_arg9)) = _
  rw [mid8_0, mid9_0]

theorem trip10_0 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 0 =
    (foldL (getS (putS (scores (kWin arg3 X_arg3 i k 0 0) (qWin arg2 X_arg2 0 0)))) (foldM (getS (rS arg8 f_arg8 0)) (rM arg9 f_arg9 0)) (foldL (getS (rS arg8 f_arg8 0)) (rM arg9 f_arg9 0) (rM arg10 f_arg10 0))) := by
  unfold trip_k0_t1; dsimp only
  unfold trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9
  show arg10.view.readAt (Elt F) (Rect.unit (s := S8x1x512) ![0, 0, 0] S1x1x512.size inb_S8x1x512_S1x1x512_0_0_0).toLoadRect (arg10.view.writes (Elt F) f_arg10 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (getS (trip_k0_t1.sl.v1826 i arg2 arg3 arg8 X_arg2 X_arg3 k)) (trip_k0_t1.sl.v1828 arg8 arg9 f_arg8 f_arg9) (trip_k0_t1.sl.v1841 arg8 arg9 arg10 f_arg8 f_arg9 f_arg10)) = _
  rw [mid8_0, mid9_0, mid10_0]

theorem trip11_0 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 0 =
    (foldA (getS (putS (scores (kWin arg3 X_arg3 i k 0 0) (qWin arg2 X_arg2 0 0)))) (foldM (getS (rS arg8 f_arg8 0)) (rM arg9 f_arg9 0)) (foldA (getS (rS arg8 f_arg8 0)) (rM arg9 f_arg9 0) (rA arg11 f_arg11 0) (vWin arg4 X_arg4 i k 0 0)) (vWin arg4 X_arg4 i k 1 0)) := by
  unfold trip_k0_t1; dsimp only
  unfold trip_k0_t1.sl.HW_arg11_15 trip_k0_t1.sl.HW_arg11_14 trip_k0_t1.sl.HW_arg11_13 trip_k0_t1.sl.HW_arg11_12 trip_k0_t1.sl.HW_arg11_11 trip_k0_t1.sl.HW_arg11_10 trip_k0_t1.sl.HW_arg11_9
  show arg11.view.readAt (Elt F) (Rect.unit (s := S8x128x512) ![0, 0, 0] S1x128x512.size inb_S8x128x512_S1x128x512_0_0_0).toLoadRect (arg11.view.writes (Elt F) f_arg11 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (getS (trip_k0_t1.sl.v1826 i arg2 arg3 arg8 X_arg2 X_arg3 k)) (trip_k0_t1.sl.v1828 arg8 arg9 f_arg8 f_arg9) (trip_k0_t1.sl.v1850 i arg4 arg8 arg9 arg11 X_arg4 k f_arg8 f_arg9 f_arg11) (vWin arg4 X_arg4 i k 1 0)) = _
  rw [mid8_0, mid9_0, mid11_0]

theorem mid8_1 : (trip_k0_t1.sl.v1880 i arg2 arg3 arg8 X_arg2 X_arg3 k) = (putS (scores (kWin arg3 X_arg3 i k 0 1) (qWin arg2 X_arg2 0 1))) := by
  unfold trip_k0_t1.sl.v1880 trip_k0_t1.sl.HW_arg8_9 trip_k0_t1.sl.HW_arg8_8
  iterate 7 rw [View.readCov_skip _ _ _ _ _ (by decide)]
  rw [View.readCov_cons_toLoadRect]
  rfl

theorem mid9_1 : (trip_k0_t1.sl.v1882 i arg2 arg3 arg8 arg9 X_arg2 X_arg3 k f_arg8 f_arg9) = (foldM (getS (rS arg8 f_arg8 1)) (rM arg9 f_arg9 1)) := by
  unfold trip_k0_t1.sl.v1882 trip_k0_t1.sl.HW_arg9_9 trip_k0_t1.sl.HW_arg9_8
  iterate 7 rw [View.readCov_skip _ _ _ _ _ (by decide)]
  rw [View.readCov_cons_toLoadRect]
  rfl

theorem mid10_1 : (trip_k0_t1.sl.v1895 i arg2 arg3 arg8 arg9 arg10 X_arg2 X_arg3 k f_arg8 f_arg9 f_arg10) = (foldL (getS (rS arg8 f_arg8 1)) (rM arg9 f_arg9 1) (rM arg10 f_arg10 1)) := by
  unfold trip_k0_t1.sl.v1895 trip_k0_t1.sl.HW_arg10_9 trip_k0_t1.sl.HW_arg10_8
  iterate 7 rw [View.readCov_skip _ _ _ _ _ (by decide)]
  rw [View.readCov_cons_toLoadRect]
  rfl

theorem mid11_1 : (trip_k0_t1.sl.v1904 i arg2 arg3 arg4 arg8 arg9 arg11 X_arg2 X_arg3 X_arg4 k f_arg8 f_arg9 f_arg11) = (foldA (getS (rS arg8 f_arg8 1)) (rM arg9 f_arg9 1) (rA arg11 f_arg11 1) (vWin arg4 X_arg4 i k 0 1)) := by
  unfold trip_k0_t1.sl.v1904 trip_k0_t1.sl.HW_arg11_9 trip_k0_t1.sl.HW_arg11_8
  iterate 7 rw [View.readCov_skip _ _ _ _ _ (by decide)]
  rw [View.readCov_cons_toLoadRect]
  rfl

theorem trip8_1 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 1 =
    (putS (scores (kWin arg3 X_arg3 i k 1 1) (qWin arg2 X_arg2 0 1))) := by
  unfold trip_k0_t1; dsimp only
  unfold trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10
  show arg8.view.readAt (Elt F) (Rect.unit (s := S8x512x512) ![1, 0, 0] S1x512x512.size inb_S8x512x512_S1x512x512_1_0_0).toLoadRect (arg8.view.writes (Elt F) f_arg8 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem trip9_1 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 1 =
    (foldM (getS (putS (scores (kWin arg3 X_arg3 i k 0 1) (qWin arg2 X_arg2 0 1)))) (foldM (getS (rS arg8 f_arg8 1)) (rM arg9 f_arg9 1))) := by
  unfold trip_k0_t1; dsimp only
  unfold trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10
  show arg9.view.readAt (Elt F) (Rect.unit (s := S8x1x512) ![1, 0, 0] S1x1x512.size inb_S8x1x512_S1x1x512_1_0_0).toLoadRect (arg9.view.writes (Elt F) f_arg9 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldM (getS (trip_k0_t1.sl.v1880 i arg2 arg3 arg8 X_arg2 X_arg3 k)) (trip_k0_t1.sl.v1882 i arg2 arg3 arg8 arg9 X_arg2 X_arg3 k f_arg8 f_arg9)) = _
  rw [mid8_1, mid9_1]

theorem trip10_1 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 1 =
    (foldL (getS (putS (scores (kWin arg3 X_arg3 i k 0 1) (qWin arg2 X_arg2 0 1)))) (foldM (getS (rS arg8 f_arg8 1)) (rM arg9 f_arg9 1)) (foldL (getS (rS arg8 f_arg8 1)) (rM arg9 f_arg9 1) (rM arg10 f_arg10 1))) := by
  unfold trip_k0_t1; dsimp only
  unfold trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10
  show arg10.view.readAt (Elt F) (Rect.unit (s := S8x1x512) ![1, 0, 0] S1x1x512.size inb_S8x1x512_S1x1x512_1_0_0).toLoadRect (arg10.view.writes (Elt F) f_arg10 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (getS (trip_k0_t1.sl.v1880 i arg2 arg3 arg8 X_arg2 X_arg3 k)) (trip_k0_t1.sl.v1882 i arg2 arg3 arg8 arg9 X_arg2 X_arg3 k f_arg8 f_arg9) (trip_k0_t1.sl.v1895 i arg2 arg3 arg8 arg9 arg10 X_arg2 X_arg3 k f_arg8 f_arg9 f_arg10)) = _
  rw [mid8_1, mid9_1, mid10_1]

theorem trip11_1 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 1 =
    (foldA (getS (putS (scores (kWin arg3 X_arg3 i k 0 1) (qWin arg2 X_arg2 0 1)))) (foldM (getS (rS arg8 f_arg8 1)) (rM arg9 f_arg9 1)) (foldA (getS (rS arg8 f_arg8 1)) (rM arg9 f_arg9 1) (rA arg11 f_arg11 1) (vWin arg4 X_arg4 i k 0 1)) (vWin arg4 X_arg4 i k 1 1)) := by
  unfold trip_k0_t1; dsimp only
  unfold trip_k0_t1.sl.HW_arg11_15 trip_k0_t1.sl.HW_arg11_14 trip_k0_t1.sl.HW_arg11_13 trip_k0_t1.sl.HW_arg11_12 trip_k0_t1.sl.HW_arg11_11 trip_k0_t1.sl.HW_arg11_10
  show arg11.view.readAt (Elt F) (Rect.unit (s := S8x128x512) ![1, 0, 0] S1x128x512.size inb_S8x128x512_S1x128x512_1_0_0).toLoadRect (arg11.view.writes (Elt F) f_arg11 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (getS (trip_k0_t1.sl.v1880 i arg2 arg3 arg8 X_arg2 X_arg3 k)) (trip_k0_t1.sl.v1882 i arg2 arg3 arg8 arg9 X_arg2 X_arg3 k f_arg8 f_arg9) (trip_k0_t1.sl.v1904 i arg2 arg3 arg4 arg8 arg9 arg11 X_arg2 X_arg3 X_arg4 k f_arg8 f_arg9 f_arg11) (vWin arg4 X_arg4 i k 1 1)) = _
  rw [mid8_1, mid9_1, mid11_1]

theorem mid8_2 : (trip_k0_t1.sl.v1934 i arg2 arg3 arg8 X_arg2 X_arg3 k) = (putS (scores (kWin arg3 X_arg3 i k 0 2) (qWin arg2 X_arg2 0 2))) := by
  unfold trip_k0_t1.sl.v1934 trip_k0_t1.sl.HW_arg8_10 trip_k0_t1.sl.HW_arg8_9 trip_k0_t1.sl.HW_arg8_8
  iterate 7 rw [View.readCov_skip _ _ _ _ _ (by decide)]
  rw [View.readCov_cons_toLoadRect]
  rfl

theorem mid9_2 : (trip_k0_t1.sl.v1936 i arg2 arg3 arg8 arg9 X_arg2 X_arg3 k f_arg8 f_arg9) = (foldM (getS (rS arg8 f_arg8 2)) (rM arg9 f_arg9 2)) := by
  unfold trip_k0_t1.sl.v1936 trip_k0_t1.sl.HW_arg9_10 trip_k0_t1.sl.HW_arg9_9 trip_k0_t1.sl.HW_arg9_8
  iterate 7 rw [View.readCov_skip _ _ _ _ _ (by decide)]
  rw [View.readCov_cons_toLoadRect]
  rfl

theorem mid10_2 : (trip_k0_t1.sl.v1949 i arg2 arg3 arg8 arg9 arg10 X_arg2 X_arg3 k f_arg8 f_arg9 f_arg10) = (foldL (getS (rS arg8 f_arg8 2)) (rM arg9 f_arg9 2) (rM arg10 f_arg10 2)) := by
  unfold trip_k0_t1.sl.v1949 trip_k0_t1.sl.HW_arg10_10 trip_k0_t1.sl.HW_arg10_9 trip_k0_t1.sl.HW_arg10_8
  iterate 7 rw [View.readCov_skip _ _ _ _ _ (by decide)]
  rw [View.readCov_cons_toLoadRect]
  rfl

theorem mid11_2 : (trip_k0_t1.sl.v1958 i arg2 arg3 arg4 arg8 arg9 arg11 X_arg2 X_arg3 X_arg4 k f_arg8 f_arg9 f_arg11) = (foldA (getS (rS arg8 f_arg8 2)) (rM arg9 f_arg9 2) (rA arg11 f_arg11 2) (vWin arg4 X_arg4 i k 0 2)) := by
  unfold trip_k0_t1.sl.v1958 trip_k0_t1.sl.HW_arg11_10 trip_k0_t1.sl.HW_arg11_9 trip_k0_t1.sl.HW_arg11_8
  iterate 7 rw [View.readCov_skip _ _ _ _ _ (by decide)]
  rw [View.readCov_cons_toLoadRect]
  rfl

theorem trip8_2 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 2 =
    (putS (scores (kWin arg3 X_arg3 i k 1 2) (qWin arg2 X_arg2 0 2))) := by
  unfold trip_k0_t1; dsimp only
  unfold trip_k0_t1.sl.HW_arg8_15 trip_k0_t1.sl.HW_arg8_14 trip_k0_t1.sl.HW_arg8_13 trip_k0_t1.sl.HW_arg8_12 trip_k0_t1.sl.HW_arg8_11
  show arg8.view.readAt (Elt F) (Rect.unit (s := S8x512x512) ![2, 0, 0] S1x512x512.size inb_S8x512x512_S1x512x512_2_0_0).toLoadRect (arg8.view.writes (Elt F) f_arg8 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem trip9_2 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 2 =
    (foldM (getS (putS (scores (kWin arg3 X_arg3 i k 0 2) (qWin arg2 X_arg2 0 2)))) (foldM (getS (rS arg8 f_arg8 2)) (rM arg9 f_arg9 2))) := by
  unfold trip_k0_t1; dsimp only
  unfold trip_k0_t1.sl.HW_arg9_15 trip_k0_t1.sl.HW_arg9_14 trip_k0_t1.sl.HW_arg9_13 trip_k0_t1.sl.HW_arg9_12 trip_k0_t1.sl.HW_arg9_11
  show arg9.view.readAt (Elt F) (Rect.unit (s := S8x1x512) ![2, 0, 0] S1x1x512.size inb_S8x1x512_S1x1x512_2_0_0).toLoadRect (arg9.view.writes (Elt F) f_arg9 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldM (getS (trip_k0_t1.sl.v1934 i arg2 arg3 arg8 X_arg2 X_arg3 k)) (trip_k0_t1.sl.v1936 i arg2 arg3 arg8 arg9 X_arg2 X_arg3 k f_arg8 f_arg9)) = _
  rw [mid8_2, mid9_2]

theorem trip10_2 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 2 =
    (foldL (getS (putS (scores (kWin arg3 X_arg3 i k 0 2) (qWin arg2 X_arg2 0 2)))) (foldM (getS (rS arg8 f_arg8 2)) (rM arg9 f_arg9 2)) (foldL (getS (rS arg8 f_arg8 2)) (rM arg9 f_arg9 2) (rM arg10 f_arg10 2))) := by
  unfold trip_k0_t1; dsimp only
  unfold trip_k0_t1.sl.HW_arg10_15 trip_k0_t1.sl.HW_arg10_14 trip_k0_t1.sl.HW_arg10_13 trip_k0_t1.sl.HW_arg10_12 trip_k0_t1.sl.HW_arg10_11
  show arg10.view.readAt (Elt F) (Rect.unit (s := S8x1x512) ![2, 0, 0] S1x1x512.size inb_S8x1x512_S1x1x512_2_0_0).toLoadRect (arg10.view.writes (Elt F) f_arg10 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (getS (trip_k0_t1.sl.v1934 i arg2 arg3 arg8 X_arg2 X_arg3 k)) (trip_k0_t1.sl.v1936 i arg2 arg3 arg8 arg9 X_arg2 X_arg3 k f_arg8 f_arg9) (trip_k0_t1.sl.v1949 i arg2 arg3 arg8 arg9 arg10 X_arg2 X_arg3 k f_arg8 f_arg9 f_arg10)) = _
  rw [mid8_2, mid9_2, mid10_2]

theorem trip11_2 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 2 =
    (foldA (getS (putS (scores (kWin arg3 X_arg3 i k 0 2) (qWin arg2 X_arg2 0 2)))) (foldM (getS (rS arg8 f_arg8 2)) (rM arg9 f_arg9 2)) (foldA (getS (rS arg8 f_arg8 2)) (rM arg9 f_arg9 2) (rA arg11 f_arg11 2) (vWin arg4 X_arg4 i k 0 2)) (vWin arg4 X_arg4 i k 1 2)) := by
  unfold trip_k0_t1; dsimp only
  unfold trip_k0_t1.sl.HW_arg11_15 trip_k0_t1.sl.HW_arg11_14 trip_k0_t1.sl.HW_arg11_13 trip_k0_t1.sl.HW_arg11_12 trip_k0_t1.sl.HW_arg11_11
  show arg11.view.readAt (Elt F) (Rect.unit (s := S8x128x512) ![2, 0, 0] S1x128x512.size inb_S8x128x512_S1x128x512_2_0_0).toLoadRect (arg11.view.writes (Elt F) f_arg11 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (getS (trip_k0_t1.sl.v1934 i arg2 arg3 arg8 X_arg2 X_arg3 k)) (trip_k0_t1.sl.v1936 i arg2 arg3 arg8 arg9 X_arg2 X_arg3 k f_arg8 f_arg9) (trip_k0_t1.sl.v1958 i arg2 arg3 arg4 arg8 arg9 arg11 X_arg2 X_arg3 X_arg4 k f_arg8 f_arg9 f_arg11) (vWin arg4 X_arg4 i k 1 2)) = _
  rw [mid8_2, mid9_2, mid11_2]

theorem mid8_3 : (trip_k0_t1.sl.v1988 i arg2 arg3 arg8 X_arg2 X_arg3 k) = (putS (scores (kWin arg3 X_arg3 i k 0 3) (qWin arg2 X_arg2 0 3))) := by
  unfold trip_k0_t1.sl.v1988 trip_k0_t1.sl.HW_arg8_11 trip_k0_t1.sl.HW_arg8_10 trip_k0_t1.sl.HW_arg8_9 trip_k0_t1.sl.HW_arg8_8
  iterate 7 rw [View.readCov_skip _ _ _ _ _ (by decide)]
  rw [View.readCov_cons_toLoadRect]
  rfl

theorem mid9_3 : (trip_k0_t1.sl.v1990 i arg2 arg3 arg8 arg9 X_arg2 X_arg3 k f_arg8 f_arg9) = (foldM (getS (rS arg8 f_arg8 3)) (rM arg9 f_arg9 3)) := by
  unfold trip_k0_t1.sl.v1990 trip_k0_t1.sl.HW_arg9_11 trip_k0_t1.sl.HW_arg9_10 trip_k0_t1.sl.HW_arg9_9 trip_k0_t1.sl.HW_arg9_8
  iterate 7 rw [View.readCov_skip _ _ _ _ _ (by decide)]
  rw [View.readCov_cons_toLoadRect]
  rfl

theorem mid10_3 : (trip_k0_t1.sl.v2003 i arg2 arg3 arg8 arg9 arg10 X_arg2 X_arg3 k f_arg8 f_arg9 f_arg10) = (foldL (getS (rS arg8 f_arg8 3)) (rM arg9 f_arg9 3) (rM arg10 f_arg10 3)) := by
  unfold trip_k0_t1.sl.v2003 trip_k0_t1.sl.HW_arg10_11 trip_k0_t1.sl.HW_arg10_10 trip_k0_t1.sl.HW_arg10_9 trip_k0_t1.sl.HW_arg10_8
  iterate 7 rw [View.readCov_skip _ _ _ _ _ (by decide)]
  rw [View.readCov_cons_toLoadRect]
  rfl

theorem mid11_3 : (trip_k0_t1.sl.v2012 i arg2 arg3 arg4 arg8 arg9 arg11 X_arg2 X_arg3 X_arg4 k f_arg8 f_arg9 f_arg11) = (foldA (getS (rS arg8 f_arg8 3)) (rM arg9 f_arg9 3) (rA arg11 f_arg11 3) (vWin arg4 X_arg4 i k 0 3)) := by
  unfold trip_k0_t1.sl.v2012 trip_k0_t1.sl.HW_arg11_11 trip_k0_t1.sl.HW_arg11_10 trip_k0_t1.sl.HW_arg11_9 trip_k0_t1.sl.HW_arg11_8
  iterate 7 rw [View.readCov_skip _ _ _ _ _ (by decide)]
  rw [View.readCov_cons_toLoadRect]
  rfl

theorem trip8_3 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 3 =
    (putS (scores (kWin arg3 X_arg3 i k 1 3) (qWin arg2 X_arg2 0 3))) := by
  unfold trip_k0_t1; dsimp only
  unfold trip_k0_t1.sl.HW_arg8_15 trip_k0_t1.sl.HW_arg8_14 trip_k0_t1.sl.HW_arg8_13 trip_k0_t1.sl.HW_arg8_12
  show arg8.view.readAt (Elt F) (Rect.unit (s := S8x512x512) ![3, 0, 0] S1x512x512.size inb_S8x512x512_S1x512x512_3_0_0).toLoadRect (arg8.view.writes (Elt F) f_arg8 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem trip9_3 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 3 =
    (foldM (getS (putS (scores (kWin arg3 X_arg3 i k 0 3) (qWin arg2 X_arg2 0 3)))) (foldM (getS (rS arg8 f_arg8 3)) (rM arg9 f_arg9 3))) := by
  unfold trip_k0_t1; dsimp only
  unfold trip_k0_t1.sl.HW_arg9_15 trip_k0_t1.sl.HW_arg9_14 trip_k0_t1.sl.HW_arg9_13 trip_k0_t1.sl.HW_arg9_12
  show arg9.view.readAt (Elt F) (Rect.unit (s := S8x1x512) ![3, 0, 0] S1x1x512.size inb_S8x1x512_S1x1x512_3_0_0).toLoadRect (arg9.view.writes (Elt F) f_arg9 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldM (getS (trip_k0_t1.sl.v1988 i arg2 arg3 arg8 X_arg2 X_arg3 k)) (trip_k0_t1.sl.v1990 i arg2 arg3 arg8 arg9 X_arg2 X_arg3 k f_arg8 f_arg9)) = _
  rw [mid8_3, mid9_3]

theorem trip10_3 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 3 =
    (foldL (getS (putS (scores (kWin arg3 X_arg3 i k 0 3) (qWin arg2 X_arg2 0 3)))) (foldM (getS (rS arg8 f_arg8 3)) (rM arg9 f_arg9 3)) (foldL (getS (rS arg8 f_arg8 3)) (rM arg9 f_arg9 3) (rM arg10 f_arg10 3))) := by
  unfold trip_k0_t1; dsimp only
  unfold trip_k0_t1.sl.HW_arg10_15 trip_k0_t1.sl.HW_arg10_14 trip_k0_t1.sl.HW_arg10_13 trip_k0_t1.sl.HW_arg10_12
  show arg10.view.readAt (Elt F) (Rect.unit (s := S8x1x512) ![3, 0, 0] S1x1x512.size inb_S8x1x512_S1x1x512_3_0_0).toLoadRect (arg10.view.writes (Elt F) f_arg10 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (getS (trip_k0_t1.sl.v1988 i arg2 arg3 arg8 X_arg2 X_arg3 k)) (trip_k0_t1.sl.v1990 i arg2 arg3 arg8 arg9 X_arg2 X_arg3 k f_arg8 f_arg9) (trip_k0_t1.sl.v2003 i arg2 arg3 arg8 arg9 arg10 X_arg2 X_arg3 k f_arg8 f_arg9 f_arg10)) = _
  rw [mid8_3, mid9_3, mid10_3]

theorem trip11_3 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 3 =
    (foldA (getS (putS (scores (kWin arg3 X_arg3 i k 0 3) (qWin arg2 X_arg2 0 3)))) (foldM (getS (rS arg8 f_arg8 3)) (rM arg9 f_arg9 3)) (foldA (getS (rS arg8 f_arg8 3)) (rM arg9 f_arg9 3) (rA arg11 f_arg11 3) (vWin arg4 X_arg4 i k 0 3)) (vWin arg4 X_arg4 i k 1 3)) := by
  unfold trip_k0_t1; dsimp only
  unfold trip_k0_t1.sl.HW_arg11_15 trip_k0_t1.sl.HW_arg11_14 trip_k0_t1.sl.HW_arg11_13 trip_k0_t1.sl.HW_arg11_12
  show arg11.view.readAt (Elt F) (Rect.unit (s := S8x128x512) ![3, 0, 0] S1x128x512.size inb_S8x128x512_S1x128x512_3_0_0).toLoadRect (arg11.view.writes (Elt F) f_arg11 _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (getS (trip_k0_t1.sl.v1988 i arg2 arg3 arg8 X_arg2 X_arg3 k)) (trip_k0_t1.sl.v1990 i arg2 arg3 arg8 arg9 X_arg2 X_arg3 k f_arg8 f_arg9) (trip_k0_t1.sl.v2012 i arg2 arg3 arg4 arg8 arg9 arg11 X_arg2 X_arg3 X_arg4 k f_arg8 f_arg9 f_arg11) (vWin arg4 X_arg4 i k 1 3)) = _
  rw [mid8_3, mid9_3, mid11_3]

theorem mid8_4 : (trip_k0_t1.sl.v2042 i arg2 arg3 arg8 X_arg2 X_arg3 k) = (putS (scores (kWin arg3 X_arg3 i k 0 0) (qWin arg2 X_arg2 1 0))) := by
  unfold trip_k0_t1.sl.v2042 trip_k0_t1.sl.HW_arg8_12 trip_k0_t1.sl.HW_arg8_11 trip_k0_t1.sl.HW_arg8_10 trip_k0_t1.sl.HW_arg8_9 trip_k0_t1.sl.HW_arg8_8
  iterate 7 rw [View.readCov_skip _ _ _ _ _ (by decide)]
  rw [View.readCov_cons_toLoadRect]
  rfl

theorem mid9_4 : (trip_k0_t1.sl.v2044 i arg2 arg3 arg8 arg9 X_arg2 X_arg3 k f_arg8 f_arg9) = (foldM (getS (rS arg8 f_arg8 4)) (rM arg9 f_arg9 4)) := by
  unfold trip_k0_t1.sl.v2044 trip_k0_t1.sl.HW_arg9_12 trip_k0_t1.sl.HW_arg9_11 trip_k0_t1.sl.HW_arg9_10 trip_k0_t1.sl.HW_arg9_9 trip_k0_t1.sl.HW_arg9_8
  iterate 7 rw [View.readCov_skip _ _ _ _ _ (by decide)]
  rw [View.readCov_cons_toLoadRect]
  rfl

theorem mid10_4 : (trip_k0_t1.sl.v2057 i arg2 arg3 arg8 arg9 arg10 X_arg2 X_arg3 k f_arg8 f_arg9 f_arg10) = (foldL (getS (rS arg8 f_arg8 4)) (rM arg9 f_arg9 4) (rM arg10 f_arg10 4)) := by
  unfold trip_k0_t1.sl.v2057 trip_k0_t1.sl.HW_arg10_12 trip_k0_t1.sl.HW_arg10_11 trip_k0_t1.sl.HW_arg10_10 trip_k0_t1.sl.HW_arg10_9 trip_k0_t1.sl.HW_arg10_8
  iterate 7 rw [View.readCov_skip _ _ _ _ _ (by decide)]
  rw [View.readCov_cons_toLoadRect]
  rfl

theorem mid11_4 : (trip_k0_t1.sl.v2066 i arg2 arg3 arg4 arg8 arg9 arg11 X_arg2 X_arg3 X_arg4 k f_arg8 f_arg9 f_arg11) = (foldA (getS (rS arg8 f_arg8 4)) (rM arg9 f_arg9 4) (rA arg11 f_arg11 4) (vWin arg4 X_arg4 i k 0 0)) := by
  unfold trip_k0_t1.sl.v2066 trip_k0_t1.sl.HW_arg11_12 trip_k0_t1.sl.HW_arg11_11 trip_k0_t1.sl.HW_arg11_10 trip_k0_t1.sl.HW_arg11_9 trip_k0_t1.sl.HW_arg11_8
  iterate 7 rw [View.readCov_skip _ _ _ _ _ (by decide)]
  rw [View.readCov_cons_toLoadRect]
  rfl

theorem trip8_4 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 4 =
    (putS (scores (kWin arg3 X_arg3 i k 1 0) (qWin arg2 X_arg2 1 0))) := by
  unfold trip_k0_t1; dsimp only
  unfold trip_k0_t1.sl.HW_arg8_15 trip_k0_t1.sl.HW_arg8_14 trip_k0_t1.sl.HW_arg8_13
  show arg8.view.readAt (Elt F) (Rect.unit (s := S8x512x512) ![4, 0, 0] S1x512x512.size inb_S8x512x512_S1x512x512_4_0_0).toLoadRect (arg8.view.writes (Elt F) f_arg8 _) = _
  rw [readAt_skip _ _ _ _ _ _ (by decide)]
  rw [readAt_skip _ _ _ _ _ _ (by decide)]
  rw [readAt_skip _ _ _ _ _ _ (by decide)]
  rw [readAt_hit]
  rfl

theorem trip9_4 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 4 =
    (foldM (getS (putS (scores (kWin arg3 X_arg3 i k 0 0) (qWin arg2 X_arg2 1 0)))) (foldM (getS (rS arg8 f_arg8 4)) (rM arg9 f_arg9 4))) := by
  unfold trip_k0_t1; dsimp only
  unfold trip_k0_t1.sl.HW_arg9_15 trip_k0_t1.sl.HW_arg9_14 trip_k0_t1.sl.HW_arg9_13
  show arg9.view.readAt (Elt F) (Rect.unit (s := S8x1x512) ![4, 0, 0] S1x1x512.size inb_S8x1x512_S1x1x512_4_0_0).toLoadRect (arg9.view.writes (Elt F) f_arg9 _) = _
  rw [readAt_skip _ _ _ _ _ _ (by decide)]
  rw [readAt_skip _ _ _ _ _ _ (by decide)]
  rw [readAt_skip _ _ _ _ _ _ (by decide)]
  rw [readAt_hit]
  show (foldM (getS (trip_k0_t1.sl.v2042 i arg2 arg3 arg8 X_arg2 X_arg3 k)) (trip_k0_t1.sl.v2044 i arg2 arg3 arg8 arg9 X_arg2 X_arg3 k f_arg8 f_arg9)) = _
  rw [mid8_4, mid9_4]

theorem trip10_4 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 4 =
    (foldL (getS (putS (scores (kWin arg3 X_arg3 i k 0 0) (qWin arg2 X_arg2 1 0)))) (foldM (getS (rS arg8 f_arg8 4)) (rM arg9 f_arg9 4)) (foldL (getS (rS arg8 f_arg8 4)) (rM arg9 f_arg9 4) (rM arg10 f_arg10 4))) := by
  unfold trip_k0_t1; dsimp only
  unfold trip_k0_t1.sl.HW_arg10_15 trip_k0_t1.sl.HW_arg10_14 trip_k0_t1.sl.HW_arg10_13
  show arg10.view.readAt (Elt F) (Rect.unit (s := S8x1x512) ![4, 0, 0] S1x1x512.size inb_S8x1x512_S1x1x512_4_0_0).toLoadRect (arg10.view.writes (Elt F) f_arg10 _) = _
  rw [readAt_skip _ _ _ _ _ _ (by decide)]
  rw [readAt_skip _ _ _ _ _ _ (by decide)]
  rw [readAt_skip _ _ _ _ _ _ (by decide)]
  rw [readAt_hit]
  show (foldL (getS (trip_k0_t1.sl.v2042 i arg2 arg3 arg8 X_arg2 X_arg3 k)) (trip_k0_t1.sl.v2044 i arg2 arg3 arg8 arg9 X_arg2 X_arg3 k f_arg8 f_arg9) (trip_k0_t1.sl.v2057 i arg2 arg3 arg8 arg9 arg10 X_arg2 X_arg3 k f_arg8 f_arg9 f_arg10)) = _
  rw [mid8_4, mid9_4, mid10_4]

theorem trip11_4 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 4 =
    (foldA (getS (putS (scores (kWin arg3 X_arg3 i k 0 0) (qWin arg2 X_arg2 1 0)))) (foldM (getS (rS arg8 f_arg8 4)) (rM arg9 f_arg9 4)) (foldA (getS (rS arg8 f_arg8 4)) (rM arg9 f_arg9 4) (rA arg11 f_arg11 4) (vWin arg4 X_arg4 i k 0 0)) (vWin arg4 X_arg4 i k 1 0)) := by
  unfold trip_k0_t1; dsimp only
  unfold trip_k0_t1.sl.HW_arg11_15 trip_k0_t1.sl.HW_arg11_14 trip_k0_t1.sl.HW_arg11_13
  show arg11.view.readAt (Elt F) (Rect.unit (s := S8x128x512) ![4, 0, 0] S1x128x512.size inb_S8x128x512_S1x128x512_4_0_0).toLoadRect (arg11.view.writes (Elt F) f_arg11 _) = _
  rw [readAt_skip _ _ _ _ _ _ (by decide)]
  rw [readAt_skip _ _ _ _ _ _ (by decide)]
  rw [readAt_skip _ _ _ _ _ _ (by decide)]
  rw [readAt_hit]
  show (foldA (getS (trip_k0_t1.sl.v2042 i arg2 arg3 arg8 X_arg2 X_arg3 k)) (trip_k0_t1.sl.v2044 i arg2 arg3 arg8 arg9 X_arg2 X_arg3 k f_arg8 f_arg9) (trip_k0_t1.sl.v2066 i arg2 arg3 arg4 arg8 arg9 arg11 X_arg2 X_arg3 X_arg4 k f_arg8 f_arg9 f_arg11) (vWin arg4 X_arg4 i k 1 0)) = _
  rw [mid8_4, mid9_4, mid11_4]

theorem mid8_5 : (trip_k0_t1.sl.v2096 i arg2 arg3 arg8 X_arg2 X_arg3 k) = (putS (scores (kWin arg3 X_arg3 i k 0 1) (qWin arg2 X_arg2 1 1))) := by
  unfold trip_k0_t1.sl.v2096 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_8
  iterate 7 rw [View.readCov_skip _ _ _ _ _ (by decide)]
  rw [View.readCov_cons_toLoadRect]
  rfl

theorem mid9_5 : (trip_k0_t1.sl.v2098 i arg2 arg3 arg8 arg9 X_arg2 X_arg3 k f_arg8 f_arg9) = (foldM (getS (rS arg8 f_arg8 5)) (rM arg9 f_arg9 5)) := by
  unfold trip_k0_t1.sl.v2098 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_8
  iterate 7 rw [View.readCov_skip _ _ _ _ _ (by decide)]
  rw [View.readCov_cons_toLoadRect]
  rfl

theorem mid10_5 : (trip_k0_t1.sl.v2111 i arg2 arg3 arg8 arg9 arg10 X_arg2 X_arg3 k f_arg8 f_arg9 f_arg10) = (foldL (getS (rS arg8 f_arg8 5)) (rM arg9 f_arg9 5) (rM arg10 f_arg10 5)) := by
  unfold trip_k0_t1.sl.v2111 trip_k0_t1.sl.HW_arg10_13 trip_k0_t1.sl.HW_arg10_12 trip_k0_t1.sl.HW_arg10_11 trip_k0_t1.sl.HW_arg10_10 trip_k0_t1.sl.HW_arg10_9 trip_k0_t1.sl.HW_arg10_8
  iterate 7 rw [View.readCov_skip _ _ _ _ _ (by decide)]
  rw [View.readCov_cons_toLoadRect]
  rfl

theorem mid11_5 : (trip_k0_t1.sl.v2120 i arg2 arg3 arg4 arg8 arg9 arg11 X_arg2 X_arg3 X_arg4 k f_arg8 f_arg9 f_arg11) = (foldA (getS (rS arg8 f_arg8 5)) (rM arg9 f_arg9 5) (rA arg11 f_arg11 5) (vWin arg4 X_arg4 i k 0 1)) := by
  unfold trip_k0_t1.sl.v2120 trip_k0_t1.sl.HW_arg11_13 trip_k0_t1.sl.HW_arg11_12 trip_k0_t1.sl.HW_arg11_11 trip_k0_t1.sl.HW_arg11_10 trip_k0_t1.sl.HW_arg11_9 trip_k0_t1.sl.HW_arg11_8
  iterate 7 rw [View.readCov_skip _ _ _ _ _ (by decide)]
  rw [View.readCov_cons_toLoadRect]
  rfl

theorem trip8_5 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 5 =
    (putS (scores (kWin arg3 X_arg3 i k 1 1) (qWin arg2 X_arg2 1 1))) := by
  unfold trip_k0_t1; dsimp only
  unfold trip_k0_t1.sl.HW_arg8_15 trip_k0_t1.sl.HW_arg8_14
  show arg8.view.readAt (Elt F) (Rect.unit (s := S8x512x512) ![5, 0, 0] S1x512x512.size inb_S8x512x512_S1x512x512_5_0_0).toLoadRect (arg8.view.writes (Elt F) f_arg8 _) = _
  rw [readAt_skip _ _ _ _ _ _ (by decide)]
  rw [readAt_skip _ _ _ _ _ _ (by decide)]
  rw [readAt_hit]
  rfl

theorem trip9_5 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 5 =
    (foldM (getS (putS (scores (kWin arg3 X_arg3 i k 0 1) (qWin arg2 X_arg2 1 1)))) (foldM (getS (rS arg8 f_arg8 5)) (rM arg9 f_arg9 5))) := by
  unfold trip_k0_t1; dsimp only
  unfold trip_k0_t1.sl.HW_arg9_15 trip_k0_t1.sl.HW_arg9_14
  show arg9.view.readAt (Elt F) (Rect.unit (s := S8x1x512) ![5, 0, 0] S1x1x512.size inb_S8x1x512_S1x1x512_5_0_0).toLoadRect (arg9.view.writes (Elt F) f_arg9 _) = _
  rw [readAt_skip _ _ _ _ _ _ (by decide)]
  rw [readAt_skip _ _ _ _ _ _ (by decide)]
  rw [readAt_hit]
  show (foldM (getS (trip_k0_t1.sl.v2096 i arg2 arg3 arg8 X_arg2 X_arg3 k)) (trip_k0_t1.sl.v2098 i arg2 arg3 arg8 arg9 X_arg2 X_arg3 k f_arg8 f_arg9)) = _
  rw [mid8_5, mid9_5]

theorem trip10_5 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 5 =
    (foldL (getS (putS (scores (kWin arg3 X_arg3 i k 0 1) (qWin arg2 X_arg2 1 1)))) (foldM (getS (rS arg8 f_arg8 5)) (rM arg9 f_arg9 5)) (foldL (getS (rS arg8 f_arg8 5)) (rM arg9 f_arg9 5) (rM arg10 f_arg10 5))) := by
  unfold trip_k0_t1; dsimp only
  unfold trip_k0_t1.sl.HW_arg10_15 trip_k0_t1.sl.HW_arg10_14
  show arg10.view.readAt (Elt F) (Rect.unit (s := S8x1x512) ![5, 0, 0] S1x1x512.size inb_S8x1x512_S1x1x512_5_0_0).toLoadRect (arg10.view.writes (Elt F) f_arg10 _) = _
  rw [readAt_skip _ _ _ _ _ _ (by decide)]
  rw [readAt_skip _ _ _ _ _ _ (by decide)]
  rw [readAt_hit]
  show (foldL (getS (trip_k0_t1.sl.v2096 i arg2 arg3 arg8 X_arg2 X_arg3 k)) (trip_k0_t1.sl.v2098 i arg2 arg3 arg8 arg9 X_arg2 X_arg3 k f_arg8 f_arg9) (trip_k0_t1.sl.v2111 i arg2 arg3 arg8 arg9 arg10 X_arg2 X_arg3 k f_arg8 f_arg9 f_arg10)) = _
  rw [mid8_5, mid9_5, mid10_5]

theorem trip11_5 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 5 =
    (foldA (getS (putS (scores (kWin arg3 X_arg3 i k 0 1) (qWin arg2 X_arg2 1 1)))) (foldM (getS (rS arg8 f_arg8 5)) (rM arg9 f_arg9 5)) (foldA (getS (rS arg8 f_arg8 5)) (rM arg9 f_arg9 5) (rA arg11 f_arg11 5) (vWin arg4 X_arg4 i k 0 1)) (vWin arg4 X_arg4 i k 1 1)) := by
  unfold trip_k0_t1; dsimp only
  unfold trip_k0_t1.sl.HW_arg11_15 trip_k0_t1.sl.HW_arg11_14
  show arg11.view.readAt (Elt F) (Rect.unit (s := S8x128x512) ![5, 0, 0] S1x128x512.size inb_S8x128x512_S1x128x512_5_0_0).toLoadRect (arg11.view.writes (Elt F) f_arg11 _) = _
  rw [readAt_skip _ _ _ _ _ _ (by decide)]
  rw [readAt_skip _ _ _ _ _ _ (by decide)]
  rw [readAt_hit]
  show (foldA (getS (trip_k0_t1.sl.v2096 i arg2 arg3 arg8 X_arg2 X_arg3 k)) (trip_k0_t1.sl.v2098 i arg2 arg3 arg8 arg9 X_arg2 X_arg3 k f_arg8 f_arg9) (trip_k0_t1.sl.v2120 i arg2 arg3 arg4 arg8 arg9 arg11 X_arg2 X_arg3 X_arg4 k f_arg8 f_arg9 f_arg11) (vWin arg4 X_arg4 i k 1 1)) = _
  rw [mid8_5, mid9_5, mid11_5]

theorem mid8_6 : (trip_k0_t1.sl.v2150 i arg2 arg3 arg8 X_arg2 X_arg3 k) = (putS (scores (kWin arg3 X_arg3 i k 0 2) (qWin arg2 X_arg2 1 2))) := by
  unfold trip_k0_t1.sl.v2150 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_8
  iterate 7 rw [View.readCov_skip _ _ _ _ _ (by decide)]
  rw [View.readCov_cons_toLoadRect]
  rfl

theorem mid9_6 : (trip_k0_t1.sl.v2152 i arg2 arg3 arg8 arg9 X_arg2 X_arg3 k f_arg8 f_arg9) = (foldM (getS (rS arg8 f_arg8 6)) (rM arg9 f_arg9 6)) := by
  unfold trip_k0_t1.sl.v2152 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_8
  iterate 7 rw [View.readCov_skip _ _ _ _ _ (by decide)]
  rw [View.readCov_cons_toLoadRect]
  rfl

theorem mid10_6 : (trip_k0_t1.sl.v2165 i arg2 arg3 arg8 arg9 arg10 X_arg2 X_arg3 k f_arg8 f_arg9 f_arg10) = (foldL (getS (rS arg8 f_arg8 6)) (rM arg9 f_arg9 6) (rM arg10 f_arg10 6)) := by
  unfold trip_k0_t1.sl.v2165 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9 trip_k0_t1.sl.HW_arg10_8
  iterate 7 rw [View.readCov_skip _ _ _ _ _ (by decide)]
  rw [View.readCov_cons_toLoadRect]
  rfl

theorem mid11_6 : (trip_k0_t1.sl.v2174 i arg2 arg3 arg4 arg8 arg9 arg11 X_arg2 X_arg3 X_arg4 k f_arg8 f_arg9 f_arg11) = (foldA (getS (rS arg8 f_arg8 6)) (rM arg9 f_arg9 6) (rA arg11 f_arg11 6) (vWin arg4 X_arg4 i k 0 2)) := by
  unfold trip_k0_t1.sl.v2174 trip_k0_t1.sl.HW_arg11_14 trip_k0_t1.sl.HW_arg11_13 trip_k0_t1.sl.HW_arg11_12 trip_k0_t1.sl.HW_arg11_11 trip_k0_t1.sl.HW_arg11_10 trip_k0_t1.sl.HW_arg11_9 trip_k0_t1.sl.HW_arg11_8
  iterate 7 rw [View.readCov_skip _ _ _ _ _ (by decide)]
  rw [View.readCov_cons_toLoadRect]
  rfl

theorem trip8_6 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 6 =
    (putS (scores (kWin arg3 X_arg3 i k 1 2) (qWin arg2 X_arg2 1 2))) := by
  unfold trip_k0_t1; dsimp only
  unfold trip_k0_t1.sl.HW_arg8_15
  show arg8.view.readAt (Elt F) (Rect.unit (s := S8x512x512) ![6, 0, 0] S1x512x512.size inb_S8x512x512_S1x512x512_6_0_0).toLoadRect (arg8.view.writes (Elt F) f_arg8 _) = _
  rw [readAt_skip _ _ _ _ _ _ (by decide)]
  rw [readAt_hit]
  rfl

theorem trip9_6 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 6 =
    (foldM (getS (putS (scores (kWin arg3 X_arg3 i k 0 2) (qWin arg2 X_arg2 1 2)))) (foldM (getS (rS arg8 f_arg8 6)) (rM arg9 f_arg9 6))) := by
  unfold trip_k0_t1; dsimp only
  unfold trip_k0_t1.sl.HW_arg9_15
  show arg9.view.readAt (Elt F) (Rect.unit (s := S8x1x512) ![6, 0, 0] S1x1x512.size inb_S8x1x512_S1x1x512_6_0_0).toLoadRect (arg9.view.writes (Elt F) f_arg9 _) = _
  rw [readAt_skip _ _ _ _ _ _ (by decide)]
  rw [readAt_hit]
  show (foldM (getS (trip_k0_t1.sl.v2150 i arg2 arg3 arg8 X_arg2 X_arg3 k)) (trip_k0_t1.sl.v2152 i arg2 arg3 arg8 arg9 X_arg2 X_arg3 k f_arg8 f_arg9)) = _
  rw [mid8_6, mid9_6]

theorem trip10_6 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 6 =
    (foldL (getS (putS (scores (kWin arg3 X_arg3 i k 0 2) (qWin arg2 X_arg2 1 2)))) (foldM (getS (rS arg8 f_arg8 6)) (rM arg9 f_arg9 6)) (foldL (getS (rS arg8 f_arg8 6)) (rM arg9 f_arg9 6) (rM arg10 f_arg10 6))) := by
  unfold trip_k0_t1; dsimp only
  unfold trip_k0_t1.sl.HW_arg10_15
  show arg10.view.readAt (Elt F) (Rect.unit (s := S8x1x512) ![6, 0, 0] S1x1x512.size inb_S8x1x512_S1x1x512_6_0_0).toLoadRect (arg10.view.writes (Elt F) f_arg10 _) = _
  rw [readAt_skip _ _ _ _ _ _ (by decide)]
  rw [readAt_hit]
  show (foldL (getS (trip_k0_t1.sl.v2150 i arg2 arg3 arg8 X_arg2 X_arg3 k)) (trip_k0_t1.sl.v2152 i arg2 arg3 arg8 arg9 X_arg2 X_arg3 k f_arg8 f_arg9) (trip_k0_t1.sl.v2165 i arg2 arg3 arg8 arg9 arg10 X_arg2 X_arg3 k f_arg8 f_arg9 f_arg10)) = _
  rw [mid8_6, mid9_6, mid10_6]

theorem trip11_6 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 6 =
    (foldA (getS (putS (scores (kWin arg3 X_arg3 i k 0 2) (qWin arg2 X_arg2 1 2)))) (foldM (getS (rS arg8 f_arg8 6)) (rM arg9 f_arg9 6)) (foldA (getS (rS arg8 f_arg8 6)) (rM arg9 f_arg9 6) (rA arg11 f_arg11 6) (vWin arg4 X_arg4 i k 0 2)) (vWin arg4 X_arg4 i k 1 2)) := by
  unfold trip_k0_t1; dsimp only
  unfold trip_k0_t1.sl.HW_arg11_15
  show arg11.view.readAt (Elt F) (Rect.unit (s := S8x128x512) ![6, 0, 0] S1x128x512.size inb_S8x128x512_S1x128x512_6_0_0).toLoadRect (arg11.view.writes (Elt F) f_arg11 _) = _
  rw [readAt_skip _ _ _ _ _ _ (by decide)]
  rw [readAt_hit]
  show (foldA (getS (trip_k0_t1.sl.v2150 i arg2 arg3 arg8 X_arg2 X_arg3 k)) (trip_k0_t1.sl.v2152 i arg2 arg3 arg8 arg9 X_arg2 X_arg3 k f_arg8 f_arg9) (trip_k0_t1.sl.v2174 i arg2 arg3 arg4 arg8 arg9 arg11 X_arg2 X_arg3 X_arg4 k f_arg8 f_arg9 f_arg11) (vWin arg4 X_arg4 i k 1 2)) = _
  rw [mid8_6, mid9_6, mid11_6]

theorem mid8_7 : (trip_k0_t1.sl.v2204 i arg2 arg3 arg8 X_arg2 X_arg3 k) = (putS (scores (kWin arg3 X_arg3 i k 0 3) (qWin arg2 X_arg2 1 3))) := by
  unfold trip_k0_t1.sl.v2204 trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_8
  iterate 7 rw [View.readCov_skip _ _ _ _ _ (by decide)]
  rw [View.readCov_cons_toLoadRect]
  rfl

theorem mid9_7 : (trip_k0_t1.sl.v2206 i arg2 arg3 arg8 arg9 X_arg2 X_arg3 k f_arg8 f_arg9) = (foldM (getS (rS arg8 f_arg8 7)) (rM arg9 f_arg9 7)) := by
  unfold trip_k0_t1.sl.v2206 trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_8
  iterate 7 rw [View.readCov_skip _ _ _ _ _ (by decide)]
  rw [View.readCov_cons_toLoadRect]
  rfl

theorem mid10_7 : (trip_k0_t1.sl.v2219 i arg2 arg3 arg8 arg9 arg10 X_arg2 X_arg3 k f_arg8 f_arg9 f_arg10) = (foldL (getS (rS arg8 f_arg8 7)) (rM arg9 f_arg9 7) (rM arg10 f_arg10 7)) := by
  unfold trip_k0_t1.sl.v2219 trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9 trip_k0_t1.sl.HW_arg10_8
  iterate 7 rw [View.readCov_skip _ _ _ _ _ (by decide)]
  rw [View.readCov_cons_toLoadRect]
  rfl

theorem mid11_7 : (trip_k0_t1.sl.v2228 i arg2 arg3 arg4 arg8 arg9 arg11 X_arg2 X_arg3 X_arg4 k f_arg8 f_arg9 f_arg11) = (foldA (getS (rS arg8 f_arg8 7)) (rM arg9 f_arg9 7) (rA arg11 f_arg11 7) (vWin arg4 X_arg4 i k 0 3)) := by
  unfold trip_k0_t1.sl.v2228 trip_k0_t1.sl.HW_arg11_15 trip_k0_t1.sl.HW_arg11_14 trip_k0_t1.sl.HW_arg11_13 trip_k0_t1.sl.HW_arg11_12 trip_k0_t1.sl.HW_arg11_11 trip_k0_t1.sl.HW_arg11_10 trip_k0_t1.sl.HW_arg11_9 trip_k0_t1.sl.HW_arg11_8
  iterate 7 rw [View.readCov_skip _ _ _ _ _ (by decide)]
  rw [View.readCov_cons_toLoadRect]
  rfl

theorem trip8_7 : rS arg8 (arg8.view.writes (Elt F) f_arg8 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).1 f_arg8 f_arg9 f_arg10 f_arg11)) 7 =
    (putS (scores (kWin arg3 X_arg3 i k 1 3) (qWin arg2 X_arg2 1 3))) := by
  unfold trip_k0_t1; dsimp only
  skip
  show arg8.view.readAt (Elt F) (Rect.unit (s := S8x512x512) ![7, 0, 0] S1x512x512.size inb_S8x512x512_S1x512x512_7_0_0).toLoadRect (arg8.view.writes (Elt F) f_arg8 _) = _
  rw [readAt_hit]
  rfl

theorem trip9_7 : rM arg9 (arg9.view.writes (Elt F) f_arg9 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.1 f_arg8 f_arg9 f_arg10 f_arg11)) 7 =
    (foldM (getS (putS (scores (kWin arg3 X_arg3 i k 0 3) (qWin arg2 X_arg2 1 3)))) (foldM (getS (rS arg8 f_arg8 7)) (rM arg9 f_arg9 7))) := by
  unfold trip_k0_t1; dsimp only
  skip
  show arg9.view.readAt (Elt F) (Rect.unit (s := S8x1x512) ![7, 0, 0] S1x1x512.size inb_S8x1x512_S1x1x512_7_0_0).toLoadRect (arg9.view.writes (Elt F) f_arg9 _) = _
  rw [readAt_hit]
  show (foldM (getS (trip_k0_t1.sl.v2204 i arg2 arg3 arg8 X_arg2 X_arg3 k)) (trip_k0_t1.sl.v2206 i arg2 arg3 arg8 arg9 X_arg2 X_arg3 k f_arg8 f_arg9)) = _
  rw [mid8_7, mid9_7]

theorem trip10_7 : rM arg10 (arg10.view.writes (Elt F) f_arg10 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.1 f_arg8 f_arg9 f_arg10 f_arg11)) 7 =
    (foldL (getS (putS (scores (kWin arg3 X_arg3 i k 0 3) (qWin arg2 X_arg2 1 3)))) (foldM (getS (rS arg8 f_arg8 7)) (rM arg9 f_arg9 7)) (foldL (getS (rS arg8 f_arg8 7)) (rM arg9 f_arg9 7) (rM arg10 f_arg10 7))) := by
  unfold trip_k0_t1; dsimp only
  skip
  show arg10.view.readAt (Elt F) (Rect.unit (s := S8x1x512) ![7, 0, 0] S1x1x512.size inb_S8x1x512_S1x1x512_7_0_0).toLoadRect (arg10.view.writes (Elt F) f_arg10 _) = _
  rw [readAt_hit]
  show (foldL (getS (trip_k0_t1.sl.v2204 i arg2 arg3 arg8 X_arg2 X_arg3 k)) (trip_k0_t1.sl.v2206 i arg2 arg3 arg8 arg9 X_arg2 X_arg3 k f_arg8 f_arg9) (trip_k0_t1.sl.v2219 i arg2 arg3 arg8 arg9 arg10 X_arg2 X_arg3 k f_arg8 f_arg9 f_arg10)) = _
  rw [mid8_7, mid9_7, mid10_7]

theorem trip11_7 : rA arg11 (arg11.view.writes (Elt F) f_arg11 ((trip_k0_t1 (F := F) 𝒱 c bd i arg2 harg2 arg3 harg3 arg4 harg4 arg5 harg5 arg6 harg6 arg7 harg7 arg8 harg8 arg9 harg9 arg10 harg10 arg11 harg11 arg1 v0 v280 v319 X_arg2 X_arg3 X_arg4 k).2.2.2.1 f_arg8 f_arg9 f_arg10 f_arg11)) 7 =
    (foldA (getS (putS (scores (kWin arg3 X_arg3 i k 0 3) (qWin arg2 X_arg2 1 3)))) (foldM (getS (rS arg8 f_arg8 7)) (rM arg9 f_arg9 7)) (foldA (getS (rS arg8 f_arg8 7)) (rM arg9 f_arg9 7) (rA arg11 f_arg11 7) (vWin arg4 X_arg4 i k 0 3)) (vWin arg4 X_arg4 i k 1 3)) := by
  unfold trip_k0_t1; dsimp only
  skip
  show arg11.view.readAt (Elt F) (Rect.unit (s := S8x128x512) ![7, 0, 0] S1x128x512.size inb_S8x128x512_S1x128x512_7_0_0).toLoadRect (arg11.view.writes (Elt F) f_arg11 _) = _
  rw [readAt_hit]
  show (foldA (getS (trip_k0_t1.sl.v2204 i arg2 arg3 arg8 X_arg2 X_arg3 k)) (trip_k0_t1.sl.v2206 i arg2 arg3 arg8 arg9 X_arg2 X_arg3 k f_arg8 f_arg9) (trip_k0_t1.sl.v2228 i arg2 arg3 arg4 arg8 arg9 arg11 X_arg2 X_arg3 X_arg4 k f_arg8 f_arg9 f_arg11) (vWin arg4 X_arg4 i k 1 3)) = _
  rw [mid8_7, mid9_7, mid11_7]

end Cert.Slots
-- ==== Proof.Start.lean ====
/-
What the meta keys leave in each chain's slots, with the scores of the first key tile.
-/
module

public import proofs.«01_k».proof.Proof.Slots

@[expose] public section

set_option maxRecDepth 16384

noncomputable section

namespace Cert.Slots

open Idealize.ShloMosaic Cert.KernelIdeal Cert.KernelIdeal.Gen
open Idealize.SL Idealize.SL.Sem

variable {F : FTy → Type} [FloatOps F] [Named F]
variable (c : Dev nD)
  (i : grid0.Coords)
  (arg2 : Memref sig .tc .vmem S1x1024x1024 .f32)
  (harg2 : arg2.IsWhole)
  (arg3 : Memref sig .tc .vmem S1x8192x1024 .bf16)
  (harg3 : arg3.IsWhole)
  (arg4 : Memref sig .tc .vmem S512x8192 .bf16)
  (harg4 : arg4.IsWhole)
  (arg5 : Memref sig .tc .vmem S16x1024 .bf16)
  (harg5 : arg5.IsWhole)
  (arg6 : Memref sig .tc .vmem S512x16 .bf16)
  (harg6 : arg6.IsWhole)
  (arg7 : Memref sig .tc .vmem S1x1024x512 .bf16)
  (harg7 : arg7.IsWhole)
  (arg8 : Memref sig .tc .vmem S8x512x512 .f32)
  (harg8 : arg8.IsWhole)
  (arg9 : Memref sig .tc .vmem S8x1x512 .f32)
  (harg9 : arg9.IsWhole)
  (arg10 : Memref sig .tc .vmem S8x1x512 .f32)
  (harg10 : arg10.IsWhole)
  (arg11 : Memref sig .tc .vmem S8x128x512 .f32)
  (harg11 : arg11.IsWhole)
  (x0 : Vec F S1x1024x1024 .f32) (x1 : Vec F S1x8192x1024 .bf16) (x2 : Vec F S512x8192 .bf16) (x3 : Vec F S16x1024 .bf16) (x4 : Vec F S512x16 .bf16)

theorem init8_0 : rS arg8 (arg8.view.writes (Elt F) arg8.view.junk (kernelRun0_A.sl.HS0_8 c arg2 harg2 arg3 harg3 x0 x1)) 0 =
    putS (scores (kWin0 arg3 (harg3.unread x1) 0) (qWin arg2 (harg2.unread x0) 0 0)) := by
  unfold kernelRun0_A.sl.HS0_8
  show arg8.view.readAt (Elt F) (Rect.unit (s := S8x512x512) ![0, 0, 0] S1x512x512.size inb_S8x512x512_S1x512x512_0_0_0).toLoadRect (arg8.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init9_0 : rM arg9 (arg9.view.writes (Elt F) arg9.view.junk (kernelRun0_A.sl.HS1_8 c arg2 harg2 arg5 harg5 x0 x3)) 0 =
    metaM (metaScores (mkWin arg5 (harg5.unread x3) 0) (qWin arg2 (harg2.unread x0) 0 0)) := by
  unfold kernelRun0_A.sl.HS1_8
  show arg9.view.readAt (Elt F) (Rect.unit (s := S8x1x512) ![0, 0, 0] S1x1x512.size inb_S8x1x512_S1x1x512_0_0_0).toLoadRect (arg9.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init10_0 : rM arg10 (arg10.view.writes (Elt F) arg10.view.junk (kernelRun0_A.sl.HS2_8 c arg2 harg2 arg5 harg5 x0 x3)) 0 =
    metaL (metaScores (mkWin arg5 (harg5.unread x3) 0) (qWin arg2 (harg2.unread x0) 0 0)) := by
  unfold kernelRun0_A.sl.HS2_8
  show arg10.view.readAt (Elt F) (Rect.unit (s := S8x1x512) ![0, 0, 0] S1x1x512.size inb_S8x1x512_S1x1x512_0_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init11_0 : rA arg11 (arg11.view.writes (Elt F) arg11.view.junk (kernelRun0_A.sl.HS3_8 c arg2 harg2 arg5 harg5 arg6 harg6 x0 x3 x4)) 0 =
    metaA (metaScores (mkWin arg5 (harg5.unread x3) 0) (qWin arg2 (harg2.unread x0) 0 0)) (mvWin arg6 (harg6.unread x4) 0) := by
  unfold kernelRun0_A.sl.HS3_8
  show arg11.view.readAt (Elt F) (Rect.unit (s := S8x128x512) ![0, 0, 0] S1x128x512.size inb_S8x128x512_S1x128x512_0_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init8_1 : rS arg8 (arg8.view.writes (Elt F) arg8.view.junk (kernelRun0_A.sl.HS0_8 c arg2 harg2 arg3 harg3 x0 x1)) 1 =
    putS (scores (kWin0 arg3 (harg3.unread x1) 1) (qWin arg2 (harg2.unread x0) 0 1)) := by
  unfold kernelRun0_A.sl.HS0_8
  show arg8.view.readAt (Elt F) (Rect.unit (s := S8x512x512) ![1, 0, 0] S1x512x512.size inb_S8x512x512_S1x512x512_1_0_0).toLoadRect (arg8.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init9_1 : rM arg9 (arg9.view.writes (Elt F) arg9.view.junk (kernelRun0_A.sl.HS1_8 c arg2 harg2 arg5 harg5 x0 x3)) 1 =
    metaM (metaScores (mkWin arg5 (harg5.unread x3) 1) (qWin arg2 (harg2.unread x0) 0 1)) := by
  unfold kernelRun0_A.sl.HS1_8
  show arg9.view.readAt (Elt F) (Rect.unit (s := S8x1x512) ![1, 0, 0] S1x1x512.size inb_S8x1x512_S1x1x512_1_0_0).toLoadRect (arg9.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init10_1 : rM arg10 (arg10.view.writes (Elt F) arg10.view.junk (kernelRun0_A.sl.HS2_8 c arg2 harg2 arg5 harg5 x0 x3)) 1 =
    metaL (metaScores (mkWin arg5 (harg5.unread x3) 1) (qWin arg2 (harg2.unread x0) 0 1)) := by
  unfold kernelRun0_A.sl.HS2_8
  show arg10.view.readAt (Elt F) (Rect.unit (s := S8x1x512) ![1, 0, 0] S1x1x512.size inb_S8x1x512_S1x1x512_1_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init11_1 : rA arg11 (arg11.view.writes (Elt F) arg11.view.junk (kernelRun0_A.sl.HS3_8 c arg2 harg2 arg5 harg5 arg6 harg6 x0 x3 x4)) 1 =
    metaA (metaScores (mkWin arg5 (harg5.unread x3) 1) (qWin arg2 (harg2.unread x0) 0 1)) (mvWin arg6 (harg6.unread x4) 1) := by
  unfold kernelRun0_A.sl.HS3_8
  show arg11.view.readAt (Elt F) (Rect.unit (s := S8x128x512) ![1, 0, 0] S1x128x512.size inb_S8x128x512_S1x128x512_1_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init8_2 : rS arg8 (arg8.view.writes (Elt F) arg8.view.junk (kernelRun0_A.sl.HS0_8 c arg2 harg2 arg3 harg3 x0 x1)) 2 =
    putS (scores (kWin0 arg3 (harg3.unread x1) 2) (qWin arg2 (harg2.unread x0) 0 2)) := by
  unfold kernelRun0_A.sl.HS0_8
  show arg8.view.readAt (Elt F) (Rect.unit (s := S8x512x512) ![2, 0, 0] S1x512x512.size inb_S8x512x512_S1x512x512_2_0_0).toLoadRect (arg8.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init9_2 : rM arg9 (arg9.view.writes (Elt F) arg9.view.junk (kernelRun0_A.sl.HS1_8 c arg2 harg2 arg5 harg5 x0 x3)) 2 =
    metaM (metaScores (mkWin arg5 (harg5.unread x3) 2) (qWin arg2 (harg2.unread x0) 0 2)) := by
  unfold kernelRun0_A.sl.HS1_8
  show arg9.view.readAt (Elt F) (Rect.unit (s := S8x1x512) ![2, 0, 0] S1x1x512.size inb_S8x1x512_S1x1x512_2_0_0).toLoadRect (arg9.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init10_2 : rM arg10 (arg10.view.writes (Elt F) arg10.view.junk (kernelRun0_A.sl.HS2_8 c arg2 harg2 arg5 harg5 x0 x3)) 2 =
    metaL (metaScores (mkWin arg5 (harg5.unread x3) 2) (qWin arg2 (harg2.unread x0) 0 2)) := by
  unfold kernelRun0_A.sl.HS2_8
  show arg10.view.readAt (Elt F) (Rect.unit (s := S8x1x512) ![2, 0, 0] S1x1x512.size inb_S8x1x512_S1x1x512_2_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init11_2 : rA arg11 (arg11.view.writes (Elt F) arg11.view.junk (kernelRun0_A.sl.HS3_8 c arg2 harg2 arg5 harg5 arg6 harg6 x0 x3 x4)) 2 =
    metaA (metaScores (mkWin arg5 (harg5.unread x3) 2) (qWin arg2 (harg2.unread x0) 0 2)) (mvWin arg6 (harg6.unread x4) 2) := by
  unfold kernelRun0_A.sl.HS3_8
  show arg11.view.readAt (Elt F) (Rect.unit (s := S8x128x512) ![2, 0, 0] S1x128x512.size inb_S8x128x512_S1x128x512_2_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init8_3 : rS arg8 (arg8.view.writes (Elt F) arg8.view.junk (kernelRun0_A.sl.HS0_8 c arg2 harg2 arg3 harg3 x0 x1)) 3 =
    putS (scores (kWin0 arg3 (harg3.unread x1) 3) (qWin arg2 (harg2.unread x0) 0 3)) := by
  unfold kernelRun0_A.sl.HS0_8
  show arg8.view.readAt (Elt F) (Rect.unit (s := S8x512x512) ![3, 0, 0] S1x512x512.size inb_S8x512x512_S1x512x512_3_0_0).toLoadRect (arg8.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init9_3 : rM arg9 (arg9.view.writes (Elt F) arg9.view.junk (kernelRun0_A.sl.HS1_8 c arg2 harg2 arg5 harg5 x0 x3)) 3 =
    metaM (metaScores (mkWin arg5 (harg5.unread x3) 3) (qWin arg2 (harg2.unread x0) 0 3)) := by
  unfold kernelRun0_A.sl.HS1_8
  show arg9.view.readAt (Elt F) (Rect.unit (s := S8x1x512) ![3, 0, 0] S1x1x512.size inb_S8x1x512_S1x1x512_3_0_0).toLoadRect (arg9.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init10_3 : rM arg10 (arg10.view.writes (Elt F) arg10.view.junk (kernelRun0_A.sl.HS2_8 c arg2 harg2 arg5 harg5 x0 x3)) 3 =
    metaL (metaScores (mkWin arg5 (harg5.unread x3) 3) (qWin arg2 (harg2.unread x0) 0 3)) := by
  unfold kernelRun0_A.sl.HS2_8
  show arg10.view.readAt (Elt F) (Rect.unit (s := S8x1x512) ![3, 0, 0] S1x1x512.size inb_S8x1x512_S1x1x512_3_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init11_3 : rA arg11 (arg11.view.writes (Elt F) arg11.view.junk (kernelRun0_A.sl.HS3_8 c arg2 harg2 arg5 harg5 arg6 harg6 x0 x3 x4)) 3 =
    metaA (metaScores (mkWin arg5 (harg5.unread x3) 3) (qWin arg2 (harg2.unread x0) 0 3)) (mvWin arg6 (harg6.unread x4) 3) := by
  unfold kernelRun0_A.sl.HS3_8
  show arg11.view.readAt (Elt F) (Rect.unit (s := S8x128x512) ![3, 0, 0] S1x128x512.size inb_S8x128x512_S1x128x512_3_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  rfl

theorem init8_4 : rS arg8 (arg8.view.writes (Elt F) arg8.view.junk (kernelRun0_A.sl.HS0_8 c arg2 harg2 arg3 harg3 x0 x1)) 4 =
    putS (scores (kWin0 arg3 (harg3.unread x1) 0) (qWin arg2 (harg2.unread x0) 1 0)) := by
  unfold kernelRun0_A.sl.HS0_8
  show arg8.view.readAt (Elt F) (Rect.unit (s := S8x512x512) ![4, 0, 0] S1x512x512.size inb_S8x512x512_S1x512x512_4_0_0).toLoadRect (arg8.view.writes (Elt F) _ _) = _
  rw [readAt_skip _ _ _ _ _ _ (by decide)]
  rw [readAt_skip _ _ _ _ _ _ (by decide)]
  rw [readAt_skip _ _ _ _ _ _ (by decide)]
  rw [readAt_hit]
  rfl

theorem init9_4 : rM arg9 (arg9.view.writes (Elt F) arg9.view.junk (kernelRun0_A.sl.HS1_8 c arg2 harg2 arg5 harg5 x0 x3)) 4 =
    metaM (metaScores (mkWin arg5 (harg5.unread x3) 0) (qWin arg2 (harg2.unread x0) 1 0)) := by
  unfold kernelRun0_A.sl.HS1_8
  show arg9.view.readAt (Elt F) (Rect.unit (s := S8x1x512) ![4, 0, 0] S1x1x512.size inb_S8x1x512_S1x1x512_4_0_0).toLoadRect (arg9.view.writes (Elt F) _ _) = _
  rw [readAt_skip _ _ _ _ _ _ (by decide)]
  rw [readAt_skip _ _ _ _ _ _ (by decide)]
  rw [readAt_skip _ _ _ _ _ _ (by decide)]
  rw [readAt_hit]
  rfl

theorem init10_4 : rM arg10 (arg10.view.writes (Elt F) arg10.view.junk (kernelRun0_A.sl.HS2_8 c arg2 harg2 arg5 harg5 x0 x3)) 4 =
    metaL (metaScores (mkWin arg5 (harg5.unread x3) 0) (qWin arg2 (harg2.unread x0) 1 0)) := by
  unfold kernelRun0_A.sl.HS2_8
  show arg10.view.readAt (Elt F) (Rect.unit (s := S8x1x512) ![4, 0, 0] S1x1x512.size inb_S8x1x512_S1x1x512_4_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_hit]
  rfl

theorem init11_4 : rA arg11 (arg11.view.writes (Elt F) arg11.view.junk (kernelRun0_A.sl.HS3_8 c arg2 harg2 arg5 harg5 arg6 harg6 x0 x3 x4)) 4 =
    metaA (metaScores (mkWin arg5 (harg5.unread x3) 0) (qWin arg2 (harg2.unread x0) 1 0)) (mvWin arg6 (harg6.unread x4) 0) := by
  unfold kernelRun0_A.sl.HS3_8
  show arg11.view.readAt (Elt F) (Rect.unit (s := S8x128x512) ![4, 0, 0] S1x128x512.size inb_S8x128x512_S1x128x512_4_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_hit]
  rfl

theorem init8_5 : rS arg8 (arg8.view.writes (Elt F) arg8.view.junk (kernelRun0_A.sl.HS0_8 c arg2 harg2 arg3 harg3 x0 x1)) 5 =
    putS (scores (kWin0 arg3 (harg3.unread x1) 1) (qWin arg2 (harg2.unread x0) 1 1)) := by
  unfold kernelRun0_A.sl.HS0_8
  show arg8.view.readAt (Elt F) (Rect.unit (s := S8x512x512) ![5, 0, 0] S1x512x512.size inb_S8x512x512_S1x512x512_5_0_0).toLoadRect (arg8.view.writes (Elt F) _ _) = _
  rw [readAt_skip _ _ _ _ _ _ (by decide)]
  rw [readAt_skip _ _ _ _ _ _ (by decide)]
  rw [readAt_hit]
  rfl

theorem init9_5 : rM arg9 (arg9.view.writes (Elt F) arg9.view.junk (kernelRun0_A.sl.HS1_8 c arg2 harg2 arg5 harg5 x0 x3)) 5 =
    metaM (metaScores (mkWin arg5 (harg5.unread x3) 1) (qWin arg2 (harg2.unread x0) 1 1)) := by
  unfold kernelRun0_A.sl.HS1_8
  show arg9.view.readAt (Elt F) (Rect.unit (s := S8x1x512) ![5, 0, 0] S1x1x512.size inb_S8x1x512_S1x1x512_5_0_0).toLoadRect (arg9.view.writes (Elt F) _ _) = _
  rw [readAt_skip _ _ _ _ _ _ (by decide)]
  rw [readAt_skip _ _ _ _ _ _ (by decide)]
  rw [readAt_hit]
  rfl

theorem init10_5 : rM arg10 (arg10.view.writes (Elt F) arg10.view.junk (kernelRun0_A.sl.HS2_8 c arg2 harg2 arg5 harg5 x0 x3)) 5 =
    metaL (metaScores (mkWin arg5 (harg5.unread x3) 1) (qWin arg2 (harg2.unread x0) 1 1)) := by
  unfold kernelRun0_A.sl.HS2_8
  show arg10.view.readAt (Elt F) (Rect.unit (s := S8x1x512) ![5, 0, 0] S1x1x512.size inb_S8x1x512_S1x1x512_5_0_0).toLoadRect (arg10.view.writes (Elt F) _ _) = _
  rw [readAt_skip _ _ _ _ _ _ (by decide)]
  rw [readAt_skip _ _ _ _ _ _ (by decide)]
  rw [readAt_hit]
  rfl

theorem init11_5 : rA arg11 (arg11.view.writes (Elt F) arg11.view.junk (kernelRun0_A.sl.HS3_8 c arg2 harg2 arg5 harg5 arg6 harg6 x0 x3 x4)) 5 =
    metaA (metaScores (mkWin arg5 (harg5.unread x3) 1) (qWin arg2 (harg2.unread x0) 1 1)) (mvWin arg6 (harg6.unread x4) 1) := by
  unfold kernelRun0_A.sl.HS3_8
  show arg11.view.readAt (Elt F) (Rect.unit (s := S8x128x512) ![5, 0, 0] S1x128x512.size inb_S8x128x512_S1x128x512_5_0_0).toLoadRect (arg11.view.writes (Elt F) _ _) = _
  rw [readAt_skip _ _ _ _ _ _ (by decide)]
  rw [readAt_skip _ _ _ _ _ _ (by decide)]
  rw [readAt_hit]
  rfl

theorem init8_6 : rS arg8 (arg8.view.writes (Elt F) arg8.view.junk (kernelRun0_A.sl.HS0_8 c arg2 harg2 arg3 harg3 x0 x1)) 6 =
    putS (scores (kWin0 arg3 (harg3.unread x1) 2) (qWin arg2 (harg2.unread x0) 1 2)) := by
  unfold kernelRun0_A.sl.HS0_8
  show arg8.view.readAt (Elt F) (Rect.unit (s := S8x512x512) ![6, 0, 0] S1x512x512.size inb_S8x512x512_S1x512x512_6_0_0).toLoadRect (arg8.view.writes (Elt F) _ _) = _
  rw [readAt_skip _ _ _ _ _ _ (by decide)]
  rw [readAt_hit]
  rfl

theorem init9_6 : rM arg9 (arg9.view.writes (Elt F) arg9.view.junk (kernelRun0_A.sl.HS1_8 c arg2 harg2 arg5 harg5 x0 x3)) 6 =
    metaM (metaScores (mkWin arg5 (harg5.unread x3) 2) (qWin arg2 (harg2.unread x0) 1 2)) := by
  unfold kernelRun0_A.sl.HS1_8
  show arg9.view.readAt (Elt F) (Rect.unit (s := S8x1x512) ![6, 0, 0] S1x1x512.size inb_S8x1x512_S1x1x512_6_0_0).toLoadRect (arg9.view.writes (Elt F) _ _) = _
  rw [readAt_skip _ _ _ _ _ _ (by decide)]
  rw [readAt_hit]
  rfl

theorem init10_6 : rM arg10 (arg10.view.writes (Elt F) arg10.view.junk (kernelRun0_A.sl.HS2_8 c arg2 harg2 arg5 harg5 x0 x3)) 6 =
    metaL (metaScores (mkWin arg5 (harg5.unread x3) 2) (qWin arg2 (harg2.unread x0) 1 2)) := by
  unfold kernelRun0_A.sl.HS2_8
  show arg10.view.readAt (Elt F) (Rect.unit (s := S8x1x512) ![6, 0, 0] S1x1x512.size inb_S8x1x512_S1x1x512_6_0_0).toLoadRect (arg10.view.writes (Elt F) _ _) = _
  rw [readAt_skip _ _ _ _ _ _ (by decide)]
  rw [readAt_hit]
  rfl

theorem init11_6 : rA arg11 (arg11.view.writes (Elt F) arg11.view.junk (kernelRun0_A.sl.HS3_8 c arg2 harg2 arg5 harg5 arg6 harg6 x0 x3 x4)) 6 =
    metaA (metaScores (mkWin arg5 (harg5.unread x3) 2) (qWin arg2 (harg2.unread x0) 1 2)) (mvWin arg6 (harg6.unread x4) 2) := by
  unfold kernelRun0_A.sl.HS3_8
  show arg11.view.readAt (Elt F) (Rect.unit (s := S8x128x512) ![6, 0, 0] S1x128x512.size inb_S8x128x512_S1x128x512_6_0_0).toLoadRect (arg11.view.writes (Elt F) _ _) = _
  rw [readAt_skip _ _ _ _ _ _ (by decide)]
  rw [readAt_hit]
  rfl

theorem init8_7 : rS arg8 (arg8.view.writes (Elt F) arg8.view.junk (kernelRun0_A.sl.HS0_8 c arg2 harg2 arg3 harg3 x0 x1)) 7 =
    putS (scores (kWin0 arg3 (harg3.unread x1) 3) (qWin arg2 (harg2.unread x0) 1 3)) := by
  unfold kernelRun0_A.sl.HS0_8
  show arg8.view.readAt (Elt F) (Rect.unit (s := S8x512x512) ![7, 0, 0] S1x512x512.size inb_S8x512x512_S1x512x512_7_0_0).toLoadRect (arg8.view.writes (Elt F) _ _) = _

  rw [readAt_hit]
  rfl

theorem init9_7 : rM arg9 (arg9.view.writes (Elt F) arg9.view.junk (kernelRun0_A.sl.HS1_8 c arg2 harg2 arg5 harg5 x0 x3)) 7 =
    metaM (metaScores (mkWin arg5 (harg5.unread x3) 3) (qWin arg2 (harg2.unread x0) 1 3)) := by
  unfold kernelRun0_A.sl.HS1_8
  show arg9.view.readAt (Elt F) (Rect.unit (s := S8x1x512) ![7, 0, 0] S1x1x512.size inb_S8x1x512_S1x1x512_7_0_0).toLoadRect (arg9.view.writes (Elt F) _ _) = _

  rw [readAt_hit]
  rfl

theorem init10_7 : rM arg10 (arg10.view.writes (Elt F) arg10.view.junk (kernelRun0_A.sl.HS2_8 c arg2 harg2 arg5 harg5 x0 x3)) 7 =
    metaL (metaScores (mkWin arg5 (harg5.unread x3) 3) (qWin arg2 (harg2.unread x0) 1 3)) := by
  unfold kernelRun0_A.sl.HS2_8
  show arg10.view.readAt (Elt F) (Rect.unit (s := S8x1x512) ![7, 0, 0] S1x1x512.size inb_S8x1x512_S1x1x512_7_0_0).toLoadRect (arg10.view.writes (Elt F) _ _) = _

  rw [readAt_hit]
  rfl

theorem init11_7 : rA arg11 (arg11.view.writes (Elt F) arg11.view.junk (kernelRun0_A.sl.HS3_8 c arg2 harg2 arg5 harg5 arg6 harg6 x0 x3 x4)) 7 =
    metaA (metaScores (mkWin arg5 (harg5.unread x3) 3) (qWin arg2 (harg2.unread x0) 1 3)) (mvWin arg6 (harg6.unread x4) 3) := by
  unfold kernelRun0_A.sl.HS3_8
  show arg11.view.readAt (Elt F) (Rect.unit (s := S8x128x512) ![7, 0, 0] S1x128x512.size inb_S8x128x512_S1x128x512_7_0_0).toLoadRect (arg11.view.writes (Elt F) _ _) = _

  rw [readAt_hit]
  rfl

end Cert.Slots
-- ==== Proof.Tail.lean ====
/-
What the folds after the loop leave in each chain's slots, in terms of what the loop left, and the
blocks of the result written from them.
-/
module

public import proofs.«01_k».proof.Proof.Slots

@[expose] public section

set_option maxRecDepth 16384

noncomputable section

namespace Cert.Slots

open Idealize.ShloMosaic Cert.KernelIdeal Cert.KernelIdeal.Gen
open Idealize.SL Idealize.SL.Sem

variable {F : FTy → Type} [FloatOps F] [Named F]
variable (c : Dev nD)
  (i : grid0.Coords)
  (arg2 : Memref sig .tc .vmem S1x1024x1024 .f32)
  (harg2 : arg2.IsWhole)
  (arg3 : Memref sig .tc .vmem S1x8192x1024 .bf16)
  (harg3 : arg3.IsWhole)
  (arg4 : Memref sig .tc .vmem S512x8192 .bf16)
  (harg4 : arg4.IsWhole)
  (arg5 : Memref sig .tc .vmem S16x1024 .bf16)
  (harg5 : arg5.IsWhole)
  (arg6 : Memref sig .tc .vmem S512x16 .bf16)
  (harg6 : arg6.IsWhole)
  (arg7 : Memref sig .tc .vmem S1x1024x512 .bf16)
  (harg7 : arg7.IsWhole)
  (arg8 : Memref sig .tc .vmem S8x512x512 .f32)
  (harg8 : arg8.IsWhole)
  (arg9 : Memref sig .tc .vmem S8x1x512 .f32)
  (harg9 : arg9.IsWhole)
  (arg10 : Memref sig .tc .vmem S8x1x512 .f32)
  (harg10 : arg10.IsWhole)
  (arg11 : Memref sig .tc .vmem S8x128x512 .f32)
  (harg11 : arg11.IsWhole)
  (x0 : Vec F S1x1024x1024 .f32) (x1 : Vec F S1x8192x1024 .bf16) (x2 : Vec F S512x8192 .bf16) (x3 : Vec F S16x1024 .bf16) (x4 : Vec F S512x16 .bf16)

/-- The writes to the score buffer up to the end of the loops. -/
noncomputable def loopS : List (View.Piece (Elt F) S8x512x512 .f32) :=
  List.tail (kernelRun0_A.sl.HS0_1 c i arg2 harg2 arg3 harg3 arg4 harg4 arg5 harg5 arg6 harg6 arg7 harg7 arg8 harg8 arg9 harg9 arg10 harg10 arg11 harg11 x0 x1 x2 x3 x4)

/-- The writes to the maximum buffer up to the end of the loops. -/
noncomputable def loopM : List (View.Piece (Elt F) S8x1x512 .f32) :=
  List.tail (kernelRun0_A.sl.HS1_1 c i arg2 harg2 arg3 harg3 arg4 harg4 arg5 harg5 arg6 harg6 arg7 harg7 arg8 harg8 arg9 harg9 arg10 harg10 arg11 harg11 x0 x1 x2 x3 x4)

/-- The writes to the sum buffer up to the end of the loops. -/
noncomputable def loopL : List (View.Piece (Elt F) S8x1x512 .f32) :=
  List.tail (kernelRun0_A.sl.HS2_1 c i arg2 harg2 arg3 harg3 arg4 harg4 arg5 harg5 arg6 harg6 arg7 harg7 arg8 harg8 arg9 harg9 arg10 harg10 arg11 harg11 x0 x1 x2 x3 x4)

/-- The writes to the value buffer up to the end of the loops. -/
noncomputable def loopA : List (View.Piece (Elt F) S8x128x512 .f32) :=
  List.tail (kernelRun0_A.sl.HS3_1 c i arg2 harg2 arg3 harg3 arg4 harg4 arg5 harg5 arg6 harg6 arg7 harg7 arg8 harg8 arg9 harg9 arg10 harg10 arg11 harg11 x0 x1 x2 x3 x4)

theorem ent8_0 : (kernelRun0_A.sl.v337 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 0 := by
  rfl

theorem ent9_0 : (kernelRun0_A.sl.v392 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 0 := by
  rfl

theorem ent10_0 : (kernelRun0_A.sl.v405 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 0 := by
  rfl

theorem ent11_0 : (kernelRun0_A.sl.v414 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 0 := by
  rfl

theorem last10_0 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 0 =
    (foldL (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 0))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 0) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 0)) := by
  unfold kernelRun0_A.sl.HS2_12 kernelRun0_A.sl.HS2_11 kernelRun0_A.sl.HS2_10 kernelRun0_A.sl.HS2_9 kernelRun0_A.sl.HS2_8_1 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  show arg10.view.readAt (Elt F) (Rect.unit (s := S8x1x512) ![0, 0, 0] S1x1x512.size inb_S8x1x512_S1x1x512_0_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (masked (getS (kernelRun0_A.sl.v337 c i arg2 harg2 arg3 harg3 arg4 harg4 arg5 harg5 arg6 harg6 arg7 harg7 arg8 harg8 arg9 harg9 arg10 harg10 arg11 harg11 x0 x1 x2 x3 x4))) (kernelRun0_A.sl.v392 c i arg2 harg2 arg3 harg3 arg4 harg4 arg5 harg5 arg6 harg6 arg7 harg7 arg8 harg8 arg9 harg9 arg10 harg10 arg11 harg11 x0 x1 x2 x3 x4) (kernelRun0_A.sl.v405 c i arg2 harg2 arg3 harg3 arg4 harg4 arg5 harg5 arg6 harg6 arg7 harg7 arg8 harg8 arg9 harg9 arg10 harg10 arg11 harg11 x0 x1 x2 x3 x4)) = _
  rw [ent8_0, ent9_0, ent10_0]

theorem last11_0 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 0 =
    (foldA (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 0))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 0) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 0) (vWinT arg4 (harg4.unread x2) i 0 0)) := by
  unfold kernelRun0_A.sl.HS3_12 kernelRun0_A.sl.HS3_11 kernelRun0_A.sl.HS3_10 kernelRun0_A.sl.HS3_9 kernelRun0_A.sl.HS3_8_1 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  show arg11.view.readAt (Elt F) (Rect.unit (s := S8x128x512) ![0, 0, 0] S1x128x512.size inb_S8x128x512_S1x128x512_0_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (masked (getS (kernelRun0_A.sl.v337 c i arg2 harg2 arg3 harg3 arg4 harg4 arg5 harg5 arg6 harg6 arg7 harg7 arg8 harg8 arg9 harg9 arg10 harg10 arg11 harg11 x0 x1 x2 x3 x4))) (kernelRun0_A.sl.v392 c i arg2 harg2 arg3 harg3 arg4 harg4 arg5 harg5 arg6 harg6 arg7 harg7 arg8 harg8 arg9 harg9 arg10 harg10 arg11 harg11 x0 x1 x2 x3 x4) (kernelRun0_A.sl.v414 c i arg2 harg2 arg3 harg3 arg4 harg4 arg5 harg5 arg6 harg6 arg7 harg7 arg8 harg8 arg9 harg9 arg10 harg10 arg11 harg11 x0 x1 x2 x3 x4) (vWinT arg4 (harg4.unread x2) i 0 0)) = _
  rw [ent8_0, ent9_0, ent11_0]

theorem ent8_1 : (kernelRun0_A.sl.v429 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 1 := by
  rfl

theorem ent9_1 : (kernelRun0_A.sl.v484 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 1 := by
  unfold kernelRun0_A.sl.v484 kernelRun0_A.sl.HS1_1
  rw [View.readCov_skip _ _ _ _ _ (by decide)]
  rfl

theorem ent10_1 : (kernelRun0_A.sl.v497 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 1 := by
  unfold kernelRun0_A.sl.v497 kernelRun0_A.sl.HS2_1
  rw [View.readCov_skip _ _ _ _ _ (by decide)]
  rfl

theorem ent11_1 : (kernelRun0_A.sl.v506 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 1 := by
  unfold kernelRun0_A.sl.v506 kernelRun0_A.sl.HS3_1
  rw [View.readCov_skip _ _ _ _ _ (by decide)]
  rfl

theorem last10_1 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 1 =
    (foldL (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 1))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 1) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 1)) := by
  unfold kernelRun0_A.sl.HS2_12 kernelRun0_A.sl.HS2_11 kernelRun0_A.sl.HS2_10 kernelRun0_A.sl.HS2_9 kernelRun0_A.sl.HS2_8_1 kernelRun0_A.sl.HS2_7 kernelRun0_A.sl.HS2_6 kernelRun0_A.sl.HS2_5 kernelRun0_A.sl.HS2_4 kernelRun0_A.sl.HS2_3 kernelRun0_A.sl.HS2_2
  show arg10.view.readAt (Elt F) (Rect.unit (s := S8x1x512) ![1, 0, 0] S1x1x512.size inb_S8x1x512_S1x1x512_1_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (masked (getS (kernelRun0_A.sl.v429 c i arg2 harg2 arg3 harg3 arg4 harg4 arg5 harg5 arg6 harg6 arg7 harg7 arg8 harg8 arg9 harg9 arg10 harg10 arg11 harg11 x0 x1 x2 x3 x4))) (kernelRun0_A.sl.v484 c i arg2 harg2 arg3 harg3 arg4 harg4 arg5 harg5 arg6 harg6 arg7 harg7 arg8 harg8 arg9 harg9 arg10 harg10 arg11 harg11 x0 x1 x2 x3 x4) (kernelRun0_A.sl.v497 c i arg2 harg2 arg3 harg3 arg4 harg4 arg5 harg5 arg6 harg6 arg7 harg7 arg8 harg8 arg9 harg9 arg10 harg10 arg11 harg11 x0 x1 x2 x3 x4)) = _
  rw [ent8_1, ent9_1, ent10_1]

theorem last11_1 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 1 =
    (foldA (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 1))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 1) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 1) (vWinT arg4 (harg4.unread x2) i 0 1)) := by
  unfold kernelRun0_A.sl.HS3_12 kernelRun0_A.sl.HS3_11 kernelRun0_A.sl.HS3_10 kernelRun0_A.sl.HS3_9 kernelRun0_A.sl.HS3_8_1 kernelRun0_A.sl.HS3_7 kernelRun0_A.sl.HS3_6 kernelRun0_A.sl.HS3_5 kernelRun0_A.sl.HS3_4 kernelRun0_A.sl.HS3_3 kernelRun0_A.sl.HS3_2
  show arg11.view.readAt (Elt F) (Rect.unit (s := S8x128x512) ![1, 0, 0] S1x128x512.size inb_S8x128x512_S1x128x512_1_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (masked (getS (kernelRun0_A.sl.v429 c i arg2 harg2 arg3 harg3 arg4 harg4 arg5 harg5 arg6 harg6 arg7 harg7 arg8 harg8 arg9 harg9 arg10 harg10 arg11 harg11 x0 x1 x2 x3 x4))) (kernelRun0_A.sl.v484 c i arg2 harg2 arg3 harg3 arg4 harg4 arg5 harg5 arg6 harg6 arg7 harg7 arg8 harg8 arg9 harg9 arg10 harg10 arg11 harg11 x0 x1 x2 x3 x4) (kernelRun0_A.sl.v506 c i arg2 harg2 arg3 harg3 arg4 harg4 arg5 harg5 arg6 harg6 arg7 harg7 arg8 harg8 arg9 harg9 arg10 harg10 arg11 harg11 x0 x1 x2 x3 x4) (vWinT arg4 (harg4.unread x2) i 0 1)) = _
  rw [ent8_1, ent9_1, ent11_1]

theorem ent8_2 : (kernelRun0_A.sl.v521 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 2 := by
  rfl

theorem ent9_2 : (kernelRun0_A.sl.v576 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 2 := by
  unfold kernelRun0_A.sl.v576 kernelRun0_A.sl.HS1_2 kernelRun0_A.sl.HS1_1
  rw [View.readCov_skip _ _ _ _ _ (by decide)]
  rw [View.readCov_skip _ _ _ _ _ (by decide)]
  rfl

theorem ent10_2 : (kernelRun0_A.sl.v589 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 2 := by
  unfold kernelRun0_A.sl.v589 kernelRun0_A.sl.HS2_2 kernelRun0_A.sl.HS2_1
  rw [View.readCov_skip _ _ _ _ _ (by decide)]
  rw [View.readCov_skip _ _ _ _ _ (by decide)]
  rfl

theorem ent11_2 : (kernelRun0_A.sl.v598 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 2 := by
  unfold kernelRun0_A.sl.v598 kernelRun0_A.sl.HS3_2 kernelRun0_A.sl.HS3_1
  rw [View.readCov_skip _ _ _ _ _ (by decide)]
  rw [View.readCov_skip _ _ _ _ _ (by decide)]
  rfl

theorem last10_2 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 2 =
    (foldL (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 2))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 2) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 2)) := by
  unfold kernelRun0_A.sl.HS2_12 kernelRun0_A.sl.HS2_11 kernelRun0_A.sl.HS2_10 kernelRun0_A.sl.HS2_9 kernelRun0_A.sl.HS2_8_1 kernelRun0_A.sl.HS2_7 kernelRun0_A.sl.HS2_6 kernelRun0_A.sl.HS2_5 kernelRun0_A.sl.HS2_4 kernelRun0_A.sl.HS2_3
  show arg10.view.readAt (Elt F) (Rect.unit (s := S8x1x512) ![2, 0, 0] S1x1x512.size inb_S8x1x512_S1x1x512_2_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (masked (getS (kernelRun0_A.sl.v521 c i arg2 harg2 arg3 harg3 arg4 harg4 arg5 harg5 arg6 harg6 arg7 harg7 arg8 harg8 arg9 harg9 arg10 harg10 arg11 harg11 x0 x1 x2 x3 x4))) (kernelRun0_A.sl.v576 c i arg2 harg2 arg3 harg3 arg4 harg4 arg5 harg5 arg6 harg6 arg7 harg7 arg8 harg8 arg9 harg9 arg10 harg10 arg11 harg11 x0 x1 x2 x3 x4) (kernelRun0_A.sl.v589 c i arg2 harg2 arg3 harg3 arg4 harg4 arg5 harg5 arg6 harg6 arg7 harg7 arg8 harg8 arg9 harg9 arg10 harg10 arg11 harg11 x0 x1 x2 x3 x4)) = _
  rw [ent8_2, ent9_2, ent10_2]

theorem last11_2 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 2 =
    (foldA (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 2))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 2) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 2) (vWinT arg4 (harg4.unread x2) i 0 2)) := by
  unfold kernelRun0_A.sl.HS3_12 kernelRun0_A.sl.HS3_11 kernelRun0_A.sl.HS3_10 kernelRun0_A.sl.HS3_9 kernelRun0_A.sl.HS3_8_1 kernelRun0_A.sl.HS3_7 kernelRun0_A.sl.HS3_6 kernelRun0_A.sl.HS3_5 kernelRun0_A.sl.HS3_4 kernelRun0_A.sl.HS3_3
  show arg11.view.readAt (Elt F) (Rect.unit (s := S8x128x512) ![2, 0, 0] S1x128x512.size inb_S8x128x512_S1x128x512_2_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (masked (getS (kernelRun0_A.sl.v521 c i arg2 harg2 arg3 harg3 arg4 harg4 arg5 harg5 arg6 harg6 arg7 harg7 arg8 harg8 arg9 harg9 arg10 harg10 arg11 harg11 x0 x1 x2 x3 x4))) (kernelRun0_A.sl.v576 c i arg2 harg2 arg3 harg3 arg4 harg4 arg5 harg5 arg6 harg6 arg7 harg7 arg8 harg8 arg9 harg9 arg10 harg10 arg11 harg11 x0 x1 x2 x3 x4) (kernelRun0_A.sl.v598 c i arg2 harg2 arg3 harg3 arg4 harg4 arg5 harg5 arg6 harg6 arg7 harg7 arg8 harg8 arg9 harg9 arg10 harg10 arg11 harg11 x0 x1 x2 x3 x4) (vWinT arg4 (harg4.unread x2) i 0 2)) = _
  rw [ent8_2, ent9_2, ent11_2]

theorem ent8_3 : (kernelRun0_A.sl.v613 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 3 := by
  rfl

theorem ent9_3 : (kernelRun0_A.sl.v668 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 3 := by
  unfold kernelRun0_A.sl.v668 kernelRun0_A.sl.HS1_3 kernelRun0_A.sl.HS1_2 kernelRun0_A.sl.HS1_1
  rw [View.readCov_skip _ _ _ _ _ (by decide)]
  rw [View.readCov_skip _ _ _ _ _ (by decide)]
  rw [View.readCov_skip _ _ _ _ _ (by decide)]
  rfl

theorem ent10_3 : (kernelRun0_A.sl.v681 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 3 := by
  unfold kernelRun0_A.sl.v681 kernelRun0_A.sl.HS2_3 kernelRun0_A.sl.HS2_2 kernelRun0_A.sl.HS2_1
  rw [View.readCov_skip _ _ _ _ _ (by decide)]
  rw [View.readCov_skip _ _ _ _ _ (by decide)]
  rw [View.readCov_skip _ _ _ _ _ (by decide)]
  rfl

theorem ent11_3 : (kernelRun0_A.sl.v690 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 3 := by
  unfold kernelRun0_A.sl.v690 kernelRun0_A.sl.HS3_3 kernelRun0_A.sl.HS3_2 kernelRun0_A.sl.HS3_1
  rw [View.readCov_skip _ _ _ _ _ (by decide)]
  rw [View.readCov_skip _ _ _ _ _ (by decide)]
  rw [View.readCov_skip _ _ _ _ _ (by decide)]
  rfl

theorem last10_3 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 3 =
    (foldL (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 3))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 3) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 3)) := by
  unfold kernelRun0_A.sl.HS2_12 kernelRun0_A.sl.HS2_11 kernelRun0_A.sl.HS2_10 kernelRun0_A.sl.HS2_9 kernelRun0_A.sl.HS2_8_1 kernelRun0_A.sl.HS2_7 kernelRun0_A.sl.HS2_6 kernelRun0_A.sl.HS2_5 kernelRun0_A.sl.HS2_4
  show arg10.view.readAt (Elt F) (Rect.unit (s := S8x1x512) ![3, 0, 0] S1x1x512.size inb_S8x1x512_S1x1x512_3_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldL (masked (getS (kernelRun0_A.sl.v613 c i arg2 harg2 arg3 harg3 arg4 harg4 arg5 harg5 arg6 harg6 arg7 harg7 arg8 harg8 arg9 harg9 arg10 harg10 arg11 harg11 x0 x1 x2 x3 x4))) (kernelRun0_A.sl.v668 c i arg2 harg2 arg3 harg3 arg4 harg4 arg5 harg5 arg6 harg6 arg7 harg7 arg8 harg8 arg9 harg9 arg10 harg10 arg11 harg11 x0 x1 x2 x3 x4) (kernelRun0_A.sl.v681 c i arg2 harg2 arg3 harg3 arg4 harg4 arg5 harg5 arg6 harg6 arg7 harg7 arg8 harg8 arg9 harg9 arg10 harg10 arg11 harg11 x0 x1 x2 x3 x4)) = _
  rw [ent8_3, ent9_3, ent10_3]

theorem last11_3 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 3 =
    (foldA (masked (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 3))) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 3) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 3) (vWinT arg4 (harg4.unread x2) i 0 3)) := by
  unfold kernelRun0_A.sl.HS3_12 kernelRun0_A.sl.HS3_11 kernelRun0_A.sl.HS3_10 kernelRun0_A.sl.HS3_9 kernelRun0_A.sl.HS3_8_1 kernelRun0_A.sl.HS3_7 kernelRun0_A.sl.HS3_6 kernelRun0_A.sl.HS3_5 kernelRun0_A.sl.HS3_4
  show arg11.view.readAt (Elt F) (Rect.unit (s := S8x128x512) ![3, 0, 0] S1x128x512.size inb_S8x128x512_S1x128x512_3_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_skip _ _ _ _ _ _ (by decide)]
  rw [readAt_hit]
  show (foldA (masked (getS (kernelRun0_A.sl.v613 c i arg2 harg2 arg3 harg3 arg4 harg4 arg5 harg5 arg6 harg6 arg7 harg7 arg8 harg8 arg9 harg9 arg10 harg10 arg11 harg11 x0 x1 x2 x3 x4))) (kernelRun0_A.sl.v668 c i arg2 harg2 arg3 harg3 arg4 harg4 arg5 harg5 arg6 harg6 arg7 harg7 arg8 harg8 arg9 harg9 arg10 harg10 arg11 harg11 x0 x1 x2 x3 x4) (kernelRun0_A.sl.v690 c i arg2 harg2 arg3 harg3 arg4 harg4 arg5 harg5 arg6 harg6 arg7 harg7 arg8 harg8 arg9 harg9 arg10 harg10 arg11 harg11 x0 x1 x2 x3 x4) (vWinT arg4 (harg4.unread x2) i 0 3)) = _
  rw [ent8_3, ent9_3, ent11_3]

theorem ent8_4 : (kernelRun0_A.sl.v717 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4 := by
  rfl

theorem ent9_4 : (kernelRun0_A.sl.v719 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4 := by
  unfold kernelRun0_A.sl.v719 kernelRun0_A.sl.HS1_4 kernelRun0_A.sl.HS1_3 kernelRun0_A.sl.HS1_2 kernelRun0_A.sl.HS1_1
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent10_4 : (kernelRun0_A.sl.v732 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 4 := by
  unfold kernelRun0_A.sl.v732 kernelRun0_A.sl.HS2_4 kernelRun0_A.sl.HS2_3 kernelRun0_A.sl.HS2_2 kernelRun0_A.sl.HS2_1
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent11_4 : (kernelRun0_A.sl.v741 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 4 := by
  unfold kernelRun0_A.sl.v741 kernelRun0_A.sl.HS3_4 kernelRun0_A.sl.HS3_3 kernelRun0_A.sl.HS3_2 kernelRun0_A.sl.HS3_1
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem half9_4 : (kernelRun0_A.sl.v977 c i arg2 harg2 arg3 harg3 arg4 harg4 arg5 harg5 arg6 harg6 arg7 harg7 arg8 harg8 arg9 harg9 arg10 harg10 arg11 harg11 x0 x1 x2 x3 x4) =
    (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4)) := by
  unfold kernelRun0_A.sl.v977 kernelRun0_A.sl.HS1_8_1 kernelRun0_A.sl.HS1_7 kernelRun0_A.sl.HS1_6 kernelRun0_A.sl.HS1_5
  iterate 3 rw [View.readCov_skip _ _ _ _ _ (by decide)]
  rw [View.readCov_cons_toLoadRect]
  show (foldM (getS (kernelRun0_A.sl.v717 c i arg2 harg2 arg3 harg3 arg4 harg4 arg5 harg5 arg6 harg6 arg7 harg7 arg8 harg8 arg9 harg9 arg10 harg10 arg11 harg11 x0 x1 x2 x3 x4)) (kernelRun0_A.sl.v719 c i arg2 harg2 arg3 harg3 arg4 harg4 arg5 harg5 arg6 harg6 arg7 harg7 arg8 harg8 arg9 harg9 arg10 harg10 arg11 harg11 x0 x1 x2 x3 x4)) = _
  rw [ent8_4, ent9_4]

theorem half10_4 : (kernelRun0_A.sl.v990 c i arg2 harg2 arg3 harg3 arg4 harg4 arg5 harg5 arg6 harg6 arg7 harg7 arg8 harg8 arg9 harg9 arg10 harg10 arg11 harg11 x0 x1 x2 x3 x4) =
    (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 4)) := by
  unfold kernelRun0_A.sl.v990 kernelRun0_A.sl.HS2_8_1 kernelRun0_A.sl.HS2_7 kernelRun0_A.sl.HS2_6 kernelRun0_A.sl.HS2_5
  iterate 3 rw [View.readCov_skip _ _ _ _ _ (by decide)]
  rw [View.readCov_cons_toLoadRect]
  show (foldL (getS (kernelRun0_A.sl.v717 c i arg2 harg2 arg3 harg3 arg4 harg4 arg5 harg5 arg6 harg6 arg7 harg7 arg8 harg8 arg9 harg9 arg10 harg10 arg11 harg11 x0 x1 x2 x3 x4)) (kernelRun0_A.sl.v719 c i arg2 harg2 arg3 harg3 arg4 harg4 arg5 harg5 arg6 harg6 arg7 harg7 arg8 harg8 arg9 harg9 arg10 harg10 arg11 harg11 x0 x1 x2 x3 x4) (kernelRun0_A.sl.v732 c i arg2 harg2 arg3 harg3 arg4 harg4 arg5 harg5 arg6 harg6 arg7 harg7 arg8 harg8 arg9 harg9 arg10 harg10 arg11 harg11 x0 x1 x2 x3 x4)) = _
  rw [ent8_4, ent9_4, ent10_4]

theorem half11_4 : (kernelRun0_A.sl.v999 c i arg2 harg2 arg3 harg3 arg4 harg4 arg5 harg5 arg6 harg6 arg7 harg7 arg8 harg8 arg9 harg9 arg10 harg10 arg11 harg11 x0 x1 x2 x3 x4) =
    (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 4) (vWinT arg4 (harg4.unread x2) i 0 0)) := by
  unfold kernelRun0_A.sl.v999 kernelRun0_A.sl.HS3_8_1 kernelRun0_A.sl.HS3_7 kernelRun0_A.sl.HS3_6 kernelRun0_A.sl.HS3_5
  iterate 3 rw [View.readCov_skip _ _ _ _ _ (by decide)]
  rw [View.readCov_cons_toLoadRect]
  show (foldA (getS (kernelRun0_A.sl.v717 c i arg2 harg2 arg3 harg3 arg4 harg4 arg5 harg5 arg6 harg6 arg7 harg7 arg8 harg8 arg9 harg9 arg10 harg10 arg11 harg11 x0 x1 x2 x3 x4)) (kernelRun0_A.sl.v719 c i arg2 harg2 arg3 harg3 arg4 harg4 arg5 harg5 arg6 harg6 arg7 harg7 arg8 harg8 arg9 harg9 arg10 harg10 arg11 harg11 x0 x1 x2 x3 x4) (kernelRun0_A.sl.v741 c i arg2 harg2 arg3 harg3 arg4 harg4 arg5 harg5 arg6 harg6 arg7 harg7 arg8 harg8 arg9 harg9 arg10 harg10 arg11 harg11 x0 x1 x2 x3 x4) (vWinT arg4 (harg4.unread x2) i 0 0)) = _
  rw [ent8_4, ent9_4, ent11_4]

theorem half8_4 : (kernelRun0_A.sl.v922 c i arg2 harg2 arg3 harg3 arg4 harg4 arg5 harg5 arg6 harg6 arg7 harg7 arg8 harg8 arg9 harg9 arg10 harg10 arg11 harg11 x0 x1 x2 x3 x4) = (putS (scores (kWinT arg3 (harg3.unread x1) i 0) (qWin arg2 (harg2.unread x0) 1 0))) := by
  unfold kernelRun0_A.sl.v922 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_cons_toLoadRect]
  rfl

theorem last10_4 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 4 =
    (foldL (masked (getS (putS (scores (kWinT arg3 (harg3.unread x1) i 0) (qWin arg2 (harg2.unread x0) 1 0))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4)) (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 4))) := by
  unfold kernelRun0_A.sl.HS2_12 kernelRun0_A.sl.HS2_11 kernelRun0_A.sl.HS2_10 kernelRun0_A.sl.HS2_9
  show arg10.view.readAt (Elt F) (Rect.unit (s := S8x1x512) ![4, 0, 0] S1x1x512.size inb_S8x1x512_S1x1x512_4_0_0).toLoadRect (arg10.view.writes (Elt F) _ _) = _
  rw [readAt_skip _ _ _ _ _ _ (by decide)]
  rw [readAt_skip _ _ _ _ _ _ (by decide)]
  rw [readAt_skip _ _ _ _ _ _ (by decide)]
  rw [readAt_hit]
  show (foldL (masked (getS (kernelRun0_A.sl.v922 c i arg2 harg2 arg3 harg3 arg4 harg4 arg5 harg5 arg6 harg6 arg7 harg7 arg8 harg8 arg9 harg9 arg10 harg10 arg11 harg11 x0 x1 x2 x3 x4))) (kernelRun0_A.sl.v977 c i arg2 harg2 arg3 harg3 arg4 harg4 arg5 harg5 arg6 harg6 arg7 harg7 arg8 harg8 arg9 harg9 arg10 harg10 arg11 harg11 x0 x1 x2 x3 x4) (kernelRun0_A.sl.v990 c i arg2 harg2 arg3 harg3 arg4 harg4 arg5 harg5 arg6 harg6 arg7 harg7 arg8 harg8 arg9 harg9 arg10 harg10 arg11 harg11 x0 x1 x2 x3 x4)) = _
  rw [half8_4, half9_4, half10_4]

theorem last11_4 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 4 =
    (foldA (masked (getS (putS (scores (kWinT arg3 (harg3.unread x1) i 0) (qWin arg2 (harg2.unread x0) 1 0))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4)) (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 4)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 4) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 4) (vWinT arg4 (harg4.unread x2) i 0 0)) (vWinT arg4 (harg4.unread x2) i 1 0)) := by
  unfold kernelRun0_A.sl.HS3_12 kernelRun0_A.sl.HS3_11 kernelRun0_A.sl.HS3_10 kernelRun0_A.sl.HS3_9
  show arg11.view.readAt (Elt F) (Rect.unit (s := S8x128x512) ![4, 0, 0] S1x128x512.size inb_S8x128x512_S1x128x512_4_0_0).toLoadRect (arg11.view.writes (Elt F) _ _) = _
  rw [readAt_skip _ _ _ _ _ _ (by decide)]
  rw [readAt_skip _ _ _ _ _ _ (by decide)]
  rw [readAt_skip _ _ _ _ _ _ (by decide)]
  rw [readAt_hit]
  show (foldA (masked (getS (kernelRun0_A.sl.v922 c i arg2 harg2 arg3 harg3 arg4 harg4 arg5 harg5 arg6 harg6 arg7 harg7 arg8 harg8 arg9 harg9 arg10 harg10 arg11 harg11 x0 x1 x2 x3 x4))) (kernelRun0_A.sl.v977 c i arg2 harg2 arg3 harg3 arg4 harg4 arg5 harg5 arg6 harg6 arg7 harg7 arg8 harg8 arg9 harg9 arg10 harg10 arg11 harg11 x0 x1 x2 x3 x4) (kernelRun0_A.sl.v999 c i arg2 harg2 arg3 harg3 arg4 harg4 arg5 harg5 arg6 harg6 arg7 harg7 arg8 harg8 arg9 harg9 arg10 harg10 arg11 harg11 x0 x1 x2 x3 x4) (vWinT arg4 (harg4.unread x2) i 1 0)) = _
  rw [half8_4, half9_4, half11_4]

theorem ent8_5 : (kernelRun0_A.sl.v771 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5 := by
  unfold kernelRun0_A.sl.v771 kernelRun0_A.sl.HS0_1
  rw [View.readCov_skip _ _ _ _ _ (by decide)]
  rfl

theorem ent9_5 : (kernelRun0_A.sl.v773 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5 := by
  unfold kernelRun0_A.sl.v773 kernelRun0_A.sl.HS1_5 kernelRun0_A.sl.HS1_4 kernelRun0_A.sl.HS1_3 kernelRun0_A.sl.HS1_2 kernelRun0_A.sl.HS1_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent10_5 : (kernelRun0_A.sl.v786 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 5 := by
  unfold kernelRun0_A.sl.v786 kernelRun0_A.sl.HS2_5 kernelRun0_A.sl.HS2_4 kernelRun0_A.sl.HS2_3 kernelRun0_A.sl.HS2_2 kernelRun0_A.sl.HS2_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent11_5 : (kernelRun0_A.sl.v795 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 5 := by
  unfold kernelRun0_A.sl.v795 kernelRun0_A.sl.HS3_5 kernelRun0_A.sl.HS3_4 kernelRun0_A.sl.HS3_3 kernelRun0_A.sl.HS3_2 kernelRun0_A.sl.HS3_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem half9_5 : (kernelRun0_A.sl.v1069 c i arg2 harg2 arg3 harg3 arg4 harg4 arg5 harg5 arg6 harg6 arg7 harg7 arg8 harg8 arg9 harg9 arg10 harg10 arg11 harg11 x0 x1 x2 x3 x4) =
    (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5)) := by
  unfold kernelRun0_A.sl.v1069 kernelRun0_A.sl.HS1_9 kernelRun0_A.sl.HS1_8_1 kernelRun0_A.sl.HS1_7 kernelRun0_A.sl.HS1_6
  iterate 3 rw [View.readCov_skip _ _ _ _ _ (by decide)]
  rw [View.readCov_cons_toLoadRect]
  show (foldM (getS (kernelRun0_A.sl.v771 c i arg2 harg2 arg3 harg3 arg4 harg4 arg5 harg5 arg6 harg6 arg7 harg7 arg8 harg8 arg9 harg9 arg10 harg10 arg11 harg11 x0 x1 x2 x3 x4)) (kernelRun0_A.sl.v773 c i arg2 harg2 arg3 harg3 arg4 harg4 arg5 harg5 arg6 harg6 arg7 harg7 arg8 harg8 arg9 harg9 arg10 harg10 arg11 harg11 x0 x1 x2 x3 x4)) = _
  rw [ent8_5, ent9_5]

theorem half10_5 : (kernelRun0_A.sl.v1082 c i arg2 harg2 arg3 harg3 arg4 harg4 arg5 harg5 arg6 harg6 arg7 harg7 arg8 harg8 arg9 harg9 arg10 harg10 arg11 harg11 x0 x1 x2 x3 x4) =
    (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 5)) := by
  unfold kernelRun0_A.sl.v1082 kernelRun0_A.sl.HS2_9 kernelRun0_A.sl.HS2_8_1 kernelRun0_A.sl.HS2_7 kernelRun0_A.sl.HS2_6
  iterate 3 rw [View.readCov_skip _ _ _ _ _ (by decide)]
  rw [View.readCov_cons_toLoadRect]
  show (foldL (getS (kernelRun0_A.sl.v771 c i arg2 harg2 arg3 harg3 arg4 harg4 arg5 harg5 arg6 harg6 arg7 harg7 arg8 harg8 arg9 harg9 arg10 harg10 arg11 harg11 x0 x1 x2 x3 x4)) (kernelRun0_A.sl.v773 c i arg2 harg2 arg3 harg3 arg4 harg4 arg5 harg5 arg6 harg6 arg7 harg7 arg8 harg8 arg9 harg9 arg10 harg10 arg11 harg11 x0 x1 x2 x3 x4) (kernelRun0_A.sl.v786 c i arg2 harg2 arg3 harg3 arg4 harg4 arg5 harg5 arg6 harg6 arg7 harg7 arg8 harg8 arg9 harg9 arg10 harg10 arg11 harg11 x0 x1 x2 x3 x4)) = _
  rw [ent8_5, ent9_5, ent10_5]

theorem half11_5 : (kernelRun0_A.sl.v1091 c i arg2 harg2 arg3 harg3 arg4 harg4 arg5 harg5 arg6 harg6 arg7 harg7 arg8 harg8 arg9 harg9 arg10 harg10 arg11 harg11 x0 x1 x2 x3 x4) =
    (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 5) (vWinT arg4 (harg4.unread x2) i 0 1)) := by
  unfold kernelRun0_A.sl.v1091 kernelRun0_A.sl.HS3_9 kernelRun0_A.sl.HS3_8_1 kernelRun0_A.sl.HS3_7 kernelRun0_A.sl.HS3_6
  iterate 3 rw [View.readCov_skip _ _ _ _ _ (by decide)]
  rw [View.readCov_cons_toLoadRect]
  show (foldA (getS (kernelRun0_A.sl.v771 c i arg2 harg2 arg3 harg3 arg4 harg4 arg5 harg5 arg6 harg6 arg7 harg7 arg8 harg8 arg9 harg9 arg10 harg10 arg11 harg11 x0 x1 x2 x3 x4)) (kernelRun0_A.sl.v773 c i arg2 harg2 arg3 harg3 arg4 harg4 arg5 harg5 arg6 harg6 arg7 harg7 arg8 harg8 arg9 harg9 arg10 harg10 arg11 harg11 x0 x1 x2 x3 x4) (kernelRun0_A.sl.v795 c i arg2 harg2 arg3 harg3 arg4 harg4 arg5 harg5 arg6 harg6 arg7 harg7 arg8 harg8 arg9 harg9 arg10 harg10 arg11 harg11 x0 x1 x2 x3 x4) (vWinT arg4 (harg4.unread x2) i 0 1)) = _
  rw [ent8_5, ent9_5, ent11_5]

theorem half8_5 : (kernelRun0_A.sl.v1014 c i arg2 harg2 arg3 harg3 arg4 harg4 arg5 harg5 arg6 harg6 arg7 harg7 arg8 harg8 arg9 harg9 arg10 harg10 arg11 harg11 x0 x1 x2 x3 x4) = (putS (scores (kWinT arg3 (harg3.unread x1) i 1) (qWin arg2 (harg2.unread x0) 1 1))) := by
  unfold kernelRun0_A.sl.v1014 kernelRun0_A.sl.HS0_4 kernelRun0_A.sl.HS0_3 kernelRun0_A.sl.HS0_2
  rw [View.readCov_skip _ _ _ _ _ (by decide)]
  rw [View.readCov_skip _ _ _ _ _ (by decide)]
  rw [View.readCov_cons_toLoadRect]
  rfl

theorem last10_5 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 5 =
    (foldL (masked (getS (putS (scores (kWinT arg3 (harg3.unread x1) i 1) (qWin arg2 (harg2.unread x0) 1 1))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5)) (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 5))) := by
  unfold kernelRun0_A.sl.HS2_12 kernelRun0_A.sl.HS2_11 kernelRun0_A.sl.HS2_10
  show arg10.view.readAt (Elt F) (Rect.unit (s := S8x1x512) ![5, 0, 0] S1x1x512.size inb_S8x1x512_S1x1x512_5_0_0).toLoadRect (arg10.view.writes (Elt F) _ _) = _
  rw [readAt_skip _ _ _ _ _ _ (by decide)]
  rw [readAt_skip _ _ _ _ _ _ (by decide)]
  rw [readAt_hit]
  show (foldL (masked (getS (kernelRun0_A.sl.v1014 c i arg2 harg2 arg3 harg3 arg4 harg4 arg5 harg5 arg6 harg6 arg7 harg7 arg8 harg8 arg9 harg9 arg10 harg10 arg11 harg11 x0 x1 x2 x3 x4))) (kernelRun0_A.sl.v1069 c i arg2 harg2 arg3 harg3 arg4 harg4 arg5 harg5 arg6 harg6 arg7 harg7 arg8 harg8 arg9 harg9 arg10 harg10 arg11 harg11 x0 x1 x2 x3 x4) (kernelRun0_A.sl.v1082 c i arg2 harg2 arg3 harg3 arg4 harg4 arg5 harg5 arg6 harg6 arg7 harg7 arg8 harg8 arg9 harg9 arg10 harg10 arg11 harg11 x0 x1 x2 x3 x4)) = _
  rw [half8_5, half9_5, half10_5]

theorem last11_5 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 5 =
    (foldA (masked (getS (putS (scores (kWinT arg3 (harg3.unread x1) i 1) (qWin arg2 (harg2.unread x0) 1 1))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5)) (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 5)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 5) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 5) (vWinT arg4 (harg4.unread x2) i 0 1)) (vWinT arg4 (harg4.unread x2) i 1 1)) := by
  unfold kernelRun0_A.sl.HS3_12 kernelRun0_A.sl.HS3_11 kernelRun0_A.sl.HS3_10
  show arg11.view.readAt (Elt F) (Rect.unit (s := S8x128x512) ![5, 0, 0] S1x128x512.size inb_S8x128x512_S1x128x512_5_0_0).toLoadRect (arg11.view.writes (Elt F) _ _) = _
  rw [readAt_skip _ _ _ _ _ _ (by decide)]
  rw [readAt_skip _ _ _ _ _ _ (by decide)]
  rw [readAt_hit]
  show (foldA (masked (getS (kernelRun0_A.sl.v1014 c i arg2 harg2 arg3 harg3 arg4 harg4 arg5 harg5 arg6 harg6 arg7 harg7 arg8 harg8 arg9 harg9 arg10 harg10 arg11 harg11 x0 x1 x2 x3 x4))) (kernelRun0_A.sl.v1069 c i arg2 harg2 arg3 harg3 arg4 harg4 arg5 harg5 arg6 harg6 arg7 harg7 arg8 harg8 arg9 harg9 arg10 harg10 arg11 harg11 x0 x1 x2 x3 x4) (kernelRun0_A.sl.v1091 c i arg2 harg2 arg3 harg3 arg4 harg4 arg5 harg5 arg6 harg6 arg7 harg7 arg8 harg8 arg9 harg9 arg10 harg10 arg11 harg11 x0 x1 x2 x3 x4) (vWinT arg4 (harg4.unread x2) i 1 1)) = _
  rw [half8_5, half9_5, half11_5]

theorem ent8_6 : (kernelRun0_A.sl.v825 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6 := by
  unfold kernelRun0_A.sl.v825 kernelRun0_A.sl.HS0_2 kernelRun0_A.sl.HS0_1
  rw [View.readCov_skip _ _ _ _ _ (by decide)]
  rw [View.readCov_skip _ _ _ _ _ (by decide)]
  rfl

theorem ent9_6 : (kernelRun0_A.sl.v827 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6 := by
  unfold kernelRun0_A.sl.v827 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent10_6 : (kernelRun0_A.sl.v840 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 6 := by
  unfold kernelRun0_A.sl.v840 kernelRun0_A.sl.HS2_6 kernelRun0_A.sl.HS2_5 kernelRun0_A.sl.HS2_4 kernelRun0_A.sl.HS2_3 kernelRun0_A.sl.HS2_2 kernelRun0_A.sl.HS2_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent11_6 : (kernelRun0_A.sl.v849 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 6 := by
  unfold kernelRun0_A.sl.v849 kernelRun0_A.sl.HS3_6 kernelRun0_A.sl.HS3_5 kernelRun0_A.sl.HS3_4 kernelRun0_A.sl.HS3_3 kernelRun0_A.sl.HS3_2 kernelRun0_A.sl.HS3_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem half9_6 : (kernelRun0_A.sl.v1161 c i arg2 harg2 arg3 harg3 arg4 harg4 arg5 harg5 arg6 harg6 arg7 harg7 arg8 harg8 arg9 harg9 arg10 harg10 arg11 harg11 x0 x1 x2 x3 x4) =
    (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6)) := by
  unfold kernelRun0_A.sl.v1161 kernelRun0_A.sl.HS1_10 kernelRun0_A.sl.HS1_9 kernelRun0_A.sl.HS1_8_1 kernelRun0_A.sl.HS1_7
  iterate 3 rw [View.readCov_skip _ _ _ _ _ (by decide)]
  rw [View.readCov_cons_toLoadRect]
  show (foldM (getS (kernelRun0_A.sl.v825 c i arg2 harg2 arg3 harg3 arg4 harg4 arg5 harg5 arg6 harg6 arg7 harg7 arg8 harg8 arg9 harg9 arg10 harg10 arg11 harg11 x0 x1 x2 x3 x4)) (kernelRun0_A.sl.v827 c i arg2 harg2 arg3 harg3 arg4 harg4 arg5 harg5 arg6 harg6 arg7 harg7 arg8 harg8 arg9 harg9 arg10 harg10 arg11 harg11 x0 x1 x2 x3 x4)) = _
  rw [ent8_6, ent9_6]

theorem half10_6 : (kernelRun0_A.sl.v1174 c i arg2 harg2 arg3 harg3 arg4 harg4 arg5 harg5 arg6 harg6 arg7 harg7 arg8 harg8 arg9 harg9 arg10 harg10 arg11 harg11 x0 x1 x2 x3 x4) =
    (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 6)) := by
  unfold kernelRun0_A.sl.v1174 kernelRun0_A.sl.HS2_10 kernelRun0_A.sl.HS2_9 kernelRun0_A.sl.HS2_8_1 kernelRun0_A.sl.HS2_7
  iterate 3 rw [View.readCov_skip _ _ _ _ _ (by decide)]
  rw [View.readCov_cons_toLoadRect]
  show (foldL (getS (kernelRun0_A.sl.v825 c i arg2 harg2 arg3 harg3 arg4 harg4 arg5 harg5 arg6 harg6 arg7 harg7 arg8 harg8 arg9 harg9 arg10 harg10 arg11 harg11 x0 x1 x2 x3 x4)) (kernelRun0_A.sl.v827 c i arg2 harg2 arg3 harg3 arg4 harg4 arg5 harg5 arg6 harg6 arg7 harg7 arg8 harg8 arg9 harg9 arg10 harg10 arg11 harg11 x0 x1 x2 x3 x4) (kernelRun0_A.sl.v840 c i arg2 harg2 arg3 harg3 arg4 harg4 arg5 harg5 arg6 harg6 arg7 harg7 arg8 harg8 arg9 harg9 arg10 harg10 arg11 harg11 x0 x1 x2 x3 x4)) = _
  rw [ent8_6, ent9_6, ent10_6]

theorem half11_6 : (kernelRun0_A.sl.v1183 c i arg2 harg2 arg3 harg3 arg4 harg4 arg5 harg5 arg6 harg6 arg7 harg7 arg8 harg8 arg9 harg9 arg10 harg10 arg11 harg11 x0 x1 x2 x3 x4) =
    (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 6) (vWinT arg4 (harg4.unread x2) i 0 2)) := by
  unfold kernelRun0_A.sl.v1183 kernelRun0_A.sl.HS3_10 kernelRun0_A.sl.HS3_9 kernelRun0_A.sl.HS3_8_1 kernelRun0_A.sl.HS3_7
  iterate 3 rw [View.readCov_skip _ _ _ _ _ (by decide)]
  rw [View.readCov_cons_toLoadRect]
  show (foldA (getS (kernelRun0_A.sl.v825 c i arg2 harg2 arg3 harg3 arg4 harg4 arg5 harg5 arg6 harg6 arg7 harg7 arg8 harg8 arg9 harg9 arg10 harg10 arg11 harg11 x0 x1 x2 x3 x4)) (kernelRun0_A.sl.v827 c i arg2 harg2 arg3 harg3 arg4 harg4 arg5 harg5 arg6 harg6 arg7 harg7 arg8 harg8 arg9 harg9 arg10 harg10 arg11 harg11 x0 x1 x2 x3 x4) (kernelRun0_A.sl.v849 c i arg2 harg2 arg3 harg3 arg4 harg4 arg5 harg5 arg6 harg6 arg7 harg7 arg8 harg8 arg9 harg9 arg10 harg10 arg11 harg11 x0 x1 x2 x3 x4) (vWinT arg4 (harg4.unread x2) i 0 2)) = _
  rw [ent8_6, ent9_6, ent11_6]

theorem half8_6 : (kernelRun0_A.sl.v1106 c i arg2 harg2 arg3 harg3 arg4 harg4 arg5 harg5 arg6 harg6 arg7 harg7 arg8 harg8 arg9 harg9 arg10 harg10 arg11 harg11 x0 x1 x2 x3 x4) = (putS (scores (kWinT arg3 (harg3.unread x1) i 2) (qWin arg2 (harg2.unread x0) 1 2))) := by
  unfold kernelRun0_A.sl.v1106 kernelRun0_A.sl.HS0_4 kernelRun0_A.sl.HS0_3
  rw [View.readCov_skip _ _ _ _ _ (by decide)]
  rw [View.readCov_cons_toLoadRect]
  rfl

theorem last10_6 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 6 =
    (foldL (masked (getS (putS (scores (kWinT arg3 (harg3.unread x1) i 2) (qWin arg2 (harg2.unread x0) 1 2))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6)) (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 6))) := by
  unfold kernelRun0_A.sl.HS2_12 kernelRun0_A.sl.HS2_11
  show arg10.view.readAt (Elt F) (Rect.unit (s := S8x1x512) ![6, 0, 0] S1x1x512.size inb_S8x1x512_S1x1x512_6_0_0).toLoadRect (arg10.view.writes (Elt F) _ _) = _
  rw [readAt_skip _ _ _ _ _ _ (by decide)]
  rw [readAt_hit]
  show (foldL (masked (getS (kernelRun0_A.sl.v1106 c i arg2 harg2 arg3 harg3 arg4 harg4 arg5 harg5 arg6 harg6 arg7 harg7 arg8 harg8 arg9 harg9 arg10 harg10 arg11 harg11 x0 x1 x2 x3 x4))) (kernelRun0_A.sl.v1161 c i arg2 harg2 arg3 harg3 arg4 harg4 arg5 harg5 arg6 harg6 arg7 harg7 arg8 harg8 arg9 harg9 arg10 harg10 arg11 harg11 x0 x1 x2 x3 x4) (kernelRun0_A.sl.v1174 c i arg2 harg2 arg3 harg3 arg4 harg4 arg5 harg5 arg6 harg6 arg7 harg7 arg8 harg8 arg9 harg9 arg10 harg10 arg11 harg11 x0 x1 x2 x3 x4)) = _
  rw [half8_6, half9_6, half10_6]

theorem last11_6 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 6 =
    (foldA (masked (getS (putS (scores (kWinT arg3 (harg3.unread x1) i 2) (qWin arg2 (harg2.unread x0) 1 2))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6)) (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 6)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 6) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 6) (vWinT arg4 (harg4.unread x2) i 0 2)) (vWinT arg4 (harg4.unread x2) i 1 2)) := by
  unfold kernelRun0_A.sl.HS3_12 kernelRun0_A.sl.HS3_11
  show arg11.view.readAt (Elt F) (Rect.unit (s := S8x128x512) ![6, 0, 0] S1x128x512.size inb_S8x128x512_S1x128x512_6_0_0).toLoadRect (arg11.view.writes (Elt F) _ _) = _
  rw [readAt_skip _ _ _ _ _ _ (by decide)]
  rw [readAt_hit]
  show (foldA (masked (getS (kernelRun0_A.sl.v1106 c i arg2 harg2 arg3 harg3 arg4 harg4 arg5 harg5 arg6 harg6 arg7 harg7 arg8 harg8 arg9 harg9 arg10 harg10 arg11 harg11 x0 x1 x2 x3 x4))) (kernelRun0_A.sl.v1161 c i arg2 harg2 arg3 harg3 arg4 harg4 arg5 harg5 arg6 harg6 arg7 harg7 arg8 harg8 arg9 harg9 arg10 harg10 arg11 harg11 x0 x1 x2 x3 x4) (kernelRun0_A.sl.v1183 c i arg2 harg2 arg3 harg3 arg4 harg4 arg5 harg5 arg6 harg6 arg7 harg7 arg8 harg8 arg9 harg9 arg10 harg10 arg11 harg11 x0 x1 x2 x3 x4) (vWinT arg4 (harg4.unread x2) i 1 2)) = _
  rw [half8_6, half9_6, half11_6]

theorem ent8_7 : (kernelRun0_A.sl.v879 c i arg2 harg2 arg3 harg3 arg4 harg4 arg5 harg5 arg6 harg6 arg7 harg7 arg8 harg8 arg9 harg9 arg10 harg10 arg11 harg11 x0 x1 x2 x3 x4) = rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7 := by
  unfold kernelRun0_A.sl.v879 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rfl

theorem ent9_7 : (kernelRun0_A.sl.v881 c i arg2 harg2 arg3 harg3 arg4 harg4 arg5 harg5 arg6 harg6 arg7 harg7 arg8 harg8 arg9 harg9 arg10 harg10 arg11 harg11 x0 x1 x2 x3 x4) = rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7 := by
  unfold kernelRun0_A.sl.v881 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent10_7 : (kernelRun0_A.sl.v894 c i arg2 harg2 arg3 harg3 arg4 harg4 arg5 harg5 arg6 harg6 arg7 harg7 arg8 harg8 arg9 harg9 arg10 harg10 arg11 harg11 x0 x1 x2 x3 x4) = rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 7 := by
  unfold kernelRun0_A.sl.v894 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem ent11_7 : (kernelRun0_A.sl.v903 c i arg2 harg2 arg3 harg3 arg4 harg4 arg5 harg5 arg6 harg6 arg7 harg7 arg8 harg8 arg9 harg9 arg10 harg10 arg11 harg11 x0 x1 x2 x3 x4) = rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 7 := by
  unfold kernelRun0_A.sl.v903 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rfl

theorem half9_7 : (kernelRun0_A.sl.v1253 c i arg2 harg2 arg3 harg3 arg4 harg4 arg5 harg5 arg6 harg6 arg7 harg7 arg8 harg8 arg9 harg9 arg10 harg10 arg11 harg11 x0 x1 x2 x3 x4) =
    (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7)) := by
  unfold kernelRun0_A.sl.v1253 kernelRun0_A.sl.HS1_11 kernelRun0_A.sl.HS1_10 kernelRun0_A.sl.HS1_9 kernelRun0_A.sl.HS1_8_1
  iterate 3 rw [View.readCov_skip _ _ _ _ _ (by decide)]
  rw [View.readCov_cons_toLoadRect]
  show (foldM (getS (kernelRun0_A.sl.v879 c i arg2 harg2 arg3 harg3 arg4 harg4 arg5 harg5 arg6 harg6 arg7 harg7 arg8 harg8 arg9 harg9 arg10 harg10 arg11 harg11 x0 x1 x2 x3 x4)) (kernelRun0_A.sl.v881 c i arg2 harg2 arg3 harg3 arg4 harg4 arg5 harg5 arg6 harg6 arg7 harg7 arg8 harg8 arg9 harg9 arg10 harg10 arg11 harg11 x0 x1 x2 x3 x4)) = _
  rw [ent8_7, ent9_7]

theorem half10_7 : (kernelRun0_A.sl.v1266 c i arg2 harg2 arg3 harg3 arg4 harg4 arg5 harg5 arg6 harg6 arg7 harg7 arg8 harg8 arg9 harg9 arg10 harg10 arg11 harg11 x0 x1 x2 x3 x4) =
    (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 7)) := by
  unfold kernelRun0_A.sl.v1266 kernelRun0_A.sl.HS2_11 kernelRun0_A.sl.HS2_10 kernelRun0_A.sl.HS2_9 kernelRun0_A.sl.HS2_8_1
  iterate 3 rw [View.readCov_skip _ _ _ _ _ (by decide)]
  rw [View.readCov_cons_toLoadRect]
  show (foldL (getS (kernelRun0_A.sl.v879 c i arg2 harg2 arg3 harg3 arg4 harg4 arg5 harg5 arg6 harg6 arg7 harg7 arg8 harg8 arg9 harg9 arg10 harg10 arg11 harg11 x0 x1 x2 x3 x4)) (kernelRun0_A.sl.v881 c i arg2 harg2 arg3 harg3 arg4 harg4 arg5 harg5 arg6 harg6 arg7 harg7 arg8 harg8 arg9 harg9 arg10 harg10 arg11 harg11 x0 x1 x2 x3 x4) (kernelRun0_A.sl.v894 c i arg2 harg2 arg3 harg3 arg4 harg4 arg5 harg5 arg6 harg6 arg7 harg7 arg8 harg8 arg9 harg9 arg10 harg10 arg11 harg11 x0 x1 x2 x3 x4)) = _
  rw [ent8_7, ent9_7, ent10_7]

theorem half11_7 : (kernelRun0_A.sl.v1275 c i arg2 harg2 arg3 harg3 arg4 harg4 arg5 harg5 arg6 harg6 arg7 harg7 arg8 harg8 arg9 harg9 arg10 harg10 arg11 harg11 x0 x1 x2 x3 x4) =
    (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 7) (vWinT arg4 (harg4.unread x2) i 0 3)) := by
  unfold kernelRun0_A.sl.v1275 kernelRun0_A.sl.HS3_11 kernelRun0_A.sl.HS3_10 kernelRun0_A.sl.HS3_9 kernelRun0_A.sl.HS3_8_1
  iterate 3 rw [View.readCov_skip _ _ _ _ _ (by decide)]
  rw [View.readCov_cons_toLoadRect]
  show (foldA (getS (kernelRun0_A.sl.v879 c i arg2 harg2 arg3 harg3 arg4 harg4 arg5 harg5 arg6 harg6 arg7 harg7 arg8 harg8 arg9 harg9 arg10 harg10 arg11 harg11 x0 x1 x2 x3 x4)) (kernelRun0_A.sl.v881 c i arg2 harg2 arg3 harg3 arg4 harg4 arg5 harg5 arg6 harg6 arg7 harg7 arg8 harg8 arg9 harg9 arg10 harg10 arg11 harg11 x0 x1 x2 x3 x4) (kernelRun0_A.sl.v903 c i arg2 harg2 arg3 harg3 arg4 harg4 arg5 harg5 arg6 harg6 arg7 harg7 arg8 harg8 arg9 harg9 arg10 harg10 arg11 harg11 x0 x1 x2 x3 x4) (vWinT arg4 (harg4.unread x2) i 0 3)) = _
  rw [ent8_7, ent9_7, ent11_7]

theorem half8_7 : (kernelRun0_A.sl.v1198 c i arg2 harg2 arg3 harg3 arg4 harg4 arg5 harg5 arg6 harg6 arg7 harg7 arg8 harg8 arg9 harg9 arg10 harg10 arg11 harg11 x0 x1 x2 x3 x4) = (putS (scores (kWinT arg3 (harg3.unread x1) i 3) (qWin arg2 (harg2.unread x0) 1 3))) := by
  unfold kernelRun0_A.sl.v1198 kernelRun0_A.sl.HS0_4
  rw [View.readCov_cons_toLoadRect]
  rfl

theorem last10_7 : rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 7 =
    (foldL (masked (getS (putS (scores (kWinT arg3 (harg3.unread x1) i 3) (qWin arg2 (harg2.unread x0) 1 3))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7)) (foldL (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7) (rM arg10 (arg10.view.writes (Elt F) arg10.view.junk (loopL c i arg2 harg2 arg3 harg3 arg4 harg4 arg5 harg5 arg6 harg6 arg7 harg7 arg8 harg8 arg9 harg9 arg10 harg10 arg11 harg11 x0 x1 x2 x3 x4)) 7))) := by
  unfold kernelRun0_A.sl.HS2_12
  show arg10.view.readAt (Elt F) (Rect.unit (s := S8x1x512) ![7, 0, 0] S1x1x512.size inb_S8x1x512_S1x1x512_7_0_0).toLoadRect (arg10.view.writes (Elt F) _ _) = _
  rw [readAt_hit]
  show (foldL (masked (getS (kernelRun0_A.sl.v1198 c i arg2 harg2 arg3 harg3 arg4 harg4 arg5 harg5 arg6 harg6 arg7 harg7 arg8 harg8 arg9 harg9 arg10 harg10 arg11 harg11 x0 x1 x2 x3 x4))) (kernelRun0_A.sl.v1253 c i arg2 harg2 arg3 harg3 arg4 harg4 arg5 harg5 arg6 harg6 arg7 harg7 arg8 harg8 arg9 harg9 arg10 harg10 arg11 harg11 x0 x1 x2 x3 x4) (kernelRun0_A.sl.v1266 c i arg2 harg2 arg3 harg3 arg4 harg4 arg5 harg5 arg6 harg6 arg7 harg7 arg8 harg8 arg9 harg9 arg10 harg10 arg11 harg11 x0 x1 x2 x3 x4)) = _
  rw [half8_7, half9_7, half10_7]

theorem last11_7 : rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 7 =
    (foldA (masked (getS (putS (scores (kWinT arg3 (harg3.unread x1) i 3) (qWin arg2 (harg2.unread x0) 1 3))))) (foldM (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7)) (foldA (getS (rS arg8 (arg8.view.writes (Elt F) arg8.view.junk (loopS c i arg2 harg2 arg3 harg3 arg4 harg4 arg5 harg5 arg6 harg6 arg7 harg7 arg8 harg8 arg9 harg9 arg10 harg10 arg11 harg11 x0 x1 x2 x3 x4)) 7)) (rM arg9 (arg9.view.writes (Elt F) arg9.view.junk (loopM c i arg2 harg2 arg3 harg3 arg4 harg4 arg5 harg5 arg6 harg6 arg7 harg7 arg8 harg8 arg9 harg9 arg10 harg10 arg11 harg11 x0 x1 x2 x3 x4)) 7) (rA arg11 (arg11.view.writes (Elt F) arg11.view.junk (loopA c i arg2 harg2 arg3 harg3 arg4 harg4 arg5 harg5 arg6 harg6 arg7 harg7 arg8 harg8 arg9 harg9 arg10 harg10 arg11 harg11 x0 x1 x2 x3 x4)) 7) (vWinT arg4 (harg4.unread x2) i 0 3)) (vWinT arg4 (harg4.unread x2) i 1 3)) := by
  unfold kernelRun0_A.sl.HS3_12
  show arg11.view.readAt (Elt F) (Rect.unit (s := S8x128x512) ![7, 0, 0] S1x128x512.size inb_S8x128x512_S1x128x512_7_0_0).toLoadRect (arg11.view.writes (Elt F) _ _) = _
  rw [readAt_hit]
  show (foldA (masked (getS (kernelRun0_A.sl.v1198 c i arg2 harg2 arg3 harg3 arg4 harg4 arg5 harg5 arg6 harg6 arg7 harg7 arg8 harg8 arg9 harg9 arg10 harg10 arg11 harg11 x0 x1 x2 x3 x4))) (kernelRun0_A.sl.v1253 c i arg2 harg2 arg3 harg3 arg4 harg4 arg5 harg5 arg6 harg6 arg7 harg7 arg8 harg8 arg9 harg9 arg10 harg10 arg11 harg11 x0 x1 x2 x3 x4) (kernelRun0_A.sl.v1275 c i arg2 harg2 arg3 harg3 arg4 harg4 arg5 harg5 arg6 harg6 arg7 harg7 arg8 harg8 arg9 harg9 arg10 harg10 arg11 harg11 x0 x1 x2 x3 x4) (vWinT arg4 (harg4.unread x2) i 1 3)) = _
  rw [half8_7, half9_7, half11_7]

/-- The run's writes to the result: one block per chain. -/
theorem outs : (kernelRun0_A (F := F) c i arg2 harg2 arg3 harg3 arg4 harg4 arg5 harg5 arg6 harg6 arg7 harg7 arg8 harg8 arg9 harg9 arg10 harg10 arg11 harg11 x0 x1 x2 x3 x4).1 =
    [⟨Rect.unit (s := S1x1024x512) ![0, 512, 384] S1x512x128.size inb_S1x1024x512_S1x512x128_0_512_384, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 7) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 7)⟩,
     ⟨Rect.unit (s := S1x1024x512) ![0, 512, 256] S1x512x128.size inb_S1x1024x512_S1x512x128_0_512_256, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 6) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 6)⟩,
     ⟨Rect.unit (s := S1x1024x512) ![0, 512, 128] S1x512x128.size inb_S1x1024x512_S1x512x128_0_512_128, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 5) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 5)⟩,
     ⟨Rect.unit (s := S1x1024x512) ![0, 512, 0] S1x512x128.size inb_S1x1024x512_S1x512x128_0_512_0, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 4) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 4)⟩,
     ⟨Rect.unit (s := S1x1024x512) ![0, 0, 384] S1x512x128.size inb_S1x1024x512_S1x512x128_0_0_384, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 3) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 3)⟩,
     ⟨Rect.unit (s := S1x1024x512) ![0, 0, 256] S1x512x128.size inb_S1x1024x512_S1x512x128_0_0_256, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 2) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 2)⟩,
     ⟨Rect.unit (s := S1x1024x512) ![0, 0, 128] S1x512x128.size inb_S1x1024x512_S1x512x128_0_0_128, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 1) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 1)⟩,
     ⟨Rect.unit (s := S1x1024x512) ![0, 0, 0] S1x512x128.size inb_S1x1024x512_S1x512x128_0_0_0, outT (rA arg11 (arg11.view.writes (Elt F) arg11.view.junk (kernelRun0_A.sl.HS3_12 c i arg2 harg2 arg3 harg3 arg4 harg4 arg5 harg5 arg6 harg6 arg7 harg7 arg8 harg8 arg9 harg9 arg10 harg10 arg11 harg11 x0 x1 x2 x3 x4)) 0) (rM arg10 (arg10.view.writes (Elt F) arg10.view.junk (kernelRun0_A.sl.HS2_12 c i arg2 harg2 arg3 harg3 arg4 harg4 arg5 harg5 arg6 harg6 arg7 harg7 arg8 harg8 arg9 harg9 arg10 harg10 arg11 harg11 x0 x1 x2 x3 x4)) 0)⟩] := by
  unfold kernelRun0_A
  rfl

end Cert.Slots
-- ==== Proof.Loop.lean ====
/-
The loop over unmasked key tiles, trip by trip: what the eight chains hold after it.
-/
module

public import proofs.«01_k».proof.Proof.Trip
public import proofs.«01_k».proof.Proof.Start
public import proofs.«01_k».proof.Proof.Tail
public import proofs.«01_k».proof.Proof.Chain

@[expose] public section

set_option maxRecDepth 16384

noncomputable section

namespace Cert.Slots

open Idealize.ShloMosaic Cert.KernelIdeal Cert.KernelIdeal.Gen Cert.Softmax

/-- The row block of chain `s`. -/
def rb (s : Fin 8) : Fin 2 := ⟨s.val / 4, by omega⟩
/-- The head of chain `s`. -/
def hd (s : Fin 8) : Fin 4 := ⟨s.val % 4, by omega⟩

variable (c : Dev nD)
  (i : grid0.Coords)
  (arg2 : Memref sig .tc .vmem S1x1024x1024 .f32)
  (harg2 : arg2.IsWhole)
  (arg3 : Memref sig .tc .vmem S1x8192x1024 .bf16)
  (harg3 : arg3.IsWhole)
  (arg4 : Memref sig .tc .vmem S512x8192 .bf16)
  (harg4 : arg4.IsWhole)
  (arg5 : Memref sig .tc .vmem S16x1024 .bf16)
  (harg5 : arg5.IsWhole)
  (arg6 : Memref sig .tc .vmem S512x16 .bf16)
  (harg6 : arg6.IsWhole)
  (arg7 : Memref sig .tc .vmem S1x1024x512 .bf16)
  (harg7 : arg7.IsWhole)
  (arg8 : Memref sig .tc .vmem S8x512x512 .f32)
  (harg8 : arg8.IsWhole)
  (arg9 : Memref sig .tc .vmem S8x1x512 .f32)
  (harg9 : arg9.IsWhole)
  (arg10 : Memref sig .tc .vmem S8x1x512 .f32)
  (harg10 : arg10.IsWhole)
  (arg11 : Memref sig .tc .vmem S8x128x512 .f32)
  (harg11 : arg11.IsWhole)
  (x0 : Vec Ideal S1x1024x1024 .f32) (x1 : Vec Ideal S1x8192x1024 .bf16) (x2 : Vec Ideal S512x8192 .bf16) (x3 : Vec Ideal S16x1024 .bf16) (x4 : Vec Ideal S512x16 .bf16)

/-- All eight chains after the keys below `n`. -/
def All (xr : Fin 2 → Fin 4 → Fin 512 → ℕ → ℝ) (n : ℕ) (f8 : BufTy.Contents (Elt Ideal) arg8.view.ty)
    (f9 : BufTy.Contents (Elt Ideal) arg9.view.ty) (f10 : BufTy.Contents (Elt Ideal) arg10.view.ty)
    (f11 : BufTy.Contents (Elt Ideal) arg11.view.ty) : Prop :=
  ∀ s : Fin 8, Chain x2 x4 xr (i 1).val n (rb s) (hd s) (rS arg8 f8 s) (rM arg9 f9 s) (rM arg10 f10 s) (rA arg11 f11 s)

variable (xr : Fin 2 → Fin 4 → Fin 512 → ℕ → ℝ) (hxr : ∀ a h j n, sc x0 x1 x3 a h j n = (xr a h j n : EReal))
include hxr

/-- The meta keys start every chain. -/
theorem all_start : All i arg8 arg9 arg10 arg11 x2 x4 xr 16
    (arg8.view.writes (Elt Ideal) arg8.view.junk (kernelRun0_A.sl.HS0_8 (F := Ideal) c arg2 harg2 arg3 harg3 x0 x1))
    (arg9.view.writes (Elt Ideal) arg9.view.junk (kernelRun0_A.sl.HS1_8 (F := Ideal) c arg2 harg2 arg5 harg5 x0 x3))
    (arg10.view.writes (Elt Ideal) arg10.view.junk (kernelRun0_A.sl.HS2_8 (F := Ideal) c arg2 harg2 arg5 harg5 x0 x3))
    (arg11.view.writes (Elt Ideal) arg11.view.junk (kernelRun0_A.sl.HS3_8 (F := Ideal) c arg2 harg2 arg5 harg5 arg6 harg6 x0 x3 x4)) := by
  intro s
  match s with
  | 0 =>
    rw [init8_0, init9_0, init10_0, init11_0]
    exact chain_start x0 x1 x2 x3 x4 i arg2 harg2 arg3 harg3 arg5 harg5 arg6 harg6 xr hxr 0 0
  | 1 =>
    rw [init8_1, init9_1, init10_1, init11_1]
    exact chain_start x0 x1 x2 x3 x4 i arg2 harg2 arg3 harg3 arg5 harg5 arg6 harg6 xr hxr 0 1
  | 2 =>
    rw [init8_2, init9_2, init10_2, init11_2]
    exact chain_start x0 x1 x2 x3 x4 i arg2 harg2 arg3 harg3 arg5 harg5 arg6 harg6 xr hxr 0 2
  | 3 =>
    rw [init8_3, init9_3, init10_3, init11_3]
    exact chain_start x0 x1 x2 x3 x4 i arg2 harg2 arg3 harg3 arg5 harg5 arg6 harg6 xr hxr 0 3
  | 4 =>
    rw [init8_4, init9_4, init10_4, init11_4]
    exact chain_start x0 x1 x2 x3 x4 i arg2 harg2 arg3 harg3 arg5 harg5 arg6 harg6 xr hxr 1 0
  | 5 =>
    rw [init8_5, init9_5, init10_5, init11_5]
    exact chain_start x0 x1 x2 x3 x4 i arg2 harg2 arg3 harg3 arg5 harg5 arg6 harg6 xr hxr 1 1
  | 6 =>
    rw [init8_6, init9_6, init10_6, init11_6]
    exact chain_start x0 x1 x2 x3 x4 i arg2 harg2 arg3 harg3 arg5 harg5 arg6 harg6 xr hxr 1 2
  | 7 =>
    rw [init8_7, init9_7, init10_7, init11_7]
    exact chain_start x0 x1 x2 x3 x4 i arg2 harg2 arg3 harg3 arg5 harg5 arg6 harg6 xr hxr 1 3

/-- One trip moves every chain on by two tiles. -/
theorem all_trip (arg1 : BitVec 32) (v0 : BitVec 32) (v280 : FVec Ideal S16x512 .bf16) (v319 : FVec Ideal S128x512 .f32)
    (G8 : BufTy.Contents (Elt Ideal) arg8.view.ty) (G9 : BufTy.Contents (Elt Ideal) arg9.view.ty)
    (G10 : BufTy.Contents (Elt Ideal) arg10.view.ty) (G11 : BufTy.Contents (Elt Ideal) arg11.view.ty) (k : Fin (k0_t1_loop i).trips)
    (hA : All i arg8 arg9 arg10 arg11 x2 x4 xr (16 + 1024 * k.val) G8 G9 G10 G11) :
    All i arg8 arg9 arg10 arg11 x2 x4 xr (16 + 1024 * (k.val + 1))
      (arg8.view.writes (Elt Ideal) G8 ((trip_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) k).1 G8 G9 G10 G11))
      (arg9.view.writes (Elt Ideal) G9 ((trip_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) k).2.1 G8 G9 G10 G11))
      (arg10.view.writes (Elt Ideal) G10 ((trip_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) k).2.2.1 G8 G9 G10 G11))
      (arg11.view.writes (Elt Ideal) G11 ((trip_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) k).2.2.2.1 G8 G9 G10 G11)) := by
  intro s
  match s with
  | 0 =>
    rw [trip8_0, trip9_0, trip10_0, trip11_0]
    exact chain_trip x0 x1 x2 x3 x4 i arg2 harg2 arg3 harg3 arg4 harg4 xr hxr k 0 0 _ _ _ _ (hA 0)
  | 1 =>
    rw [trip8_1, trip9_1, trip10_1, trip11_1]
    exact chain_trip x0 x1 x2 x3 x4 i arg2 harg2 arg3 harg3 arg4 harg4 xr hxr k 0 1 _ _ _ _ (hA 1)
  | 2 =>
    rw [trip8_2, trip9_2, trip10_2, trip11_2]
    exact chain_trip x0 x1 x2 x3 x4 i arg2 harg2 arg3 harg3 arg4 harg4 xr hxr k 0 2 _ _ _ _ (hA 2)
  | 3 =>
    rw [trip8_3, trip9_3, trip10_3, trip11_3]
    exact chain_trip x0 x1 x2 x3 x4 i arg2 harg2 arg3 harg3 arg4 harg4 xr hxr k 0 3 _ _ _ _ (hA 3)
  | 4 =>
    rw [trip8_4, trip9_4, trip10_4, trip11_4]
    exact chain_trip x0 x1 x2 x3 x4 i arg2 harg2 arg3 harg3 arg4 harg4 xr hxr k 1 0 _ _ _ _ (hA 4)
  | 5 =>
    rw [trip8_5, trip9_5, trip10_5, trip11_5]
    exact chain_trip x0 x1 x2 x3 x4 i arg2 harg2 arg3 harg3 arg4 harg4 xr hxr k 1 1 _ _ _ _ (hA 5)
  | 6 =>
    rw [trip8_6, trip9_6, trip10_6, trip11_6]
    exact chain_trip x0 x1 x2 x3 x4 i arg2 harg2 arg3 harg3 arg4 harg4 xr hxr k 1 2 _ _ _ _ (hA 6)
  | 7 =>
    rw [trip8_7, trip9_7, trip10_7, trip11_7]
    exact chain_trip x0 x1 x2 x3 x4 i arg2 harg2 arg3 harg3 arg4 harg4 xr hxr k 1 3 _ _ _ _ (hA 7)

/-- The loop, by induction on the trips taken. -/
theorem all_loop (arg1 : BitVec 32) (v0 : BitVec 32) (v280 : FVec Ideal S16x512 .bf16) (v319 : FVec Ideal S128x512 .f32)
    (G8 : BufTy.Contents (Elt Ideal) arg8.view.ty) (G9 : BufTy.Contents (Elt Ideal) arg9.view.ty)
    (G10 : BufTy.Contents (Elt Ideal) arg10.view.ty) (G11 : BufTy.Contents (Elt Ideal) arg11.view.ty)
    (hA : All i arg8 arg9 arg10 arg11 x2 x4 xr 16 G8 G9 G10 G11) (n : ℕ) (hn : n ≤ (k0_t1_loop i).trips) :
    All i arg8 arg9 arg10 arg11 x2 x4 xr (16 + 1024 * n)
      (arg8.view.writes (Elt Ideal) G8 (pb_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) G8 G9 G10 G11 n).1)
      (arg9.view.writes (Elt Ideal) G9 (pb_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) G8 G9 G10 G11 n).2.1)
      (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) G8 G9 G10 G11 n).2.2.1)
      (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) G8 G9 G10 G11 n).2.2.2) := by
  induction n with
  | zero => exact hA
  | succ n ih =>
    have h := all_trip c i arg2 harg2 arg3 harg3 arg4 harg4 arg5 harg5 arg6 harg6 arg7 harg7 arg8 harg8 arg9 harg9 arg10 harg10 arg11 harg11 x0 x1 x2 x3 x4 xr hxr arg1 v0 v280 v319 _ _ _ _ ⟨n, hn⟩ (ih (by omega))
    rw [pb_k0_t1_succ (F := Ideal) Variants.none c none i arg2 harg2 arg3 harg3 arg4 harg4 arg5 harg5 arg6 harg6 arg7 harg7 arg8 harg8 arg9 harg9 arg10 harg10 arg11 harg11 arg1 v0 v280 v319 (harg2.unread x0) (harg3.unread x1) (harg4.unread x2) G8 G9 G10 G11 ⟨n, hn⟩]
    simp only [View.writes_append]
    exact h

omit hxr in
/-- The writes to the score buffer, as the trips make them. -/
theorem loopS_eq : loopS (F := Ideal) c i arg2 harg2 arg3 harg3 arg4 harg4 arg5 harg5 arg6 harg6 arg7 harg7 arg8 harg8 arg9 harg9 arg10 harg10 arg11 harg11 x0 x1 x2 x3 x4 =
    (pb_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.v0 i) (kernelRun0_A.sl.v280 c arg2 harg2 arg5 harg5 x0 x3) (kernelRun0_A.sl.v319 c arg2 harg2 arg5 harg5 arg6 harg6 x0 x3 x4) (harg2.unread x0) (harg3.unread x1) (harg4.unread x2)
      (arg8.view.writes (Elt Ideal) arg8.view.junk (kernelRun0_A.sl.HS0_8 (F := Ideal) c arg2 harg2 arg3 harg3 x0 x1))
      (arg9.view.writes (Elt Ideal) arg9.view.junk (kernelRun0_A.sl.HS1_8 (F := Ideal) c arg2 harg2 arg5 harg5 x0 x3))
      (arg10.view.writes (Elt Ideal) arg10.view.junk (kernelRun0_A.sl.HS2_8 (F := Ideal) c arg2 harg2 arg5 harg5 x0 x3))
      (arg11.view.writes (Elt Ideal) arg11.view.junk (kernelRun0_A.sl.HS3_8 (F := Ideal) c arg2 harg2 arg5 harg5 arg6 harg6 x0 x3 x4)) (i 1).val).1 ++ (kernelRun0_A.sl.HS0_8 (F := Ideal) c arg2 harg2 arg3 harg3 x0 x1) := by
  unfold loopS kernelRun0_A.sl.HS0_1
  dsimp only [List.tail]
  rw [show Scf.trips (Scalar.addi (0#32) (Scalar.muli (Scalar.divsi (Scalar.subi (BitVec.ofNat 32 (i 1).val) 0#32) 1#32) 1#32))
      (Scalar.addi (0#32) (Scalar.subi (BitVec.ofNat 32 (i 1).val) 0#32)) 1#32 = 0 from trips2 i,
    show Scf.trips (0#32) (Scalar.addi (0#32) (Scalar.muli (Scalar.divsi (Scalar.subi (BitVec.ofNat 32 (i 1).val) 0#32) 1#32) 1#32))
      1#32 = (i 1).val from trips1 i]
  rfl

omit hxr in
/-- The writes to the maximum buffer, as the trips make them. -/
theorem loopM_eq : loopM (F := Ideal) c i arg2 harg2 arg3 harg3 arg4 harg4 arg5 harg5 arg6 harg6 arg7 harg7 arg8 harg8 arg9 harg9 arg10 harg10 arg11 harg11 x0 x1 x2 x3 x4 =
    (pb_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.v0 i) (kernelRun0_A.sl.v280 c arg2 harg2 arg5 harg5 x0 x3) (kernelRun0_A.sl.v319 c arg2 harg2 arg5 harg5 arg6 harg6 x0 x3 x4) (harg2.unread x0) (harg3.unread x1) (harg4.unread x2)
      (arg8.view.writes (Elt Ideal) arg8.view.junk (kernelRun0_A.sl.HS0_8 (F := Ideal) c arg2 harg2 arg3 harg3 x0 x1))
      (arg9.view.writes (Elt Ideal) arg9.view.junk (kernelRun0_A.sl.HS1_8 (F := Ideal) c arg2 harg2 arg5 harg5 x0 x3))
      (arg10.view.writes (Elt Ideal) arg10.view.junk (kernelRun0_A.sl.HS2_8 (F := Ideal) c arg2 harg2 arg5 harg5 x0 x3))
      (arg11.view.writes (Elt Ideal) arg11.view.junk (kernelRun0_A.sl.HS3_8 (F := Ideal) c arg2 harg2 arg5 harg5 arg6 harg6 x0 x3 x4)) (i 1).val).2.1 ++ (kernelRun0_A.sl.HS1_8 (F := Ideal) c arg2 harg2 arg5 harg5 x0 x3) := by
  unfold loopM kernelRun0_A.sl.HS1_1
  dsimp only [List.tail]
  rw [show Scf.trips (Scalar.addi (0#32) (Scalar.muli (Scalar.divsi (Scalar.subi (BitVec.ofNat 32 (i 1).val) 0#32) 1#32) 1#32))
      (Scalar.addi (0#32) (Scalar.subi (BitVec.ofNat 32 (i 1).val) 0#32)) 1#32 = 0 from trips2 i,
    show Scf.trips (0#32) (Scalar.addi (0#32) (Scalar.muli (Scalar.divsi (Scalar.subi (BitVec.ofNat 32 (i 1).val) 0#32) 1#32) 1#32))
      1#32 = (i 1).val from trips1 i]
  rfl

omit hxr in
/-- The writes to the sum buffer, as the trips make them. -/
theorem loopL_eq : loopL (F := Ideal) c i arg2 harg2 arg3 harg3 arg4 harg4 arg5 harg5 arg6 harg6 arg7 harg7 arg8 harg8 arg9 harg9 arg10 harg10 arg11 harg11 x0 x1 x2 x3 x4 =
    (pb_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.v0 i) (kernelRun0_A.sl.v280 c arg2 harg2 arg5 harg5 x0 x3) (kernelRun0_A.sl.v319 c arg2 harg2 arg5 harg5 arg6 harg6 x0 x3 x4) (harg2.unread x0) (harg3.unread x1) (harg4.unread x2)
      (arg8.view.writes (Elt Ideal) arg8.view.junk (kernelRun0_A.sl.HS0_8 (F := Ideal) c arg2 harg2 arg3 harg3 x0 x1))
      (arg9.view.writes (Elt Ideal) arg9.view.junk (kernelRun0_A.sl.HS1_8 (F := Ideal) c arg2 harg2 arg5 harg5 x0 x3))
      (arg10.view.writes (Elt Ideal) arg10.view.junk (kernelRun0_A.sl.HS2_8 (F := Ideal) c arg2 harg2 arg5 harg5 x0 x3))
      (arg11.view.writes (Elt Ideal) arg11.view.junk (kernelRun0_A.sl.HS3_8 (F := Ideal) c arg2 harg2 arg5 harg5 arg6 harg6 x0 x3 x4)) (i 1).val).2.2.1 ++ (kernelRun0_A.sl.HS2_8 (F := Ideal) c arg2 harg2 arg5 harg5 x0 x3) := by
  unfold loopL kernelRun0_A.sl.HS2_1
  dsimp only [List.tail]
  rw [show Scf.trips (Scalar.addi (0#32) (Scalar.muli (Scalar.divsi (Scalar.subi (BitVec.ofNat 32 (i 1).val) 0#32) 1#32) 1#32))
      (Scalar.addi (0#32) (Scalar.subi (BitVec.ofNat 32 (i 1).val) 0#32)) 1#32 = 0 from trips2 i,
    show Scf.trips (0#32) (Scalar.addi (0#32) (Scalar.muli (Scalar.divsi (Scalar.subi (BitVec.ofNat 32 (i 1).val) 0#32) 1#32) 1#32))
      1#32 = (i 1).val from trips1 i]
  rfl

omit hxr in
/-- The writes to the value buffer, as the trips make them. -/
theorem loopA_eq : loopA (F := Ideal) c i arg2 harg2 arg3 harg3 arg4 harg4 arg5 harg5 arg6 harg6 arg7 harg7 arg8 harg8 arg9 harg9 arg10 harg10 arg11 harg11 x0 x1 x2 x3 x4 =
    (pb_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.v0 i) (kernelRun0_A.sl.v280 c arg2 harg2 arg5 harg5 x0 x3) (kernelRun0_A.sl.v319 c arg2 harg2 arg5 harg5 arg6 harg6 x0 x3 x4) (harg2.unread x0) (harg3.unread x1) (harg4.unread x2)
      (arg8.view.writes (Elt Ideal) arg8.view.junk (kernelRun0_A.sl.HS0_8 (F := Ideal) c arg2 harg2 arg3 harg3 x0 x1))
      (arg9.view.writes (Elt Ideal) arg9.view.junk (kernelRun0_A.sl.HS1_8 (F := Ideal) c arg2 harg2 arg5 harg5 x0 x3))
      (arg10.view.writes (Elt Ideal) arg10.view.junk (kernelRun0_A.sl.HS2_8 (F := Ideal) c arg2 harg2 arg5 harg5 x0 x3))
      (arg11.view.writes (Elt Ideal) arg11.view.junk (kernelRun0_A.sl.HS3_8 (F := Ideal) c arg2 harg2 arg5 harg5 arg6 harg6 x0 x3 x4)) (i 1).val).2.2.2 ++ (kernelRun0_A.sl.HS3_8 (F := Ideal) c arg2 harg2 arg5 harg5 arg6 harg6 x0 x3 x4) := by
  unfold loopA kernelRun0_A.sl.HS3_1
  dsimp only [List.tail]
  rw [show Scf.trips (Scalar.addi (0#32) (Scalar.muli (Scalar.divsi (Scalar.subi (BitVec.ofNat 32 (i 1).val) 0#32) 1#32) 1#32))
      (Scalar.addi (0#32) (Scalar.subi (BitVec.ofNat 32 (i 1).val) 0#32)) 1#32 = 0 from trips2 i,
    show Scf.trips (0#32) (Scalar.addi (0#32) (Scalar.muli (Scalar.divsi (Scalar.subi (BitVec.ofNat 32 (i 1).val) 0#32) 1#32) 1#32))
      1#32 = (i 1).val from trips1 i]
  rfl

/-- After the loop every chain has folded the whole tiles before its row tile. -/
theorem all_end : All i arg8 arg9 arg10 arg11 x2 x4 xr (16 + 1024 * (i 1).val)
    (arg8.view.writes (Elt Ideal) arg8.view.junk (loopS (F := Ideal) c i arg2 harg2 arg3 harg3 arg4 harg4 arg5 harg5 arg6 harg6 arg7 harg7 arg8 harg8 arg9 harg9 arg10 harg10 arg11 harg11 x0 x1 x2 x3 x4))
    (arg9.view.writes (Elt Ideal) arg9.view.junk (loopM (F := Ideal) c i arg2 harg2 arg3 harg3 arg4 harg4 arg5 harg5 arg6 harg6 arg7 harg7 arg8 harg8 arg9 harg9 arg10 harg10 arg11 harg11 x0 x1 x2 x3 x4))
    (arg10.view.writes (Elt Ideal) arg10.view.junk (loopL (F := Ideal) c i arg2 harg2 arg3 harg3 arg4 harg4 arg5 harg5 arg6 harg6 arg7 harg7 arg8 harg8 arg9 harg9 arg10 harg10 arg11 harg11 x0 x1 x2 x3 x4))
    (arg11.view.writes (Elt Ideal) arg11.view.junk (loopA (F := Ideal) c i arg2 harg2 arg3 harg3 arg4 harg4 arg5 harg5 arg6 harg6 arg7 harg7 arg8 harg8 arg9 harg9 arg10 harg10 arg11 harg11 x0 x1 x2 x3 x4)) := by
  have h := all_loop c i arg2 harg2 arg3 harg3 arg4 harg4 arg5 harg5 arg6 harg6 arg7 harg7 arg8 harg8 arg9 harg9 arg10 harg10 arg11 harg11 x0 x1 x2 x3 x4 xr hxr (BitVec.ofNat 32 (i 1).val) (kernelRun0_A.sl.v0 i)
    (kernelRun0_A.sl.v280 c arg2 harg2 arg5 harg5 x0 x3) (kernelRun0_A.sl.v319 c arg2 harg2 arg5 harg5 arg6 harg6 x0 x3 x4)
    _ _ _ _ (all_start c i arg2 harg2 arg3 harg3 arg5 harg5 arg6 harg6 arg8 arg9 arg10 arg11 x0 x1 x2 x3 x4 xr hxr) (i 1).val (le_of_eq (trips1 i).symm)
  rw [loopS_eq, loopM_eq, loopL_eq, loopA_eq]
  simp only [View.writes_append]
  exact h

/-- What chain `s` writes to the result, for row `j` and value column `d`. -/
theorem chain_value (s : Fin 8) (j : Fin 512) :
    ∃ m : EReal, Held (xr (rb s) (hd s) j) (vis (i 1).val (rb s) j) (vl x2 x4 (hd s)) 8208 m
      (rM arg10 (arg10.view.writes (Elt Ideal) arg10.view.junk (kernelRun0_A.sl.HS2_12 (F := Ideal) c i arg2 harg2 arg3 harg3 arg4 harg4 arg5 harg5 arg6 harg6 arg7 harg7 arg8 harg8 arg9 harg9 arg10 harg10 arg11 harg11 x0 x1 x2 x3 x4)) s (ix3 0 0 j))
      fun d => rA arg11 (arg11.view.writes (Elt Ideal) arg11.view.junk (kernelRun0_A.sl.HS3_12 (F := Ideal) c i arg2 harg2 arg3 harg3 arg4 harg4 arg5 harg5 arg6 harg6 arg7 harg7 arg8 harg8 arg9 harg9 arg10 harg10 arg11 harg11 x0 x1 x2 x3 x4)) s (ix3 0 d j) := by
  have h := all_end c i arg2 harg2 arg3 harg3 arg4 harg4 arg5 harg5 arg6 harg6 arg7 harg7 arg8 harg8 arg9 harg9 arg10 harg10 arg11 harg11 x0 x1 x2 x3 x4 xr hxr
  match s with
  | 0 =>
    rw [last10_0, last11_0]
    exact ⟨_, chain_last0 x0 x1 x2 x3 x4 i arg4 harg4 xr hxr 0 _ _ _ _ (h 0) j⟩
  | 1 =>
    rw [last10_1, last11_1]
    exact ⟨_, chain_last0 x0 x1 x2 x3 x4 i arg4 harg4 xr hxr 1 _ _ _ _ (h 1) j⟩
  | 2 =>
    rw [last10_2, last11_2]
    exact ⟨_, chain_last0 x0 x1 x2 x3 x4 i arg4 harg4 xr hxr 2 _ _ _ _ (h 2) j⟩
  | 3 =>
    rw [last10_3, last11_3]
    exact ⟨_, chain_last0 x0 x1 x2 x3 x4 i arg4 harg4 xr hxr 3 _ _ _ _ (h 3) j⟩
  | 4 =>
    rw [last10_4, last11_4]
    exact ⟨_, chain_last1 x0 x1 x2 x3 x4 i arg2 harg2 arg3 harg3 arg4 harg4 xr hxr 0 _ _ _ _ (h 4) j⟩
  | 5 =>
    rw [last10_5, last11_5]
    exact ⟨_, chain_last1 x0 x1 x2 x3 x4 i arg2 harg2 arg3 harg3 arg4 harg4 xr hxr 1 _ _ _ _ (h 5) j⟩
  | 6 =>
    rw [last10_6, last11_6]
    exact ⟨_, chain_last1 x0 x1 x2 x3 x4 i arg2 harg2 arg3 harg3 arg4 harg4 xr hxr 2 _ _ _ _ (h 6) j⟩
  | 7 =>
    rw [last10_7, last11_7]
    exact ⟨_, chain_last1 x0 x1 x2 x3 x4 i arg2 harg2 arg3 harg3 arg4 harg4 xr hxr 3 _ _ _ _ (h 7) j⟩

end Cert.Slots
-- ==== Proof.Out.lean ====
/-
What one grid point leaves in the result's block: each chain's weighted sum divided by its sum of weights is the softmax
over the keys, in base e and about any offset.
-/
module

public import proofs.«01_k».proof.Proof.Loop
public import Idealize.ShloMosaic.Lib.Pipeline.ValueKit

@[expose] public section

set_option maxRecDepth 16384

noncomputable section

namespace Cert.Slots

open Idealize.ShloMosaic Cert.KernelIdeal Cert.KernelIdeal.Gen Cert.Softmax

variable (c : Dev nD)
  (i : grid0.Coords)
  (arg2 : Memref sig .tc .vmem S1x1024x1024 .f32)
  (harg2 : arg2.IsWhole)
  (arg3 : Memref sig .tc .vmem S1x8192x1024 .bf16)
  (harg3 : arg3.IsWhole)
  (arg4 : Memref sig .tc .vmem S512x8192 .bf16)
  (harg4 : arg4.IsWhole)
  (arg5 : Memref sig .tc .vmem S16x1024 .bf16)
  (harg5 : arg5.IsWhole)
  (arg6 : Memref sig .tc .vmem S512x16 .bf16)
  (harg6 : arg6.IsWhole)
  (arg7 : Memref sig .tc .vmem S1x1024x512 .bf16)
  (harg7 : arg7.IsWhole)
  (arg8 : Memref sig .tc .vmem S8x512x512 .f32)
  (harg8 : arg8.IsWhole)
  (arg9 : Memref sig .tc .vmem S8x1x512 .f32)
  (harg9 : arg9.IsWhole)
  (arg10 : Memref sig .tc .vmem S8x1x512 .f32)
  (harg10 : arg10.IsWhole)
  (arg11 : Memref sig .tc .vmem S8x128x512 .f32)
  (harg11 : arg11.IsWhole)
  (x0 : Vec Ideal S1x1024x1024 .f32) (x1 : Vec Ideal S1x8192x1024 .bf16) (x2 : Vec Ideal S512x8192 .bf16) (x3 : Vec Ideal S16x1024 .bf16) (x4 : Vec Ideal S512x16 .bf16)

variable (yr : Fin 2 → Fin 4 → Fin 512 → ℕ → ℝ)
  (hyr : ∀ a h j n, sc x0 x1 x3 a h j n = ((yr a h j n * (Real.log 2)⁻¹ : ℝ) : EReal))

/-- The softmax of the scores, lowered by `C`, summed against the values. -/
def soft (t : ℕ) (C : ℝ) (a : Fin 2) (h : Fin 4) (j : Fin 512) (d : Fin 128) : EReal :=
  ∑ n ∈ Finset.range 8208,
    Ideal.div (Ideal.exp (score (yr a h j) (vis t a j) n - (C : EReal)))
      (∑ i ∈ Finset.range 8208, Ideal.exp (score (yr a h j) (vis t a j) i - (C : EReal))) * vl x2 x4 h n d

include hyr

theorem piece_value (C : ℝ) (s : Fin 8) (x : S1x512x128.Idx) (a : Fin 2) (h : Fin 4) (j : Fin 512) (d : Fin 128)
    (h1 : 512 * a.val + j.val = 512 * (s.val / 4) + (x 1).val) (h2 : 128 * h.val + d.val = 128 * (s.val % 4) + (x 2).val) :
    outT (rA arg11 (arg11.view.writes (Elt Ideal) arg11.view.junk (kernelRun0_A.sl.HS3_12 (F := Ideal) c i arg2 harg2 arg3 harg3 arg4 harg4 arg5 harg5 arg6 harg6 arg7 harg7 arg8 harg8 arg9 harg9 arg10 harg10 arg11 harg11 x0 x1 x2 x3 x4)) s) (rM arg10 (arg10.view.writes (Elt Ideal) arg10.view.junk (kernelRun0_A.sl.HS2_12 (F := Ideal) c i arg2 harg2 arg3 harg3 arg4 harg4 arg5 harg5 arg6 harg6 arg7 harg7 arg8 harg8 arg9 harg9 arg10 harg10 arg11 harg11 x0 x1 x2 x3 x4)) s) x = soft x2 x4 yr (i 1).val C a h j d := by
  have hx1 := (x 1).isLt
  have hx2 := (x 2).isLt
  change (x 1).val < 512 at hx1
  change (x 2).val < 128 at hx2
  obtain ⟨m, H⟩ := chain_value c i arg2 harg2 arg3 harg3 arg4 harg4 arg5 harg5 arg6 harg6 arg7 harg7 arg8 harg8 arg9 harg9 arg10 harg10 arg11 harg11 x0 x1 x2 x3 x4 (fun a h j n => yr a h j n * (Real.log 2)⁻¹) hyr s j
  have ea : a = rb s := Fin.ext (by show a.val = s.val / 4; omega)
  have eh : h = hd s := Fin.ext (by show h.val = s.val % 4; omega)
  have ex : x = ix3 0 j d := by
    funext q
    match q with
    | 0 => exact Subsingleton.elim (α := Fin 1) _ _
    | 1 => exact Fin.ext (by show (x 1).val = j.val; omega)
    | 2 => exact Fin.ext (by show (x 2).val = d.val; omega)
  subst ea eh ex
  rw [outT_apply]
  exact H.quotient (by norm_num) (Or.inl (by norm_num)) (yr (rb s) (hd s) j) (fun _ => rfl) C d

/-- The block's entry at row `512 a + j`, column `128 h + d`. -/
theorem out_value (C : ℝ) (y : S1x1024x512.Idx) (a : Fin 2) (h : Fin 4) (j : Fin 512) (d : Fin 128)
    (h1 : (y 1).val = 512 * a.val + j.val) (h2 : (y 2).val = 128 * h.val + d.val) :
    out0_A_5 (F := Ideal) c i arg2 harg2 arg3 harg3 arg4 harg4 arg5 harg5 arg6 harg6 arg7 harg7 arg8 harg8 arg9 harg9 arg10 harg10 arg11 harg11 x0 x1 x2 x3 x4 y = soft x2 x4 yr (i 1).val C a h j d := by
  unfold out0_A_5
  rw [View.read_writes_junk_eq_canon, outs]
  canon_tiles x k
  all_goals exact piece_value c i arg2 harg2 arg3 harg3 arg4 harg4 arg5 harg5 arg6 harg6 arg7 harg7 arg8 harg8 arg9 harg9 arg10 harg10 arg11 harg11 x0 x1 x2 x3 x4 yr hyr C _ x a h j d (by omega) (by omega)

end Cert.Slots
-- ==== Proof.Final.lean ====
/-
The kernel's array after the run: every block is the attention of its own rows, and the blocks tile the array.
-/
module

public import proofs.«01_k».proof.Proof.Blocks
public import proofs.«01_k».proof.Proof.Out
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.Blocks

open Cert.KernelIdeal Cert.KernelIdeal.Gen Cert.Slots Cert.Attend Cert.Softmax

variable (m : (ℓ : Loc nD τ sig) → Buf (Elt Ideal) ℓ) (c : Dev nD) (t : Fin cfg0.N)

/-- The batch row of a grid point. -/
def tb : Fin 4 := ⟨(grid0.coords t 0).val, (idx t).2.2.2.2.2.2.1⟩

/-- The query at row `512 a + j` of a grid point's block. -/
def tp (a : Fin 2) (j : Fin 512) : Fin 8192 :=
  ⟨1024 * (grid0.coords t 1).val + 512 * a.val + j.val, by have := (idx t).2.2.2.2.2.2.2; omega⟩

/-- The query block, entry by entry. -/
theorem query_apply (a : Fin 2) (j : Fin 512) (h : Fin 4) (d : Fin 256) :
    ((show Vec Ideal S1x1024x1024 .f32 from iblk m c 0 t) (ix3 0 (row2 a j) (col h d)) : EReal)
      = (V m c main_v1 : FVec Ideal S4x8192x1024 .f32) (ix3 (tb t) (tp t a j) (col h d)) :=
  blk0 m c t _ _ _ _ rfl (by show _ = _ + (512 * a.val + j.val); simp only [tp]; omega) rfl

theorem key_K (h : Fin 4) (n : ℕ) (d : Fin 128) :
    key (iblk m c 1 t) (iblk m c 3 t) h n ⟨d.val, by omega⟩ = (inp m c).K (tb t) h n d := by
  have e : (col h ⟨d.val, by omega⟩).val = 256 * h.val + d.val := rfl
  unfold key Inputs.K
  split
  · rename_i hn
    refine (blk3 m c t _ ⟨n, hn⟩ (col h ⟨d.val, by omega⟩) rfl rfl).trans ((host13 m c _ _).trans ?_)
    rw [dif_pos (by omega)]
    congr 1 <;> exact Fin.ext (by simp only [e]; omega)
  · split
    · rename_i hs
      refine (blk1 m c t _ (tb t) ⟨n - 16, hs⟩ (col h ⟨d.val, by omega⟩) rfl rfl rfl).trans ((host7 m c _ _ _).trans ?_)
      rw [dif_pos (by omega)]
      congr 1 <;> exact Fin.ext (by simp only [e]; omega)
    · rfl

theorem key_R (h : Fin 4) (n : ℕ) (d : Fin 64) :
    key (iblk m c 1 t) (iblk m c 3 t) h n ⟨128 + d.val, by omega⟩ = (inp m c).R (tb t) n d := by
  have e : (col h ⟨128 + d.val, by omega⟩).val = 256 * h.val + (128 + d.val) := rfl
  unfold key Inputs.R
  split
  · rename_i hn
    refine (blk3 m c t _ ⟨n, hn⟩ (col h ⟨128 + d.val, by omega⟩) rfl rfl).trans ((host13 m c _ _).trans ?_)
    rw [dif_neg (by omega), dif_pos (by omega)]
    congr 1; exact Fin.ext (by simp only [e]; omega)
  · split
    · rename_i hs
      refine (blk1 m c t _ (tb t) ⟨n - 16, hs⟩ (col h ⟨128 + d.val, by omega⟩) rfl rfl rfl).trans ((host7 m c _ _ _).trans ?_)
      rw [dif_neg (by omega), dif_pos (by omega)]
      congr 1; exact Fin.ext (by simp only [e]; omega)
    · rfl

theorem key_pad (h : Fin 4) (n : ℕ) (d : Fin 64) :
    key (iblk m c 1 t) (iblk m c 3 t) h n ⟨192 + d.val, by omega⟩ = 0 := by
  have e : (col h ⟨192 + d.val, by omega⟩).val = 256 * h.val + (192 + d.val) := rfl
  unfold key
  split
  · rename_i hn
    refine (blk3 m c t _ ⟨n, hn⟩ (col h ⟨192 + d.val, by omega⟩) rfl rfl).trans ((host13 m c _ _).trans ?_)
    rw [dif_neg (by omega), dif_neg (by omega)]
  · split
    · rename_i hs
      refine (blk1 m c t _ (tb t) ⟨n - 16, hs⟩ (col h ⟨192 + d.val, by omega⟩) rfl rfl rfl).trans ((host7 m c _ _ _).trans ?_)
      rw [dif_neg (by omega), dif_neg (by omega)]
    · rfl

theorem vl_W (h : Fin 4) (n : ℕ) (d : Fin 128) :
    vl (iblk m c 2 t) (iblk m c 4 t) h n d = (inp m c).W (tb t) h n d := by
  have e : (vrow h d).val = 128 * h.val + d.val := rfl
  unfold vl Inputs.W
  split
  · rename_i hn
    refine (blk4 m c t _ (vrow h d) ⟨n, hn⟩ rfl rfl).trans ((host19 m c _ _).trans ?_)
    congr 1 <;> exact Fin.ext (by simp only [e]; omega)
  · split
    · rename_i hn
      have hb := (tb t).isLt
      have eb : (grid0.coords t 0).val = (tb t).val := rfl
      refine (blk2 m c t _ (vrow h d) ⟨8192 * (tb t).val + (n - 16), by omega⟩ rfl rfl).trans ((host16 m c _ _).trans ?_)
      congr 1 <;> exact Fin.ext (by simp only [e]; omega)
    · rfl

/-- The block's scores are those of its own rows. -/
theorem block_score (H : (inp m c).Finite) (a : Fin 2) (h : Fin 4) (j : Fin 512) (n : ℕ) :
    sc (iblk m c 0 t) (iblk m c 1 t) (iblk m c 3 t) a h j n
      = (((inp m c).y (tb t) (tp t a j) h n * (Real.log 2)⁻¹ : ℝ) : EReal) := by
  unfold sc qs
  refine packed_score H (tb t) (tp t a j) h n (key (iblk m c 1 t) (iblk m c 3 t) h n)
    (fun d => (show Vec Ideal S1x1024x1024 .f32 from iblk m c 0 t) (ix3 0 (row2 a j) (col h d)))
    (key_K m c t h n) (key_R m c t h n) (key_pad m c t h n) (fun d => ?_) (fun d => ?_) _
  · have e : (col h ⟨d.val, by omega⟩).val = 256 * h.val + d.val := rfl
    refine (query_apply m c t a j h _).trans ((host1 m c _ _ _).trans ?_)
    rw [dif_pos (by omega)]
    congr 1 <;> exact Fin.ext (by simp only [e]; omega)
  · have e : (col h ⟨128 + d.val, by omega⟩).val = 256 * h.val + (128 + d.val) := rfl
    refine (query_apply m c t a j h _).trans ((host1 m c _ _ _).trans ?_)
    rw [dif_neg (by omega), dif_pos (by omega)]
    congr 1 <;> exact Fin.ext (by simp only [e]; omega)

/-- What the body leaves at a grid point. -/
theorem point_value (H : (inp m c).Finite) (C : Fin 4 → Fin 8192 → Fin 4 → ℝ) (y : S1x1024x512.Idx)
    (p : Fin 8192) (h : Fin 4) (d : Fin 128)
    (hp : p.val = 1024 * (grid0.coords t 1).val + (y 1).val) (hh : (y 2).val = 128 * h.val + d.val) :
    outsAt0 m c t y = (inp m c).out C (tb t) p h d := by
  have hy := (y 1).isLt
  change (y 1).val < 1024 at hy
  let a : Fin 2 := ⟨(y 1).val / 512, by omega⟩
  let j : Fin 512 := ⟨(y 1).val % 512, by omega⟩
  have ep : tp t a j = p := Fin.ext (by show _ + 512 * ((y 1).val / 512) + (y 1).val % 512 = _; omega)
  unfold outsAt0
  refine (out_value _ _ _ _ _ _ _ _ _ _ _ _ _ _ _ _ _ _ _ _ _ _ _ _ _ _ _
    (fun a h j => (inp m c).y (tb t) (tp t a j) h) (block_score m c t H) (C (tb t) p h) y a h j d ?_ hh).trans ?_
  · show (y 1).val = 512 * ((y 1).val / 512) + (y 1).val % 512
    omega
  · unfold soft Inputs.out
    rw [← ep]
    refine Finset.sum_congr rfl fun n _ => ?_
    rw [vl_W]
    rfl

/-- The attention as an array of rows of 512. -/
def attn (I : Inputs) (C : Fin 4 → Fin 8192 → Fin 4 → ℝ) : FVec Ideal S4x8192x512 .bf16 := fun y =>
  I.out C ⟨(y 0).val, (y 0).isLt⟩ ⟨(y 1).val, (y 1).isLt⟩
    ⟨(y 2).val / 128, Nat.div_lt_of_lt_mul (n := 128) (k := 4) (y 2).isLt⟩ ⟨(y 2).val % 128, Nat.mod_lt _ (by norm_num)⟩

theorem em5 (y : S1x1024x512.Idx) (a : Fin 3) :
    ((show S4x8192x512.Idx from ((cfg0.win 5).blk t).view.emb y) a).val
      = ![(tb t).val, 1024 * (grid0.coords t 1).val + (y 1).val, (y 2).val] a := by
  have h : (show S4x8192x512.Idx from ((cfg0.win 5).blk t).view.emb y)
      = ix3 (tb t) ⟨1024 * (grid0.coords t 1).val + (y 1).val, by
          have := (idx t).2.2.2.2.2.2.2; have := (y 1).isLt; change (y 1).val < 1024 at this; omega⟩ ⟨(y 2).val, (y 2).isLt⟩ := by
    blk_ext [idx t, tb]
  rw [h]
  fin_cases a <;> rfl

/-- The kernel's array. -/
theorem kernel_array (H : (inp m c).Finite) (C : Fin 4 → Fin 8192 → Fin 4 → ℝ) :
    (dats m 0 c).arrAt 5 cfg0.N = attn (inp m c) C := by
  refine (dats m 0 c).arrAt_eq_of_covers 5 _ (by decide +kernel) fun t hf y => ?_
  blk_simp
  rw [after0_5]
  have h0 := em5 t y 0
  have h1 := em5 t y 1
  have h2 := em5 t y 2
  unfold attn
  refine (point_value m c t H C y ⟨_, (((cfg0.win 5).blk t).view.emb y 1).isLt⟩ ⟨_, Nat.div_lt_of_lt_mul (n := 128) (k := 4) (((cfg0.win 5).blk t).view.emb y 2).isLt⟩ ⟨(((cfg0.win 5).blk t).view.emb y 2).val % 128, Nat.mod_lt _ (by norm_num)⟩ h1 ?_).trans ?_
  · exact h2.symm.trans (Nat.div_add_mod _ 128).symm
  · exact congrArg (fun b => (inp m c).out C b _ _ _) (Fin.ext h0.symm)

end Cert.Blocks
-- ==== Proof.Refval.lean ====
/-
The reference's lines read at an index: the joined keys and values, the visibility test, the scores, and the softmax.
-/
module

public import proofs.«01_k».proof.Proof.Attend
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.Refval

open Cert.ReferenceIdeal Cert.ReferenceIdeal.Gen Cert.ReferenceIdeal.Read Cert.Attend Cert.Softmax

variable (x0 : FVec Ideal S4x8192x4x128 .f32) (x1 : FVec Ideal S4x8192x4x64 .f32) (x2 : FVec Ideal S4x8192x4x128 .f32)
  (x3 : FVec Ideal S4x8192x64 .f32) (x4 : FVec Ideal S4x8192x4x128 .f32) (x5 : FVec Ideal S16x4x128 .f32)
  (x6 : FVec Ideal S16x64 .f32) (x7 : FVec Ideal S16x4x128 .f32)

/-- The eight arrays as functions of their indices. -/
def J : Inputs where
  qn b p h d := x0 (ix4 b p h d)
  qr b p h d := x1 (ix4 b p h d)
  kn b p h d := x2 (ix4 b p h d)
  kr b p d := x3 (ix3 b p d)
  v b p h d := x4 (ix4 b p h d)
  knm n h d := x5 (ix3 n h d)
  krm n d := x6 (ix2 n d)
  vm n h d := x7 (ix3 n h d)

theorem v2_apply (b : Fin 4) (n : Fin 8208) (h : Fin 4) (d : Fin 128) :
    (val_main_v2 (F := Ideal) x2 x5 (ix4 b n h d) : EReal) = if hn : n.val < 16 then x5 (ix3 ⟨n.val, hn⟩ h d) else x2 (ix4 b ⟨n.val - 16, by omega⟩ h d) := by
  pointwise [val_main_v2, val_main_v1, val_main_v0]

theorem v8_apply (b : Fin 4) (n : Fin 8208) (h : Fin 4) (d : Fin 128) :
    (val_main_v8 (F := Ideal) x4 x7 (ix4 b n h d) : EReal) = if hn : n.val < 16 then x7 (ix3 ⟨n.val, hn⟩ h d) else x4 (ix4 b ⟨n.val - 16, by omega⟩ h d) := by
  pointwise [val_main_v8, val_main_v7, val_main_v6]

theorem v5_apply (b : Fin 4) (n : Fin 8208) (d : Fin 64) :
    (val_main_v5 (F := Ideal) x3 x6 (ix3 b n d) : EReal) = if hn : n.val < 16 then x6 (ix2 ⟨n.val, hn⟩ d) else x3 (ix3 b ⟨n.val - 16, by omega⟩ d) := by
  pointwise [val_main_v5, val_main_v4, val_main_v3]

/-- Division by 64 rounding down, as the reference spells it. -/
def floorWord (x : BitVec 32) : BitVec 32 :=
  Scalar.select
    (IntOp.andi
      (IntOp.cmpi .ne (if x = 0 then 0 else if x.msb then -1 else 1 : BitVec 32)
        (if (64#32) = 0 then 0 else if (64#32).msb then -1 else 1 : BitVec 32))
      (IntOp.cmpi .ne (IntOp.remsi .host x 64#32) 0#32))
    (IntOp.subi (IntOp.divsi .host x 64#32) 1#32) (IntOp.divsi .host x 64#32)

theorem floor_word : ∀ (a : Fin 128) (b : Fin 64), floorWord (BitVec.ofNat 32 (64 * a.val + b.val)) = BitVec.ofNat 32 a.val := by
  decide +kernel

theorem floor_word' (n : Fin 8192) : floorWord (BitVec.ofNat 32 n.val) = BitVec.ofNat 32 (n.val / 64) := by
  have h := floor_word ⟨n.val / 64, by omega⟩ ⟨n.val % 64, by omega⟩
  dsimp only at h
  rwa [Nat.div_add_mod] at h

theorem v11_apply (n : Fin 8192) :
    val_main_v11 (F := Ideal) (ix1 n) = BitVec.ofNat 32 (n.val / 64) := by
  refine Eq.trans ?_ (floor_word' n)
  unfold floorWord
  pointwise [val_main_v11, val_main_call0_v11, val_main_call0_v13, val_main_call0_v2, val_main_call0_v6, val_main_call0_v10, val_main_call0_v12, val_main_call0_v9, val_main_call0_v8, val_main_call0_v7, val_main_call0_v5, val_main_call0_v4, val_main_call0_v3, val_main_call0_v1, val_main_call0_v0, val_main_call0_c, val_main_call0_c_0, val_main_v10, val_main_c_0]
  rfl

theorem v14_apply (n : Fin 8192) :
    val_main_v14 (F := Ideal) (ix1 n) = BitVec.ofNat 32 (n.val / 64) := by
  refine Eq.trans ?_ (floor_word' n)
  unfold floorWord
  pointwise [val_main_v14, val_main_call1_v11, val_main_call1_v13, val_main_call1_v2, val_main_call1_v6, val_main_call1_v10, val_main_call1_v12, val_main_call1_v9, val_main_call1_v8, val_main_call1_v7, val_main_call1_v5, val_main_call1_v4, val_main_call1_v3, val_main_call1_v1, val_main_call1_v0, val_main_call1_c, val_main_call1_c_0, val_main_v13, val_main_c_1]
  rfl

theorem v12_apply (n : Fin 8208) :
    val_main_v12 (F := Ideal) (ix1 n) = if hn : n.val < 16 then 4294967295#32 else val_main_v11 (F := Ideal) (ix1 ⟨n.val - 16, by omega⟩) := by
  pointwise [val_main_v12, val_main_v9, val_main_c]

theorem le_word : ∀ a b : Fin 128, (IntOp.cmpi .sle (BitVec.ofNat 32 a.val) (BitVec.ofNat 32 b.val) = 1#1) ↔ a.val ≤ b.val := by
  decide +kernel

theorem neg_word : ∀ b : Fin 128, IntOp.cmpi .sle 4294967295#32 (BitVec.ofNat 32 b.val) = 1#1 := by decide +kernel

theorem v19_apply (p : Fin 8192) (n : Fin 8208) :
    (val_main_v19 (F := Ideal) (ix2 p n) = 1#1) ↔ sees p n.val := by
  have e : val_main_v19 (F := Ideal) (ix2 p n)
      = IntOp.cmpi .sle (val_main_v12 (F := Ideal) (ix1 n)) (val_main_v14 (F := Ideal) (ix1 p)) := by
    pointwise [val_main_v19, val_main_v17, val_main_v18, val_main_v16, val_main_v15]
  rw [e, v12_apply, v14_apply]
  unfold sees
  split
  · rename_i hn
    exact ⟨fun _ => Or.inl hn, fun _ => neg_word ⟨p.val / 64, by omega⟩⟩
  · rename_i hn
    rw [v11_apply]
    exact (le_word ⟨(n.val - 16) / 64, by omega⟩ ⟨p.val / 64, by omega⟩).trans ⟨Or.inr, fun h => h.resolve_left hn⟩

variable (H : (J x0 x1 x2 x3 x4 x5 x6 x7).Finite) (b : Fin 4) (p : Fin 8192) (h : Fin 4)

theorem v2_K (n : Fin 8208) (d : Fin 128) :
    (val_main_v2 (F := Ideal) x2 x5 (ix4 b n h d) : EReal) = (J x0 x1 x2 x3 x4 x5 x6 x7).K b h n.val d := by
  rw [v2_apply]
  unfold Inputs.K
  split
  · rfl
  · rw [dif_pos (show n.val - 16 < 8192 by omega)]; rfl

theorem v8_W (n : Fin 8208) (d : Fin 128) :
    (val_main_v8 (F := Ideal) x4 x7 (ix4 b n h d) : EReal) = (J x0 x1 x2 x3 x4 x5 x6 x7).W b h n.val d := by
  rw [v8_apply]
  unfold Inputs.W
  split
  · rfl
  · rw [dif_pos (show n.val - 16 < 8192 by omega)]; rfl

theorem v5_R (n : Fin 8208) (d : Fin 64) :
    (val_main_v5 (F := Ideal) x3 x6 (ix3 b n d) : EReal) = (J x0 x1 x2 x3 x4 x5 x6 x7).R b n.val d := by
  rw [v5_apply]
  unfold Inputs.R
  split
  · rfl
  · rw [dif_pos (show n.val - 16 < 8192 by omega)]; rfl

theorem ofBits_192 : (Ideal.ofBits .f32 0x43400000#32 : EReal) = ((192 : ℝ) : EReal) := by
  have e : (1128267776 >>> 23 : ℕ) = 134 := by decide
  have e' : BitVec.extractLsb' 31 1 1128267776#32 = 0#1 := by decide
  norm_num [Ideal.ofBits, Ideal.ieee, e, e']

theorem v24_value : (val_main_v24 (F := Ideal) ix0 : EReal) = (((Real.sqrt 192)⁻¹ : ℝ) : EReal) := by
  show Ideal.rsqrt (Ideal.ofBits .f32 0x43400000#32) = _
  rw [ofBits_192, Ideal.rsqrt_coe]
  rw [if_neg (by norm_num), if_neg (by norm_num)]

theorem negInf : Ideal.ofBits .f32 0xFF800000#32 = (⊥ : EReal) := by
  simp [Ideal.ofBits, Ideal.ieee]

theorem v20_value (n : Fin 8208) : (val_main_v20 (F := Ideal) x0 x2 x5 (ix4 b h p n) : EReal)
    = ∑ d, (J x0 x1 x2 x3 x4 x5 x6 x7).qn b p h d * (J x0 x1 x2 x3 x4 x5 x6 x7).K b h n.val d := by
  rw [val_main_v20_apply]
  refine Finset.sum_congr rfl fun d _ => ?_
  have e : lidx_main_v20 (ix4 b h p n) d = ix4 b p h d := by funext a; fin_cases a <;> rfl
  have e' : ridx_main_v20 (ix4 b h p n) d = ix4 b n h d := by funext a; fin_cases a <;> rfl
  rw [e, e']
  exact congrArg (x0 (ix4 b p h d) * ·) (v2_K x0 x1 x2 x3 x4 x5 x6 x7 b h n d)

theorem v22_value (n : Fin 8208) : (val_main_v22 (F := Ideal) x1 x3 x6 (ix4 b h p n) : EReal)
    = ∑ d, (J x0 x1 x2 x3 x4 x5 x6 x7).R b n.val d * (J x0 x1 x2 x3 x4 x5 x6 x7).qr b p h d := by
  rw [val_main_v22_apply, val_main_v21_apply]
  refine Finset.sum_congr rfl fun d _ => ?_
  have e : lidx_main_v21 (idx_main_v22 (ix4 b h p n)) d = ix3 b n d := by funext a; fin_cases a <;> rfl
  have e' : ridx_main_v21 (idx_main_v22 (ix4 b h p n)) d = ix4 b p h d := by funext a; fin_cases a <;> rfl
  rw [e, e']
  exact congrArg (· * x1 (ix4 b p h d)) (v5_R x0 x1 x2 x3 x4 x5 x6 x7 b n d)

include H in
theorem v26_value (n : Fin 8208) : (val_main_v26 (F := Ideal) x0 x1 x2 x3 x5 x6 (ix4 b h p n) : EReal)
    = (((J x0 x1 x2 x3 x4 x5 x6 x7).y b p h n.val : ℝ) : EReal) := by
  rw [← plain_score H]
  show (val_main_v20 (F := Ideal) x0 x2 x5 (ix4 b h p n) + val_main_v22 (F := Ideal) x1 x3 x6 (ix4 b h p n) : EReal)
    * val_main_v25 (F := Ideal) (ix4 b h p n) = _
  rw [v20_value x0 x1 x2 x3 x4 x5 x6 x7, v22_value x0 x1 x2 x3 x4 x5 x6 x7, val_main_v25_apply]
  exact congrArg _ v24_value

include H in
theorem v27_value (n : Fin 8208) : (val_main_v27 (F := Ideal) x0 x1 x2 x3 x5 x6 (ix4 b h p n) : EReal)
    = score ((J x0 x1 x2 x3 x4 x5 x6 x7).y b p h) (sees p) n.val := by
  have e : idx_main_call2_v1 (ix4 b h p n) = ix2 p n := by funext a; fin_cases a <;> rfl
  rw [val_main_v27_apply, val_main_call2_v1_apply, e, val_main_call2_v2_apply]
  unfold score
  by_cases hc : sees p n.val
  · rw [if_pos hc]
    exact (if_pos ((v19_apply p n).2 hc)).trans (v26_value x0 x1 x2 x3 x4 x5 x6 x7 H b p h n)
  · rw [if_neg hc]
    exact (if_neg fun h' => hc ((v19_apply p n).1 h')).trans negInf

/-- What the reference lowers a query's scores by. -/
def offset : Fin 4 → Fin 8192 → Fin 4 → ℝ := fun b p h =>
  (val_main_v30 (F := Ideal) x0 x1 x2 x3 x5 x6 (ix3 b h p) : EReal).toReal

include H in
/-- The largest score of a query is a real number: a shared key is visible to it. -/
theorem v30_value : (val_main_v30 (F := Ideal) x0 x1 x2 x3 x5 x6 (ix3 b h p) : EReal) = (offset x0 x1 x2 x3 x5 x6 b p h : EReal) := by
  have e28 : (val_main_v28 (F := Ideal) x0 x1 x2 x3 x5 x6 (ix3 b h p) : EReal)
      = (Finset.univ : Finset (Fin 8208)).fold max ⊥ fun n => score ((J x0 x1 x2 x3 x4 x5 x6 x7).y b p h) (sees p) n.val := by
    have e := Host.reduce_eq_fold_single (max : EReal → EReal → EReal) (val_main_v27 (F := Ideal) x0 x1 x2 x3 x5 x6)
      (val_main_cst_3 (F := Ideal)) reducesTo_S4x4x8192x8208_S4x4x8192_d3 (by decide) h_S_ (ix3 b h p)
    refine Eq.trans (e : _) ?_
    refine (congrArg (fun z => Finset.fold max z _ _) negInf).trans ?_
    refine Finset.fold_congr fun n _ => ?_
    refine Eq.trans (congrArg (val_main_v27 (F := Ideal) x0 x1 x2 x3 x5 x6) (?_ : _ = ix4 b h p n)) (v27_value x0 x1 x2 x3 x4 x5 x6 x7 H b p h n)
    funext a; fin_cases a <;> rfl
  have e30 : (val_main_v30 (F := Ideal) x0 x1 x2 x3 x5 x6 (ix3 b h p) : EReal)
      = max ⊥ (val_main_v28 (F := Ideal) x0 x1 x2 x3 x5 x6 (ix3 b h p) : EReal) := by
    rw [val_main_v30_apply, val_main_v29_apply]
    generalize val_main_v28 (F := Ideal) x0 x1 x2 x3 x5 x6 (ix3 b h p) = z
    show max (Ideal.ofBits .f32 0xFF800000#32) z = _
    rw [negInf]
  rw [max_eq_right bot_le, e28] at e30
  have h1 : ((((J x0 x1 x2 x3 x4 x5 x6 x7).y b p h 0 : ℝ)) : EReal) ≤ (val_main_v30 (F := Ideal) x0 x1 x2 x3 x5 x6 (ix3 b h p) : EReal) := by
    rw [e30]
    refine (Finset.le_fold_max _).2 (Or.inr ⟨⟨0, by norm_num⟩, Finset.mem_univ _, ?_⟩)
    unfold score
    rw [if_pos (show sees p 0 from Or.inl (by norm_num))]
  have h2 : (val_main_v30 (F := Ideal) x0 x1 x2 x3 x5 x6 (ix3 b h p) : EReal) < ⊤ := by
    rw [e30]
    exact fold_lt_top _ fun n => score_lt_top _ _ _
  obtain ⟨M, hM⟩ := real_of_between h1 h2
  unfold offset
  rw [hM, EReal.toReal_coe]

include H in
theorem v34_value (n : Fin 8208) : (val_main_v34 (F := Ideal) x0 x1 x2 x3 x5 x6 (ix4 b h p n) : EReal)
    = Ideal.exp (score ((J x0 x1 x2 x3 x4 x5 x6 x7).y b p h) (sees p) n.val - (offset x0 x1 x2 x3 x5 x6 b p h : EReal)) := by
  have e : idx_main_v31 (idx_main_v32 (ix4 b h p n)) = ix3 b h p := by funext a; fin_cases a <;> rfl
  rw [val_main_v34_apply, val_main_v33_apply, val_main_v32_apply, val_main_v31_apply, e]
  show Ideal.exp ((val_main_v27 (F := Ideal) x0 x1 x2 x3 x5 x6 (ix4 b h p n) : EReal) - (val_main_v30 (F := Ideal) x0 x1 x2 x3 x5 x6 (ix3 b h p) : EReal)) = _
  rw [v27_value x0 x1 x2 x3 x4 x5 x6 x7 H, v30_value x0 x1 x2 x3 x4 x5 x6 x7 H]

include H in
theorem v38_value (n : Fin 8208) : (val_main_v38 (F := Ideal) x0 x1 x2 x3 x5 x6 (ix4 b h p n) : EReal)
    = Ideal.div (Ideal.exp (score ((J x0 x1 x2 x3 x4 x5 x6 x7).y b p h) (sees p) n.val - (offset x0 x1 x2 x3 x5 x6 b p h : EReal)))
      (∑ i ∈ Finset.range 8208, Ideal.exp (score ((J x0 x1 x2 x3 x4 x5 x6 x7).y b p h) (sees p) i - (offset x0 x1 x2 x3 x5 x6 b p h : EReal))) := by
  have e : idx_main_v36 (idx_main_v37 (ix4 b h p n)) = ix3 b h p := by funext a; fin_cases a <;> rfl
  rw [val_main_v38_apply, val_main_v37_apply, val_main_v36_apply, e, val_main_v35_apply]
  refine congr_arg₂ Ideal.div (v34_value x0 x1 x2 x3 x4 x5 x6 x7 H b p h n) ?_
  have z : (val_main_cst_5 (F := Ideal) (Shape.Idx.first h_S_) : EReal) = 0 := Ideal.ofBits_zero_f32
  rw [z, zero_add, Finset.sum_range]
  refine Finset.sum_congr rfl fun k _ => ?_
  have e' : idx_main_v35 (ix3 b h p) k = ix4 b h p k := by funext a; fin_cases a <;> rfl
  rw [e']
  exact v34_value x0 x1 x2 x3 x4 x5 x6 x7 H b p h k

include H in
theorem v40_value (d : Fin 128) : (val_main_v40 (F := Ideal) x0 x1 x2 x3 x4 x5 x6 x7 (ix4 b p h d) : EReal)
    = (J x0 x1 x2 x3 x4 x5 x6 x7).out (offset x0 x1 x2 x3 x5 x6) b p h d := by
  have e : idx_main_v40 (ix4 b p h d) = ix4 b h d p := by funext a; fin_cases a <;> rfl
  rw [val_main_v40_apply, e, val_main_v39_apply]
  unfold Inputs.out
  rw [Finset.sum_range]
  refine Finset.sum_congr rfl fun k _ => ?_
  have e' : lidx_main_v39 (ix4 b h d p) k = ix4 b k h d := by funext a; fin_cases a <;> rfl
  have e'' : ridx_main_v39 (ix4 b h d p) k = ix4 b h p k := by funext a; fin_cases a <;> rfl
  rw [e', e'']
  refine Eq.trans (mul_comm (_ : EReal) _) (congr_arg₂ (· * ·) (v38_value x0 x1 x2 x3 x4 x5 x6 x7 H b p h k) (v8_W x0 x1 x2 x3 x4 x5 x6 x7 b h k d))

include H in
/-- The reference's result at an index. -/
theorem v42_value (y : S4x8192x512.Idx) : (val_main_v42 (F := Ideal) x0 x1 x2 x3 x4 x5 x6 x7 y : EReal)
    = (J x0 x1 x2 x3 x4 x5 x6 x7).out (offset x0 x1 x2 x3 x5 x6) ⟨(y 0).val, (y 0).isLt⟩ ⟨(y 1).val, (y 1).isLt⟩
      ⟨(y 2).val / 128, Nat.div_lt_of_lt_mul (n := 128) (k := 4) (y 2).isLt⟩ ⟨(y 2).val % 128, Nat.mod_lt _ (by norm_num)⟩ := by
  rw [← v40_value x0 x1 x2 x3 x4 x5 x6 x7 H, val_main_v42_apply, val_main_v41_apply]
  refine congrArg (val_main_v40 (F := Ideal) x0 x1 x2 x3 x4 x5 x6 x7) ?_
  have h0 : (y 0).val < 4 := (y 0).isLt
  have h1 : (y 1).val < 8192 := (y 1).isLt
  have h2 : (y 2).val < 512 := (y 2).isLt
  funext a
  refine Fin.ext ?_
  fin_cases a
  · show (((y 0).val * 8192 + (y 1).val) * 512 + (y 2).val) / 4194304 = (y 0).val; omega
  · show (((y 0).val * 8192 + (y 1).val) * 512 + (y 2).val) / 512 % 8192 = (y 1).val; omega
  · show (((y 0).val * 8192 + (y 1).val) * 512 + (y 2).val) / 128 % 4 = (y 2).val / 128; omega
  · show (((y 0).val * 8192 + (y 1).val) * 512 + (y 2).val) % 128 = (y 2).val % 128; omega

end Cert.Refval
end
-- ==== Proof.Goal.lean ====
/-
The two programs compute one function: from the precondition the queries and keys are real numbers, and then both results
are the attention of `Attend`, every score lowered by what the reference lowers it by.
-/
module

public import proofs.«01_k».proof.Defs
public import proofs.«01_k».proof.Proof.Final
public import proofs.«01_k».proof.Proof.Refval
public import proofs.«01_k».proof.Proof.Gen.Pre_finite
public import proofs.«01_k».proof.Proof.Gen.KernelIdeal.Value

@[expose] public section

set_option maxRecDepth 16384

noncomputable section

open Idealize.ShloMosaic Idealize.ShloMosaic.TcCoe Idealize.SL.Sem

namespace Cert.Goal

open Cert.Attend

theorem posInf : Ideal.ofBits .f32 0x7F800000#32 = (⊤ : EReal) := by
  simp [Ideal.ofBits, Ideal.ieee]

/-- A number whose absolute value compares below `⊤` is real. -/
theorem real_of_lt {x : EReal} (h : Ideal.cmp .olt (max x (-x)) (Ideal.ofBits .f32 0x7F800000#32) = 1#1) : IsReal x := by
  rw [posInf] at h
  have h' : max x (-x) < ⊤ := by
    by_contra hc
    rw [show Ideal.cmp .olt (max x (-x)) ⊤ = BitVec.ofBool (decide (max x (-x) < ⊤)) from rfl, decide_eq_false hc] at h
    exact absurd h (by decide)
  have h1 := (max_lt_iff.1 h').1
  have h2 := (max_lt_iff.1 h').2
  refine ⟨h1.ne, fun e => ?_⟩
  rw [e] at h2
  exact absurd h2 (by simp)

open Cert.KernelIdeal

variable (m : (ℓ : Loc nD τ sig) → Buf (Elt Ideal) ℓ)

theorem finite_inp (h : Cert.Pre_KernelIdeal_finite m) (c : Dev nD) : (Cert.Blocks.inp m c).Finite := by
  obtain ⟨h0, h1, h2, h3, h4, h5⟩ := h c
  exact
    { qn := fun b p h d => real_of_lt (congrFun h0 (ix4 b p h d))
      qr := fun b p h d => real_of_lt (congrFun h1 (ix4 b p h d))
      kn := fun b p h d => real_of_lt (congrFun h2 (ix4 b p h d))
      kr := fun b p d => real_of_lt (congrFun h3 (ix3 b p d))
      knm := fun n h d => real_of_lt (congrFun h4 (ix3 n h d))
      krm := fun n d => real_of_lt (congrFun h5 (ix2 n d)) }

theorem reference_array (m' : (ℓ : Loc Cert.ReferenceIdeal.nD Cert.ReferenceIdeal.τ Cert.ReferenceIdeal.sig) → Buf (Elt Ideal) ℓ)
    (c : Dev nD) (H : (Cert.Blocks.inp m c).Finite)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7)) :
    Cert.ReferenceIdeal.Value.res_main_v42 m' c = (Cert.KernelIdeal.Gen.dats m 0 c).arrAt 5 cfg0.N := by
  rw [Cert.ReferenceIdeal.Read.val_main_v42_eq, e0, e1, e2, e3, e4, e5, e6, e7]
  rw [Cert.Blocks.kernel_array m c H (Cert.Refval.offset
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6)))]
  exact funext fun y => Cert.Refval.v42_value
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) H y

theorem algebraic : Cert.algebraic_KernelIdeal_ReferenceIdeal_pre_finite := fun m ρ m' ρ' hpre hag =>
  ⟨fun c => (Cert.KernelIdeal.Gen.dats m 0 c).arrAt 5 cfg0.N, Cert.KernelIdeal.Value.run_blocks m ρ,
    (θ_run _ _ _).mono (fun _ h c => ⟨(h c).1.trans (reference_array m m' c (finite_inp m hpre c) (hag c).1 (hag c).2.1 (hag c).2.2.1
      (hag c).2.2.2.1 (hag c).2.2.2.2.1 (hag c).2.2.2.2.2.1 (hag c).2.2.2.2.2.2.1 (hag c).2.2.2.2.2.2.2), (h c).2⟩)
      (Cert.ReferenceIdeal.Value.run m' ρ')⟩

end Cert.Goal
end
-- ==== Proof.Ffn.lean ====
/-
The mathematics of one half step of a gated feed-forward layer, over the extended reals: the root mean square norm of a
row, the gated hidden layer, and a sum over its 2816 columns taken in eleven chunks of 256.
-/
module

public import Idealize.ShloMosaic.PureOps.Ideal
public import Idealize.ShloMosaic.Lib.Pointwise

@[expose] public section

noncomputable section

open Idealize.ShloMosaic

namespace Cert.Ffn

/-- The norm of a row: each element over the root of the mean square, times the gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The gated hidden value from the gate's sum and the other factor's. -/
def gated (z u : EReal) : EReal := z * Ideal.logistic z * u

/-- One column of the hidden layer. -/
def hidden (h : Fin 1024 → EReal) (wg wu : Fin 1024 → Fin 2816 → EReal) (f : Fin 2816) : EReal :=
  gated (∑ k, h k * wg k f) (∑ k, h k * wu k f)

/-- The row after the half step. -/
def half (x g : Fin 1024 → EReal) (wg wu : Fin 1024 → Fin 2816 → EReal) (wd : Fin 2816 → Fin 1024 → EReal) (j : Fin 1024) : EReal :=
  x j + Ideal.ofBits .f32 0x3F000000#32 * ∑ f, hidden (rms x g) wg wu f * wd f j

/-- The two halves of a row of 1024. -/
def lo (k : Fin 512) : Fin 1024 := ⟨k.val, by omega⟩
def hi (k : Fin 512) : Fin 1024 := ⟨512 + k.val, by omega⟩

/-- A row of the layer's output: the residual with both mixers' projections, the half step, and the final norm. -/
def outRow (x : Fin 1024 → EReal) (p q : Fin 512 → EReal) (w : Fin 1024 → Fin 1024 → EReal) (g : Fin 1024 → EReal)
    (wg wu : Fin 1024 → Fin 2816 → EReal) (wd : Fin 2816 → Fin 1024 → EReal) (gf : Fin 1024 → EReal) (j : Fin 1024) : EReal :=
  rms (half (fun j => x j + ∑ k, p k * w (lo k) j + ∑ k, q k * w (hi k) j) g wg wu wd) gf j

theorem outRow_of {x x' : Fin 1024 → EReal} {p p' q q' : Fin 512 → EReal} {a b : Fin 512 → Fin 1024 → EReal}
    {w : Fin 1024 → Fin 1024 → EReal} {g g' : Fin 1024 → EReal} {wg wg' wu wu' : Fin 1024 → Fin 2816 → EReal}
    {wd wd' : Fin 2816 → Fin 1024 → EReal} {gf gf' : Fin 1024 → EReal} (j : Fin 1024)
    (hx : ∀ j, x' j = x j) (hp : ∀ k, p' k = p k) (hq : ∀ k, q' k = q k) (ha : ∀ k j, a k j = w (lo k) j)
    (hb : ∀ k j, b k j = w (hi k) j) (hg : ∀ j, g' j = g j) (hwg : ∀ k f, wg' k f = wg k f) (hwu : ∀ k f, wu' k f = wu k f)
    (hwd : ∀ f j, wd' f j = wd f j) (hgf : ∀ j, gf' j = gf j) :
    rms (half (fun j => x' j + ∑ k, p' k * a k j + ∑ k, q' k * b k j) g' wg' wu' wd') gf' j = outRow x p q w g wg wu wd gf j := by
  obtain rfl : x' = x := funext hx
  obtain rfl : p' = p := funext hp
  obtain rfl : q' = q := funext hq
  obtain rfl : g' = g := funext hg
  obtain rfl : gf' = gf := funext hgf
  obtain rfl : wg' = wg := funext fun k => funext (hwg k)
  obtain rfl : wu' = wu := funext fun k => funext (hwu k)
  obtain rfl : wd' = wd := funext fun k => funext (hwd k)
  unfold outRow
  simp only [ha, hb]

/-- Column `256 k + f` of the hidden layer. -/
def fcol (k : Fin 11) (f : Fin 256) : Fin 2816 := ⟨256 * k.val + f.val, by omega⟩

/-- The sum over one chunk. -/
def chunk (F : Fin 2816 → EReal) (k : Fin 11) : EReal := ∑ f : Fin 256, F (fcol k f)

theorem sum_chunk (F : Fin 2816 → EReal) : ∑ k, chunk F k = ∑ f, F f := by
  unfold chunk
  rw [← Fintype.sum_prod_type']
  refine Fintype.sum_equiv (finProdFinEquiv (m := 11) (n := 256)) _ _ fun p => ?_
  refine congrArg F (Fin.ext ?_)
  simp only [fcol, finProdFinEquiv_apply_val]
  omega

theorem chunks (F : Fin 2816 → EReal) :
    chunk F 0 + chunk F 1 + chunk F 2 + chunk F 3 + chunk F 4 + chunk F 5 + chunk F 6 + chunk F 7 + chunk F 8 + chunk F 9 + chunk F 10 = ∑ f, F f := by
  rw [← sum_chunk]
  simp only [Fin.sum_univ_castSucc, Fin.sum_univ_zero, zero_add]
  rfl

end Cert.Ffn
-- ==== Proof.OutPure.lean ====
/-
The output call's stored values at an element: the residual sum, the norm, one chunk of the gated layer, and the result.
-/
module

public import proofs.«01_k».proof.Proof.Ffn
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe

namespace Cert.OutPure

open Cert.Kernel2Ideal Cert.Kernel2Ideal.Gen Cert.Ffn

section Terms

variable {F : FTy → Type} [FloatOps F] [Named F]

/-- The first chunk's product. -/
def first (h : Vec F S512x1024 .bf16) (wg wu : Vec F S1024x256 .bf16) (wd : Vec F S256x1024 .bf16) : Vec F S512x1024 .f32 :=
  k0_pay7 h (k0_pay4 wg) h wu wd

/-- A later chunk's product, added to the sum so far. -/
def next (acc : Vec F S512x1024 .f32) (h : Vec F S512x1024 .bf16) (wg wu : Vec F S1024x256 .bf16) (wd : Vec F S256x1024 .bf16) :
    Vec F S512x1024 .f32 :=
  k0_pay9 (k0_pay5 h wg) (k0_pay6 h wu) wd acc

end Terms

variable (h : Vec Ideal S512x1024 .bf16) (wg wu : Vec Ideal S1024x256 .bf16) (wd : Vec Ideal S256x1024 .bf16)
  (acc : Vec Ideal S512x1024 .f32)

theorem first_apply (i : Fin 512) (j : Fin 1024) :
    (first (F := Ideal) h wg wu wd (ix2 i j) : EReal) = ∑ f : Fin 256, gated (∑ k : Fin 1024, h (ix2 i k) * wg (ix2 k f)) (∑ k : Fin 1024, h (ix2 i k) * wu (ix2 k f)) * wd (ix2 f j) := by
  unfold gated
  pointwise [first, k0_pay7, k0_pay4]
  try rfl

theorem next_apply (i : Fin 512) (j : Fin 1024) :
    (next (F := Ideal) acc h wg wu wd (ix2 i j) : EReal) = acc (ix2 i j) + ∑ f : Fin 256, gated (∑ k : Fin 1024, h (ix2 i k) * wg (ix2 k f)) (∑ k : Fin 1024, h (ix2 i k) * wu (ix2 k f)) * wd (ix2 f j) := by
  unfold gated
  pointwise [next, k0_pay9, k0_pay5, k0_pay6]
  try rfl

variable (x : Vec Ideal S512x1024 .f32) (p q : Vec Ideal S512x512 .bf16) (a b : Vec Ideal S512x1024 .bf16)
  (g : Vec Ideal S1x1024 .f32)

/-- A row of the residual sum. -/
def resid (i : Fin 512) (j : Fin 1024) : EReal :=
  x (ix2 i j) + ∑ k : Fin 512, p (ix2 i k) * a (ix2 k j) + ∑ k : Fin 512, q (ix2 i k) * b (ix2 k j)

theorem pay2_apply (i : Fin 512) (j : Fin 1024) :
    (k0_pay2 (F := Ideal) x p a q b (ix2 i j) : EReal) = resid x p q a b i j := by
  unfold resid
  pointwise [k0_pay2]
  try rfl

theorem pay3_apply (i : Fin 512) (j : Fin 1024) :
    (k0_pay3 (F := Ideal) x p a q b g (ix2 i j) : EReal) = rms (resid x p q a b i) (fun j => g (ix2 0 j)) j := by
  unfold rms
  pointwise [k0_pay3, pay2_apply]
  try rfl

theorem out_apply (r : Vec Ideal S512x1024 .f32) (i : Fin 512) (j : Fin 1024) :
    (k0_pay1 (F := Ideal) (k0_pay33 r acc) (k0_pay34 g) (k0_pay35 r acc) (ix2 i j) : EReal) =
      rms (fun j => r (ix2 i j) + Ideal.ofBits .f32 0x3F000000#32 * acc (ix2 i j)) (fun j => g (ix2 0 j)) j := by
  unfold rms
  pointwise [k0_pay1, k0_pay33, k0_pay34, k0_pay35]
  try rfl

end Cert.OutPure
-- ==== Proof.Window.lean ====
/-
Reads of a buffer: the box written last, a whole argument, and a window of an argument.
-/
module

public import Idealize.ShloMosaic.Lib.Pipeline.ValueKit
public import Idealize.ShloMosaic.Lib.Pipeline.ReadBack

@[expose] public section

noncomputable section

open Idealize.ShloMosaic

namespace Cert.Window

theorem readAt_hit {sig' : RefSig} {κ' : Kind} {sp : Space} {s : Shape} {e : EltTy} {Val : EltTy → Type}
    (v : View sig' κ' sp s e) (f : v.ty.Contents Val) (r : Rect s) (w : r.shape.Idx → Val e) (L : List (View.Piece Val s e)) :
    v.readAt Val r.toLoadRect (v.writes Val f (⟨r, w⟩ :: L)) = w := by
  funext j
  rw [View.readAt_apply]
  exact View.read_writes_cons_emb v f r w L j

variable {F : FTy → Type} [FloatOps F]

theorem win_apply {sg : RefSig} {κ' : Kind} {sp : Space} {s : Shape} {e : EltTy} (b : Memref sg κ' sp s e)
    (hb : b.IsWhole) (x : Vec F s e) (off size : Fin s.rank → ℕ) (inb : ∀ a, off a + size a ≤ s.size a)
    (y : (Rect.unit off size inb).shape.Idx) (z : s.Idx) (hz : ∀ a, (z a).val = off a + (y a).val) :
    b.view.readAt (Elt F) (Rect.unit off size inb).toLoadRect (hb.unread x) y = x z := by
  rw [View.readAt_apply, hb.read_unread]
  exact congrArg x (funext fun a => Fin.ext ((Rect.idx_unit_val off size inb y a).trans (hz a).symm))

theorem win_whole {sg : RefSig} {κ' : Kind} {sp : Space} {s : Shape} {e : EltTy} (b : Memref sg κ' sp s e)
    (hb : b.IsWhole) (x : Vec F s e) (off : Fin s.rank → ℕ) (inb : ∀ a, off a + s.size a ≤ s.size a) (h0 : ∀ a, off a = 0) :
    b.view.readAt (Elt F) (Rect.unit off s.size inb).toLoadRect (hb.unread x) = x :=
  funext fun y => win_apply b hb x off s.size inb y y fun a => by rw [h0 a, Nat.zero_add]

theorem read_whole {sig' : RefSig} {κ' : Kind} {sp : Space} {s : Shape} {e : EltTy} {Val : EltTy → Type}
    (v : View sig' κ' sp s e) (f : v.ty.Contents Val) (off : Fin s.rank → ℕ) (inb : ∀ a, off a + s.size a ≤ s.size a)
    (h0 : ∀ a, off a = 0) (w : s.Idx → Val e) :
    v.read Val (v.writes Val f [⟨Rect.unit off s.size inb, w⟩]) = w := by
  funext j
  have e : (show s.Idx from (Rect.unit off s.size inb).emb j) = j :=
    funext fun a => Fin.ext ((Rect.idx_unit_val off s.size inb j a).trans (by rw [h0 a, Nat.zero_add]))
  have h := View.read_writes_cons_emb v f (Rect.unit off s.size inb) w [] j
  exact (congrArg (v.read Val (v.writes Val f [⟨Rect.unit off s.size inb, w⟩])) e).symm.trans h

end Cert.Window
-- ==== Proof.OutBody.lean ====
/-
One run of the output call's body: the value it stores, as the residual sum, its norm, eleven chunks of the gated layer
added up, and the final norm.
-/
module

public import proofs.«01_k».proof.Proof.OutPure
public import proofs.«01_k».proof.Proof.Window

@[expose] public section

set_option maxRecDepth 16384

noncomputable section

open Idealize.ShloMosaic Idealize.ShloMosaic.TcCoe

namespace Cert.OutPure

open Cert.Kernel2Ideal Cert.Kernel2Ideal.Gen Cert.Ffn Cert.Window

section Body

variable {F : FTy → Type} [FloatOps F] [Named F]

/-- Columns `256 k …` of a weight. -/
def wcol (w : Vec F S1024x2816 .bf16) (k : Fin 11) : Vec F S1024x256 .bf16 := fun y => w (ix2 ⟨(y 0).val, (y 0).isLt⟩ (fcol k ⟨(y 1).val, (y 1).isLt⟩))
/-- Rows `256 k …` of a weight. -/
def wrow (w : Vec F S2816x1024 .bf16) (k : Fin 11) : Vec F S256x1024 .bf16 := fun y => w (ix2 (fcol k ⟨(y 0).val, (y 0).isLt⟩) ⟨(y 1).val, (y 1).isLt⟩)

theorem wcol_read (b : Memref sig .tc .vmem S1024x2816 .bf16) (hb : b.IsWhole) (w : Vec F S1024x2816 .bf16) (k : Fin 11)
    (off : Fin 2 → ℕ) (inb : ∀ a, off a + S1024x256.size a ≤ S1024x2816.size a) (ho : off = ![0, 256 * k.val]) :
    b.view.readAt (Elt F) (Rect.unit (s := S1024x2816) off S1024x256.size inb).toLoadRect (hb.unread w) = wcol w k := by
  subst ho
  refine funext fun y => win_apply b hb w _ _ inb y _ fun a => ?_
  match a with
  | 0 => exact (Nat.zero_add _).symm
  | 1 => rfl

theorem wrow_read (b : Memref sig .tc .vmem S2816x1024 .bf16) (hb : b.IsWhole) (w : Vec F S2816x1024 .bf16) (k : Fin 11)
    (off : Fin 2 → ℕ) (inb : ∀ a, off a + S256x1024.size a ≤ S2816x1024.size a) (ho : off = ![256 * k.val, 0]) :
    b.view.readAt (Elt F) (Rect.unit (s := S2816x1024) off S256x1024.size inb).toLoadRect (hb.unread w) = wrow w k := by
  subst ho
  refine funext fun y => win_apply b hb w _ _ inb y _ fun a => ?_
  match a with
  | 0 => rfl
  | 1 => exact (Nat.zero_add _).symm

variable (h : Vec F S512x1024 .bf16) (x6 x7 : Vec F S1024x2816 .bf16) (x8 : Vec F S2816x1024 .bf16)

/-- The sum after each chunk. -/
def acc0 : Vec F S512x1024 .f32 := first h (wcol x6 0) (wcol x7 0) (wrow x8 0)
def acc1 : Vec F S512x1024 .f32 := next (acc0 h x6 x7 x8) h (wcol x6 1) (wcol x7 1) (wrow x8 1)
def acc2 : Vec F S512x1024 .f32 := next (acc1 h x6 x7 x8) h (wcol x6 2) (wcol x7 2) (wrow x8 2)
def acc3 : Vec F S512x1024 .f32 := next (acc2 h x6 x7 x8) h (wcol x6 3) (wcol x7 3) (wrow x8 3)
def acc4 : Vec F S512x1024 .f32 := next (acc3 h x6 x7 x8) h (wcol x6 4) (wcol x7 4) (wrow x8 4)
def acc5 : Vec F S512x1024 .f32 := next (acc4 h x6 x7 x8) h (wcol x6 5) (wcol x7 5) (wrow x8 5)
def acc6 : Vec F S512x1024 .f32 := next (acc5 h x6 x7 x8) h (wcol x6 6) (wcol x7 6) (wrow x8 6)
def acc7 : Vec F S512x1024 .f32 := next (acc6 h x6 x7 x8) h (wcol x6 7) (wcol x7 7) (wrow x8 7)
def acc8 : Vec F S512x1024 .f32 := next (acc7 h x6 x7 x8) h (wcol x6 8) (wcol x7 8) (wrow x8 8)
def acc9 : Vec F S512x1024 .f32 := next (acc8 h x6 x7 x8) h (wcol x6 9) (wcol x7 9) (wrow x8 9)
def acc10 : Vec F S512x1024 .f32 := next (acc9 h x6 x7 x8) h (wcol x6 10) (wcol x7 10) (wrow x8 10)

variable (c : Dev nD) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole)
  (x0 : Vec F S512x1024 .f32) (x1 : Vec F S512x512 .bf16) (x2 : Vec F S512x512 .bf16) (x3 : Vec F S512x1024 .bf16) (x4 : Vec F S512x1024 .bf16) (x5 : Vec F S1x1024 .f32) (x9 : Vec F S1x1024 .f32)

theorem zero_off (a : Fin 2) : (![0, 0] : Fin 2 → ℕ) a = 0 := by
  match a with
  | 0 => rfl
  | 1 => rfl

theorem r_eq : kernelRun0_A.sl.r (F := F) c arg1 harg1 arg2 harg2 arg3 harg3 arg4 harg4 arg5 harg5 x0 x1 x2 x3 x4 = k0_pay2 x0 x1 x3 x2 x4 := by
  unfold kernelRun0_A.sl.r
  rw [win_whole arg1 harg1 x0 ![0, 0] _ zero_off, win_whole arg2 harg2 x1 ![0, 0] _ zero_off, win_whole arg3 harg3 x2 ![0, 0] _ zero_off, win_whole arg4 harg4 x3 ![0, 0] _ zero_off, win_whole arg5 harg5 x4 ![0, 0] _ zero_off]

theorem v32_eq : (kernelRun0_A.sl.v32 (F := F) c arg1 harg1 arg2 harg2 arg3 harg3 arg4 harg4 arg5 harg5 arg6 harg6 arg12 x0 x1 x2 x3 x4 x5) = k0_pay3 x0 x1 x3 x2 x4 x5 := by
  show arg12.view.readAt (Elt F) (Rect.unit (s := S512x1024) ![0, 0] S512x1024.size inb_S512x1024_S512x1024_0_0).toLoadRect (arg12.view.writes (Elt F) _ (kernelRun0_A.sl.HS0_1 (F := F) c arg1 harg1 arg2 harg2 arg3 harg3 arg4 harg4 arg5 harg5 arg6 harg6 x0 x1 x2 x3 x4 x5)) = _
  unfold kernelRun0_A.sl.HS0_1
  rw [readAt_hit]
  rw [win_whole arg1 harg1 x0 ![0, 0] _ zero_off, win_whole arg2 harg2 x1 ![0, 0] _ zero_off, win_whole arg3 harg3 x2 ![0, 0] _ zero_off, win_whole arg4 harg4 x3 ![0, 0] _ zero_off, win_whole arg5 harg5 x4 ![0, 0] _ zero_off, win_whole arg6 harg6 x5 ![0, 0] _ zero_off]

theorem v73_eq : kernelRun0_A.sl.v73 (F := F) c arg1 harg1 arg2 harg2 arg3 harg3 arg4 harg4 arg5 harg5 arg6 harg6 arg7 harg7 arg8 harg8 arg9 harg9 arg12 arg13 x0 x1 x2 x3 x4 x5 x6 x7 x8 = acc0 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_1 (F := F) c arg1 harg1 arg2 harg2 arg3 harg3 arg4 harg4 arg5 harg5 arg6 harg6 arg7 harg7 arg8 harg8 arg9 harg9 arg12 x0 x1 x2 x3 x4 x5 x6 x7 x8)) = _
  unfold kernelRun0_A.sl.HS1_1
  rw [readAt_hit]
  unfold kernelRun0_A.sl.r_1
  rw [v32_eq]

  rw [wcol_read arg7 harg7 x6 0 ![0, 0] _ rfl, wcol_read arg8 harg8 x7 0 ![0, 0] _ rfl, wrow_read arg9 harg9 x8 0 ![0, 0] _ rfl]
  rfl

theorem v93_eq : kernelRun0_A.sl.v93 (F := F) c arg1 harg1 arg2 harg2 arg3 harg3 arg4 harg4 arg5 harg5 arg6 harg6 arg7 harg7 arg8 harg8 arg9 harg9 arg12 arg13 x0 x1 x2 x3 x4 x5 x6 x7 x8 = acc1 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_2 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_2
  rw [readAt_hit]
  unfold kernelRun0_A.sl.r_2 kernelRun0_A.sl.r_3
  rw [v32_eq]
  rw [v73_eq]
  rw [wcol_read arg7 harg7 x6 1 ![0, 256] _ rfl, wcol_read arg8 harg8 x7 1 ![0, 256] _ rfl, wrow_read arg9 harg9 x8 1 ![256, 0] _ rfl]
  rfl

theorem v113_eq : kernelRun0_A.sl.v113 (F := F) c arg1 harg1 arg2 harg2 arg3 harg3 arg4 harg4 arg5 harg5 arg6 harg6 arg7 harg7 arg8 harg8 arg9 harg9 arg12 arg13 x0 x1 x2 x3 x4 x5 x6 x7 x8 = acc2 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_3 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_3
  rw [readAt_hit]
  unfold kernelRun0_A.sl.r_8 kernelRun0_A.sl.r_4 kernelRun0_A.sl.r_5
  rw [v32_eq]
  rw [v93_eq]
  rw [wcol_read arg7 harg7 x6 2 ![0, 512] _ rfl, wcol_read arg8 harg8 x7 2 ![0, 512] _ rfl, wrow_read arg9 harg9 x8 2 ![512, 0] _ rfl]
  rfl

theorem v133_eq : kernelRun0_A.sl.v133 (F := F) c arg1 harg1 arg2 harg2 arg3 harg3 arg4 harg4 arg5 harg5 arg6 harg6 arg7 harg7 arg8 harg8 arg9 harg9 arg12 arg13 x0 x1 x2 x3 x4 x5 x6 x7 x8 = acc3 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_4 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_4
  rw [readAt_hit]
  unfold kernelRun0_A.sl.r_6 kernelRun0_A.sl.r_7
  rw [v32_eq]
  rw [v113_eq]
  rw [wcol_read arg7 harg7 x6 3 ![0, 768] _ rfl, wcol_read arg8 harg8 x7 3 ![0, 768] _ rfl, wrow_read arg9 harg9 x8 3 ![768, 0] _ rfl]
  rfl

theorem v153_eq : kernelRun0_A.sl.v153 (F := F) c arg1 harg1 arg2 harg2 arg3 harg3 arg4 harg4 arg5 harg5 arg6 harg6 arg7 harg7 arg8 harg8 arg9 harg9 arg12 arg13 x0 x1 x2 x3 x4 x5 x6 x7 x8 = acc4 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_5 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_5
  rw [readAt_hit]
  unfold kernelRun0_A.sl.r_11
  rw [v32_eq]
  rw [v133_eq]
  rw [wcol_read arg7 harg7 x6 4 ![0, 1024] _ rfl, wcol_read arg8 harg8 x7 4 ![0, 1024] _ rfl, wrow_read arg9 harg9 x8 4 ![1024, 0] _ rfl]
  rfl

theorem v173_eq : kernelRun0_A.sl.v173 (F := F) c arg1 harg1 arg2 harg2 arg3 harg3 arg4 harg4 arg5 harg5 arg6 harg6 arg7 harg7 arg8 harg8 arg9 harg9 arg12 arg13 x0 x1 x2 x3 x4 x5 x6 x7 x8 = acc5 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_6 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_6
  rw [readAt_hit]
  unfold kernelRun0_A.sl.r_9 kernelRun0_A.sl.r_10
  rw [v32_eq]
  rw [v153_eq]
  rw [wcol_read arg7 harg7 x6 5 ![0, 1280] _ rfl, wcol_read arg8 harg8 x7 5 ![0, 1280] _ rfl, wrow_read arg9 harg9 x8 5 ![1280, 0] _ rfl]
  rfl

theorem v193_eq : kernelRun0_A.sl.v193 (F := F) c arg1 harg1 arg2 harg2 arg3 harg3 arg4 harg4 arg5 harg5 arg6 harg6 arg7 harg7 arg8 harg8 arg9 harg9 arg12 arg13 x0 x1 x2 x3 x4 x5 x6 x7 x8 = acc6 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_7 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_7
  rw [readAt_hit]
  unfold kernelRun0_A.sl.r_12 kernelRun0_A.sl.r_13
  rw [v32_eq]
  rw [v173_eq]
  rw [wcol_read arg7 harg7 x6 6 ![0, 1536] _ rfl, wcol_read arg8 harg8 x7 6 ![0, 1536] _ rfl, wrow_read arg9 harg9 x8 6 ![1536, 0] _ rfl]
  rfl

theorem v213_eq : kernelRun0_A.sl.v213 (F := F) c arg1 harg1 arg2 harg2 arg3 harg3 arg4 harg4 arg5 harg5 arg6 harg6 arg7 harg7 arg8 harg8 arg9 harg9 arg12 arg13 x0 x1 x2 x3 x4 x5 x6 x7 x8 = acc7 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_8 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_8
  rw [readAt_hit]
  unfold kernelRun0_A.sl.r_16 kernelRun0_A.sl.r_17 kernelRun0_A.sl.cst_148
  rw [v32_eq]
  rw [v193_eq]
  rw [wcol_read arg7 harg7 x6 7 ![0, 1792] _ rfl, wcol_read arg8 harg8 x7 7 ![0, 1792] _ rfl, wrow_read arg9 harg9 x8 7 ![1792, 0] _ rfl]
  rfl

theorem v233_eq : kernelRun0_A.sl.v233 (F := F) c arg1 harg1 arg2 harg2 arg3 harg3 arg4 harg4 arg5 harg5 arg6 harg6 arg7 harg7 arg8 harg8 arg9 harg9 arg12 arg13 x0 x1 x2 x3 x4 x5 x6 x7 x8 = acc8 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_9 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_9
  rw [readAt_hit]
  unfold kernelRun0_A.sl.r_14 kernelRun0_A.sl.r_15
  rw [v32_eq]
  rw [v213_eq]
  rw [wcol_read arg7 harg7 x6 8 ![0, 2048] _ rfl, wcol_read arg8 harg8 x7 8 ![0, 2048] _ rfl, wrow_read arg9 harg9 x8 8 ![2048, 0] _ rfl]
  rfl

theorem v245_eq : kernelRun0_A.sl.v245 (F := F) c arg1 harg1 arg2 harg2 arg3 harg3 arg4 harg4 arg5 harg5 arg6 harg6 arg7 harg7 arg8 harg8 arg9 harg9 arg12 arg13 x0 x1 x2 x3 x4 x5 x6 x7 x8 = acc9 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_10 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_10
  rw [readAt_hit]
  unfold kernelRun0_A.sl.r_18 kernelRun0_A.sl.r_19
  rw [v32_eq]
  rw [v233_eq]
  rw [wcol_read arg7 harg7 x6 9 ![0, 2304] _ rfl, wcol_read arg8 harg8 x7 9 ![0, 2304] _ rfl, wrow_read arg9 harg9 x8 9 ![2304, 0] _ rfl]
  rfl

theorem v250_eq : kernelRun0_A.sl.v250 (F := F) c arg1 harg1 arg2 harg2 arg3 harg3 arg4 harg4 arg5 harg5 arg6 harg6 arg7 harg7 arg8 harg8 arg9 harg9 arg12 arg13 x0 x1 x2 x3 x4 x5 x6 x7 x8 = acc10 (k0_pay3 x0 x1 x3 x2 x4 x5) x6 x7 x8 := by
  show arg13.view.readAt (Elt F) (Rect.unit (s := S512x1024) ![0, 0] S512x1024.size inb_S512x1024_S512x1024_0_0).toLoadRect (arg13.view.writes (Elt F) _ (kernelRun0_A.sl.HS1_11 (F := F) c arg1 harg1 arg2 harg2 arg3 harg3 arg4 harg4 arg5 harg5 arg6 harg6 arg7 harg7 arg8 harg8 arg9 harg9 arg12 arg13 x0 x1 x2 x3 x4 x5 x6 x7 x8)) = _
  unfold kernelRun0_A.sl.HS1_11
  rw [readAt_hit]
  unfold kernelRun0_A.sl.r_20
  rw [v32_eq]
  rw [v245_eq]
  rw [wcol_read arg7 harg7 x6 10 ![0, 2560] _ rfl, wcol_read arg8 harg8 x7 10 ![0, 2560] _ rfl, wrow_read arg9 harg9 x8 10 ![2560, 0] _ rfl]
  rfl

theorem out_eq (i : grid0.Coords) : out0_A_10 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
    = k0_pay1 (k0_pay33 (k0_pay2 x0 x1 x3 x2 x4) (acc10 (k0_pay3 x0 x1 x3 x2 x4 x5) x6 x7 x8)) (k0_pay34 x9)
        (k0_pay35 (k0_pay2 x0 x1 x3 x2 x4) (acc10 (k0_pay3 x0 x1 x3 x2 x4 x5) x6 x7 x8)) := by
  unfold out0_A_10
  have e21 : kernelRun0_A.sl.r_21 (F := F) c arg1 harg1 arg2 harg2 arg3 harg3 arg4 harg4 arg5 harg5 arg6 harg6 arg7 harg7 arg8 harg8 arg9 harg9 arg12 arg13 x0 x1 x2 x3 x4 x5 x6 x7 x8 = k0_pay33 (k0_pay2 x0 x1 x3 x2 x4) (acc10 (k0_pay3 x0 x1 x3 x2 x4 x5) x6 x7 x8) := by
    unfold kernelRun0_A.sl.r_21
    rw [v250_eq, r_eq]
  have e22 : kernelRun0_A.sl.r_22 (F := F) c arg10 harg10 x9 = k0_pay34 x9 := by
    unfold kernelRun0_A.sl.r_22
    rw [win_whole arg10 harg10 x9 ![0, 0] _ zero_off]
  have e23 : kernelRun0_A.sl.r_23 (F := F) c arg1 harg1 arg2 harg2 arg3 harg3 arg4 harg4 arg5 harg5 arg6 harg6 arg7 harg7 arg8 harg8 arg9 harg9 arg12 arg13 x0 x1 x2 x3 x4 x5 x6 x7 x8 = k0_pay35 (k0_pay2 x0 x1 x3 x2 x4) (acc10 (k0_pay3 x0 x1 x3 x2 x4 x5) x6 x7 x8) := by
    unfold kernelRun0_A.sl.r_23
    rw [v250_eq, r_eq]
  rw [← e21, ← e22, ← e23]
  exact read_whole VO0_10 VO0_10.junk ![0, 0] inb_S512x1024_S512x1024_0_0 zero_off _

end Body

section Value

variable (h : Vec Ideal S512x1024 .bf16) (x6 x7 : Vec Ideal S1024x2816 .bf16) (x8 : Vec Ideal S2816x1024 .bf16)

theorem acc_apply (i : Fin 512) (j : Fin 1024) : (acc10 (F := Ideal) h x6 x7 x8 (ix2 i j) : EReal) =
    ∑ f, hidden (fun k => h (ix2 i k)) (fun k f => x6 (ix2 k f)) (fun k f => x7 (ix2 k f)) f * (fun f j => x8 (ix2 f j)) f j := by
  rw [← chunks]
  unfold acc10 acc9 acc8 acc7 acc6 acc5 acc4 acc3 acc2 acc1 acc0
  simp only [next_apply, first_apply]
  rfl

/-- What the body stores, at an element. -/
theorem body_value (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S1x1024 .f32) (x9 : Vec Ideal S1x1024 .f32) (i : Fin 512) (j : Fin 1024) :
    (k0_pay1 (F := Ideal) (k0_pay33 (k0_pay2 x0 x1 x3 x2 x4) (acc10 (k0_pay3 x0 x1 x3 x2 x4 x5) x6 x7 x8)) (k0_pay34 x9)
        (k0_pay35 (k0_pay2 x0 x1 x3 x2 x4) (acc10 (k0_pay3 x0 x1 x3 x2 x4 x5) x6 x7 x8)) (ix2 i j) : EReal)
      = rms (half (resid x0 x1 x2 x3 x4 i) (fun j => x5 (ix2 0 j)) (fun k f => x6 (ix2 k f)) (fun k f => x7 (ix2 k f)) (fun f j => x8 (ix2 f j)))
          (fun j => x9 (ix2 0 j)) j := by
  rw [out_apply]
  unfold half
  simp only [acc_apply, pay2_apply, pay3_apply]

end Value

end Cert.OutPure
-- ==== Proof.OutBlocks.lean ====
/-
The blocks the output call reads, as entries of the nine arguments, and its result array: row `8192 b + s` is the layer's
output at batch row `b`, position `s`.
-/
module

public import proofs.«01_k».proof.Proof.OutBody
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OutBlocks

open Cert.Kernel2Ideal Cert.Kernel2Ideal.Gen Cert.Ffn Cert.OutPure

variable (m : (ℓ : Loc nD τ sig) → Buf (Elt Ideal) ℓ) (c : Dev nD)

/-- Which block each window takes at each grid point. -/
theorem idx : ∀ t : Fin cfg0.N, win0_0.index t = ![(grid0.coords t 0).val, 0]
    ∧ win0_1.index t = ![(grid0.coords t 0).val, 0] ∧ win0_2.index t = ![(grid0.coords t 0).val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![(grid0.coords t 0).val, 0] ∧ (grid0.coords t 0).val < 64 :=
  (by decide +kernel : ∀ t : Fin grid0.N, _)

/-- Row `i` of a grid point's block. -/
def trow (t : Fin cfg0.N) (i : Fin 512) : Fin 32768 :=
  ⟨512 * (grid0.coords t 0).val + i.val, by have := (idx t).2.2.2.2.2.2.2.2.2.2.2; omega⟩

theorem iblk_def (w : Fin cfg0.W) (t : Fin cfg0.N) :
    iblk m c w t = ((cfg0.win w).blk t).view.read (Elt Ideal) (V m c (Pipeline.arrRef spec0 w)) := rfl

theorem rd0 (t : Fin cfg0.N) (f : FVec Ideal S32768x1024 .f32) (y : S512x1024.Idx) :
    (show Vec Ideal S512x1024 .f32 from ((cfg0.win 0).blk t).view.read (Elt Ideal) f) y = f (((cfg0.win 0).blk t).view.emb y) := rfl

theorem em0 (t : Fin cfg0.N) (i : Fin 512) (j : Fin 1024) :
    (show S32768x1024.Idx from ((cfg0.win 0).blk t).view.emb (show S512x1024.Idx from ix2 i j)) = ix2 (trow t i) j := by
  blk_ext [idx t, trow]

theorem blk0 (t : Fin cfg0.N) (i : Fin 512) (j : Fin 1024) :
    (show Vec Ideal S512x1024 .f32 from iblk m c 0 t) (ix2 i j) = (V m c main_v9 : FVec Ideal S32768x1024 .f32) (ix2 (trow t i) j) := by
  rw [iblk_def]
  exact (rd0 t (V m c (Pipeline.arrRef spec0 0)) _).trans (congrArg (V m c main_v9 : FVec Ideal S32768x1024 .f32) (em0 t i j))

theorem rd1 (t : Fin cfg0.N) (f : FVec Ideal S32768x512 .bf16) (y : S512x512.Idx) :
    (show Vec Ideal S512x512 .bf16 from ((cfg0.win 1).blk t).view.read (Elt Ideal) f) y = f (((cfg0.win 1).blk t).view.emb y) := rfl

theorem em1 (t : Fin cfg0.N) (i : Fin 512) (j : Fin 512) :
    (show S32768x512.Idx from ((cfg0.win 1).blk t).view.emb (show S512x512.Idx from ix2 i j)) = ix2 (trow t i) j := by
  blk_ext [idx t, trow]

theorem blk1 (t : Fin cfg0.N) (i : Fin 512) (j : Fin 512) :
    (show Vec Ideal S512x512 .bf16 from iblk m c 1 t) (ix2 i j) = (V m c main_v11 : FVec Ideal S32768x512 .bf16) (ix2 (trow t i) j) := by
  rw [iblk_def]
  exact (rd1 t (V m c (Pipeline.arrRef spec0 1)) _).trans (congrArg (V m c main_v11 : FVec Ideal S32768x512 .bf16) (em1 t i j))

theorem rd2 (t : Fin cfg0.N) (f : FVec Ideal S32768x512 .bf16) (y : S512x512.Idx) :
    (show Vec Ideal S512x512 .bf16 from ((cfg0.win 2).blk t).view.read (Elt Ideal) f) y = f (((cfg0.win 2).blk t).view.emb y) := rfl

theorem em2 (t : Fin cfg0.N) (i : Fin 512) (j : Fin 512) :
    (show S32768x512.Idx from ((cfg0.win 2).blk t).view.emb (show S512x512.Idx from ix2 i j)) = ix2 (trow t i) j := by
  blk_ext [idx t, trow]

theorem blk2 (t : Fin cfg0.N) (i : Fin 512) (j : Fin 512) :
    (show Vec Ideal S512x512 .bf16 from iblk m c 2 t) (ix2 i j) = (V m c main_v13 : FVec Ideal S32768x512 .bf16) (ix2 (trow t i) j) := by
  rw [iblk_def]
  exact (rd2 t (V m c (Pipeline.arrRef spec0 2)) _).trans (congrArg (V m c main_v13 : FVec Ideal S32768x512 .bf16) (em2 t i j))

theorem rd3 (t : Fin cfg0.N) (f : FVec Ideal S512x1024 .bf16) (y : S512x1024.Idx) :
    (show Vec Ideal S512x1024 .bf16 from ((cfg0.win 3).blk t).view.read (Elt Ideal) f) y = f (((cfg0.win 3).blk t).view.emb y) := rfl

theorem em3 (t : Fin cfg0.N) (i : Fin 512) (j : Fin 1024) :
    (show S512x1024.Idx from ((cfg0.win 3).blk t).view.emb (show S512x1024.Idx from ix2 i j)) = ix2 i j := by
  blk_ext [idx t]

theorem blk3 (t : Fin cfg0.N) (i : Fin 512) (j : Fin 1024) :
    (show Vec Ideal S512x1024 .bf16 from iblk m c 3 t) (ix2 i j) = (V m c main_v6 : FVec Ideal S512x1024 .bf16) (ix2 i j) := by
  rw [iblk_def]
  exact (rd3 t (V m c (Pipeline.arrRef spec0 3)) _).trans (congrArg (V m c main_v6 : FVec Ideal S512x1024 .bf16) (em3 t i j))

theorem rd4 (t : Fin cfg0.N) (f : FVec Ideal S512x1024 .bf16) (y : S512x1024.Idx) :
    (show Vec Ideal S512x1024 .bf16 from ((cfg0.win 4).blk t).view.read (Elt Ideal) f) y = f (((cfg0.win 4).blk t).view.emb y) := rfl

theorem em4 (t : Fin cfg0.N) (i : Fin 512) (j : Fin 1024) :
    (show S512x1024.Idx from ((cfg0.win 4).blk t).view.emb (show S512x1024.Idx from ix2 i j)) = ix2 i j := by
  blk_ext [idx t]

theorem blk4 (t : Fin cfg0.N) (i : Fin 512) (j : Fin 1024) :
    (show Vec Ideal S512x1024 .bf16 from iblk m c 4 t) (ix2 i j) = (V m c main_v8 : FVec Ideal S512x1024 .bf16) (ix2 i j) := by
  rw [iblk_def]
  exact (rd4 t (V m c (Pipeline.arrRef spec0 4)) _).trans (congrArg (V m c main_v8 : FVec Ideal S512x1024 .bf16) (em4 t i j))

theorem rd5 (t : Fin cfg0.N) (f : FVec Ideal S1x1024 .f32) (y : S1x1024.Idx) :
    (show Vec Ideal S1x1024 .f32 from ((cfg0.win 5).blk t).view.read (Elt Ideal) f) y = f (((cfg0.win 5).blk t).view.emb y) := rfl

theorem em5 (t : Fin cfg0.N) (i : Fin 1) (j : Fin 1024) :
    (show S1x1024.Idx from ((cfg0.win 5).blk t).view.emb (show S1x1024.Idx from ix2 i j)) = ix2 i j := by
  blk_ext [idx t]

theorem blk5 (t : Fin cfg0.N) (i : Fin 1) (j : Fin 1024) :
    (show Vec Ideal S1x1024 .f32 from iblk m c 5 t) (ix2 i j) = (V m c main_v0 : FVec Ideal S1x1024 .f32) (ix2 i j) := by
  rw [iblk_def]
  exact (rd5 t (V m c (Pipeline.arrRef spec0 5)) _).trans (congrArg (V m c main_v0 : FVec Ideal S1x1024 .f32) (em5 t i j))

theorem rd6 (t : Fin cfg0.N) (f : FVec Ideal S1024x2816 .bf16) (y : S1024x2816.Idx) :
    (show Vec Ideal S1024x2816 .bf16 from ((cfg0.win 6).blk t).view.read (Elt Ideal) f) y = f (((cfg0.win 6).blk t).view.emb y) := rfl

theorem em6 (t : Fin cfg0.N) (i : Fin 1024) (j : Fin 2816) :
    (show S1024x2816.Idx from ((cfg0.win 6).blk t).view.emb (show S1024x2816.Idx from ix2 i j)) = ix2 i j := by
  blk_ext [idx t]

theorem blk6 (t : Fin cfg0.N) (i : Fin 1024) (j : Fin 2816) :
    (show Vec Ideal S1024x2816 .bf16 from iblk m c 6 t) (ix2 i j) = (V m c main_v2 : FVec Ideal S1024x2816 .bf16) (ix2 i j) := by
  rw [iblk_def]
  exact (rd6 t (V m c (Pipeline.arrRef spec0 6)) _).trans (congrArg (V m c main_v2 : FVec Ideal S1024x2816 .bf16) (em6 t i j))

theorem rd7 (t : Fin cfg0.N) (f : FVec Ideal S1024x2816 .bf16) (y : S1024x2816.Idx) :
    (show Vec Ideal S1024x2816 .bf16 from ((cfg0.win 7).blk t).view.read (Elt Ideal) f) y = f (((cfg0.win 7).blk t).view.emb y) := rfl

theorem em7 (t : Fin cfg0.N) (i : Fin 1024) (j : Fin 2816) :
    (show S1024x2816.Idx from ((cfg0.win 7).blk t).view.emb (show S1024x2816.Idx from ix2 i j)) = ix2 i j := by
  blk_ext [idx t]

theorem blk7 (t : Fin cfg0.N) (i : Fin 1024) (j : Fin 2816) :
    (show Vec Ideal S1024x2816 .bf16 from iblk m c 7 t) (ix2 i j) = (V m c main_v3 : FVec Ideal S1024x2816 .bf16) (ix2 i j) := by
  rw [iblk_def]
  exact (rd7 t (V m c (Pipeline.arrRef spec0 7)) _).trans (congrArg (V m c main_v3 : FVec Ideal S1024x2816 .bf16) (em7 t i j))

theorem rd8 (t : Fin cfg0.N) (f : FVec Ideal S2816x1024 .bf16) (y : S2816x1024.Idx) :
    (show Vec Ideal S2816x1024 .bf16 from ((cfg0.win 8).blk t).view.read (Elt Ideal) f) y = f (((cfg0.win 8).blk t).view.emb y) := rfl

theorem em8 (t : Fin cfg0.N) (i : Fin 2816) (j : Fin 1024) :
    (show S2816x1024.Idx from ((cfg0.win 8).blk t).view.emb (show S2816x1024.Idx from ix2 i j)) = ix2 i j := by
  blk_ext [idx t]

theorem blk8 (t : Fin cfg0.N) (i : Fin 2816) (j : Fin 1024) :
    (show Vec Ideal S2816x1024 .bf16 from iblk m c 8 t) (ix2 i j) = (V m c main_v4 : FVec Ideal S2816x1024 .bf16) (ix2 i j) := by
  rw [iblk_def]
  exact (rd8 t (V m c (Pipeline.arrRef spec0 8)) _).trans (congrArg (V m c main_v4 : FVec Ideal S2816x1024 .bf16) (em8 t i j))

theorem rd9 (t : Fin cfg0.N) (f : FVec Ideal S1x1024 .f32) (y : S1x1024.Idx) :
    (show Vec Ideal S1x1024 .f32 from ((cfg0.win 9).blk t).view.read (Elt Ideal) f) y = f (((cfg0.win 9).blk t).view.emb y) := rfl

theorem em9 (t : Fin cfg0.N) (i : Fin 1) (j : Fin 1024) :
    (show S1x1024.Idx from ((cfg0.win 9).blk t).view.emb (show S1x1024.Idx from ix2 i j)) = ix2 i j := by
  blk_ext [idx t]

theorem blk9 (t : Fin cfg0.N) (i : Fin 1) (j : Fin 1024) :
    (show Vec Ideal S1x1024 .f32 from iblk m c 9 t) (ix2 i j) = (V m c main_v1 : FVec Ideal S1x1024 .f32) (ix2 i j) := by
  rw [iblk_def]
  exact (rd9 t (V m c (Pipeline.arrRef spec0 9)) _).trans (congrArg (V m c main_v1 : FVec Ideal S1x1024 .f32) (em9 t i j))

/-! ## What the host lines leave -/

/-- The batch row and the position of a row. -/
def rb (r : Fin 32768) : Fin 4 := ⟨r.val / 8192, by omega⟩
def rs (r : Fin 32768) : Fin 8192 := ⟨r.val % 8192, by omega⟩

theorem host9 (r : Fin 32768) (j : Fin 1024) :
    ((V m c main_v9 : FVec Ideal S32768x1024 .f32) (ix2 r j) : EReal) = (m (c, Proc.tc.devRef main_arg0) : FVec Ideal S4x8192x1024 .f32) (ix3 (rb r) (rs r) j) := by
  show StableHlo.after hostOps0 _ _ _ = _
  after_reads_simp
  pointwise
  try rfl

theorem host11 (r : Fin 32768) (j : Fin 512) :
    ((V m c main_v11 : FVec Ideal S32768x512 .bf16) (ix2 r j) : EReal) = (m (c, Proc.tc.devRef main_arg1) : FVec Ideal S4x8192x512 .f32) (ix3 (rb r) (rs r) j) := by
  show StableHlo.after hostOps0 _ _ _ = _
  after_reads_simp
  pointwise
  try rfl

theorem host13 (r : Fin 32768) (j : Fin 512) :
    ((V m c main_v13 : FVec Ideal S32768x512 .bf16) (ix2 r j) : EReal) = (m (c, Proc.tc.devRef main_arg2) : FVec Ideal S4x8192x512 .f32) (ix3 (rb r) (rs r) j) := by
  show StableHlo.after hostOps0 _ _ _ = _
  after_reads_simp
  pointwise
  try rfl

theorem host6 (r : Fin 512) (j : Fin 1024) :
    ((V m c main_v6 : FVec Ideal S512x1024 .bf16) (ix2 r j) : EReal) = (m (c, Proc.tc.devRef main_arg3) : FVec Ideal S1024x1024 .f32) (ix2 (lo r) j) := by
  show StableHlo.after hostOps0 _ _ _ = _
  after_reads_simp
  pointwise
  try rfl

theorem host8 (r : Fin 512) (j : Fin 1024) :
    ((V m c main_v8 : FVec Ideal S512x1024 .bf16) (ix2 r j) : EReal) = (m (c, Proc.tc.devRef main_arg3) : FVec Ideal S1024x1024 .f32) (ix2 (hi r) j) := by
  show StableHlo.after hostOps0 _ _ _ = _
  after_reads_simp
  pointwise
  try rfl

theorem host0 (r : Fin 1) (j : Fin 1024) :
    ((V m c main_v0 : FVec Ideal S1x1024 .f32) (ix2 r j) : EReal) = (m (c, Proc.tc.devRef main_arg4) : FVec Ideal S1024 .f32) (ix1 j) := by
  show StableHlo.after hostOps0 _ _ _ = _
  after_reads_simp
  pointwise
  try rfl

theorem host2 (r : Fin 1024) (j : Fin 2816) :
    ((V m c main_v2 : FVec Ideal S1024x2816 .bf16) (ix2 r j) : EReal) = (m (c, Proc.tc.devRef main_arg5) : FVec Ideal S1024x2816 .f32) (ix2 r j) := by
  show StableHlo.after hostOps0 _ _ _ = _
  after_reads_simp
  pointwise
  try rfl

theorem host3 (r : Fin 1024) (j : Fin 2816) :
    ((V m c main_v3 : FVec Ideal S1024x2816 .bf16) (ix2 r j) : EReal) = (m (c, Proc.tc.devRef main_arg6) : FVec Ideal S1024x2816 .f32) (ix2 r j) := by
  show StableHlo.after hostOps0 _ _ _ = _
  after_reads_simp
  pointwise
  try rfl

theorem host4 (r : Fin 2816) (j : Fin 1024) :
    ((V m c main_v4 : FVec Ideal S2816x1024 .bf16) (ix2 r j) : EReal) = (m (c, Proc.tc.devRef main_arg7) : FVec Ideal S2816x1024 .f32) (ix2 r j) := by
  show StableHlo.after hostOps0 _ _ _ = _
  after_reads_simp
  pointwise
  try rfl

theorem host1 (r : Fin 1) (j : Fin 1024) :
    ((V m c main_v1 : FVec Ideal S1x1024 .f32) (ix2 r j) : EReal) = (m (c, Proc.tc.devRef main_arg8) : FVec Ideal S1024 .f32) (ix1 j) := by
  show StableHlo.after hostOps0 _ _ _ = _
  after_reads_simp
  pointwise
  try rfl

/-- The arguments' rows and weights. -/
def outAt (r : Fin 32768) (j : Fin 1024) : EReal :=
  outRow (fun j => (m (c, Proc.tc.devRef main_arg0) : FVec Ideal S4x8192x1024 .f32) (ix3 (rb r) (rs r) j))
    (fun j => (m (c, Proc.tc.devRef main_arg1) : FVec Ideal S4x8192x512 .f32) (ix3 (rb r) (rs r) j))
    (fun j => (m (c, Proc.tc.devRef main_arg2) : FVec Ideal S4x8192x512 .f32) (ix3 (rb r) (rs r) j))
    (fun k j => (m (c, Proc.tc.devRef main_arg3) : FVec Ideal S1024x1024 .f32) (ix2 k j))
    (fun j => (m (c, Proc.tc.devRef main_arg4) : FVec Ideal S1024 .f32) (ix1 j))
    (fun k f => (m (c, Proc.tc.devRef main_arg5) : FVec Ideal S1024x2816 .f32) (ix2 k f))
    (fun k f => (m (c, Proc.tc.devRef main_arg6) : FVec Ideal S1024x2816 .f32) (ix2 k f))
    (fun f j => (m (c, Proc.tc.devRef main_arg7) : FVec Ideal S2816x1024 .f32) (ix2 f j))
    (fun j => (m (c, Proc.tc.devRef main_arg8) : FVec Ideal S1024 .f32) (ix1 j)) j

theorem point_value (t : Fin cfg0.N) (i : Fin 512) (j : Fin 1024) :
    ((show Vec Ideal S512x1024 .f32 from outsAt0 m c t) (ix2 i j) : EReal) = outAt m c (trow t i) j := by
  unfold outsAt0
  rw [out_eq]
  refine (body_value _ _ _ _ _ _ _ _ _ _ i j).trans ?_
  exact outRow_of j (fun j => (blk0 m c t i j).trans (host9 m c _ j)) (fun k => (blk1 m c t i k).trans (host11 m c _ k))
    (fun k => (blk2 m c t i k).trans (host13 m c _ k)) (fun k j => (blk3 m c t k j).trans (host6 m c k j))
    (fun k j => (blk4 m c t k j).trans (host8 m c k j)) (fun j => (blk5 m c t 0 j).trans (host0 m c 0 j))
    (fun k f => (blk6 m c t k f).trans (host2 m c k f)) (fun k f => (blk7 m c t k f).trans (host3 m c k f))
    (fun f j => (blk8 m c t f j).trans (host4 m c f j)) (fun j => (blk9 m c t 0 j).trans (host1 m c 0 j))

theorem em10 (t : Fin cfg0.N) (i : Fin 512) (j : Fin 1024) :
    (show S32768x1024.Idx from ((cfg0.win 10).blk t).view.emb (show S512x1024.Idx from ix2 i j)) = ix2 (trow t i) j := by
  blk_ext [idx t, trow]

/-- The layer's output as an array of rows. -/
def outArr : FVec Ideal S32768x1024 .f32 := fun y => outAt m c ⟨(y 0).val, (y 0).isLt⟩ ⟨(y 1).val, (y 1).isLt⟩

/-- The kernel's array. -/
theorem kernel_array : (dats m 0 c).arrAt 10 cfg0.N = outArr m c := by
  refine (dats m 0 c).arrAt_eq_of_covers 10 _ (by decide +kernel) fun t hf y => ?_
  blk_simp
  rw [after0_10]
  obtain ⟨i, j, rfl⟩ : ∃ (i : Fin 512) (j : Fin 1024), y = (show S512x1024.Idx from ix2 i j) :=
    ⟨⟨(y 0).val, (y 0).isLt⟩, ⟨(y 1).val, (y 1).isLt⟩, funext fun a => by
      match a with
      | 0 => rfl
      | 1 => rfl⟩
  refine (point_value m c t i j).trans ?_
  exact (congrArg (outArr m c) (em10 t i j)).symm

end Cert.OutBlocks
-- ==== Proof.OutRef.lean ====
/-
The output call's reference at an element: the joined mixers' projection, the half step and the final norm.
-/
module

public import proofs.«01_k».proof.Proof.Ffn
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe

namespace Cert.OutRef

open Cert.Reference2Ideal Cert.Reference2Ideal.Gen Cert.Reference2Ideal.Read Cert.Ffn

variable (x0 : FVec Ideal S4x8192x1024 .f32) (x1 x2 : FVec Ideal S4x8192x512 .f32) (x3 : FVec Ideal S1024x1024 .f32)
  (x4 : FVec Ideal S1024 .f32) (x5 x6 : FVec Ideal S1024x2816 .f32) (x7 : FVec Ideal S2816x1024 .f32) (x8 : FVec Ideal S1024 .f32)

/-- A sum over 1024 joined from two halves. -/
theorem sum_join (p q : Fin 512 → EReal) (w : Fin 1024 → EReal) :
    ∑ k : Fin 1024, (if h : k.val < 512 then p ⟨k.val, h⟩ else q ⟨k.val - 512, by omega⟩) * w k
      = ∑ k, p k * w (lo k) + ∑ k, q k * w (hi k) := by
  rw [Fin.sum_univ_add (a := 512) (b := 512) (fun k : Fin (512 + 512) => (if h : k.val < 512 then p ⟨k.val, h⟩ else q ⟨k.val - 512, by omega⟩) * w k)]
  refine congrArg₂ (· + ·) (Finset.sum_congr rfl fun k _ => ?_) (Finset.sum_congr rfl fun k _ => ?_)
  · rw [dif_pos (show (Fin.castAdd 512 k).val < 512 from k.isLt)]
    rfl
  · rw [dif_neg (show ¬ (Fin.natAdd 512 k).val < 512 by simp)]
    refine congrArg₂ (· * ·) (congrArg q (Fin.ext ?_)) rfl
    show 512 + k.val - 512 = k.val
    omega

/-- A row of the residual sum. -/
def resid (b : Fin 4) (s : Fin 8192) (j : Fin 1024) : EReal :=
  x0 (ix3 b s j) + ∑ k, x1 (ix3 b s k) * x3 (ix2 (lo k) j) + ∑ k, x2 (ix3 b s k) * x3 (ix2 (hi k) j)

theorem v0_apply (b : Fin 4) (s : Fin 8192) (k : Fin 1024) :
    (val_main_v0 (F := Ideal) x1 x2 (ix3 b s k) : EReal) = if h : k.val < 512 then x1 (ix3 b s ⟨k.val, h⟩) else x2 (ix3 b s ⟨k.val - 512, by omega⟩) := by
  pointwise [val_main_v0]

theorem v2_apply (b : Fin 4) (s : Fin 8192) (j : Fin 1024) :
    (val_main_v2 (F := Ideal) x0 x1 x2 x3 (ix3 b s j) : EReal) = resid x0 x1 x2 x3 b s j := by
  unfold resid
  rw [add_assoc, ← sum_join (fun k => x1 (ix3 b s k)) (fun k => x2 (ix3 b s k)) (fun k => x3 (ix2 k j))]
  simp only [← v0_apply]
  pointwise [val_main_v2, val_main_v1]
  try rfl

theorem v15_apply (b : Fin 4) (s : Fin 8192) (j : Fin 1024) :
    (val_main_v15 (F := Ideal) x0 x1 x2 x3 x4 (ix3 b s j) : EReal) = rms (resid x0 x1 x2 x3 b s) (fun j => x4 (ix1 j)) j := by
  unfold rms
  pointwise [val_main_v15, val_main_v14, val_main_v13, val_main_v12, val_main_v11, val_main_v10, val_main_v9, val_main_v8, val_main_v7, val_main_v6, val_main_v5, val_main_v4, val_main_v3, val_main_cst, val_main_cst_0, val_main_cst_1, v2_apply]
  try rfl

theorem v19_apply (b : Fin 4) (s : Fin 8192) (f : Fin 2816) :
    (val_main_v19 (F := Ideal) x0 x1 x2 x3 x4 x5 x6 (ix3 b s f) : EReal)
      = hidden (rms (resid x0 x1 x2 x3 b s) (fun j => x4 (ix1 j))) (fun k f => x5 (ix2 k f)) (fun k f => x6 (ix2 k f)) f := by
  unfold Ffn.hidden gated Ideal.logistic
  pointwise [val_main_v19, val_main_v18, val_main_v17, val_main_v16, val_main_call0_v5, val_main_call0_v4, val_main_call0_v3, val_main_call0_v2, val_main_call0_v1, val_main_call0_v0, val_main_call0_cst, val_main_call0_cst_0, v15_apply]
  try rfl

theorem v23_apply (b : Fin 4) (s : Fin 8192) (j : Fin 1024) :
    (val_main_v23 (F := Ideal) x0 x1 x2 x3 x4 x5 x6 x7 (ix3 b s j) : EReal)
      = half (resid x0 x1 x2 x3 b s) (fun j => x4 (ix1 j)) (fun k f => x5 (ix2 k f)) (fun k f => x6 (ix2 k f)) (fun f j => x7 (ix2 f j)) j := by
  unfold half
  pointwise [val_main_v23, val_main_v22, val_main_v21, val_main_v20, val_main_cst_2, v2_apply, v19_apply]
  try rfl

theorem v36_apply (b : Fin 4) (s : Fin 8192) (j : Fin 1024) :
    (val_main_v36 (F := Ideal) x0 x1 x2 x3 x4 x5 x6 x7 x8 (ix3 b s j) : EReal)
      = outRow (fun j => x0 (ix3 b s j)) (fun k => x1 (ix3 b s k)) (fun k => x2 (ix3 b s k)) (fun k j => x3 (ix2 k j)) (fun j => x4 (ix1 j)) (fun k f => x5 (ix2 k f)) (fun k f => x6 (ix2 k f)) (fun f j => x7 (ix2 f j)) (fun j => x8 (ix1 j)) j := by
  have e : outRow (fun j => x0 (ix3 b s j)) (fun k => x1 (ix3 b s k)) (fun k => x2 (ix3 b s k)) (fun k j => x3 (ix2 k j)) (fun j => x4 (ix1 j)) (fun k f => x5 (ix2 k f)) (fun k f => x6 (ix2 k f)) (fun f j => x7 (ix2 f j)) (fun j => x8 (ix1 j)) j
    = rms (half (resid x0 x1 x2 x3 b s) (fun j => x4 (ix1 j)) (fun k f => x5 (ix2 k f)) (fun k f => x6 (ix2 k f)) (fun f j => x7 (ix2 f j))) (fun j => x8 (ix1 j)) j := rfl
  rw [e]
  unfold rms
  pointwise [val_main_v36, val_main_v35, val_main_v34, val_main_v33, val_main_v32, val_main_v31, val_main_v30, val_main_v29, val_main_v28, val_main_v27, val_main_v26, val_main_v25, val_main_v24, val_main_cst_3, val_main_cst_4, val_main_cst_5, v23_apply]
  try rfl

theorem v37_apply (r : Fin 32768) (j : Fin 1024) :
    (val_main_v37 (F := Ideal) x0 x1 x2 x3 x4 x5 x6 x7 x8 (ix2 r j) : EReal)
      = val_main_v36 (F := Ideal) x0 x1 x2 x3 x4 x5 x6 x7 x8 (ix3 ⟨r.val / 8192, by omega⟩ ⟨r.val % 8192, by omega⟩ j) := by
  pointwise [val_main_v37]

end Cert.OutRef
-- ==== Proof.OutGoal.lean ====
/-
The output call and its reference return the same array.
-/
module

public import proofs.«01_k».proof.Proof.OutBlocks
public import proofs.«01_k».proof.Proof.OutRef
public import proofs.«01_k».proof.Proof.Gen.Reference2Ideal.Run
public import proofs.«01_k».proof.Defs

@[expose] public section

set_option maxRecDepth 16384

noncomputable section

open Idealize.ShloMosaic Idealize.ShloMosaic.TcCoe Idealize.SL.Sem

namespace Cert.OutGoal

open Cert.Kernel2Ideal

variable (m : (ℓ : Loc nD τ sig) → Buf (Elt Ideal) ℓ)

theorem reference_array (m' : (ℓ : Loc Cert.Reference2Ideal.nD Cert.Reference2Ideal.τ Cert.Reference2Ideal.sig) → Buf (Elt Ideal) ℓ)
    (c : Dev nD)
    (e0 : m' ((c.tc : Thread Cert.Reference2Ideal.nD Cert.Reference2Ideal.τ).loc Cert.Reference2Ideal.main_arg0) = m ((c.tc : Thread nD τ).loc main_arg0))
    (e1 : m' ((c.tc : Thread Cert.Reference2Ideal.nD Cert.Reference2Ideal.τ).loc Cert.Reference2Ideal.main_arg1) = m ((c.tc : Thread nD τ).loc main_arg1))
    (e2 : m' ((c.tc : Thread Cert.Reference2Ideal.nD Cert.Reference2Ideal.τ).loc Cert.Reference2Ideal.main_arg2) = m ((c.tc : Thread nD τ).loc main_arg2))
    (e3 : m' ((c.tc : Thread Cert.Reference2Ideal.nD Cert.Reference2Ideal.τ).loc Cert.Reference2Ideal.main_arg3) = m ((c.tc : Thread nD τ).loc main_arg3))
    (e4 : m' ((c.tc : Thread Cert.Reference2Ideal.nD Cert.Reference2Ideal.τ).loc Cert.Reference2Ideal.main_arg4) = m ((c.tc : Thread nD τ).loc main_arg4))
    (e5 : m' ((c.tc : Thread Cert.Reference2Ideal.nD Cert.Reference2Ideal.τ).loc Cert.Reference2Ideal.main_arg5) = m ((c.tc : Thread nD τ).loc main_arg5))
    (e6 : m' ((c.tc : Thread Cert.Reference2Ideal.nD Cert.Reference2Ideal.τ).loc Cert.Reference2Ideal.main_arg6) = m ((c.tc : Thread nD τ).loc main_arg6))
    (e7 : m' ((c.tc : Thread Cert.Reference2Ideal.nD Cert.Reference2Ideal.τ).loc Cert.Reference2Ideal.main_arg7) = m ((c.tc : Thread nD τ).loc main_arg7))
    (e8 : m' ((c.tc : Thread Cert.Reference2Ideal.nD Cert.Reference2Ideal.τ).loc Cert.Reference2Ideal.main_arg8) = m ((c.tc : Thread nD τ).loc main_arg8)) :
    Cert.Reference2Ideal.Value.res_main_v37 m' c = (Cert.Kernel2Ideal.Gen.dats m 0 c).arrAt 10 Cert.Kernel2Ideal.cfg0.N := by
  rw [Cert.Reference2Ideal.Read.val_main_v37_eq, e0, e1, e2, e3, e4, e5, e6, e7, e8, Cert.OutBlocks.kernel_array]
  funext y
  have hy : y = (show S32768x1024.Idx from ix2 (⟨(y 0).val, (y 0).isLt⟩ : Fin 32768) (⟨(y 1).val, (y 1).isLt⟩ : Fin 1024)) := funext fun a => by
    match a with
    | 0 => rfl
    | 1 => rfl
  rw [hy]
  exact (Cert.OutRef.v37_apply _ _ _ _ _ _ _ _ _ _ _).trans (Cert.OutRef.v36_apply _ _ _ _ _ _ _ _ _ _ _ _)

theorem algebraic : Cert.algebraic_Kernel2Ideal_Reference2Ideal := fun m ρ m' ρ' _ hag =>
  ⟨fun c => (Cert.Kernel2Ideal.Gen.dats m 0 c).arrAt 10 Cert.Kernel2Ideal.cfg0.N, Cert.Kernel2Ideal.Value.run_blocks m ρ,
    (θ_run _ _ _).mono (fun _ h c => ⟨(h c).1.trans (reference_array m m' c (hag c).1 (hag c).2.1 (hag c).2.2.1
      (hag c).2.2.2.1 (hag c).2.2.2.2.1 (hag c).2.2.2.2.2.1 (hag c).2.2.2.2.2.2.1 (hag c).2.2.2.2.2.2.2.1 (hag c).2.2.2.2.2.2.2.2), (h c).2⟩)
      (Cert.Reference2Ideal.Value.run m' ρ')⟩

end Cert.OutGoal
end
-- ==== Proof.Proj.lean ====
/-
The mathematics of the layer's entry: the first half step on a row, its norm, and one column of a product with it.
-/
module

public import proofs.«01_k».proof.Proof.Ffn

@[expose] public section

noncomputable section

open Idealize.ShloMosaic

namespace Cert.Proj

open Cert.Ffn

/-- The product of the norm of a row after the half step with one column. -/
def proj (x g : Fin 1024 → EReal) (wg wu : Fin 1024 → Fin 2816 → EReal) (wd : Fin 2816 → Fin 1024 → EReal) (gm w : Fin 1024 → EReal) : EReal :=
  ∑ k, rms (half x g wg wu wd) gm k * w k

theorem half_of {x x' g g' : Fin 1024 → EReal} {wg wg' wu wu' : Fin 1024 → Fin 2816 → EReal}
    {wd wd' : Fin 2816 → Fin 1024 → EReal} (j : Fin 1024)
    (hx : ∀ j, x' j = x j) (hg : ∀ j, g' j = g j) (hwg : ∀ k f, wg' k f = wg k f) (hwu : ∀ k f, wu' k f = wu k f)
    (hwd : ∀ f j, wd' f j = wd f j) : half x' g' wg' wu' wd' j = half x g wg wu wd j := by
  obtain rfl : x' = x := funext hx
  obtain rfl : g' = g := funext hg
  obtain rfl : wg' = wg := funext fun k => funext (hwg k)
  obtain rfl : wu' = wu := funext fun k => funext (hwu k)
  obtain rfl : wd' = wd := funext fun k => funext (hwd k)
  rfl

theorem proj_of {x x' g g' gm gm' w w' : Fin 1024 → EReal} {wg wg' wu wu' : Fin 1024 → Fin 2816 → EReal}
    {wd wd' : Fin 2816 → Fin 1024 → EReal}
    (hx : ∀ j, x' j = x j) (hg : ∀ j, g' j = g j) (hwg : ∀ k f, wg' k f = wg k f) (hwu : ∀ k f, wu' k f = wu k f)
    (hwd : ∀ f j, wd' f j = wd f j) (hgm : ∀ j, gm' j = gm j) (hw : ∀ k, w' k = w k) :
    proj x' g' wg' wu' wd' gm' w' = proj x g wg wu wd gm w := by
  obtain rfl : gm' = gm := funext hgm
  obtain rfl : w' = w := funext hw
  unfold proj
  rw [show half x' g' wg' wu' wd' = half x g wg wu wd from funext fun j => half_of j hx hg hwg hwu hwd]

theorem proj_zero (x g : Fin 1024 → EReal) (wg wu : Fin 1024 → Fin 2816 → EReal) (wd : Fin 2816 → Fin 1024 → EReal) (gm : Fin 1024 → EReal) :
    proj x g wg wu wd gm (fun _ => 0) = 0 := by
  unfold proj
  simp only [mul_zero, Finset.sum_const_zero]

/-- Columns of the input projection, in the order the third product takes them: the two compressed ones, the shared key, the gates, and zeros. -/
def mcol (w : Fin 2760 → EReal) (j : Fin 768) : EReal :=
  if h : j.val < 640 then w ⟨2056 + j.val, by omega⟩
  else if h : j.val < 704 then w ⟨2696 + (j.val - 640), by omega⟩
  else if h : j.val < 712 then w ⟨2048 + (j.val - 704), by omega⟩
  else 0

/-- The product with a column so taken is the product's own column so taken. -/
theorem proj_mcol (x g : Fin 1024 → EReal) (wg wu : Fin 1024 → Fin 2816 → EReal) (wd : Fin 2816 → Fin 1024 → EReal) (gm : Fin 1024 → EReal)
    (w : Fin 2760 → Fin 1024 → EReal) (j : Fin 768) :
    mcol (fun n => proj x g wg wu wd gm (w n)) j = proj x g wg wu wd gm (fun k => mcol (fun n => w n k) j) := by
  unfold mcol
  split
  · rfl
  · split
    · rfl
    · split
      · rfl
      · exact (proj_zero x g wg wu wd gm).symm

end Cert.Proj
-- ==== Proof.ProjPure.lean ====
/-
The entry call's stored values at an element: the norm, one chunk of the gated layer, the half step, and the products.
-/
module

public import proofs.«01_k».proof.Proof.Proj
public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe

namespace Cert.ProjPure

open Cert.Kernel3Ideal Cert.Kernel3Ideal.Gen Cert.Ffn

section Terms

variable {F : FTy → Type} [FloatOps F] [Named F]

/-- The first chunk's product. -/
def first (h : Vec F S512x1024 .bf16) (wg wu : Vec F S1024x256 .bf16) (wd : Vec F S256x1024 .bf16) : Vec F S512x1024 .f32 :=
  k0_pay10 (k0_pay7 h wg) (k0_pay8 h wu) wd

/-- A later chunk's product, added to the sum so far. -/
def next (acc : Vec F S512x1024 .f32) (h : Vec F S512x1024 .bf16) (wg wu : Vec F S1024x256 .bf16) (wd : Vec F S256x1024 .bf16) :
    Vec F S512x1024 .f32 :=
  k0_pay14 (k0_pay11 h wg) (k0_pay12 h wu) wd acc

end Terms

variable (h : Vec Ideal S512x1024 .bf16) (wg wu : Vec Ideal S1024x256 .bf16) (wd : Vec Ideal S256x1024 .bf16)
  (acc : Vec Ideal S512x1024 .f32)

theorem first_apply (i : Fin 512) (j : Fin 1024) :
    (first (F := Ideal) h wg wu wd (ix2 i j) : EReal) = ∑ f : Fin 256, gated (∑ k : Fin 1024, h (ix2 i k) * wg (ix2 k f)) (∑ k : Fin 1024, h (ix2 i k) * wu (ix2 k f)) * wd (ix2 f j) := by
  unfold gated
  pointwise [first, k0_pay10, k0_pay7, k0_pay8]
  try rfl

theorem next_apply (i : Fin 512) (j : Fin 1024) :
    (next (F := Ideal) acc h wg wu wd (ix2 i j) : EReal) = acc (ix2 i j) + ∑ f : Fin 256, gated (∑ k : Fin 1024, h (ix2 i k) * wg (ix2 k f)) (∑ k : Fin 1024, h (ix2 i k) * wu (ix2 k f)) * wd (ix2 f j) := by
  unfold gated
  pointwise [next, k0_pay14, k0_pay11, k0_pay12]
  try rfl

variable (x : Vec Ideal S512x1024 .f32) (g : Vec Ideal S1x1024 .f32)

theorem norm_apply (i : Fin 512) (j : Fin 1024) :
    (k0_pay6 (F := Ideal) x g (ix2 i j) : EReal) = rms (fun j => x (ix2 i j)) (fun j => g (ix2 0 j)) j := by
  unfold rms
  pointwise [k0_pay6, k0_pay5]
  try rfl

theorem half_apply (i : Fin 512) (j : Fin 1024) :
    (k0_pay38 (F := Ideal) (k0_pay5 x) acc (ix2 i j) : EReal) = x (ix2 i j) + Ideal.ofBits .f32 0x3F000000#32 * acc (ix2 i j) := by
  pointwise [k0_pay38, k0_pay5]
  try rfl

theorem mixed_apply (i : Fin 512) (j : Fin 1024) :
    (k0_pay1 (F := Ideal) (k0_pay39 (k0_pay5 x) acc g) (ix2 i j) : EReal)
      = rms (fun j => x (ix2 i j) + Ideal.ofBits .f32 0x3F000000#32 * acc (ix2 i j)) (fun j => g (ix2 0 j)) j := by
  unfold rms
  pointwise [k0_pay1, k0_pay39, half_apply]
  try rfl

theorem qkv_apply (w : Vec Ideal S1024x1536 .bf16) (i : Fin 512) (j : Fin 1536) :
    (k0_pay2 (F := Ideal) h w (ix2 i j) : EReal) = ∑ k : Fin 1024, h (ix2 i k) * w (ix2 k j) := by
  pointwise [k0_pay2]
  try rfl

theorem z_apply (w : Vec Ideal S1024x512 .bf16) (i : Fin 512) (j : Fin 512) :
    (k0_pay3 (F := Ideal) h w (ix2 i j) : EReal) = ∑ k : Fin 1024, h (ix2 i k) * w (ix2 k j) := by
  pointwise [k0_pay3]
  try rfl

theorem mla_apply (w : Vec Ideal S1024x768 .bf16) (i : Fin 512) (j : Fin 768) :
    (k0_pay4 (F := Ideal) h w (ix2 i j) : EReal) = ∑ k : Fin 1024, h (ix2 i k) * w (ix2 k j) := by
  pointwise [k0_pay4]
  try rfl

end Cert.ProjPure
-- ==== Proof.ProjBody.lean ====
/-
One run of the entry call's body: the four values it stores, as the norm, eleven chunks of the gated layer added up, the
half step, and three products with the norm of that.
-/
module

public import proofs.«01_k».proof.Proof.ProjPure
public import proofs.«01_k».proof.Proof.Window

@[expose] public section

set_option maxRecDepth 16384

noncomputable section

open Idealize.ShloMosaic Idealize.ShloMosaic.TcCoe

namespace Cert.ProjPure

open Cert.Kernel3Ideal Cert.Kernel3Ideal.Gen Cert.Ffn Cert.Window Cert.Proj

section Body

variable {F : FTy → Type} [FloatOps F] [Named F]

/-- Columns `256 k …` of a weight. -/
def wcol (w : Vec F S1024x2816 .bf16) (k : Fin 11) : Vec F S1024x256 .bf16 := fun y => w (ix2 ⟨(y 0).val, (y 0).isLt⟩ (fcol k ⟨(y 1).val, (y 1).isLt⟩))
/-- Rows `256 k …` of a weight. -/
def wrow (w : Vec F S2816x1024 .bf16) (k : Fin 11) : Vec F S256x1024 .bf16 := fun y => w (ix2 (fcol k ⟨(y 0).val, (y 0).isLt⟩) ⟨(y 1).val, (y 1).isLt⟩)

theorem wcol_read (b : Memref sig .tc .vmem S1024x2816 .bf16) (hb : b.IsWhole) (w : Vec F S1024x2816 .bf16) (k : Fin 11)
    (off : Fin 2 → ℕ) (inb : ∀ a, off a + S1024x256.size a ≤ S1024x2816.size a) (ho : off = ![0, 256 * k.val]) :
    b.view.readAt (Elt F) (Rect.unit (s := S1024x2816) off S1024x256.size inb).toLoadRect (hb.unread w) = wcol w k := by
  subst ho
  refine funext fun y => win_apply b hb w _ _ inb y _ fun a => ?_
  match a with
  | 0 => exact (Nat.zero_add _).symm
  | 1 => rfl

theorem wrow_read (b : Memref sig .tc .vmem S2816x1024 .bf16) (hb : b.IsWhole) (w : Vec F S2816x1024 .bf16) (k : Fin 11)
    (off : Fin 2 → ℕ) (inb : ∀ a, off a + S256x1024.size a ≤ S2816x1024.size a) (ho : off = ![256 * k.val, 0]) :
    b.view.readAt (Elt F) (Rect.unit (s := S2816x1024) off S256x1024.size inb).toLoadRect (hb.unread w) = wrow w k := by
  subst ho
  refine funext fun y => win_apply b hb w _ _ inb y _ fun a => ?_
  match a with
  | 0 => rfl
  | 1 => exact (Nat.zero_add _).symm

variable (h : Vec F S512x1024 .bf16) (x2 x3 : Vec F S1024x2816 .bf16) (x4 : Vec F S2816x1024 .bf16)

/-- The sum after each chunk. -/
def acc0 : Vec F S512x1024 .f32 := first h (wcol x2 0) (wcol x3 0) (wrow x4 0)
def acc1 : Vec F S512x1024 .f32 := next (acc0 h x2 x3 x4) h (wcol x2 1) (wcol x3 1) (wrow x4 1)
def acc2 : Vec F S512x1024 .f32 := next (acc1 h x2 x3 x4) h (wcol x2 2) (wcol x3 2) (wrow x4 2)
def acc3 : Vec F S512x1024 .f32 := next (acc2 h x2 x3 x4) h (wcol x2 3) (wcol x3 3) (wrow x4 3)
def acc4 : Vec F S512x1024 .f32 := next (acc3 h x2 x3 x4) h (wcol x2 4) (wcol x3 4) (wrow x4 4)
def acc5 : Vec F S512x1024 .f32 := next (acc4 h x2 x3 x4) h (wcol x2 5) (wcol x3 5) (wrow x4 5)
def acc6 : Vec F S512x1024 .f32 := next (acc5 h x2 x3 x4) h (wcol x2 6) (wcol x3 6) (wrow x4 6)
def acc7 : Vec F S512x1024 .f32 := next (acc6 h x2 x3 x4) h (wcol x2 7) (wcol x3 7) (wrow x4 7)
def acc8 : Vec F S512x1024 .f32 := next (acc7 h x2 x3 x4) h (wcol x2 8) (wcol x3 8) (wrow x4 8)
def acc9 : Vec F S512x1024 .f32 := next (acc8 h x2 x3 x4) h (wcol x2 9) (wcol x3 9) (wrow x4 9)
def acc10 : Vec F S512x1024 .f32 := next (acc9 h x2 x3 x4) h (wcol x2 10) (wcol x3 10) (wrow x4 10)

variable (c : Dev nD) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x512 .bf16) (harg8 : arg8.IsWhole) (arg9 : Memref sig .tc .vmem S1024x768 .bf16) (harg9 : arg9.IsWhole) (arg10 : Memref sig .tc .vmem S512x1024 .f32) (harg10 : arg10.IsWhole) (arg11 : Memref sig .tc .vmem S512x1536 .f32) (harg11 : arg11.IsWhole) (arg12 : Memref sig .tc .vmem S512x512 .f32) (harg12 : arg12.IsWhole) (arg13 : Memref sig .tc .vmem S512x768 .f32) (harg13 : arg13.IsWhole) (arg14 : Memref sig .tc .vmem S512x1024 .bf16) (harg14 : arg14.IsWhole) (arg15 : Memref sig .tc .vmem S512x1024 .f32) (harg15 : arg15.IsWhole)
  (x0 : Vec F S512x1024 .f32) (x1 x5 : Vec F S1x1024 .f32) (x6 : Vec F S1024x1536 .bf16) (x7 : Vec F S1024x512 .bf16) (x8 : Vec F S1024x768 .bf16)

theorem zero_off (a : Fin 2) : (![0, 0] : Fin 2 → ℕ) a = 0 := by
  match a with
  | 0 => rfl
  | 1 => rfl

theorem r_eq : kernelRun0_A.sl.r (F := F) c arg1 harg1 x0 = k0_pay5 x0 := by
  unfold kernelRun0_A.sl.r
  rw [win_whole arg1 harg1 x0 ![0, 0] _ zero_off]

theorem v20_eq : (kernelRun0_A.sl.v20 (F := F) c arg1 harg1 arg2 harg2 arg14 x0 x1) = k0_pay6 x0 x1 := by
  show arg14.view.readAt (Elt F) (Rect.unit (s := S512x1024) ![0, 0] S512x1024.size inb_S512x1024_S512x1024_0_0).toLoadRect (arg14.view.writes (Elt F) _ (kernelRun0_A.sl.HS0_1 (F := F) c arg1 harg1 arg2 harg2 x0 x1)) = _
  unfold kernelRun0_A.sl.HS0_1
  rw [readAt_hit]
  rw [win_whole arg1 harg1 x0 ![0, 0] _ zero_off, win_whole arg2 harg2 x1 ![0, 0] _ zero_off]

theorem v61_eq : kernelRun0_A.sl.v61 (F := F) c arg1 harg1 arg2 harg2 arg3 harg3 arg4 harg4 arg5 harg5 arg14 arg15 x0 x1 x2 x3 x4 = acc0 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_1 (F := F) c arg1 harg1 arg2 harg2 arg3 harg3 arg4 harg4 arg5 harg5 arg14 x0 x1 x2 x3 x4)) = _
  unfold kernelRun0_A.sl.HS1_1
  rw [readAt_hit]
  unfold kernelRun0_A.sl.r_1 kernelRun0_A.sl.r_2
  rw [v20_eq]
  rw [wcol_read arg3 harg3 x2 0 ![0, 0] _ rfl, wcol_read arg4 harg4 x3 0 ![0, 0] _ rfl, wrow_read arg5 harg5 x4 0 ![0, 0] _ rfl]
  rfl

theorem v81_eq : kernelRun0_A.sl.v81 (F := F) c arg1 harg1 arg2 harg2 arg3 harg3 arg4 harg4 arg5 harg5 arg14 arg15 x0 x1 x2 x3 x4 = acc1 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_2 (F := F) c arg1 harg1 arg2 harg2 arg3 harg3 arg4 harg4 arg5 harg5 arg14 arg15 x0 x1 x2 x3 x4)) = _
  unfold kernelRun0_A.sl.HS1_2
  rw [readAt_hit]
  unfold kernelRun0_A.sl.r_6 kernelRun0_A.sl.r_3
  rw [v20_eq]
  rw [v61_eq]
  rw [wcol_read arg3 harg3 x2 1 ![0, 256] _ rfl, wcol_read arg4 harg4 x3 1 ![0, 256] _ rfl, wrow_read arg5 harg5 x4 1 ![256, 0] _ rfl]
  rfl

theorem v101_eq : kernelRun0_A.sl.v101 (F := F) c arg1 harg1 arg2 harg2 arg3 harg3 arg4 harg4 arg5 harg5 arg14 arg15 x0 x1 x2 x3 x4 = acc2 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_3 (F := F) c arg1 harg1 arg2 harg2 arg3 harg3 arg4 harg4 arg5 harg5 arg14 arg15 x0 x1 x2 x3 x4)) = _
  unfold kernelRun0_A.sl.HS1_3
  rw [readAt_hit]
  unfold kernelRun0_A.sl.r_4 kernelRun0_A.sl.r_5
  rw [v20_eq]
  rw [v81_eq]
  rw [wcol_read arg3 harg3 x2 2 ![0, 512] _ rfl, wcol_read arg4 harg4 x3 2 ![0, 512] _ rfl, wrow_read arg5 harg5 x4 2 ![512, 0] _ rfl]
  rfl

theorem v121_eq : kernelRun0_A.sl.v121 (F := F) c arg1 harg1 arg2 harg2 arg3 harg3 arg4 harg4 arg5 harg5 arg14 arg15 x0 x1 x2 x3 x4 = acc3 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_4 (F := F) c arg1 harg1 arg2 harg2 arg3 harg3 arg4 harg4 arg5 harg5 arg14 arg15 x0 x1 x2 x3 x4)) = _
  unfold kernelRun0_A.sl.HS1_4
  rw [readAt_hit]
  unfold kernelRun0_A.sl.r_9
  rw [v20_eq]
  rw [v101_eq]
  rw [wcol_read arg3 harg3 x2 3 ![0, 768] _ rfl, wcol_read arg4 harg4 x3 3 ![0, 768] _ rfl, wrow_read arg5 harg5 x4 3 ![768, 0] _ rfl]
  rfl

theorem v141_eq : kernelRun0_A.sl.v141 (F := F) c arg1 harg1 arg2 harg2 arg3 harg3 arg4 harg4 arg5 harg5 arg14 arg15 x0 x1 x2 x3 x4 = acc4 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_5 (F := F) c arg1 harg1 arg2 harg2 arg3 harg3 arg4 harg4 arg5 harg5 arg14 arg15 x0 x1 x2 x3 x4)) = _
  unfold kernelRun0_A.sl.HS1_5
  rw [readAt_hit]
  unfold kernelRun0_A.sl.r_7 kernelRun0_A.sl.r_8
  rw [v20_eq]
  rw [v121_eq]
  rw [wcol_read arg3 harg3 x2 4 ![0, 1024] _ rfl, wcol_read arg4 harg4 x3 4 ![0, 1024] _ rfl, wrow_read arg5 harg5 x4 4 ![1024, 0] _ rfl]
  rfl

theorem v161_eq : kernelRun0_A.sl.v161 (F := F) c arg1 harg1 arg2 harg2 arg3 harg3 arg4 harg4 arg5 harg5 arg14 arg15 x0 x1 x2 x3 x4 = acc5 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_6 (F := F) c arg1 harg1 arg2 harg2 arg3 harg3 arg4 harg4 arg5 harg5 arg14 arg15 x0 x1 x2 x3 x4)) = _
  unfold kernelRun0_A.sl.HS1_6
  rw [readAt_hit]
  unfold kernelRun0_A.sl.r_10 kernelRun0_A.sl.r_11
  rw [v20_eq]
  rw [v141_eq]
  rw [wcol_read arg3 harg3 x2 5 ![0, 1280] _ rfl, wcol_read arg4 harg4 x3 5 ![0, 1280] _ rfl, wrow_read arg5 harg5 x4 5 ![1280, 0] _ rfl]
  rfl

theorem v181_eq : kernelRun0_A.sl.v181 (F := F) c arg1 harg1 arg2 harg2 arg3 harg3 arg4 harg4 arg5 harg5 arg14 arg15 x0 x1 x2 x3 x4 = acc6 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_7 (F := F) c arg1 harg1 arg2 harg2 arg3 harg3 arg4 harg4 arg5 harg5 arg14 arg15 x0 x1 x2 x3 x4)) = _
  unfold kernelRun0_A.sl.HS1_7
  rw [readAt_hit]
  unfold kernelRun0_A.sl.r_14 kernelRun0_A.sl.r_15 kernelRun0_A.sl.cst_122
  rw [v20_eq]
  rw [v161_eq]
  rw [wcol_read arg3 harg3 x2 6 ![0, 1536] _ rfl, wcol_read arg4 harg4 x3 6 ![0, 1536] _ rfl, wrow_read arg5 harg5 x4 6 ![1536, 0] _ rfl]
  rfl

theorem v201_eq : kernelRun0_A.sl.v201 (F := F) c arg1 harg1 arg2 harg2 arg3 harg3 arg4 harg4 arg5 harg5 arg14 arg15 x0 x1 x2 x3 x4 = acc7 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_8 (F := F) c arg1 harg1 arg2 harg2 arg3 harg3 arg4 harg4 arg5 harg5 arg14 arg15 x0 x1 x2 x3 x4)) = _
  unfold kernelRun0_A.sl.HS1_8
  rw [readAt_hit]
  unfold kernelRun0_A.sl.r_12 kernelRun0_A.sl.r_13
  rw [v20_eq]
  rw [v181_eq]
  rw [wcol_read arg3 harg3 x2 7 ![0, 1792] _ rfl, wcol_read arg4 harg4 x3 7 ![0, 1792] _ rfl, wrow_read arg5 harg5 x4 7 ![1792, 0] _ rfl]
  rfl

theorem v221_eq : kernelRun0_A.sl.v221 (F := F) c arg1 harg1 arg2 harg2 arg3 harg3 arg4 harg4 arg5 harg5 arg14 arg15 x0 x1 x2 x3 x4 = acc8 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_9 (F := F) c arg1 harg1 arg2 harg2 arg3 harg3 arg4 harg4 arg5 harg5 arg14 arg15 x0 x1 x2 x3 x4)) = _
  unfold kernelRun0_A.sl.HS1_9
  rw [readAt_hit]
  unfold kernelRun0_A.sl.r_16 kernelRun0_A.sl.r_17
  rw [v20_eq]
  rw [v201_eq]
  rw [wcol_read arg3 harg3 x2 8 ![0, 2048] _ rfl, wcol_read arg4 harg4 x3 8 ![0, 2048] _ rfl, wrow_read arg5 harg5 x4 8 ![2048, 0] _ rfl]
  rfl

theorem v233_eq : kernelRun0_A.sl.v233 (F := F) c arg1 harg1 arg2 harg2 arg3 harg3 arg4 harg4 arg5 harg5 arg14 arg15 x0 x1 x2 x3 x4 = acc9 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_10 (F := F) c arg1 harg1 arg2 harg2 arg3 harg3 arg4 harg4 arg5 harg5 arg14 arg15 x0 x1 x2 x3 x4)) = _
  unfold kernelRun0_A.sl.HS1_10
  rw [readAt_hit]
  unfold kernelRun0_A.sl.r_21 kernelRun0_A.sl.r_18
  rw [v20_eq]
  rw [v221_eq]
  rw [wcol_read arg3 harg3 x2 9 ![0, 2304] _ rfl, wcol_read arg4 harg4 x3 9 ![0, 2304] _ rfl, wrow_read arg5 harg5 x4 9 ![2304, 0] _ rfl]
  rfl

theorem v238_eq : kernelRun0_A.sl.v238 (F := F) c arg1 harg1 arg2 harg2 arg3 harg3 arg4 harg4 arg5 harg5 arg14 arg15 x0 x1 x2 x3 x4 = acc10 (k0_pay6 x0 x1) x2 x3 x4 := by
  show arg15.view.readAt (Elt F) (Rect.unit (s := S512x1024) ![0, 0] S512x1024.size inb_S512x1024_S512x1024_0_0).toLoadRect (arg15.view.writes (Elt F) _ (kernelRun0_A.sl.HS1_11 (F := F) c arg1 harg1 arg2 harg2 arg3 harg3 arg4 harg4 arg5 harg5 arg14 arg15 x0 x1 x2 x3 x4)) = _
  unfold kernelRun0_A.sl.HS1_11
  rw [readAt_hit]
  unfold kernelRun0_A.sl.r_19 kernelRun0_A.sl.r_20
  rw [v20_eq]
  rw [v233_eq]
  rw [wcol_read arg3 harg3 x2 10 ![0, 2560] _ rfl, wcol_read arg4 harg4 x3 10 ![0, 2560] _ rfl, wrow_read arg5 harg5 x4 10 ![2560, 0] _ rfl]
  rfl

/-- The half step's rows, and their norm. -/
def stepped : Vec F S512x1024 .f32 := k0_pay38 (k0_pay5 x0) (acc10 (k0_pay6 x0 x1) x2 x3 x4)
def mixed : Vec F S512x1024 .bf16 := k0_pay1 (k0_pay39 (k0_pay5 x0) (acc10 (k0_pay6 x0 x1) x2 x3 x4) x5)

theorem v261_eq : kernelRun0_A.sl.v261 (F := F) c arg1 harg1 arg2 harg2 arg3 harg3 arg4 harg4 arg5 harg5 arg6 harg6 arg14 arg15 x0 x1 x2 x3 x4 x5 = mixed x2 x3 x4 x0 x1 x5 := by
  show arg14.view.readAt (Elt F) (Rect.unit (s := S512x1024) ![0, 0] ![512, 1024] inb_S512x1024_S512x1024_0_0).toLoadRect (arg14.view.writes (Elt F) _ (kernelRun0_A.sl.HS0_2 (F := F) c arg1 harg1 arg2 harg2 arg3 harg3 arg4 harg4 arg5 harg5 arg6 harg6 arg14 arg15 x0 x1 x2 x3 x4 x5)) = _
  unfold kernelRun0_A.sl.HS0_2
  rw [readAt_hit]
  unfold kernelRun0_A.sl.r_22
  rw [v238_eq, r_eq, win_whole arg6 harg6 x5 ![0, 0] _ zero_off]
  rfl

theorem out9_eq (i : grid0.Coords) : out0_A_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = stepped x2 x3 x4 x0 x1 := by
  unfold out0_A_9 stepped
  rw [← v238_eq x2 x3 x4 c arg1 harg1 arg2 harg2 arg3 harg3 arg4 harg4 arg5 harg5 arg14 arg15, ← r_eq c arg1 harg1]
  exact read_whole VO0_9 VO0_9.junk ![0, 0] inb_S512x1024_S512x1024_0_0 zero_off _

theorem out10_eq (i : grid0.Coords) : out0_A_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay2 (mixed x2 x3 x4 x0 x1 x5) x6 := by
  unfold out0_A_10 kernelRun0_A
  dsimp only
  rw [v261_eq x2 x3 x4 c arg1 harg1 arg2 harg2 arg3 harg3 arg4 harg4 arg5 harg5 arg6 harg6 arg14 arg15]
  refine (read_whole VO0_10 VO0_10.junk ![0, 0] inb_S512x1536_S512x1536_0_0 zero_off _).trans ?_
  exact congrArg (k0_pay2 _) (win_whole arg7 harg7 x6 ![0, 0] _ zero_off)

theorem out11_eq (i : grid0.Coords) : out0_A_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay3 (mixed x2 x3 x4 x0 x1 x5) x7 := by
  unfold out0_A_11 kernelRun0_A
  dsimp only
  rw [v261_eq x2 x3 x4 c arg1 harg1 arg2 harg2 arg3 harg3 arg4 harg4 arg5 harg5 arg6 harg6 arg14 arg15]
  refine (read_whole VO0_11 VO0_11.junk ![0, 0] inb_S512x512_S512x512_0_0 zero_off _).trans ?_
  exact congrArg (k0_pay3 _) (win_whole arg8 harg8 x7 ![0, 0] _ zero_off)

theorem out12_eq (i : grid0.Coords) : out0_A_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay4 (mixed x2 x3 x4 x0 x1 x5) x8 := by
  unfold out0_A_12 kernelRun0_A
  dsimp only
  rw [v261_eq x2 x3 x4 c arg1 harg1 arg2 harg2 arg3 harg3 arg4 harg4 arg5 harg5 arg6 harg6 arg14 arg15]
  refine (read_whole VO0_12 VO0_12.junk ![0, 0] inb_S512x768_S512x768_0_0 zero_off _).trans ?_
  exact congrArg (k0_pay4 _) (win_whole arg9 harg9 x8 ![0, 0] _ zero_off)

end Body

section Value

variable (h : Vec Ideal S512x1024 .bf16) (x2 x3 : Vec Ideal S1024x2816 .bf16) (x4 : Vec Ideal S2816x1024 .bf16)

theorem acc_apply (i : Fin 512) (j : Fin 1024) : (acc10 (F := Ideal) h x2 x3 x4 (ix2 i j) : EReal) =
    ∑ f, hidden (fun k => h (ix2 i k)) (fun k f => x2 (ix2 k f)) (fun k f => x3 (ix2 k f)) f * (fun f j => x4 (ix2 f j)) f j := by
  rw [← chunks]
  unfold acc10 acc9 acc8 acc7 acc6 acc5 acc4 acc3 acc2 acc1 acc0
  simp only [next_apply, first_apply]
  rfl

variable (x0 : Vec Ideal S512x1024 .f32) (x1 x5 : Vec Ideal S1x1024 .f32)

theorem stepped_apply (i : Fin 512) (j : Fin 1024) : (stepped (F := Ideal) x2 x3 x4 x0 x1 (ix2 i j) : EReal) =
    half (fun j => x0 (ix2 i j)) (fun j => x1 (ix2 0 j)) (fun k f => x2 (ix2 k f)) (fun k f => x3 (ix2 k f)) (fun f j => x4 (ix2 f j)) j := by
  unfold stepped half
  rw [half_apply]
  simp only [acc_apply, norm_apply]

theorem mixed_value (i : Fin 512) (j : Fin 1024) : (mixed (F := Ideal) x2 x3 x4 x0 x1 x5 (ix2 i j) : EReal) =
    rms (half (fun j => x0 (ix2 i j)) (fun j => x1 (ix2 0 j)) (fun k f => x2 (ix2 k f)) (fun k f => x3 (ix2 k f)) (fun f j => x4 (ix2 f j)))
      (fun j => x5 (ix2 0 j)) j := by
  unfold mixed half
  rw [mixed_apply]
  simp only [acc_apply, norm_apply]

theorem qkv_value (w : Vec Ideal S1024x1536 .bf16) (i : Fin 512) (j : Fin 1536) : (k0_pay2 (F := Ideal) (mixed x2 x3 x4 x0 x1 x5) w (ix2 i j) : EReal) =
    proj (fun j => x0 (ix2 i j)) (fun j => x1 (ix2 0 j)) (fun k f => x2 (ix2 k f)) (fun k f => x3 (ix2 k f)) (fun f j => x4 (ix2 f j))
      (fun j => x5 (ix2 0 j)) (fun k => w (ix2 k j)) := by
  rw [qkv_apply]
  unfold proj
  simp only [mixed_value]

theorem z_value (w : Vec Ideal S1024x512 .bf16) (i : Fin 512) (j : Fin 512) : (k0_pay3 (F := Ideal) (mixed x2 x3 x4 x0 x1 x5) w (ix2 i j) : EReal) =
    proj (fun j => x0 (ix2 i j)) (fun j => x1 (ix2 0 j)) (fun k f => x2 (ix2 k f)) (fun k f => x3 (ix2 k f)) (fun f j => x4 (ix2 f j))
      (fun j => x5 (ix2 0 j)) (fun k => w (ix2 k j)) := by
  rw [z_apply]
  unfold proj
  simp only [mixed_value]

theorem mla_value (w : Vec Ideal S1024x768 .bf16) (i : Fin 512) (j : Fin 768) : (k0_pay4 (F := Ideal) (mixed x2 x3 x4 x0 x1 x5) w (ix2 i j) : EReal) =
    proj (fun j => x0 (ix2 i j)) (fun j => x1 (ix2 0 j)) (fun k f => x2 (ix2 k f)) (fun k f => x3 (ix2 k f)) (fun f j => x4 (ix2 f j))
      (fun j => x5 (ix2 0 j)) (fun k => w (ix2 k j)) := by
  rw [mla_apply]
  unfold proj
  simp only [mixed_value]

end Value

end Cert.ProjPure
-- ==== Proof.ProjBlocks.lean ====
/-
The blocks the entry call reads, as entries of the seven arguments, and its four result arrays: row `64 b + s` is the
row of batch row `b`, position `s`.
-/
module

public import proofs.«01_k».proof.Proof.ProjBody
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjBlocks

open Cert.Kernel3Ideal Cert.Kernel3Ideal.Gen Cert.Ffn Cert.Proj Cert.ProjPure

variable (m : (ℓ : Loc nD τ sig) → Buf (Elt Ideal) ℓ) (c : Dev nD)

/-- Which block each window takes at each grid point. -/
theorem idx : ∀ t : Fin cfg0.N, win0_0.index t = ![(grid0.coords t 0).val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![(grid0.coords t 0).val, 0]
    ∧ win0_10.index t = ![(grid0.coords t 0).val, 0]
    ∧ win0_11.index t = ![(grid0.coords t 0).val, 0]
    ∧ win0_12.index t = ![(grid0.coords t 0).val, 0]
    ∧ (grid0.coords t 0).val < 4 :=
  (by decide +kernel : ∀ t : Fin grid0.N, _)

/-- Row `i` of a grid point's block. -/
def trow (t : Fin cfg0.N) (i : Fin 512) : Fin 2048 :=
  ⟨512 * (grid0.coords t 0).val + i.val, by have := (idx t).2.2.2.2.2.2.2.2.2.2.2.2.2; omega⟩

theorem iblk_def (w : Fin cfg0.W) (t : Fin cfg0.N) :
    iblk m c w t = ((cfg0.win w).blk t).view.read (Elt Ideal) (V m c (Pipeline.arrRef spec0 w)) := rfl

theorem rd0 (t : Fin cfg0.N) (f : FVec Ideal S2048x1024 .f32) (y : S512x1024.Idx) :
    (show Vec Ideal S512x1024 .f32 from ((cfg0.win 0).blk t).view.read (Elt Ideal) f) y = f (((cfg0.win 0).blk t).view.emb y) := rfl

theorem em0 (t : Fin cfg0.N) (i : Fin 512) (j : Fin 1024) :
    (show S2048x1024.Idx from ((cfg0.win 0).blk t).view.emb (show S512x1024.Idx from ix2 i j)) = ix2 (trow t i) j := by
  blk_ext [idx t, trow]

theorem blk0 (t : Fin cfg0.N) (i : Fin 512) (j : Fin 1024) :
    (show Vec Ideal S512x1024 .f32 from iblk m c 0 t) (ix2 i j) = (V m c main_v15 : FVec Ideal S2048x1024 .f32) (ix2 (trow t i) j) := by
  rw [iblk_def]
  exact (rd0 t (V m c (Pipeline.arrRef spec0 0)) _).trans (congrArg (V m c main_v15 : FVec Ideal S2048x1024 .f32) (em0 t i j))

theorem rd1 (t : Fin cfg0.N) (f : FVec Ideal S1x1024 .f32) (y : S1x1024.Idx) :
    (show Vec Ideal S1x1024 .f32 from ((cfg0.win 1).blk t).view.read (Elt Ideal) f) y = f (((cfg0.win 1).blk t).view.emb y) := rfl

theorem em1 (t : Fin cfg0.N) (i : Fin 1) (j : Fin 1024) :
    (show S1x1024.Idx from ((cfg0.win 1).blk t).view.emb (show S1x1024.Idx from ix2 i j)) = ix2 i j := by
  blk_ext [idx t]

theorem blk1 (t : Fin cfg0.N) (i : Fin 1) (j : Fin 1024) :
    (show Vec Ideal S1x1024 .f32 from iblk m c 1 t) (ix2 i j) = (V m c main_v0 : FVec Ideal S1x1024 .f32) (ix2 i j) := by
  rw [iblk_def]
  exact (rd1 t (V m c (Pipeline.arrRef spec0 1)) _).trans (congrArg (V m c main_v0 : FVec Ideal S1x1024 .f32) (em1 t i j))

theorem rd2 (t : Fin cfg0.N) (f : FVec Ideal S1024x2816 .bf16) (y : S1024x2816.Idx) :
    (show Vec Ideal S1024x2816 .bf16 from ((cfg0.win 2).blk t).view.read (Elt Ideal) f) y = f (((cfg0.win 2).blk t).view.emb y) := rfl

theorem em2 (t : Fin cfg0.N) (i : Fin 1024) (j : Fin 2816) :
    (show S1024x2816.Idx from ((cfg0.win 2).blk t).view.emb (show S1024x2816.Idx from ix2 i j)) = ix2 i j := by
  blk_ext [idx t]

theorem blk2 (t : Fin cfg0.N) (i : Fin 1024) (j : Fin 2816) :
    (show Vec Ideal S1024x2816 .bf16 from iblk m c 2 t) (ix2 i j) = (V m c main_v2 : FVec Ideal S1024x2816 .bf16) (ix2 i j) := by
  rw [iblk_def]
  exact (rd2 t (V m c (Pipeline.arrRef spec0 2)) _).trans (congrArg (V m c main_v2 : FVec Ideal S1024x2816 .bf16) (em2 t i j))

theorem rd3 (t : Fin cfg0.N) (f : FVec Ideal S1024x2816 .bf16) (y : S1024x2816.Idx) :
    (show Vec Ideal S1024x2816 .bf16 from ((cfg0.win 3).blk t).view.read (Elt Ideal) f) y = f (((cfg0.win 3).blk t).view.emb y) := rfl

theorem em3 (t : Fin cfg0.N) (i : Fin 1024) (j : Fin 2816) :
    (show S1024x2816.Idx from ((cfg0.win 3).blk t).view.emb (show S1024x2816.Idx from ix2 i j)) = ix2 i j := by
  blk_ext [idx t]

theorem blk3 (t : Fin cfg0.N) (i : Fin 1024) (j : Fin 2816) :
    (show Vec Ideal S1024x2816 .bf16 from iblk m c 3 t) (ix2 i j) = (V m c main_v3 : FVec Ideal S1024x2816 .bf16) (ix2 i j) := by
  rw [iblk_def]
  exact (rd3 t (V m c (Pipeline.arrRef spec0 3)) _).trans (congrArg (V m c main_v3 : FVec Ideal S1024x2816 .bf16) (em3 t i j))

theorem rd4 (t : Fin cfg0.N) (f : FVec Ideal S2816x1024 .bf16) (y : S2816x1024.Idx) :
    (show Vec Ideal S2816x1024 .bf16 from ((cfg0.win 4).blk t).view.read (Elt Ideal) f) y = f (((cfg0.win 4).blk t).view.emb y) := rfl

theorem em4 (t : Fin cfg0.N) (i : Fin 2816) (j : Fin 1024) :
    (show S2816x1024.Idx from ((cfg0.win 4).blk t).view.emb (show S2816x1024.Idx from ix2 i j)) = ix2 i j := by
  blk_ext [idx t]

theorem blk4 (t : Fin cfg0.N) (i : Fin 2816) (j : Fin 1024) :
    (show Vec Ideal S2816x1024 .bf16 from iblk m c 4 t) (ix2 i j) = (V m c main_v4 : FVec Ideal S2816x1024 .bf16) (ix2 i j) := by
  rw [iblk_def]
  exact (rd4 t (V m c (Pipeline.arrRef spec0 4)) _).trans (congrArg (V m c main_v4 : FVec Ideal S2816x1024 .bf16) (em4 t i j))

theorem rd5 (t : Fin cfg0.N) (f : FVec Ideal S1x1024 .f32) (y : S1x1024.Idx) :
    (show Vec Ideal S1x1024 .f32 from ((cfg0.win 5).blk t).view.read (Elt Ideal) f) y = f (((cfg0.win 5).blk t).view.emb y) := rfl

theorem em5 (t : Fin cfg0.N) (i : Fin 1) (j : Fin 1024) :
    (show S1x1024.Idx from ((cfg0.win 5).blk t).view.emb (show S1x1024.Idx from ix2 i j)) = ix2 i j := by
  blk_ext [idx t]

theorem blk5 (t : Fin cfg0.N) (i : Fin 1) (j : Fin 1024) :
    (show Vec Ideal S1x1024 .f32 from iblk m c 5 t) (ix2 i j) = (V m c main_v1 : FVec Ideal S1x1024 .f32) (ix2 i j) := by
  rw [iblk_def]
  exact (rd5 t (V m c (Pipeline.arrRef spec0 5)) _).trans (congrArg (V m c main_v1 : FVec Ideal S1x1024 .f32) (em5 t i j))

theorem rd6 (t : Fin cfg0.N) (f : FVec Ideal S1024x1536 .bf16) (y : S1024x1536.Idx) :
    (show Vec Ideal S1024x1536 .bf16 from ((cfg0.win 6).blk t).view.read (Elt Ideal) f) y = f (((cfg0.win 6).blk t).view.emb y) := rfl

theorem em6 (t : Fin cfg0.N) (i : Fin 1024) (j : Fin 1536) :
    (show S1024x1536.Idx from ((cfg0.win 6).blk t).view.emb (show S1024x1536.Idx from ix2 i j)) = ix2 i j := by
  blk_ext [idx t]

theorem blk6 (t : Fin cfg0.N) (i : Fin 1024) (j : Fin 1536) :
    (show Vec Ideal S1024x1536 .bf16 from iblk m c 6 t) (ix2 i j) = (V m c main_v6 : FVec Ideal S1024x1536 .bf16) (ix2 i j) := by
  rw [iblk_def]
  exact (rd6 t (V m c (Pipeline.arrRef spec0 6)) _).trans (congrArg (V m c main_v6 : FVec Ideal S1024x1536 .bf16) (em6 t i j))

theorem rd7 (t : Fin cfg0.N) (f : FVec Ideal S1024x512 .bf16) (y : S1024x512.Idx) :
    (show Vec Ideal S1024x512 .bf16 from ((cfg0.win 7).blk t).view.read (Elt Ideal) f) y = f (((cfg0.win 7).blk t).view.emb y) := rfl

theorem em7 (t : Fin cfg0.N) (i : Fin 1024) (j : Fin 512) :
    (show S1024x512.Idx from ((cfg0.win 7).blk t).view.emb (show S1024x512.Idx from ix2 i j)) = ix2 i j := by
  blk_ext [idx t]

theorem blk7 (t : Fin cfg0.N) (i : Fin 1024) (j : Fin 512) :
    (show Vec Ideal S1024x512 .bf16 from iblk m c 7 t) (ix2 i j) = (V m c main_v8 : FVec Ideal S1024x512 .bf16) (ix2 i j) := by
  rw [iblk_def]
  exact (rd7 t (V m c (Pipeline.arrRef spec0 7)) _).trans (congrArg (V m c main_v8 : FVec Ideal S1024x512 .bf16) (em7 t i j))

theorem rd8 (t : Fin cfg0.N) (f : FVec Ideal S1024x768 .bf16) (y : S1024x768.Idx) :
    (show Vec Ideal S1024x768 .bf16 from ((cfg0.win 8).blk t).view.read (Elt Ideal) f) y = f (((cfg0.win 8).blk t).view.emb y) := rfl

theorem em8 (t : Fin cfg0.N) (i : Fin 1024) (j : Fin 768) :
    (show S1024x768.Idx from ((cfg0.win 8).blk t).view.emb (show S1024x768.Idx from ix2 i j)) = ix2 i j := by
  blk_ext [idx t]

theorem blk8 (t : Fin cfg0.N) (i : Fin 1024) (j : Fin 768) :
    (show Vec Ideal S1024x768 .bf16 from iblk m c 8 t) (ix2 i j) = (V m c main_v14 : FVec Ideal S1024x768 .bf16) (ix2 i j) := by
  rw [iblk_def]
  exact (rd8 t (V m c (Pipeline.arrRef spec0 8)) _).trans (congrArg (V m c main_v14 : FVec Ideal S1024x768 .bf16) (em8 t i j))

/-! ## What the host lines leave -/

/-- The batch row and the position of a row. -/
def rb (r : Fin 2048) : Fin 32 := ⟨r.val / 64, by omega⟩
def rs (r : Fin 2048) : Fin 64 := ⟨r.val % 64, by omega⟩

theorem host15 (r : Fin 2048) (j : Fin 1024) :
    ((V m c main_v15 : FVec Ideal S2048x1024 .f32) (ix2 r j) : EReal) = (m (c, Proc.tc.devRef main_arg0) : FVec Ideal S32x64x1024 .f32) (ix3 (rb r) (rs r) j) := by
  show StableHlo.after hostOps0 _ _ _ = _
  after_reads_simp
  pointwise
  try rfl

theorem host0 (r : Fin 1) (j : Fin 1024) :
    ((V m c main_v0 : FVec Ideal S1x1024 .f32) (ix2 r j) : EReal) = (m (c, Proc.tc.devRef main_arg1) : FVec Ideal S1024 .f32) (ix1 j) := by
  show StableHlo.after hostOps0 _ _ _ = _
  after_reads_simp
  pointwise
  try rfl

theorem host2 (r : Fin 1024) (j : Fin 2816) :
    ((V m c main_v2 : FVec Ideal S1024x2816 .bf16) (ix2 r j) : EReal) = (m (c, Proc.tc.devRef main_arg2) : FVec Ideal S1024x2816 .f32) (ix2 r j) := by
  show StableHlo.after hostOps0 _ _ _ = _
  after_reads_simp
  pointwise
  try rfl

theorem host3 (r : Fin 1024) (j : Fin 2816) :
    ((V m c main_v3 : FVec Ideal S1024x2816 .bf16) (ix2 r j) : EReal) = (m (c, Proc.tc.devRef main_arg3) : FVec Ideal S1024x2816 .f32) (ix2 r j) := by
  show StableHlo.after hostOps0 _ _ _ = _
  after_reads_simp
  pointwise
  try rfl

theorem host4 (r : Fin 2816) (j : Fin 1024) :
    ((V m c main_v4 : FVec Ideal S2816x1024 .bf16) (ix2 r j) : EReal) = (m (c, Proc.tc.devRef main_arg4) : FVec Ideal S2816x1024 .f32) (ix2 r j) := by
  show StableHlo.after hostOps0 _ _ _ = _
  after_reads_simp
  pointwise
  try rfl

theorem host1 (r : Fin 1) (j : Fin 1024) :
    ((V m c main_v1 : FVec Ideal S1x1024 .f32) (ix2 r j) : EReal) = (m (c, Proc.tc.devRef main_arg5) : FVec Ideal S1024 .f32) (ix1 j) := by
  show StableHlo.after hostOps0 _ _ _ = _
  after_reads_simp
  pointwise
  try rfl

theorem host6 (r : Fin 1024) (j : Fin 1536) :
    ((V m c main_v6 : FVec Ideal S1024x1536 .bf16) (ix2 r j) : EReal) = (m (c, Proc.tc.devRef main_arg6) : FVec Ideal S1024x2760 .f32) (ix2 r ⟨j.val, by omega⟩) := by
  show StableHlo.after hostOps0 _ _ _ = _
  after_reads_simp
  pointwise
  try rfl

theorem host8 (r : Fin 1024) (j : Fin 512) :
    ((V m c main_v8 : FVec Ideal S1024x512 .bf16) (ix2 r j) : EReal) = (m (c, Proc.tc.devRef main_arg6) : FVec Ideal S1024x2760 .f32) (ix2 r ⟨1536 + j.val, by omega⟩) := by
  show StableHlo.after hostOps0 _ _ _ = _
  after_reads_simp
  pointwise
  try rfl

theorem host14 (r : Fin 1024) (j : Fin 768) :
    ((V m c main_v14 : FVec Ideal S1024x768 .bf16) (ix2 r j) : EReal) = mcol (fun n => (m (c, Proc.tc.devRef main_arg6) : FVec Ideal S1024x2760 .f32) (ix2 r n)) j := by
  show StableHlo.after hostOps0 _ _ _ = _
  after_reads_simp
  unfold mcol
  pointwise
  after_reads_simp
  pointwise
  repeat' split
  all_goals first
    | (exfalso; omega)
    | rfl
    | exact congrArg (fun n => (m (c, Proc.tc.devRef main_arg6) : FVec Ideal S1024x2760 .f32) (ix2 r n)) (Fin.ext (by dsimp only <;> omega))

/-- The half step's row, and the products with its norm. -/
def halfAt (r : Fin 2048) (j : Fin 1024) : EReal :=
  half (fun j => (m (c, Proc.tc.devRef main_arg0) : FVec Ideal S32x64x1024 .f32) (ix3 (rb r) (rs r) j))
    (fun j => (m (c, Proc.tc.devRef main_arg1) : FVec Ideal S1024 .f32) (ix1 j))
    (fun k f => (m (c, Proc.tc.devRef main_arg2) : FVec Ideal S1024x2816 .f32) (ix2 k f))
    (fun k f => (m (c, Proc.tc.devRef main_arg3) : FVec Ideal S1024x2816 .f32) (ix2 k f))
    (fun f j => (m (c, Proc.tc.devRef main_arg4) : FVec Ideal S2816x1024 .f32) (ix2 f j)) j

def projAt (r : Fin 2048) (w : Fin 1024 → EReal) : EReal :=
  proj (fun j => (m (c, Proc.tc.devRef main_arg0) : FVec Ideal S32x64x1024 .f32) (ix3 (rb r) (rs r) j))
    (fun j => (m (c, Proc.tc.devRef main_arg1) : FVec Ideal S1024 .f32) (ix1 j))
    (fun k f => (m (c, Proc.tc.devRef main_arg2) : FVec Ideal S1024x2816 .f32) (ix2 k f))
    (fun k f => (m (c, Proc.tc.devRef main_arg3) : FVec Ideal S1024x2816 .f32) (ix2 k f))
    (fun f j => (m (c, Proc.tc.devRef main_arg4) : FVec Ideal S2816x1024 .f32) (ix2 f j))
    (fun j => (m (c, Proc.tc.devRef main_arg5) : FVec Ideal S1024 .f32) (ix1 j)) w

/-- Column `n` of the input projection. -/
def wAt (n : Fin 2760) (k : Fin 1024) : EReal := (m (c, Proc.tc.devRef main_arg6) : FVec Ideal S1024x2760 .f32) (ix2 k n)

theorem value9 (t : Fin cfg0.N) (i : Fin 512) (j : Fin 1024) :
    ((show Vec Ideal S512x1024 .f32 from (outsAt0 m c t).1) (ix2 i j) : EReal) = halfAt m c (trow t i) j := by
  unfold outsAt0
  simp only
  rw [out9_eq]
  refine (stepped_apply _ _ _ _ _ i j).trans ?_
  exact half_of j (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))

theorem em9 (t : Fin cfg0.N) (i : Fin 512) (j : Fin 1024) :
    (show S2048x1024.Idx from ((cfg0.win 9).blk t).view.emb (show S512x1024.Idx from ix2 i j)) = ix2 (trow t i) j := by
  blk_ext [idx t, trow]

def at9 (r : Fin 2048) (j : Fin 1024) : EReal := halfAt m c r j

def arr9 : FVec Ideal S2048x1024 .f32 := fun y => at9 m c ⟨(y 0).val, (y 0).isLt⟩ ⟨(y 1).val, (y 1).isLt⟩

theorem array9 : (dats m 0 c).arrAt 9 cfg0.N = arr9 m c := by
  refine (dats m 0 c).arrAt_eq_of_covers 9 _ (by decide +kernel) fun t hf y => ?_
  blk_simp
  rw [after0_9]
  obtain ⟨i, j, rfl⟩ : ∃ (i : Fin 512) (j : Fin 1024), y = (show S512x1024.Idx from ix2 i j) :=
    ⟨⟨(y 0).val, (y 0).isLt⟩, ⟨(y 1).val, (y 1).isLt⟩, funext fun a => by
      match a with
      | 0 => rfl
      | 1 => rfl⟩
  refine (value9 m c t i j).trans ?_
  exact (congrArg (arr9 m c) (em9 t i j)).symm

theorem value10 (t : Fin cfg0.N) (i : Fin 512) (j : Fin 1536) :
    ((show Vec Ideal S512x1536 .f32 from (outsAt0 m c t).2.1) (ix2 i j) : EReal) = projAt m c (trow t i) (wAt m c ⟨(j).val, by omega⟩) := by
  unfold outsAt0
  simp only
  rw [out10_eq]
  refine (qkv_value _ _ _ _ _ _ _ i j).trans ?_
  exact proj_of (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))
    (fun j => (blk5 m c t 0 j).trans (host1 m c 0 j)) (fun k => (blk6 m c t k j).trans (host6 m c k j))

theorem em10 (t : Fin cfg0.N) (i : Fin 512) (j : Fin 1536) :
    (show S2048x1536.Idx from ((cfg0.win 10).blk t).view.emb (show S512x1536.Idx from ix2 i j)) = ix2 (trow t i) j := by
  blk_ext [idx t, trow]

def at10 (r : Fin 2048) (j : Fin 1536) : EReal := projAt m c r (wAt m c ⟨(j).val, by omega⟩)

def arr10 : FVec Ideal S2048x1536 .f32 := fun y => at10 m c ⟨(y 0).val, (y 0).isLt⟩ ⟨(y 1).val, (y 1).isLt⟩

theorem array10 : (dats m 0 c).arrAt 10 cfg0.N = arr10 m c := by
  refine (dats m 0 c).arrAt_eq_of_covers 10 _ (by decide +kernel) fun t hf y => ?_
  blk_simp
  rw [after0_10]
  obtain ⟨i, j, rfl⟩ : ∃ (i : Fin 512) (j : Fin 1536), y = (show S512x1536.Idx from ix2 i j) :=
    ⟨⟨(y 0).val, (y 0).isLt⟩, ⟨(y 1).val, (y 1).isLt⟩, funext fun a => by
      match a with
      | 0 => rfl
      | 1 => rfl⟩
  refine (value10 m c t i j).trans ?_
  exact (congrArg (arr10 m c) (em10 t i j)).symm

theorem value11 (t : Fin cfg0.N) (i : Fin 512) (j : Fin 512) :
    ((show Vec Ideal S512x512 .f32 from (outsAt0 m c t).2.2.1) (ix2 i j) : EReal) = projAt m c (trow t i) (wAt m c ⟨1536 + (j).val, by omega⟩) := by
  unfold outsAt0
  simp only
  rw [out11_eq]
  refine (z_value _ _ _ _ _ _ _ i j).trans ?_
  exact proj_of (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))
    (fun j => (blk5 m c t 0 j).trans (host1 m c 0 j)) (fun k => (blk7 m c t k j).trans (host8 m c k j))

theorem em11 (t : Fin cfg0.N) (i : Fin 512) (j : Fin 512) :
    (show S2048x512.Idx from ((cfg0.win 11).blk t).view.emb (show S512x512.Idx from ix2 i j)) = ix2 (trow t i) j := by
  blk_ext [idx t, trow]

def at11 (r : Fin 2048) (j : Fin 512) : EReal := projAt m c r (wAt m c ⟨1536 + (j).val, by omega⟩)

def arr11 : FVec Ideal S2048x512 .f32 := fun y => at11 m c ⟨(y 0).val, (y 0).isLt⟩ ⟨(y 1).val, (y 1).isLt⟩

theorem array11 : (dats m 0 c).arrAt 11 cfg0.N = arr11 m c := by
  refine (dats m 0 c).arrAt_eq_of_covers 11 _ (by decide +kernel) fun t hf y => ?_
  blk_simp
  rw [after0_11]
  obtain ⟨i, j, rfl⟩ : ∃ (i : Fin 512) (j : Fin 512), y = (show S512x512.Idx from ix2 i j) :=
    ⟨⟨(y 0).val, (y 0).isLt⟩, ⟨(y 1).val, (y 1).isLt⟩, funext fun a => by
      match a with
      | 0 => rfl
      | 1 => rfl⟩
  refine (value11 m c t i j).trans ?_
  exact (congrArg (arr11 m c) (em11 t i j)).symm

theorem value12 (t : Fin cfg0.N) (i : Fin 512) (j : Fin 768) :
    ((show Vec Ideal S512x768 .f32 from (outsAt0 m c t).2.2.2) (ix2 i j) : EReal) = projAt m c (trow t i) (fun k => mcol (fun n => wAt m c n k) (j)) := by
  unfold outsAt0
  simp only
  rw [out12_eq]
  refine (mla_value _ _ _ _ _ _ _ i j).trans ?_
  exact proj_of (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))
    (fun j => (blk5 m c t 0 j).trans (host1 m c 0 j)) (fun k => (blk8 m c t k j).trans (host14 m c k j))

theorem em12 (t : Fin cfg0.N) (i : Fin 512) (j : Fin 768) :
    (show S2048x768.Idx from ((cfg0.win 12).blk t).view.emb (show S512x768.Idx from ix2 i j)) = ix2 (trow t i) j := by
  blk_ext [idx t, trow]

def at12 (r : Fin 2048) (j : Fin 768) : EReal := projAt m c r (fun k => mcol (fun n => wAt m c n k) (j))

def arr12 : FVec Ideal S2048x768 .f32 := fun y => at12 m c ⟨(y 0).val, (y 0).isLt⟩ ⟨(y 1).val, (y 1).isLt⟩

theorem array12 : (dats m 0 c).arrAt 12 cfg0.N = arr12 m c := by
  refine (dats m 0 c).arrAt_eq_of_covers 12 _ (by decide +kernel) fun t hf y => ?_
  blk_simp
  rw [after0_12]
  obtain ⟨i, j, rfl⟩ : ∃ (i : Fin 512) (j : Fin 768), y = (show S512x768.Idx from ix2 i j) :=
    ⟨⟨(y 0).val, (y 0).isLt⟩, ⟨(y 1).val, (y 1).isLt⟩, funext fun a => by
      match a with
      | 0 => rfl
      | 1 => rfl⟩
  refine (value12 m c t i j).trans ?_
  exact (congrArg (arr12 m c) (em12 t i j)).symm

end Cert.ProjBlocks
-- ==== Proof.ProjRef.lean ====
/-
The entry call's reference, stage by stage, at an element.
-/
module

public import proofs.«01_k».proof.Proof.Proj
public import proofs.«01_k».proof.Proof.Gen.Reference3Ideal.Read

@[expose] public section

set_option maxRecDepth 16384

noncomputable section

open Idealize.ShloMosaic

namespace Cert.ProjRef

open Cert.Reference3Ideal Cert.Reference3Ideal.Gen Cert.Reference3Ideal.Read Cert.Ffn Cert.Proj

variable (x0 : FVec Ideal S32x64x1024 .f32) (x1 : FVec Ideal S1024 .f32) (x2 x3 : FVec Ideal S1024x2816 .f32)
  (x4 : FVec Ideal S2816x1024 .f32) (x5 : FVec Ideal S1024 .f32) (x6 : FVec Ideal S1024x2760 .f32)

theorem v12_apply (b : Fin 32) (s : Fin 64) (j : Fin 1024) :
    (val_main_v12 (F := Ideal) x0 x1 (ix3 b s j) : EReal) = rms (fun j => x0 (ix3 b s j)) (fun j => x1 (ix1 j)) j := by
  unfold rms
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  try rfl

theorem v16_apply (b : Fin 32) (s : Fin 64) (f : Fin 2816) :
    (val_main_v16 (F := Ideal) x0 x1 x2 x3 (ix3 b s f) : EReal)
      = hidden (rms (fun j => x0 (ix3 b s j)) (fun j => x1 (ix1 j))) (fun k f => x2 (ix2 k f)) (fun k f => x3 (ix2 k f)) f := by
  unfold Ffn.hidden gated Ideal.logistic
  pointwise [val_main_v16, val_main_v15, val_main_v14, val_main_v13, val_main_call0_v5, val_main_call0_v4, val_main_call0_v3, val_main_call0_v2, val_main_call0_v1, val_main_call0_v0, val_main_call0_cst, val_main_call0_cst_0, v12_apply]
  try rfl

theorem v20_apply (b : Fin 32) (s : Fin 64) (j : Fin 1024) :
    (val_main_v20 (F := Ideal) x0 x1 x2 x3 x4 (ix3 b s j) : EReal)
      = half (fun j => x0 (ix3 b s j)) (fun j => x1 (ix1 j)) (fun k f => x2 (ix2 k f)) (fun k f => x3 (ix2 k f)) (fun f j => x4 (ix2 f j)) j := by
  unfold half
  pointwise [val_main_v20, val_main_v19, val_main_v18, val_main_v17, val_main_cst_2, v16_apply]
  try rfl

theorem v34_apply (b : Fin 32) (s : Fin 64) (j : Fin 2760) :
    (val_main_v34 (F := Ideal) x0 x1 x2 x3 x4 x5 x6 (ix3 b s j) : EReal)
      = proj (fun j => x0 (ix3 b s j)) (fun j => x1 (ix1 j)) (fun k f => x2 (ix2 k f)) (fun k f => x3 (ix2 k f)) (fun f j => x4 (ix2 f j)) (fun j => x5 (ix1 j)) (fun k => x6 (ix2 k j)) := by
  unfold proj rms
  pointwise [val_main_v34, val_main_v33, val_main_v32, val_main_v31, val_main_v30, val_main_v29, val_main_v28, val_main_v27, val_main_v26, val_main_v25, val_main_v24, val_main_v23, val_main_v22, val_main_v21, val_main_cst_3, val_main_cst_4, val_main_cst_5, v20_apply]
  try rfl

theorem v44_apply (r : Fin 2048) (j : Fin 1024) :
    (val_main_v44 (F := Ideal) x0 x1 x2 x3 x4 (ix2 r j) : EReal)
      = val_main_v20 (F := Ideal) x0 x1 x2 x3 x4 (ix3 ⟨r.val / 64, by omega⟩ ⟨r.val % 64, by omega⟩ j) := by
  pointwise [val_main_v44]

theorem v45_apply (r : Fin 2048) (j : Fin 1536) :
    (val_main_v45 (F := Ideal) x0 x1 x2 x3 x4 x5 x6 (ix2 r j) : EReal)
      = val_main_v34 (F := Ideal) x0 x1 x2 x3 x4 x5 x6 (ix3 ⟨r.val / 64, by omega⟩ ⟨r.val % 64, by omega⟩ ⟨j.val, by omega⟩) := by
  pointwise [val_main_v45, val_main_v35]
  try rfl

theorem v46_apply (r : Fin 2048) (j : Fin 512) :
    (val_main_v46 (F := Ideal) x0 x1 x2 x3 x4 x5 x6 (ix2 r j) : EReal)
      = val_main_v34 (F := Ideal) x0 x1 x2 x3 x4 x5 x6 (ix3 ⟨r.val / 64, by omega⟩ ⟨r.val % 64, by omega⟩ ⟨1536 + j.val, by omega⟩) := by
  pointwise [val_main_v46, val_main_v36]
  try rfl

theorem v47_apply (r : Fin 2048) (j : Fin 768) :
    (val_main_v47 (F := Ideal) x0 x1 x2 x3 x4 x5 x6 (ix2 r j) : EReal)
      = mcol (fun n => (val_main_v34 (F := Ideal) x0 x1 x2 x3 x4 x5 x6 (ix3 ⟨r.val / 64, by omega⟩ ⟨r.val % 64, by omega⟩ n) : EReal)) j := by
  pointwise [val_main_v47, val_main_v43, val_main_v42, val_main_v41, val_main_v40, val_main_v39, val_main_v38, val_main_v37, val_main_cst_6]
  unfold mcol
  repeat' split
  all_goals first
    | (exfalso; omega)
    | rfl
    | exact congrArg (fun n => val_main_v34 (F := Ideal) x0 x1 x2 x3 x4 x5 x6 (ix3 ⟨r.val / 64, by omega⟩ ⟨r.val % 64, by omega⟩ n)) (Fin.ext (by dsimp only <;> omega))

end Cert.ProjRef
-- ==== Proof.ProjGoal.lean ====
/-
The entry call and its reference return the same four arrays.
-/
module

public import proofs.«01_k».proof.Proof.ProjBlocks
public import proofs.«01_k».proof.Proof.ProjRef
public import proofs.«01_k».proof.Proof.Gen.Reference3Ideal.Run
public import proofs.«01_k».proof.Defs

@[expose] public section

set_option maxRecDepth 16384

noncomputable section

open Idealize.ShloMosaic Idealize.ShloMosaic.TcCoe Idealize.SL.Sem

namespace Cert.ProjGoal

open Cert.Kernel3Ideal

variable (m : (ℓ : Loc nD τ sig) → Buf (Elt Ideal) ℓ) (c : Dev nD)

/-- An index of a two dimensional array from its two coordinates. -/
theorem ix_eta {n k : ℕ} (y : (⟨2, ![n, k]⟩ : Shape).Idx) : y = ix2 (⟨(y 0).val, (y 0).isLt⟩ : Fin n) (⟨(y 1).val, (y 1).isLt⟩ : Fin k) :=
  funext fun a => by
    match a with
    | 0 => rfl
    | 1 => rfl

theorem v44_array : Cert.Reference3Ideal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = Cert.ProjBlocks.arr9 m c := by
  funext y
  rw [show y = (show S2048x1024.Idx from ix2 (⟨(y 0).val, (y 0).isLt⟩ : Fin 2048) (⟨(y 1).val, (y 1).isLt⟩ : Fin 1024)) from ix_eta y]
  exact (Cert.ProjRef.v44_apply _ _ _ _ _ _ _).trans (Cert.ProjRef.v20_apply _ _ _ _ _ _ _ _)

theorem v45_array : Cert.Reference3Ideal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Cert.ProjBlocks.arr10 m c := by
  funext y
  rw [show y = (show S2048x1536.Idx from ix2 (⟨(y 0).val, (y 0).isLt⟩ : Fin 2048) (⟨(y 1).val, (y 1).isLt⟩ : Fin 1536)) from ix_eta y]
  exact (Cert.ProjRef.v45_apply _ _ _ _ _ _ _ _ _).trans (Cert.ProjRef.v34_apply _ _ _ _ _ _ _ _ _ _)

theorem v46_array : Cert.Reference3Ideal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Cert.ProjBlocks.arr11 m c := by
  funext y
  rw [show y = (show S2048x512.Idx from ix2 (⟨(y 0).val, (y 0).isLt⟩ : Fin 2048) (⟨(y 1).val, (y 1).isLt⟩ : Fin 512)) from ix_eta y]
  exact (Cert.ProjRef.v46_apply _ _ _ _ _ _ _ _ _).trans (Cert.ProjRef.v34_apply _ _ _ _ _ _ _ _ _ _)

theorem v47_array : Cert.Reference3Ideal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Cert.ProjBlocks.arr12 m c := by
  funext y
  rw [show y = (show S2048x768.Idx from ix2 (⟨(y 0).val, (y 0).isLt⟩ : Fin 2048) (⟨(y 1).val, (y 1).isLt⟩ : Fin 768)) from ix_eta y]
  refine (Cert.ProjRef.v47_apply _ _ _ _ _ _ _ _ _).trans ?_
  refine (congrArg (fun f => Cert.Proj.mcol f _) (funext fun n => Cert.ProjRef.v34_apply _ _ _ _ _ _ _ _ _ n)).trans ?_
  exact Cert.Proj.proj_mcol _ _ _ _ _ _ _ _

section Reference

variable (m' : (ℓ : Loc Cert.Reference3Ideal.nD Cert.Reference3Ideal.τ Cert.Reference3Ideal.sig) → Buf (Elt Ideal) ℓ)
  (e0 : m' ((c.tc : Thread Cert.Reference3Ideal.nD Cert.Reference3Ideal.τ).loc Cert.Reference3Ideal.main_arg0) = m ((c.tc : Thread nD τ).loc main_arg0))
  (e1 : m' ((c.tc : Thread Cert.Reference3Ideal.nD Cert.Reference3Ideal.τ).loc Cert.Reference3Ideal.main_arg1) = m ((c.tc : Thread nD τ).loc main_arg1))
  (e2 : m' ((c.tc : Thread Cert.Reference3Ideal.nD Cert.Reference3Ideal.τ).loc Cert.Reference3Ideal.main_arg2) = m ((c.tc : Thread nD τ).loc main_arg2))
  (e3 : m' ((c.tc : Thread Cert.Reference3Ideal.nD Cert.Reference3Ideal.τ).loc Cert.Reference3Ideal.main_arg3) = m ((c.tc : Thread nD τ).loc main_arg3))
  (e4 : m' ((c.tc : Thread Cert.Reference3Ideal.nD Cert.Reference3Ideal.τ).loc Cert.Reference3Ideal.main_arg4) = m ((c.tc : Thread nD τ).loc main_arg4))
  (e5 : m' ((c.tc : Thread Cert.Reference3Ideal.nD Cert.Reference3Ideal.τ).loc Cert.Reference3Ideal.main_arg5) = m ((c.tc : Thread nD τ).loc main_arg5))
  (e6 : m' ((c.tc : Thread Cert.Reference3Ideal.nD Cert.Reference3Ideal.τ).loc Cert.Reference3Ideal.main_arg6) = m ((c.tc : Thread nD τ).loc main_arg6))

include e0 e1 e2 e3 e4 in
theorem v44_same : Cert.Reference3Ideal.Read.val_main_v44 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = (Cert.Kernel3Ideal.Gen.dats m 0 c).arrAt 9 Cert.Kernel3Ideal.cfg0.N := by
  rw [e0, e1, e2, e3, e4, Cert.ProjBlocks.array9]
  exact v44_array m c

include e0 e1 e2 e3 e4 e5 e6 in
theorem v45_same : Cert.Reference3Ideal.Value.res_main_v45 m' c = (Cert.Kernel3Ideal.Gen.dats m 0 c).arrAt 10 Cert.Kernel3Ideal.cfg0.N := by
  rw [Cert.Reference3Ideal.Read.val_main_v45_eq, e0, e1, e2, e3, e4, e5, e6, Cert.ProjBlocks.array10]
  exact v45_array m c

include e0 e1 e2 e3 e4 e5 e6 in
theorem v46_same : Cert.Reference3Ideal.Value.res_main_v46 m' c = (Cert.Kernel3Ideal.Gen.dats m 0 c).arrAt 11 Cert.Kernel3Ideal.cfg0.N := by
  rw [Cert.Reference3Ideal.Read.val_main_v46_eq, e0, e1, e2, e3, e4, e5, e6, Cert.ProjBlocks.array11]
  exact v46_array m c

include e0 e1 e2 e3 e4 e5 e6 in
theorem v47_same : Cert.Reference3Ideal.Value.res_main_v47 m' c = (Cert.Kernel3Ideal.Gen.dats m 0 c).arrAt 12 Cert.Kernel3Ideal.cfg0.N := by
  rw [Cert.Reference3Ideal.Read.val_main_v47_eq, e0, e1, e2, e3, e4, e5, e6, Cert.ProjBlocks.array12]
  exact v47_array m c

end Reference

theorem algebraic : Cert.algebraic_Kernel3Ideal_Reference3Ideal := fun m ρ m' ρ' _ hag =>
  ⟨fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, fun c => (Cert.Kernel3Ideal.Gen.dats m 0 c).arrAt 12 Cert.Kernel3Ideal.cfg0.N,
    Cert.Kernel3Ideal.Value.run_blocks m ρ,
    (θ_run _ _ _).mono (fun _ h c => ⟨(h c).1.trans ((Cert.Reference3Ideal.Read.val_main_v44_eq _ _ _ _ _).trans (v44_same m c m' (hag c).1 (hag c).2.1 (hag c).2.2.1 (hag c).2.2.2.1 (hag c).2.2.2.2.1)),
      (h c).2.1.trans (v45_same m c m' (hag c).1 (hag c).2.1 (hag c).2.2.1 (hag c).2.2.2.1 (hag c).2.2.2.2.1 (hag c).2.2.2.2.2.1 (hag c).2.2.2.2.2.2),
      (h c).2.2.1.trans (v46_same m c m' (hag c).1 (hag c).2.1 (hag c).2.2.1 (hag c).2.2.2.1 (hag c).2.2.2.2.1 (hag c).2.2.2.2.2.1 (hag c).2.2.2.2.2.2),
      (h c).2.2.2.1.trans (v47_same m c m' (hag c).1 (hag c).2.1 (hag c).2.2.1 (hag c).2.2.2.1 (hag c).2.2.2.2.1 (hag c).2.2.2.2.2.1 (hag c).2.2.2.2.2.2), (h c).2.2.2.2⟩)
      (Cert.Reference3Ideal.Value.run m' ρ')⟩

end Cert.ProjGoal
-- ==== Proof.EntryPure.lean ====
/-
The entry call's stored values, with the prompt's branch, at an element: the norm, one chunk of the gated layer, the half step, and the products.
-/
module

public import proofs.«01_k».proof.Proof.Proj
public import proofs.«01_k».proof.Proof.Gen.Kernel4Ideal.Skeleton
public import Idealize.ShloMosaic.Lib.Pipeline.ValueKit

@[expose] public section

set_option maxRecDepth 16384

noncomputable section

open Idealize.ShloMosaic Idealize.ShloMosaic.TcCoe

namespace Cert.EntryPure

open Cert.Kernel4Ideal Cert.Kernel4Ideal.Gen Cert.Ffn

section Terms

variable {F : FTy → Type} [FloatOps F] [Named F]

/-- The first chunk's product. -/
def first (h : Vec F S512x1024 .bf16) (wg wu : Vec F S1024x256 .bf16) (wd : Vec F S256x1024 .bf16) : Vec F S512x1024 .f32 :=
  k0_pay37 (k0_pay7 h wg) (k0_pay8 h wu) wd

/-- A later chunk's product, added to the sum so far. -/
def next (acc : Vec F S512x1024 .f32) (h : Vec F S512x1024 .bf16) (wg wu : Vec F S1024x256 .bf16) (wd : Vec F S256x1024 .bf16) :
    Vec F S512x1024 .f32 :=
  k0_pay74 (k0_pay35 h wg) (k0_pay36 h wu) wd acc

end Terms

variable (h : Vec Ideal S512x1024 .bf16) (wg wu : Vec Ideal S1024x256 .bf16) (wd : Vec Ideal S256x1024 .bf16)
  (acc : Vec Ideal S512x1024 .f32)

theorem first_apply (i : Fin 512) (j : Fin 1024) :
    (first (F := Ideal) h wg wu wd (ix2 i j) : EReal) = ∑ f : Fin 256, gated (∑ k : Fin 1024, h (ix2 i k) * wg (ix2 k f)) (∑ k : Fin 1024, h (ix2 i k) * wu (ix2 k f)) * wd (ix2 f j) := by
  unfold gated
  pointwise [first, k0_pay37, k0_pay7, k0_pay8]
  try rfl

theorem next_apply (i : Fin 512) (j : Fin 1024) :
    (next (F := Ideal) acc h wg wu wd (ix2 i j) : EReal) = acc (ix2 i j) + ∑ f : Fin 256, gated (∑ k : Fin 1024, h (ix2 i k) * wg (ix2 k f)) (∑ k : Fin 1024, h (ix2 i k) * wu (ix2 k f)) * wd (ix2 f j) := by
  unfold gated
  pointwise [next, k0_pay74, k0_pay35, k0_pay36]
  try rfl

variable (x : Vec Ideal S512x1024 .f32) (g : Vec Ideal S1x1024 .f32)

theorem norm_apply (i : Fin 512) (j : Fin 1024) :
    (k0_pay6 (F := Ideal) (k0_pay5 x g) (ix2 i j) : EReal) = rms (fun j => x (ix2 i j)) (fun j => g (ix2 0 j)) j := by
  unfold rms
  pointwise [k0_pay6, k0_pay5, k0_pay4]
  try rfl

theorem half_apply (i : Fin 512) (j : Fin 1024) :
    (k0_pay265 (F := Ideal) (k0_pay4 x) acc (ix2 i j) : EReal) = x (ix2 i j) + Ideal.ofBits .f32 0x3F000000#32 * acc (ix2 i j) := by
  pointwise [k0_pay265, k0_pay4]
  try rfl

theorem mixed_apply (i : Fin 512) (j : Fin 1024) :
    (k0_pay267 (F := Ideal) (k0_pay265 (k0_pay4 x) acc) g (ix2 i j) : EReal)
      = rms (fun j => x (ix2 i j) + Ideal.ofBits .f32 0x3F000000#32 * acc (ix2 i j)) (fun j => g (ix2 0 j)) j := by
  unfold rms
  pointwise [k0_pay267, half_apply]
  try rfl

theorem qkv_apply (w : Vec Ideal S1024x1536 .bf16) (i : Fin 512) (j : Fin 1536) :
    (k0_pay268 (F := Ideal) h w (ix2 i j) : EReal) = ∑ k : Fin 1024, h (ix2 i k) * w (ix2 k j) := by
  pointwise [k0_pay268]
  try rfl

theorem z_apply (w : Vec Ideal S1024x512 .bf16) (i : Fin 512) (j : Fin 512) :
    (k0_pay269 (F := Ideal) h w (ix2 i j) : EReal) = ∑ k : Fin 1024, h (ix2 i k) * w (ix2 k j) := by
  pointwise [k0_pay269]
  try rfl

theorem mla_apply (w : Vec Ideal S1024x768 .bf16) (i : Fin 512) (j : Fin 768) :
    (k0_pay270 (F := Ideal) h w (ix2 i j) : EReal) = ∑ k : Fin 1024, h (ix2 i k) * w (ix2 k j) := by
  pointwise [k0_pay270]
  try rfl

theorem tail_apply (w : Vec Ideal S1024x1536 .bf16) (a : Fin 1) (i : Fin 8) (j : Fin 1536) :
    (k0_pay1 (F := Ideal) (k0_pay272 (k0_pay268 h w)) (ix3 a i j) : EReal) = ∑ k : Fin 1024, h (ix2 ⟨504 + i.val, by omega⟩ k) * w (ix2 k j) := by
  pointwise [k0_pay1, k0_pay272]
  exact qkv_apply h w ⟨504 + i.val, by omega⟩ j

end Cert.EntryPure
-- ==== Proof.EntryBody.lean ====
/-
One run of the entry call's body in the prompt's branch, in each of its three cases: four of the values it stores, as the
norm, eleven chunks of the gated layer added up, the half step, and products with the norm of that.
-/
module

public import proofs.«01_k».proof.Proof.EntryPure
public import proofs.«01_k».proof.Proof.Gen.Kernel4Ideal.Value
public import proofs.«01_k».proof.Proof.Window

@[expose] public section

set_option maxRecDepth 16384

noncomputable section

open Idealize.ShloMosaic Idealize.ShloMosaic.TcCoe

namespace Cert.EntryPure

open Cert.Kernel4Ideal Cert.Kernel4Ideal.Gen Cert.Ffn Cert.Window Cert.Proj

section Body

variable {F : FTy → Type} [FloatOps F] [Named F]

/-- Columns `256 k …` of a weight. -/
def wcol (w : Vec F S1024x2816 .bf16) (k : Fin 11) : Vec F S1024x256 .bf16 := fun y => w (ix2 ⟨(y 0).val, (y 0).isLt⟩ (fcol k ⟨(y 1).val, (y 1).isLt⟩))
/-- Rows `256 k …` of a weight. -/
def wrow (w : Vec F S2816x1024 .bf16) (k : Fin 11) : Vec F S256x1024 .bf16 := fun y => w (ix2 (fcol k ⟨(y 0).val, (y 0).isLt⟩) ⟨(y 1).val, (y 1).isLt⟩)

theorem wcol_read (b : Memref sig .tc .vmem S1024x2816 .bf16) (hb : b.IsWhole) (w : Vec F S1024x2816 .bf16) (k : Fin 11)
    (off : Fin 2 → ℕ) (inb : ∀ a, off a + S1024x256.size a ≤ S1024x2816.size a) (ho : off = ![0, 256 * k.val]) :
    b.view.readAt (Elt F) (Rect.unit (s := S1024x2816) off S1024x256.size inb).toLoadRect (hb.unread w) = wcol w k := by
  subst ho
  refine funext fun y => win_apply b hb w _ _ inb y _ fun a => ?_
  match a with
  | 0 => exact (Nat.zero_add _).symm
  | 1 => rfl

theorem wrow_read (b : Memref sig .tc .vmem S2816x1024 .bf16) (hb : b.IsWhole) (w : Vec F S2816x1024 .bf16) (k : Fin 11)
    (off : Fin 2 → ℕ) (inb : ∀ a, off a + S256x1024.size a ≤ S2816x1024.size a) (ho : off = ![256 * k.val, 0]) :
    b.view.readAt (Elt F) (Rect.unit (s := S2816x1024) off S256x1024.size inb).toLoadRect (hb.unread w) = wrow w k := by
  subst ho
  refine funext fun y => win_apply b hb w _ _ inb y _ fun a => ?_
  match a with
  | 0 => rfl
  | 1 => exact (Nat.zero_add _).symm

variable (h : Vec F S512x1024 .bf16) (x2 x3 : Vec F S1024x2816 .bf16) (x4 : Vec F S2816x1024 .bf16)

/-- The sum after each chunk. -/
def acc0 : Vec F S512x1024 .f32 := first h (wcol x2 0) (wcol x3 0) (wrow x4 0)
def acc1 : Vec F S512x1024 .f32 := next (acc0 h x2 x3 x4) h (wcol x2 1) (wcol x3 1) (wrow x4 1)
def acc2 : Vec F S512x1024 .f32 := next (acc1 h x2 x3 x4) h (wcol x2 2) (wcol x3 2) (wrow x4 2)
def acc3 : Vec F S512x1024 .f32 := next (acc2 h x2 x3 x4) h (wcol x2 3) (wcol x3 3) (wrow x4 3)
def acc4 : Vec F S512x1024 .f32 := next (acc3 h x2 x3 x4) h (wcol x2 4) (wcol x3 4) (wrow x4 4)
def acc5 : Vec F S512x1024 .f32 := next (acc4 h x2 x3 x4) h (wcol x2 5) (wcol x3 5) (wrow x4 5)
def acc6 : Vec F S512x1024 .f32 := next (acc5 h x2 x3 x4) h (wcol x2 6) (wcol x3 6) (wrow x4 6)
def acc7 : Vec F S512x1024 .f32 := next (acc6 h x2 x3 x4) h (wcol x2 7) (wcol x3 7) (wrow x4 7)
def acc8 : Vec F S512x1024 .f32 := next (acc7 h x2 x3 x4) h (wcol x2 8) (wcol x3 8) (wrow x4 8)
def acc9 : Vec F S512x1024 .f32 := next (acc8 h x2 x3 x4) h (wcol x2 9) (wcol x3 9) (wrow x4 9)
def acc10 : Vec F S512x1024 .f32 := next (acc9 h x2 x3 x4) h (wcol x2 10) (wcol x3 10) (wrow x4 10)

variable (c : Dev nD) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x512 .bf16) (harg8 : arg8.IsWhole) (arg9 : Memref sig .tc .vmem S1024x768 .bf16) (harg9 : arg9.IsWhole) (arg10 : Memref sig .tc .vmem S8x1536 .f32) (harg10 : arg10.IsWhole) (arg11 : Memref sig .tc .vmem S4x1536 .f32) (harg11 : arg11.IsWhole) (arg12 : Memref sig .tc .vmem S512x1024 .f32) (harg12 : arg12.IsWhole) (arg13 : Memref sig .tc .vmem S512x1536 .f32) (harg13 : arg13.IsWhole) (arg14 : Memref sig .tc .vmem S512x512 .f32) (harg14 : arg14.IsWhole) (arg15 : Memref sig .tc .vmem S512x768 .f32) (harg15 : arg15.IsWhole) (arg16 : Memref sig .tc .vmem S1x8x1536 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S1x520x1536 .f32) (harg19 : arg19.IsWhole)
  (x0 : Vec F S512x1024 .f32) (x1 x5 : Vec F S1x1024 .f32) (x6 : Vec F S1024x1536 .bf16) (x7 : Vec F S1024x512 .bf16) (x8 : Vec F S1024x768 .bf16)
  (x9 : Vec F S8x1536 .f32) (x10 : Vec F S4x1536 .f32) (xs2 : Vec F S1x520x1536 .f32)

theorem zero_off (a : Fin 2) : (![0, 0] : Fin 2 → ℕ) a = 0 := by
  match a with
  | 0 => rfl
  | 1 => rfl

theorem zero_off3 (a : Fin 3) : (![0, 0, 0] : Fin 3 → ℕ) a = 0 := by
  match a with
  | 0 => rfl
  | 1 => rfl
  | 2 => rfl

/-- The half step's rows, and their norm. -/
def stepped : Vec F S512x1024 .f32 := k0_pay265 (k0_pay4 x0) (acc10 (k0_pay6 (k0_pay5 x0 x1)) x2 x3 x4)
def mixed : Vec F S512x1024 .bf16 := k0_pay267 (k0_pay265 (k0_pay4 x0) (acc10 (k0_pay6 (k0_pay5 x0 x1)) x2 x3 x4)) x5

/-! Case A. -/

theorem hA_eq : kernelRun0_A.sl.v38 (F := F) c arg1 harg1 arg2 harg2 arg17 x0 x1 = (k0_pay6 (k0_pay5 x0 x1)) := by
  show arg17.view.readAt (Elt F) (Rect.unit (s := S512x1024) ![0, 0] S512x1024.size inb_S512x1024_S512x1024_0_0).toLoadRect (arg17.view.writes (Elt F) _ (kernelRun0_A.sl.HS0_1 (F := F) c arg1 harg1 arg2 harg2 x0 x1)) = _
  unfold kernelRun0_A.sl.HS0_1
  rw [readAt_hit]
  unfold kernelRun0_A.sl.r_1
  rw [win_whole arg1 harg1 x0 ![0, 0] _ zero_off, win_whole arg2 harg2 x1 ![0, 0] _ zero_off]

theorem sA0_eq : kernelRun0_A.sl.v827 (F := F) c arg1 harg1 arg2 harg2 arg3 harg3 arg4 harg4 arg5 harg5 arg17 arg18 x0 x1 x2 x3 x4 = acc0 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_1 (F := F) c arg1 harg1 arg2 harg2 arg3 harg3 arg4 harg4 arg5 harg5 arg17 x0 x1 x2 x3 x4)) = _
  unfold kernelRun0_A.sl.HS1_1
  rw [readAt_hit]
  unfold kernelRun0_A.sl.r_3 kernelRun0_A.sl.r_4
  rw [hA_eq]
  rw [wcol_read arg3 harg3 x2 0 ![0, 0] _ rfl, wcol_read arg4 harg4 x3 0 ![0, 0] _ rfl, wrow_read arg5 harg5 x4 0 ![0, 0] _ rfl]
  rfl

theorem sA1_eq : kernelRun0_A.sl.v1221 (F := F) c arg1 harg1 arg2 harg2 arg3 harg3 arg4 harg4 arg5 harg5 arg17 arg18 x0 x1 x2 x3 x4 = acc1 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_2 (F := F) c arg1 harg1 arg2 harg2 arg3 harg3 arg4 harg4 arg5 harg5 arg17 arg18 x0 x1 x2 x3 x4)) = _
  unfold kernelRun0_A.sl.HS1_2
  rw [readAt_hit]
  unfold kernelRun0_A.sl.r_30 kernelRun0_A.sl.r_31
  rw [hA_eq]
  rw [sA0_eq]
  rw [wcol_read arg3 harg3 x2 1 ![0, 256] _ rfl, wcol_read arg4 harg4 x3 1 ![0, 256] _ rfl, wrow_read arg5 harg5 x4 1 ![256, 0] _ rfl]
  rfl

theorem sA2_eq : kernelRun0_A.sl.v1241 (F := F) c arg1 harg1 arg2 harg2 arg3 harg3 arg4 harg4 arg5 harg5 arg17 arg18 x0 x1 x2 x3 x4 = acc2 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_3 (F := F) c arg1 harg1 arg2 harg2 arg3 harg3 arg4 harg4 arg5 harg5 arg17 arg18 x0 x1 x2 x3 x4)) = _
  unfold kernelRun0_A.sl.HS1_3
  rw [readAt_hit]
  unfold kernelRun0_A.sl.r_92 kernelRun0_A.sl.r_64 kernelRun0_A.sl.r_65
  rw [hA_eq]
  rw [sA1_eq]
  rw [wcol_read arg3 harg3 x2 2 ![0, 512] _ rfl, wcol_read arg4 harg4 x3 2 ![0, 512] _ rfl, wrow_read arg5 harg5 x4 2 ![512, 0] _ rfl]
  rfl

theorem sA3_eq : kernelRun0_A.sl.v1635 (F := F) c arg1 harg1 arg2 harg2 arg3 harg3 arg4 harg4 arg5 harg5 arg17 arg18 x0 x1 x2 x3 x4 = acc3 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_4 (F := F) c arg1 harg1 arg2 harg2 arg3 harg3 arg4 harg4 arg5 harg5 arg17 arg18 x0 x1 x2 x3 x4)) = _
  unfold kernelRun0_A.sl.HS1_4
  rw [readAt_hit]
  unfold kernelRun0_A.sl.r_66 kernelRun0_A.sl.r_67
  rw [hA_eq]
  rw [sA2_eq]
  rw [wcol_read arg3 harg3 x2 3 ![0, 768] _ rfl, wcol_read arg4 harg4 x3 3 ![0, 768] _ rfl, wrow_read arg5 harg5 x4 3 ![768, 0] _ rfl]
  rfl

theorem sA4_eq : kernelRun0_A.sl.v2029 (F := F) c arg1 harg1 arg2 harg2 arg3 harg3 arg4 harg4 arg5 harg5 arg17 arg18 x0 x1 x2 x3 x4 = acc4 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_5 (F := F) c arg1 harg1 arg2 harg2 arg3 harg3 arg4 harg4 arg5 harg5 arg17 arg18 x0 x1 x2 x3 x4)) = _
  unfold kernelRun0_A.sl.HS1_5
  rw [readAt_hit]
  unfold kernelRun0_A.sl.r_93 kernelRun0_A.sl.r_94
  rw [hA_eq]
  rw [sA3_eq]
  rw [wcol_read arg3 harg3 x2 4 ![0, 1024] _ rfl, wcol_read arg4 harg4 x3 4 ![0, 1024] _ rfl, wrow_read arg5 harg5 x4 4 ![1024, 0] _ rfl]
  rfl

theorem sA5_eq : kernelRun0_A.sl.v2423 (F := F) c arg1 harg1 arg2 harg2 arg3 harg3 arg4 harg4 arg5 harg5 arg17 arg18 x0 x1 x2 x3 x4 = acc5 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_6 (F := F) c arg1 harg1 arg2 harg2 arg3 harg3 arg4 harg4 arg5 harg5 arg17 arg18 x0 x1 x2 x3 x4)) = _
  unfold kernelRun0_A.sl.HS1_6
  rw [readAt_hit]
  unfold kernelRun0_A.sl.r_152 kernelRun0_A.sl.r_122 kernelRun0_A.sl.r_123
  rw [hA_eq]
  rw [sA4_eq]
  rw [wcol_read arg3 harg3 x2 5 ![0, 1280] _ rfl, wcol_read arg4 harg4 x3 5 ![0, 1280] _ rfl, wrow_read arg5 harg5 x4 5 ![1280, 0] _ rfl]
  rfl

theorem sA6_eq : kernelRun0_A.sl.v2443 (F := F) c arg1 harg1 arg2 harg2 arg3 harg3 arg4 harg4 arg5 harg5 arg17 arg18 x0 x1 x2 x3 x4 = acc6 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_7 (F := F) c arg1 harg1 arg2 harg2 arg3 harg3 arg4 harg4 arg5 harg5 arg17 arg18 x0 x1 x2 x3 x4)) = _
  unfold kernelRun0_A.sl.HS1_7
  rw [readAt_hit]
  unfold kernelRun0_A.sl.r_124 kernelRun0_A.sl.r_125
  rw [hA_eq]
  rw [sA5_eq]
  rw [wcol_read arg3 harg3 x2 6 ![0, 1536] _ rfl, wcol_read arg4 harg4 x3 6 ![0, 1536] _ rfl, wrow_read arg5 harg5 x4 6 ![1536, 0] _ rfl]
  rfl

theorem sA7_eq : kernelRun0_A.sl.v2837 (F := F) c arg1 harg1 arg2 harg2 arg3 harg3 arg4 harg4 arg5 harg5 arg17 arg18 x0 x1 x2 x3 x4 = acc7 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_8 (F := F) c arg1 harg1 arg2 harg2 arg3 harg3 arg4 harg4 arg5 harg5 arg17 arg18 x0 x1 x2 x3 x4)) = _
  unfold kernelRun0_A.sl.HS1_8
  rw [readAt_hit]
  unfold kernelRun0_A.sl.r_185 kernelRun0_A.sl.r_153 kernelRun0_A.sl.r_154
  rw [hA_eq]
  rw [sA6_eq]
  rw [wcol_read arg3 harg3 x2 7 ![0, 1792] _ rfl, wcol_read arg4 harg4 x3 7 ![0, 1792] _ rfl, wrow_read arg5 harg5 x4 7 ![1792, 0] _ rfl]
  rfl

theorem sA8_eq : kernelRun0_A.sl.v3231 (F := F) c arg1 harg1 arg2 harg2 arg3 harg3 arg4 harg4 arg5 harg5 arg17 arg18 x0 x1 x2 x3 x4 = acc8 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_9 (F := F) c arg1 harg1 arg2 harg2 arg3 harg3 arg4 harg4 arg5 harg5 arg17 arg18 x0 x1 x2 x3 x4)) = _
  unfold kernelRun0_A.sl.HS1_9
  rw [readAt_hit]
  unfold kernelRun0_A.sl.r_184 kernelRun0_A.sl.r_211 kernelRun0_A.sl.r_183
  rw [hA_eq]
  rw [sA7_eq]
  rw [wcol_read arg3 harg3 x2 8 ![0, 2048] _ rfl, wcol_read arg4 harg4 x3 8 ![0, 2048] _ rfl, wrow_read arg5 harg5 x4 8 ![2048, 0] _ rfl]
  rfl

theorem sA9_eq : kernelRun0_A.sl.v3243 (F := F) c arg1 harg1 arg2 harg2 arg3 harg3 arg4 harg4 arg5 harg5 arg17 arg18 x0 x1 x2 x3 x4 = acc9 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_10 (F := F) c arg1 harg1 arg2 harg2 arg3 harg3 arg4 harg4 arg5 harg5 arg17 arg18 x0 x1 x2 x3 x4)) = _
  unfold kernelRun0_A.sl.HS1_10
  rw [readAt_hit]
  unfold kernelRun0_A.sl.r_209 kernelRun0_A.sl.r_210
  rw [hA_eq]
  rw [sA8_eq]
  rw [wcol_read arg3 harg3 x2 9 ![0, 2304] _ rfl, wcol_read arg4 harg4 x3 9 ![0, 2304] _ rfl, wrow_read arg5 harg5 x4 9 ![2304, 0] _ rfl]
  rfl

theorem sA10_eq : kernelRun0_A.sl.v3248 (F := F) c arg1 harg1 arg2 harg2 arg3 harg3 arg4 harg4 arg5 harg5 arg17 arg18 x0 x1 x2 x3 x4 = acc10 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_A.sl.HS1_11 (F := F) c arg1 harg1 arg2 harg2 arg3 harg3 arg4 harg4 arg5 harg5 arg17 arg18 x0 x1 x2 x3 x4)) = _
  unfold kernelRun0_A.sl.HS1_11
  rw [readAt_hit]
  unfold kernelRun0_A.sl.r_212 kernelRun0_A.sl.r_213
  rw [hA_eq]
  rw [sA9_eq]
  rw [wcol_read arg3 harg3 x2 10 ![0, 2560] _ rfl, wcol_read arg4 harg4 x3 10 ![0, 2560] _ rfl, wrow_read arg5 harg5 x4 10 ![2560, 0] _ rfl]
  rfl

theorem xA_eq : kernelRun0_A.sl.r (F := F) c arg1 harg1 x0 = k0_pay4 x0 := by
  unfold kernelRun0_A.sl.r
  rw [win_whole arg1 harg1 x0 ![0, 0] _ zero_off]

theorem stepA_eq : kernelRun0_A.sl.r_244 (F := F) c arg1 harg1 arg2 harg2 arg3 harg3 arg4 harg4 arg5 harg5 arg17 arg18 x0 x1 x2 x3 x4 = stepped x2 x3 x4 x0 x1 := by
  unfold kernelRun0_A.sl.r_244 stepped
  rw [xA_eq, sA10_eq]

theorem mixA_eq : kernelRun0_A.sl.v3276 (F := F) c arg1 harg1 arg2 harg2 arg3 harg3 arg4 harg4 arg5 harg5 arg6 harg6 arg17 arg18 x0 x1 x2 x3 x4 x5 = mixed x2 x3 x4 x0 x1 x5 := by
  show arg17.view.readAt (Elt F) (Rect.unit (s := S512x1024) ![0, 0] S512x1024.size inb_S512x1024_S512x1024_0_0).toLoadRect (arg17.view.writes (Elt F) _ (kernelRun0_A.sl.HS0_2 (F := F) c arg1 harg1 arg2 harg2 arg3 harg3 arg4 harg4 arg5 harg5 arg6 harg6 arg17 arg18 x0 x1 x2 x3 x4 x5)) = _
  unfold kernelRun0_A.sl.HS0_2
  rw [readAt_hit, stepA_eq, win_whole arg6 harg6 x5 ![0, 0] _ zero_off]
  rfl

theorem zA_eq : kernelRun0_A.sl.r_246 (F := F) c arg1 harg1 arg2 harg2 arg3 harg3 arg4 harg4 arg5 harg5 arg6 harg6 arg8 harg8 arg17 arg18 x0 x1 x2 x3 x4 x5 x7 = k0_pay269 (mixed x2 x3 x4 x0 x1 x5) x7 := by
  unfold kernelRun0_A.sl.r_246
  rw [mixA_eq, win_whole arg8 harg8 x7 ![0, 0] _ zero_off]

theorem tailA_eq : kernelRun0_A.sl.r_247 (F := F) c arg1 harg1 arg2 harg2 arg3 harg3 arg4 harg4 arg5 harg5 arg6 harg6 arg7 harg7 arg17 arg18 x0 x1 x2 x3 x4 x5 x6 = k0_pay272 (k0_pay268 (mixed x2 x3 x4 x0 x1 x5) x6) := by
  unfold kernelRun0_A.sl.r_247 kernelRun0_A.sl.r_245
  rw [mixA_eq, win_whole arg7 harg7 x6 ![0, 0] _ zero_off]

theorem outA11_eq (i : grid0.Coords) (hc0 : cond0_0 i) (hc1 : ¬cond0_1 i) : out0_A_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = stepped x2 x3 x4 x0 x1 := by
  unfold out0_A_11 kernelRun0_A
  dsimp only
  refine (read_whole VO0_11 VO0_11.junk ![0, 0] inb_S512x1024_S512x1024_0_0 zero_off _).trans ?_
  exact stepA_eq ..

theorem outA13_eq (i : grid0.Coords) (hc0 : cond0_0 i) (hc1 : ¬cond0_1 i) : out0_A_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay269 (mixed x2 x3 x4 x0 x1 x5) x7 := by
  unfold out0_A_13 kernelRun0_A
  dsimp only
  refine (read_whole VO0_13 VO0_13.junk ![0, 0] inb_S512x512_S512x512_0_0 zero_off _).trans ?_
  exact zA_eq ..

theorem outA14_eq (i : grid0.Coords) (hc0 : cond0_0 i) (hc1 : ¬cond0_1 i) : out0_A_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay270 (mixed x2 x3 x4 x0 x1 x5) x8 := by
  unfold out0_A_14 kernelRun0_A
  dsimp only
  rw [mixA_eq x2 x3 x4 c arg1 harg1 arg2 harg2 arg3 harg3 arg4 harg4 arg5 harg5 arg6 harg6 arg17 arg18]
  refine (read_whole VO0_14 VO0_14.junk ![0, 0] inb_S512x768_S512x768_0_0 zero_off _).trans ?_
  exact congrArg (k0_pay270 _) (win_whole arg9 harg9 x8 ![0, 0] _ zero_off)

theorem outA15_eq (i : grid0.Coords) (hc0 : cond0_0 i) (hc1 : ¬cond0_1 i) : out0_A_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay1 (k0_pay272 (k0_pay268 (mixed x2 x3 x4 x0 x1 x5) x6)) := by
  unfold out0_A_15 kernelRun0_A
  dsimp only
  refine (read_whole VO0_15 VO0_15.junk ![0, 0, 0] inb_S1x8x1536_S1x8x1536_0_0_0 zero_off3 _).trans ?_
  exact congrArg k0_pay1 (tailA_eq ..)

/-! Case B. -/

theorem hB_eq : kernelRun0_B.sl.v38 (F := F) c arg1 harg1 arg2 harg2 arg17 x0 x1 = (k0_pay6 (k0_pay5 x0 x1)) := by
  show arg17.view.readAt (Elt F) (Rect.unit (s := S512x1024) ![0, 0] S512x1024.size inb_S512x1024_S512x1024_0_0).toLoadRect (arg17.view.writes (Elt F) _ (kernelRun0_B.sl.HS0_1 (F := F) c arg1 harg1 arg2 harg2 x0 x1)) = _
  unfold kernelRun0_B.sl.HS0_1
  rw [readAt_hit]
  unfold kernelRun0_B.sl.r_1
  rw [win_whole arg1 harg1 x0 ![0, 0] _ zero_off, win_whole arg2 harg2 x1 ![0, 0] _ zero_off]

theorem sB0_eq : kernelRun0_B.sl.v827 (F := F) c arg1 harg1 arg2 harg2 arg3 harg3 arg4 harg4 arg5 harg5 arg17 arg18 x0 x1 x2 x3 x4 = acc0 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_1 (F := F) c arg1 harg1 arg2 harg2 arg3 harg3 arg4 harg4 arg5 harg5 arg17 x0 x1 x2 x3 x4)) = _
  unfold kernelRun0_B.sl.HS1_1
  rw [readAt_hit]
  unfold kernelRun0_B.sl.r_3 kernelRun0_B.sl.r_4
  rw [hB_eq]
  rw [wcol_read arg3 harg3 x2 0 ![0, 0] _ rfl, wcol_read arg4 harg4 x3 0 ![0, 0] _ rfl, wrow_read arg5 harg5 x4 0 ![0, 0] _ rfl]
  rfl

theorem sB1_eq : kernelRun0_B.sl.v1221 (F := F) c arg1 harg1 arg2 harg2 arg3 harg3 arg4 harg4 arg5 harg5 arg17 arg18 x0 x1 x2 x3 x4 = acc1 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_2 (F := F) c arg1 harg1 arg2 harg2 arg3 harg3 arg4 harg4 arg5 harg5 arg17 arg18 x0 x1 x2 x3 x4)) = _
  unfold kernelRun0_B.sl.HS1_2
  rw [readAt_hit]
  unfold kernelRun0_B.sl.r_30 kernelRun0_B.sl.r_31
  rw [hB_eq]
  rw [sB0_eq]
  rw [wcol_read arg3 harg3 x2 1 ![0, 256] _ rfl, wcol_read arg4 harg4 x3 1 ![0, 256] _ rfl, wrow_read arg5 harg5 x4 1 ![256, 0] _ rfl]
  rfl

theorem sB2_eq : kernelRun0_B.sl.v1241 (F := F) c arg1 harg1 arg2 harg2 arg3 harg3 arg4 harg4 arg5 harg5 arg17 arg18 x0 x1 x2 x3 x4 = acc2 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_3 (F := F) c arg1 harg1 arg2 harg2 arg3 harg3 arg4 harg4 arg5 harg5 arg17 arg18 x0 x1 x2 x3 x4)) = _
  unfold kernelRun0_B.sl.HS1_3
  rw [readAt_hit]
  unfold kernelRun0_B.sl.r_92 kernelRun0_B.sl.r_64 kernelRun0_B.sl.r_65
  rw [hB_eq]
  rw [sB1_eq]
  rw [wcol_read arg3 harg3 x2 2 ![0, 512] _ rfl, wcol_read arg4 harg4 x3 2 ![0, 512] _ rfl, wrow_read arg5 harg5 x4 2 ![512, 0] _ rfl]
  rfl

theorem sB3_eq : kernelRun0_B.sl.v1635 (F := F) c arg1 harg1 arg2 harg2 arg3 harg3 arg4 harg4 arg5 harg5 arg17 arg18 x0 x1 x2 x3 x4 = acc3 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_4 (F := F) c arg1 harg1 arg2 harg2 arg3 harg3 arg4 harg4 arg5 harg5 arg17 arg18 x0 x1 x2 x3 x4)) = _
  unfold kernelRun0_B.sl.HS1_4
  rw [readAt_hit]
  unfold kernelRun0_B.sl.r_66 kernelRun0_B.sl.r_67
  rw [hB_eq]
  rw [sB2_eq]
  rw [wcol_read arg3 harg3 x2 3 ![0, 768] _ rfl, wcol_read arg4 harg4 x3 3 ![0, 768] _ rfl, wrow_read arg5 harg5 x4 3 ![768, 0] _ rfl]
  rfl

theorem sB4_eq : kernelRun0_B.sl.v2029 (F := F) c arg1 harg1 arg2 harg2 arg3 harg3 arg4 harg4 arg5 harg5 arg17 arg18 x0 x1 x2 x3 x4 = acc4 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_5 (F := F) c arg1 harg1 arg2 harg2 arg3 harg3 arg4 harg4 arg5 harg5 arg17 arg18 x0 x1 x2 x3 x4)) = _
  unfold kernelRun0_B.sl.HS1_5
  rw [readAt_hit]
  unfold kernelRun0_B.sl.r_93 kernelRun0_B.sl.r_94
  rw [hB_eq]
  rw [sB3_eq]
  rw [wcol_read arg3 harg3 x2 4 ![0, 1024] _ rfl, wcol_read arg4 harg4 x3 4 ![0, 1024] _ rfl, wrow_read arg5 harg5 x4 4 ![1024, 0] _ rfl]
  rfl

theorem sB5_eq : kernelRun0_B.sl.v2423 (F := F) c arg1 harg1 arg2 harg2 arg3 harg3 arg4 harg4 arg5 harg5 arg17 arg18 x0 x1 x2 x3 x4 = acc5 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_6 (F := F) c arg1 harg1 arg2 harg2 arg3 harg3 arg4 harg4 arg5 harg5 arg17 arg18 x0 x1 x2 x3 x4)) = _
  unfold kernelRun0_B.sl.HS1_6
  rw [readAt_hit]
  unfold kernelRun0_B.sl.r_152 kernelRun0_B.sl.r_122 kernelRun0_B.sl.r_123
  rw [hB_eq]
  rw [sB4_eq]
  rw [wcol_read arg3 harg3 x2 5 ![0, 1280] _ rfl, wcol_read arg4 harg4 x3 5 ![0, 1280] _ rfl, wrow_read arg5 harg5 x4 5 ![1280, 0] _ rfl]
  rfl

theorem sB6_eq : kernelRun0_B.sl.v2443 (F := F) c arg1 harg1 arg2 harg2 arg3 harg3 arg4 harg4 arg5 harg5 arg17 arg18 x0 x1 x2 x3 x4 = acc6 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_7 (F := F) c arg1 harg1 arg2 harg2 arg3 harg3 arg4 harg4 arg5 harg5 arg17 arg18 x0 x1 x2 x3 x4)) = _
  unfold kernelRun0_B.sl.HS1_7
  rw [readAt_hit]
  unfold kernelRun0_B.sl.r_124 kernelRun0_B.sl.r_125
  rw [hB_eq]
  rw [sB5_eq]
  rw [wcol_read arg3 harg3 x2 6 ![0, 1536] _ rfl, wcol_read arg4 harg4 x3 6 ![0, 1536] _ rfl, wrow_read arg5 harg5 x4 6 ![1536, 0] _ rfl]
  rfl

theorem sB7_eq : kernelRun0_B.sl.v2837 (F := F) c arg1 harg1 arg2 harg2 arg3 harg3 arg4 harg4 arg5 harg5 arg17 arg18 x0 x1 x2 x3 x4 = acc7 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_8 (F := F) c arg1 harg1 arg2 harg2 arg3 harg3 arg4 harg4 arg5 harg5 arg17 arg18 x0 x1 x2 x3 x4)) = _
  unfold kernelRun0_B.sl.HS1_8
  rw [readAt_hit]
  unfold kernelRun0_B.sl.r_185 kernelRun0_B.sl.r_153 kernelRun0_B.sl.r_154
  rw [hB_eq]
  rw [sB6_eq]
  rw [wcol_read arg3 harg3 x2 7 ![0, 1792] _ rfl, wcol_read arg4 harg4 x3 7 ![0, 1792] _ rfl, wrow_read arg5 harg5 x4 7 ![1792, 0] _ rfl]
  rfl

theorem sB8_eq : kernelRun0_B.sl.v3231 (F := F) c arg1 harg1 arg2 harg2 arg3 harg3 arg4 harg4 arg5 harg5 arg17 arg18 x0 x1 x2 x3 x4 = acc8 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_9 (F := F) c arg1 harg1 arg2 harg2 arg3 harg3 arg4 harg4 arg5 harg5 arg17 arg18 x0 x1 x2 x3 x4)) = _
  unfold kernelRun0_B.sl.HS1_9
  rw [readAt_hit]
  unfold kernelRun0_B.sl.r_184 kernelRun0_B.sl.r_211 kernelRun0_B.sl.r_183
  rw [hB_eq]
  rw [sB7_eq]
  rw [wcol_read arg3 harg3 x2 8 ![0, 2048] _ rfl, wcol_read arg4 harg4 x3 8 ![0, 2048] _ rfl, wrow_read arg5 harg5 x4 8 ![2048, 0] _ rfl]
  rfl

theorem sB9_eq : kernelRun0_B.sl.v3243 (F := F) c arg1 harg1 arg2 harg2 arg3 harg3 arg4 harg4 arg5 harg5 arg17 arg18 x0 x1 x2 x3 x4 = acc9 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_10 (F := F) c arg1 harg1 arg2 harg2 arg3 harg3 arg4 harg4 arg5 harg5 arg17 arg18 x0 x1 x2 x3 x4)) = _
  unfold kernelRun0_B.sl.HS1_10
  rw [readAt_hit]
  unfold kernelRun0_B.sl.r_209 kernelRun0_B.sl.r_210
  rw [hB_eq]
  rw [sB8_eq]
  rw [wcol_read arg3 harg3 x2 9 ![0, 2304] _ rfl, wcol_read arg4 harg4 x3 9 ![0, 2304] _ rfl, wrow_read arg5 harg5 x4 9 ![2304, 0] _ rfl]
  rfl

theorem sB10_eq : kernelRun0_B.sl.v3248 (F := F) c arg1 harg1 arg2 harg2 arg3 harg3 arg4 harg4 arg5 harg5 arg17 arg18 x0 x1 x2 x3 x4 = acc10 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_B.sl.HS1_11 (F := F) c arg1 harg1 arg2 harg2 arg3 harg3 arg4 harg4 arg5 harg5 arg17 arg18 x0 x1 x2 x3 x4)) = _
  unfold kernelRun0_B.sl.HS1_11
  rw [readAt_hit]
  unfold kernelRun0_B.sl.r_212 kernelRun0_B.sl.r_213
  rw [hB_eq]
  rw [sB9_eq]
  rw [wcol_read arg3 harg3 x2 10 ![0, 2560] _ rfl, wcol_read arg4 harg4 x3 10 ![0, 2560] _ rfl, wrow_read arg5 harg5 x4 10 ![2560, 0] _ rfl]
  rfl

theorem xB_eq : kernelRun0_B.sl.r (F := F) c arg1 harg1 x0 = k0_pay4 x0 := by
  unfold kernelRun0_B.sl.r
  rw [win_whole arg1 harg1 x0 ![0, 0] _ zero_off]

theorem stepB_eq : kernelRun0_B.sl.r_244 (F := F) c arg1 harg1 arg2 harg2 arg3 harg3 arg4 harg4 arg5 harg5 arg17 arg18 x0 x1 x2 x3 x4 = stepped x2 x3 x4 x0 x1 := by
  unfold kernelRun0_B.sl.r_244 stepped
  rw [xB_eq, sB10_eq]

theorem mixB_eq : kernelRun0_B.sl.v3276 (F := F) c arg1 harg1 arg2 harg2 arg3 harg3 arg4 harg4 arg5 harg5 arg6 harg6 arg17 arg18 x0 x1 x2 x3 x4 x5 = mixed x2 x3 x4 x0 x1 x5 := by
  show arg17.view.readAt (Elt F) (Rect.unit (s := S512x1024) ![0, 0] S512x1024.size inb_S512x1024_S512x1024_0_0).toLoadRect (arg17.view.writes (Elt F) _ (kernelRun0_B.sl.HS0_2 (F := F) c arg1 harg1 arg2 harg2 arg3 harg3 arg4 harg4 arg5 harg5 arg6 harg6 arg17 arg18 x0 x1 x2 x3 x4 x5)) = _
  unfold kernelRun0_B.sl.HS0_2
  rw [readAt_hit, stepB_eq, win_whole arg6 harg6 x5 ![0, 0] _ zero_off]
  rfl

theorem zB_eq : kernelRun0_B.sl.r_246 (F := F) c arg1 harg1 arg2 harg2 arg3 harg3 arg4 harg4 arg5 harg5 arg6 harg6 arg8 harg8 arg17 arg18 x0 x1 x2 x3 x4 x5 x7 = k0_pay269 (mixed x2 x3 x4 x0 x1 x5) x7 := by
  unfold kernelRun0_B.sl.r_246
  rw [mixB_eq, win_whole arg8 harg8 x7 ![0, 0] _ zero_off]

theorem tailB_eq : kernelRun0_B.sl.r_247 (F := F) c arg1 harg1 arg2 harg2 arg3 harg3 arg4 harg4 arg5 harg5 arg6 harg6 arg7 harg7 arg17 arg18 x0 x1 x2 x3 x4 x5 x6 = k0_pay272 (k0_pay268 (mixed x2 x3 x4 x0 x1 x5) x6) := by
  unfold kernelRun0_B.sl.r_247 kernelRun0_B.sl.r_245
  rw [mixB_eq, win_whole arg7 harg7 x6 ![0, 0] _ zero_off]

theorem outB11_eq (i : grid0.Coords) (hc0 : ¬cond0_0 i) (hc1 : cond0_1 i) : out0_B_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = stepped x2 x3 x4 x0 x1 := by
  unfold out0_B_11 kernelRun0_B
  dsimp only
  refine (read_whole VO0_11 VO0_11.junk ![0, 0] inb_S512x1024_S512x1024_0_0 zero_off _).trans ?_
  exact stepB_eq ..

theorem outB13_eq (i : grid0.Coords) (hc0 : ¬cond0_0 i) (hc1 : cond0_1 i) : out0_B_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = k0_pay269 (mixed x2 x3 x4 x0 x1 x5) x7 := by
  unfold out0_B_13 kernelRun0_B
  dsimp only
  refine (read_whole VO0_13 VO0_13.junk ![0, 0] inb_S512x512_S512x512_0_0 zero_off _).trans ?_
  exact zB_eq ..

theorem outB14_eq (i : grid0.Coords) (hc0 : ¬cond0_0 i) (hc1 : cond0_1 i) : out0_B_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = k0_pay270 (mixed x2 x3 x4 x0 x1 x5) x8 := by
  unfold out0_B_14 kernelRun0_B
  dsimp only
  rw [mixB_eq x2 x3 x4 c arg1 harg1 arg2 harg2 arg3 harg3 arg4 harg4 arg5 harg5 arg6 harg6 arg17 arg18]
  refine (read_whole VO0_14 VO0_14.junk ![0, 0] inb_S512x768_S512x768_0_0 zero_off _).trans ?_
  exact congrArg (k0_pay270 _) (win_whole arg9 harg9 x8 ![0, 0] _ zero_off)

theorem outB15_eq (i : grid0.Coords) (hc0 : ¬cond0_0 i) (hc1 : cond0_1 i) : out0_B_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = k0_pay1 (k0_pay272 (k0_pay268 (mixed x2 x3 x4 x0 x1 x5) x6)) := by
  unfold out0_B_15 kernelRun0_B
  dsimp only
  refine (read_whole VO0_15 VO0_15.junk ![0, 0, 0] inb_S1x8x1536_S1x8x1536_0_0_0 zero_off3 _).trans ?_
  exact congrArg k0_pay1 (tailB_eq ..)

/-! Case C. -/

theorem hC_eq : kernelRun0_C.sl.v38 (F := F) c arg1 harg1 arg2 harg2 arg17 x0 x1 = (k0_pay6 (k0_pay5 x0 x1)) := by
  show arg17.view.readAt (Elt F) (Rect.unit (s := S512x1024) ![0, 0] S512x1024.size inb_S512x1024_S512x1024_0_0).toLoadRect (arg17.view.writes (Elt F) _ (kernelRun0_C.sl.HS0_1 (F := F) c arg1 harg1 arg2 harg2 x0 x1)) = _
  unfold kernelRun0_C.sl.HS0_1
  rw [readAt_hit]
  unfold kernelRun0_C.sl.r_1
  rw [win_whole arg1 harg1 x0 ![0, 0] _ zero_off, win_whole arg2 harg2 x1 ![0, 0] _ zero_off]

theorem sC0_eq : kernelRun0_C.sl.v827 (F := F) c arg1 harg1 arg2 harg2 arg3 harg3 arg4 harg4 arg5 harg5 arg17 arg18 x0 x1 x2 x3 x4 = acc0 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_1 (F := F) c arg1 harg1 arg2 harg2 arg3 harg3 arg4 harg4 arg5 harg5 arg17 x0 x1 x2 x3 x4)) = _
  unfold kernelRun0_C.sl.HS1_1
  rw [readAt_hit]
  unfold kernelRun0_C.sl.r_3 kernelRun0_C.sl.r_4
  rw [hC_eq]
  rw [wcol_read arg3 harg3 x2 0 ![0, 0] _ rfl, wcol_read arg4 harg4 x3 0 ![0, 0] _ rfl, wrow_read arg5 harg5 x4 0 ![0, 0] _ rfl]
  rfl

theorem sC1_eq : kernelRun0_C.sl.v1221 (F := F) c arg1 harg1 arg2 harg2 arg3 harg3 arg4 harg4 arg5 harg5 arg17 arg18 x0 x1 x2 x3 x4 = acc1 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_2 (F := F) c arg1 harg1 arg2 harg2 arg3 harg3 arg4 harg4 arg5 harg5 arg17 arg18 x0 x1 x2 x3 x4)) = _
  unfold kernelRun0_C.sl.HS1_2
  rw [readAt_hit]
  unfold kernelRun0_C.sl.r_30 kernelRun0_C.sl.r_31
  rw [hC_eq]
  rw [sC0_eq]
  rw [wcol_read arg3 harg3 x2 1 ![0, 256] _ rfl, wcol_read arg4 harg4 x3 1 ![0, 256] _ rfl, wrow_read arg5 harg5 x4 1 ![256, 0] _ rfl]
  rfl

theorem sC2_eq : kernelRun0_C.sl.v1241 (F := F) c arg1 harg1 arg2 harg2 arg3 harg3 arg4 harg4 arg5 harg5 arg17 arg18 x0 x1 x2 x3 x4 = acc2 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_3 (F := F) c arg1 harg1 arg2 harg2 arg3 harg3 arg4 harg4 arg5 harg5 arg17 arg18 x0 x1 x2 x3 x4)) = _
  unfold kernelRun0_C.sl.HS1_3
  rw [readAt_hit]
  unfold kernelRun0_C.sl.r_93 kernelRun0_C.sl.r_65 kernelRun0_C.sl.r_66
  rw [hC_eq]
  rw [sC1_eq]
  rw [wcol_read arg3 harg3 x2 2 ![0, 512] _ rfl, wcol_read arg4 harg4 x3 2 ![0, 512] _ rfl, wrow_read arg5 harg5 x4 2 ![512, 0] _ rfl]
  rfl

theorem sC3_eq : kernelRun0_C.sl.v1635 (F := F) c arg1 harg1 arg2 harg2 arg3 harg3 arg4 harg4 arg5 harg5 arg17 arg18 x0 x1 x2 x3 x4 = acc3 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_4 (F := F) c arg1 harg1 arg2 harg2 arg3 harg3 arg4 harg4 arg5 harg5 arg17 arg18 x0 x1 x2 x3 x4)) = _
  unfold kernelRun0_C.sl.HS1_4
  rw [readAt_hit]
  unfold kernelRun0_C.sl.r_67 kernelRun0_C.sl.r_68
  rw [hC_eq]
  rw [sC2_eq]
  rw [wcol_read arg3 harg3 x2 3 ![0, 768] _ rfl, wcol_read arg4 harg4 x3 3 ![0, 768] _ rfl, wrow_read arg5 harg5 x4 3 ![768, 0] _ rfl]
  rfl

theorem sC4_eq : kernelRun0_C.sl.v2029 (F := F) c arg1 harg1 arg2 harg2 arg3 harg3 arg4 harg4 arg5 harg5 arg17 arg18 x0 x1 x2 x3 x4 = acc4 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_5 (F := F) c arg1 harg1 arg2 harg2 arg3 harg3 arg4 harg4 arg5 harg5 arg17 arg18 x0 x1 x2 x3 x4)) = _
  unfold kernelRun0_C.sl.HS1_5
  rw [readAt_hit]
  unfold kernelRun0_C.sl.r_94 kernelRun0_C.sl.r_95
  rw [hC_eq]
  rw [sC3_eq]
  rw [wcol_read arg3 harg3 x2 4 ![0, 1024] _ rfl, wcol_read arg4 harg4 x3 4 ![0, 1024] _ rfl, wrow_read arg5 harg5 x4 4 ![1024, 0] _ rfl]
  rfl

theorem sC5_eq : kernelRun0_C.sl.v2423 (F := F) c arg1 harg1 arg2 harg2 arg3 harg3 arg4 harg4 arg5 harg5 arg17 arg18 x0 x1 x2 x3 x4 = acc5 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_6 (F := F) c arg1 harg1 arg2 harg2 arg3 harg3 arg4 harg4 arg5 harg5 arg17 arg18 x0 x1 x2 x3 x4)) = _
  unfold kernelRun0_C.sl.HS1_6
  rw [readAt_hit]
  unfold kernelRun0_C.sl.r_153 kernelRun0_C.sl.r_123 kernelRun0_C.sl.r_124
  rw [hC_eq]
  rw [sC4_eq]
  rw [wcol_read arg3 harg3 x2 5 ![0, 1280] _ rfl, wcol_read arg4 harg4 x3 5 ![0, 1280] _ rfl, wrow_read arg5 harg5 x4 5 ![1280, 0] _ rfl]
  rfl

theorem sC6_eq : kernelRun0_C.sl.v2443 (F := F) c arg1 harg1 arg2 harg2 arg3 harg3 arg4 harg4 arg5 harg5 arg17 arg18 x0 x1 x2 x3 x4 = acc6 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_7 (F := F) c arg1 harg1 arg2 harg2 arg3 harg3 arg4 harg4 arg5 harg5 arg17 arg18 x0 x1 x2 x3 x4)) = _
  unfold kernelRun0_C.sl.HS1_7
  rw [readAt_hit]
  unfold kernelRun0_C.sl.r_125 kernelRun0_C.sl.r_126
  rw [hC_eq]
  rw [sC5_eq]
  rw [wcol_read arg3 harg3 x2 6 ![0, 1536] _ rfl, wcol_read arg4 harg4 x3 6 ![0, 1536] _ rfl, wrow_read arg5 harg5 x4 6 ![1536, 0] _ rfl]
  rfl

theorem sC7_eq : kernelRun0_C.sl.v2837 (F := F) c arg1 harg1 arg2 harg2 arg3 harg3 arg4 harg4 arg5 harg5 arg17 arg18 x0 x1 x2 x3 x4 = acc7 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_8 (F := F) c arg1 harg1 arg2 harg2 arg3 harg3 arg4 harg4 arg5 harg5 arg17 arg18 x0 x1 x2 x3 x4)) = _
  unfold kernelRun0_C.sl.HS1_8
  rw [readAt_hit]
  unfold kernelRun0_C.sl.r_187 kernelRun0_C.sl.r_154 kernelRun0_C.sl.r_155
  rw [hC_eq]
  rw [sC6_eq]
  rw [wcol_read arg3 harg3 x2 7 ![0, 1792] _ rfl, wcol_read arg4 harg4 x3 7 ![0, 1792] _ rfl, wrow_read arg5 harg5 x4 7 ![1792, 0] _ rfl]
  rfl

theorem sC8_eq : kernelRun0_C.sl.v3231 (F := F) c arg1 harg1 arg2 harg2 arg3 harg3 arg4 harg4 arg5 harg5 arg17 arg18 x0 x1 x2 x3 x4 = acc8 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_9 (F := F) c arg1 harg1 arg2 harg2 arg3 harg3 arg4 harg4 arg5 harg5 arg17 arg18 x0 x1 x2 x3 x4)) = _
  unfold kernelRun0_C.sl.HS1_9
  rw [readAt_hit]
  unfold kernelRun0_C.sl.r_186 kernelRun0_C.sl.r_214 kernelRun0_C.sl.r_185
  rw [hC_eq]
  rw [sC7_eq]
  rw [wcol_read arg3 harg3 x2 8 ![0, 2048] _ rfl, wcol_read arg4 harg4 x3 8 ![0, 2048] _ rfl, wrow_read arg5 harg5 x4 8 ![2048, 0] _ rfl]
  rfl

theorem sC9_eq : kernelRun0_C.sl.v3243 (F := F) c arg1 harg1 arg2 harg2 arg3 harg3 arg4 harg4 arg5 harg5 arg17 arg18 x0 x1 x2 x3 x4 = acc9 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_10 (F := F) c arg1 harg1 arg2 harg2 arg3 harg3 arg4 harg4 arg5 harg5 arg17 arg18 x0 x1 x2 x3 x4)) = _
  unfold kernelRun0_C.sl.HS1_10
  rw [readAt_hit]
  unfold kernelRun0_C.sl.r_212 kernelRun0_C.sl.r_213
  rw [hC_eq]
  rw [sC8_eq]
  rw [wcol_read arg3 harg3 x2 9 ![0, 2304] _ rfl, wcol_read arg4 harg4 x3 9 ![0, 2304] _ rfl, wrow_read arg5 harg5 x4 9 ![2304, 0] _ rfl]
  rfl

theorem sC10_eq : kernelRun0_C.sl.v3248 (F := F) c arg1 harg1 arg2 harg2 arg3 harg3 arg4 harg4 arg5 harg5 arg17 arg18 x0 x1 x2 x3 x4 = acc10 (k0_pay6 (k0_pay5 x0 x1)) x2 x3 x4 := by
  show arg18.view.readAt (Elt F) (Rect.unit (s := S512x1024) ![0, 0] S512x1024.size inb_S512x1024_S512x1024_0_0).toLoadRect (arg18.view.writes (Elt F) _ (kernelRun0_C.sl.HS1_11 (F := F) c arg1 harg1 arg2 harg2 arg3 harg3 arg4 harg4 arg5 harg5 arg17 arg18 x0 x1 x2 x3 x4)) = _
  unfold kernelRun0_C.sl.HS1_11
  rw [readAt_hit]
  unfold kernelRun0_C.sl.r_215 kernelRun0_C.sl.r_216
  rw [hC_eq]
  rw [sC9_eq]
  rw [wcol_read arg3 harg3 x2 10 ![0, 2560] _ rfl, wcol_read arg4 harg4 x3 10 ![0, 2560] _ rfl, wrow_read arg5 harg5 x4 10 ![2560, 0] _ rfl]
  rfl

theorem xC_eq : kernelRun0_C.sl.r (F := F) c arg1 harg1 x0 = k0_pay4 x0 := by
  unfold kernelRun0_C.sl.r
  rw [win_whole arg1 harg1 x0 ![0, 0] _ zero_off]

theorem stepC_eq : kernelRun0_C.sl.r_247 (F := F) c arg1 harg1 arg2 harg2 arg3 harg3 arg4 harg4 arg5 harg5 arg17 arg18 x0 x1 x2 x3 x4 = stepped x2 x3 x4 x0 x1 := by
  unfold kernelRun0_C.sl.r_247 stepped
  rw [xC_eq, sC10_eq]

theorem mixC_eq : kernelRun0_C.sl.v3276 (F := F) c arg1 harg1 arg2 harg2 arg3 harg3 arg4 harg4 arg5 harg5 arg6 harg6 arg17 arg18 x0 x1 x2 x3 x4 x5 = mixed x2 x3 x4 x0 x1 x5 := by
  show arg17.view.readAt (Elt F) (Rect.unit (s := S512x1024) ![0, 0] S512x1024.size inb_S512x1024_S512x1024_0_0).toLoadRect (arg17.view.writes (Elt F) _ (kernelRun0_C.sl.HS0_2 (F := F) c arg1 harg1 arg2 harg2 arg3 harg3 arg4 harg4 arg5 harg5 arg6 harg6 arg17 arg18 x0 x1 x2 x3 x4 x5)) = _
  unfold kernelRun0_C.sl.HS0_2
  rw [readAt_hit, stepC_eq, win_whole arg6 harg6 x5 ![0, 0] _ zero_off]
  rfl

theorem zC_eq : kernelRun0_C.sl.r_249 (F := F) c arg1 harg1 arg2 harg2 arg3 harg3 arg4 harg4 arg5 harg5 arg6 harg6 arg8 harg8 arg17 arg18 x0 x1 x2 x3 x4 x5 x7 = k0_pay269 (mixed x2 x3 x4 x0 x1 x5) x7 := by
  unfold kernelRun0_C.sl.r_249
  rw [mixC_eq, win_whole arg8 harg8 x7 ![0, 0] _ zero_off]

theorem tailC_eq : kernelRun0_C.sl.r_250 (F := F) c arg1 harg1 arg2 harg2 arg3 harg3 arg4 harg4 arg5 harg5 arg6 harg6 arg7 harg7 arg17 arg18 x0 x1 x2 x3 x4 x5 x6 = k0_pay272 (k0_pay268 (mixed x2 x3 x4 x0 x1 x5) x6) := by
  unfold kernelRun0_C.sl.r_250 kernelRun0_C.sl.r_248
  rw [mixC_eq, win_whole arg7 harg7 x6 ![0, 0] _ zero_off]

theorem outC11_eq (i : grid0.Coords) (hc0 : ¬cond0_0 i) (hc1 : ¬cond0_1 i) : out0_C_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = stepped x2 x3 x4 x0 x1 := by
  unfold out0_C_11 kernelRun0_C
  dsimp only
  refine (read_whole VO0_11 VO0_11.junk ![0, 0] inb_S512x1024_S512x1024_0_0 zero_off _).trans ?_
  exact stepC_eq ..

theorem outC13_eq (i : grid0.Coords) (hc0 : ¬cond0_0 i) (hc1 : ¬cond0_1 i) : out0_C_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = k0_pay269 (mixed x2 x3 x4 x0 x1 x5) x7 := by
  unfold out0_C_13 kernelRun0_C
  dsimp only
  refine (read_whole VO0_13 VO0_13.junk ![0, 0] inb_S512x512_S512x512_0_0 zero_off _).trans ?_
  exact zC_eq ..

theorem outC14_eq (i : grid0.Coords) (hc0 : ¬cond0_0 i) (hc1 : ¬cond0_1 i) : out0_C_14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = k0_pay270 (mixed x2 x3 x4 x0 x1 x5) x8 := by
  unfold out0_C_14 kernelRun0_C
  dsimp only
  rw [mixC_eq x2 x3 x4 c arg1 harg1 arg2 harg2 arg3 harg3 arg4 harg4 arg5 harg5 arg6 harg6 arg17 arg18]
  refine (read_whole VO0_14 VO0_14.junk ![0, 0] inb_S512x768_S512x768_0_0 zero_off _).trans ?_
  exact congrArg (k0_pay270 _) (win_whole arg9 harg9 x8 ![0, 0] _ zero_off)

theorem outC15_eq (i : grid0.Coords) (hc0 : ¬cond0_0 i) (hc1 : ¬cond0_1 i) : out0_C_15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs2 = k0_pay1 (k0_pay272 (k0_pay268 (mixed x2 x3 x4 x0 x1 x5) x6)) := by
  unfold out0_C_15 kernelRun0_C
  dsimp only
  refine (read_whole VO0_15 VO0_15.junk ![0, 0, 0] inb_S1x8x1536_S1x8x1536_0_0_0 zero_off3 _).trans ?_
  exact congrArg k0_pay1 (tailC_eq ..)

end Body

section Value

variable (h : Vec Ideal S512x1024 .bf16) (x2 x3 : Vec Ideal S1024x2816 .bf16) (x4 : Vec Ideal S2816x1024 .bf16)

theorem acc_apply (i : Fin 512) (j : Fin 1024) : (acc10 (F := Ideal) h x2 x3 x4 (ix2 i j) : EReal) =
    ∑ f, hidden (fun k => h (ix2 i k)) (fun k f => x2 (ix2 k f)) (fun k f => x3 (ix2 k f)) f * (fun f j => x4 (ix2 f j)) f j := by
  rw [← chunks]
  unfold acc10 acc9 acc8 acc7 acc6 acc5 acc4 acc3 acc2 acc1 acc0
  simp only [next_apply, first_apply]
  rfl

variable (x0 : Vec Ideal S512x1024 .f32) (x1 x5 : Vec Ideal S1x1024 .f32)

theorem stepped_apply (i : Fin 512) (j : Fin 1024) : (stepped (F := Ideal) x2 x3 x4 x0 x1 (ix2 i j) : EReal) =
    half (fun j => x0 (ix2 i j)) (fun j => x1 (ix2 0 j)) (fun k f => x2 (ix2 k f)) (fun k f => x3 (ix2 k f)) (fun f j => x4 (ix2 f j)) j := by
  unfold stepped half
  rw [half_apply]
  simp only [acc_apply, norm_apply]

theorem mixed_value (i : Fin 512) (j : Fin 1024) : (mixed (F := Ideal) x2 x3 x4 x0 x1 x5 (ix2 i j) : EReal) =
    rms (half (fun j => x0 (ix2 i j)) (fun j => x1 (ix2 0 j)) (fun k f => x2 (ix2 k f)) (fun k f => x3 (ix2 k f)) (fun f j => x4 (ix2 f j)))
      (fun j => x5 (ix2 0 j)) j := by
  unfold mixed half
  rw [mixed_apply]
  simp only [acc_apply, norm_apply]

theorem z_value (w : Vec Ideal S1024x512 .bf16) (i : Fin 512) (j : Fin 512) : (k0_pay269 (F := Ideal) (mixed x2 x3 x4 x0 x1 x5) w (ix2 i j) : EReal) =
    proj (fun j => x0 (ix2 i j)) (fun j => x1 (ix2 0 j)) (fun k f => x2 (ix2 k f)) (fun k f => x3 (ix2 k f)) (fun f j => x4 (ix2 f j))
      (fun j => x5 (ix2 0 j)) (fun k => w (ix2 k j)) := by
  rw [z_apply]
  unfold proj
  simp only [mixed_value]

theorem mla_value (w : Vec Ideal S1024x768 .bf16) (i : Fin 512) (j : Fin 768) : (k0_pay270 (F := Ideal) (mixed x2 x3 x4 x0 x1 x5) w (ix2 i j) : EReal) =
    proj (fun j => x0 (ix2 i j)) (fun j => x1 (ix2 0 j)) (fun k f => x2 (ix2 k f)) (fun k f => x3 (ix2 k f)) (fun f j => x4 (ix2 f j))
      (fun j => x5 (ix2 0 j)) (fun k => w (ix2 k j)) := by
  rw [mla_apply]
  unfold proj
  simp only [mixed_value]

theorem tail_value (w : Vec Ideal S1024x1536 .bf16) (a : Fin 1) (i : Fin 8) (j : Fin 1536) :
    (k0_pay1 (F := Ideal) (k0_pay272 (k0_pay268 (mixed x2 x3 x4 x0 x1 x5) w)) (ix3 a i j) : EReal) =
    proj (fun j => x0 (ix2 ⟨504 + i.val, by omega⟩ j)) (fun j => x1 (ix2 0 j)) (fun k f => x2 (ix2 k f)) (fun k f => x3 (ix2 k f)) (fun f j => x4 (ix2 f j))
      (fun j => x5 (ix2 0 j)) (fun k => w (ix2 k j)) := by
  rw [tail_apply]
  unfold proj
  simp only [mixed_value]

end Value

end Cert.EntryPure
-- ==== Proof.EntryBlocks.lean ====
/-
The blocks the entry call reads for the prompt, as entries of its arguments, and four of its result arrays: row
`8192 b + s` is the row of batch row `b`, position `s`. The last grid point repeats the tile before it.
-/
module

public import proofs.«01_k».proof.Proof.EntryBody
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.EntryBlocks

open Cert.Kernel4Ideal Cert.Kernel4Ideal.Gen Cert.Ffn Cert.Proj Cert.EntryPure

variable (m : (ℓ : Loc nD τ sig) → Buf (Elt Ideal) ℓ) (c : Dev nD)

/-- The tile a grid point works on. -/
def tile (t : Fin cfg0.N) : Fin 64 := ⟨min (grid0.coords t 0).val 63, by omega⟩

/-- Which block each window takes at each grid point. -/
theorem idx : ∀ t : Fin cfg0.N, win0_0.index t = ![(tile t).val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_11.index t = ![(tile t).val, 0]
    ∧ win0_13.index t = ![(tile t).val, 0]
    ∧ win0_14.index t = ![(tile t).val, 0]
    ∧ win0_15.index t = ![(tile t).val, 0, 0] :=
  (by decide +kernel : ∀ t : Fin grid0.N, _)

/-- Row `i` of a grid point's block. -/
def trow (t : Fin cfg0.N) (i : Fin 512) : Fin 32768 :=
  ⟨512 * (tile t).val + i.val, by omega⟩

theorem iblk_def (w : Fin cfg0.W) (t : Fin cfg0.N) :
    iblk m c w t = ((cfg0.win w).blk t).view.read (Elt Ideal) (V m c (Pipeline.arrRef spec0 w)) := rfl

theorem rd0 (t : Fin cfg0.N) (f : FVec Ideal S32768x1024 .f32) (y : S512x1024.Idx) :
    (show Vec Ideal S512x1024 .f32 from ((cfg0.win 0).blk t).view.read (Elt Ideal) f) y = f (((cfg0.win 0).blk t).view.emb y) := rfl

theorem em0 (t : Fin cfg0.N) (i : Fin 512) (j : Fin 1024) :
    (show S32768x1024.Idx from ((cfg0.win 0).blk t).view.emb (show S512x1024.Idx from ix2 i j)) = ix2 (trow t i) j := by
  blk_ext [idx t, trow]

theorem blk0 (t : Fin cfg0.N) (i : Fin 512) (j : Fin 1024) :
    (show Vec Ideal S512x1024 .f32 from iblk m c 0 t) (ix2 i j) = (V m c main_v15 : FVec Ideal S32768x1024 .f32) (ix2 (trow t i) j) := by
  rw [iblk_def]
  exact (rd0 t (V m c (Pipeline.arrRef spec0 0)) _).trans (congrArg (V m c main_v15 : FVec Ideal S32768x1024 .f32) (em0 t i j))

theorem rd1 (t : Fin cfg0.N) (f : FVec Ideal S1x1024 .f32) (y : S1x1024.Idx) :
    (show Vec Ideal S1x1024 .f32 from ((cfg0.win 1).blk t).view.read (Elt Ideal) f) y = f (((cfg0.win 1).blk t).view.emb y) := rfl

theorem em1 (t : Fin cfg0.N) (i : Fin 1) (j : Fin 1024) :
    (show S1x1024.Idx from ((cfg0.win 1).blk t).view.emb (show S1x1024.Idx from ix2 i j)) = ix2 i j := by
  blk_ext [idx t]

theorem blk1 (t : Fin cfg0.N) (i : Fin 1) (j : Fin 1024) :
    (show Vec Ideal S1x1024 .f32 from iblk m c 1 t) (ix2 i j) = (V m c main_v0 : FVec Ideal S1x1024 .f32) (ix2 i j) := by
  rw [iblk_def]
  exact (rd1 t (V m c (Pipeline.arrRef spec0 1)) _).trans (congrArg (V m c main_v0 : FVec Ideal S1x1024 .f32) (em1 t i j))

theorem rd2 (t : Fin cfg0.N) (f : FVec Ideal S1024x2816 .bf16) (y : S1024x2816.Idx) :
    (show Vec Ideal S1024x2816 .bf16 from ((cfg0.win 2).blk t).view.read (Elt Ideal) f) y = f (((cfg0.win 2).blk t).view.emb y) := rfl

theorem em2 (t : Fin cfg0.N) (i : Fin 1024) (j : Fin 2816) :
    (show S1024x2816.Idx from ((cfg0.win 2).blk t).view.emb (show S1024x2816.Idx from ix2 i j)) = ix2 i j := by
  blk_ext [idx t]

theorem blk2 (t : Fin cfg0.N) (i : Fin 1024) (j : Fin 2816) :
    (show Vec Ideal S1024x2816 .bf16 from iblk m c 2 t) (ix2 i j) = (V m c main_v2 : FVec Ideal S1024x2816 .bf16) (ix2 i j) := by
  rw [iblk_def]
  exact (rd2 t (V m c (Pipeline.arrRef spec0 2)) _).trans (congrArg (V m c main_v2 : FVec Ideal S1024x2816 .bf16) (em2 t i j))

theorem rd3 (t : Fin cfg0.N) (f : FVec Ideal S1024x2816 .bf16) (y : S1024x2816.Idx) :
    (show Vec Ideal S1024x2816 .bf16 from ((cfg0.win 3).blk t).view.read (Elt Ideal) f) y = f (((cfg0.win 3).blk t).view.emb y) := rfl

theorem em3 (t : Fin cfg0.N) (i : Fin 1024) (j : Fin 2816) :
    (show S1024x2816.Idx from ((cfg0.win 3).blk t).view.emb (show S1024x2816.Idx from ix2 i j)) = ix2 i j := by
  blk_ext [idx t]

theorem blk3 (t : Fin cfg0.N) (i : Fin 1024) (j : Fin 2816) :
    (show Vec Ideal S1024x2816 .bf16 from iblk m c 3 t) (ix2 i j) = (V m c main_v3 : FVec Ideal S1024x2816 .bf16) (ix2 i j) := by
  rw [iblk_def]
  exact (rd3 t (V m c (Pipeline.arrRef spec0 3)) _).trans (congrArg (V m c main_v3 : FVec Ideal S1024x2816 .bf16) (em3 t i j))

theorem rd4 (t : Fin cfg0.N) (f : FVec Ideal S2816x1024 .bf16) (y : S2816x1024.Idx) :
    (show Vec Ideal S2816x1024 .bf16 from ((cfg0.win 4).blk t).view.read (Elt Ideal) f) y = f (((cfg0.win 4).blk t).view.emb y) := rfl

theorem em4 (t : Fin cfg0.N) (i : Fin 2816) (j : Fin 1024) :
    (show S2816x1024.Idx from ((cfg0.win 4).blk t).view.emb (show S2816x1024.Idx from ix2 i j)) = ix2 i j := by
  blk_ext [idx t]

theorem blk4 (t : Fin cfg0.N) (i : Fin 2816) (j : Fin 1024) :
    (show Vec Ideal S2816x1024 .bf16 from iblk m c 4 t) (ix2 i j) = (V m c main_v4 : FVec Ideal S2816x1024 .bf16) (ix2 i j) := by
  rw [iblk_def]
  exact (rd4 t (V m c (Pipeline.arrRef spec0 4)) _).trans (congrArg (V m c main_v4 : FVec Ideal S2816x1024 .bf16) (em4 t i j))

theorem rd5 (t : Fin cfg0.N) (f : FVec Ideal S1x1024 .f32) (y : S1x1024.Idx) :
    (show Vec Ideal S1x1024 .f32 from ((cfg0.win 5).blk t).view.read (Elt Ideal) f) y = f (((cfg0.win 5).blk t).view.emb y) := rfl

theorem em5 (t : Fin cfg0.N) (i : Fin 1) (j : Fin 1024) :
    (show S1x1024.Idx from ((cfg0.win 5).blk t).view.emb (show S1x1024.Idx from ix2 i j)) = ix2 i j := by
  blk_ext [idx t]

theorem blk5 (t : Fin cfg0.N) (i : Fin 1) (j : Fin 1024) :
    (show Vec Ideal S1x1024 .f32 from iblk m c 5 t) (ix2 i j) = (V m c main_v1 : FVec Ideal S1x1024 .f32) (ix2 i j) := by
  rw [iblk_def]
  exact (rd5 t (V m c (Pipeline.arrRef spec0 5)) _).trans (congrArg (V m c main_v1 : FVec Ideal S1x1024 .f32) (em5 t i j))

theorem rd6 (t : Fin cfg0.N) (f : FVec Ideal S1024x1536 .bf16) (y : S1024x1536.Idx) :
    (show Vec Ideal S1024x1536 .bf16 from ((cfg0.win 6).blk t).view.read (Elt Ideal) f) y = f (((cfg0.win 6).blk t).view.emb y) := rfl

theorem em6 (t : Fin cfg0.N) (i : Fin 1024) (j : Fin 1536) :
    (show S1024x1536.Idx from ((cfg0.win 6).blk t).view.emb (show S1024x1536.Idx from ix2 i j)) = ix2 i j := by
  blk_ext [idx t]

theorem blk6 (t : Fin cfg0.N) (i : Fin 1024) (j : Fin 1536) :
    (show Vec Ideal S1024x1536 .bf16 from iblk m c 6 t) (ix2 i j) = (V m c main_v6 : FVec Ideal S1024x1536 .bf16) (ix2 i j) := by
  rw [iblk_def]
  exact (rd6 t (V m c (Pipeline.arrRef spec0 6)) _).trans (congrArg (V m c main_v6 : FVec Ideal S1024x1536 .bf16) (em6 t i j))

theorem rd7 (t : Fin cfg0.N) (f : FVec Ideal S1024x512 .bf16) (y : S1024x512.Idx) :
    (show Vec Ideal S1024x512 .bf16 from ((cfg0.win 7).blk t).view.read (Elt Ideal) f) y = f (((cfg0.win 7).blk t).view.emb y) := rfl

theorem em7 (t : Fin cfg0.N) (i : Fin 1024) (j : Fin 512) :
    (show S1024x512.Idx from ((cfg0.win 7).blk t).view.emb (show S1024x512.Idx from ix2 i j)) = ix2 i j := by
  blk_ext [idx t]

theorem blk7 (t : Fin cfg0.N) (i : Fin 1024) (j : Fin 512) :
    (show Vec Ideal S1024x512 .bf16 from iblk m c 7 t) (ix2 i j) = (V m c main_v8 : FVec Ideal S1024x512 .bf16) (ix2 i j) := by
  rw [iblk_def]
  exact (rd7 t (V m c (Pipeline.arrRef spec0 7)) _).trans (congrArg (V m c main_v8 : FVec Ideal S1024x512 .bf16) (em7 t i j))

theorem rd8 (t : Fin cfg0.N) (f : FVec Ideal S1024x768 .bf16) (y : S1024x768.Idx) :
    (show Vec Ideal S1024x768 .bf16 from ((cfg0.win 8).blk t).view.read (Elt Ideal) f) y = f (((cfg0.win 8).blk t).view.emb y) := rfl

theorem em8 (t : Fin cfg0.N) (i : Fin 1024) (j : Fin 768) :
    (show S1024x768.Idx from ((cfg0.win 8).blk t).view.emb (show S1024x768.Idx from ix2 i j)) = ix2 i j := by
  blk_ext [idx t]

theorem blk8 (t : Fin cfg0.N) (i : Fin 1024) (j : Fin 768) :
    (show Vec Ideal S1024x768 .bf16 from iblk m c 8 t) (ix2 i j) = (V m c main_v14 : FVec Ideal S1024x768 .bf16) (ix2 i j) := by
  rw [iblk_def]
  exact (rd8 t (V m c (Pipeline.arrRef spec0 8)) _).trans (congrArg (V m c main_v14 : FVec Ideal S1024x768 .bf16) (em8 t i j))

/-! ## What the host lines leave -/

/-- The batch row and the position of a row. -/
def rb (r : Fin 32768) : Fin 4 := ⟨r.val / 8192, by omega⟩
def rs (r : Fin 32768) : Fin 8192 := ⟨r.val % 8192, by omega⟩

theorem host15 (r : Fin 32768) (j : Fin 1024) :
    ((V m c main_v15 : FVec Ideal S32768x1024 .f32) (ix2 r j) : EReal) = (m (c, Proc.tc.devRef main_arg0) : FVec Ideal S4x8192x1024 .f32) (ix3 (rb r) (rs r) j) := by
  show StableHlo.after hostOps0 _ _ _ = _
  after_reads_simp
  pointwise
  try rfl

theorem host0 (r : Fin 1) (j : Fin 1024) :
    ((V m c main_v0 : FVec Ideal S1x1024 .f32) (ix2 r j) : EReal) = (m (c, Proc.tc.devRef main_arg3) : FVec Ideal S1024 .f32) (ix1 j) := by
  show StableHlo.after hostOps0 _ _ _ = _
  after_reads_simp
  pointwise
  try rfl

theorem host2 (r : Fin 1024) (j : Fin 2816) :
    ((V m c main_v2 : FVec Ideal S1024x2816 .bf16) (ix2 r j) : EReal) = (m (c, Proc.tc.devRef main_arg4) : FVec Ideal S1024x2816 .f32) (ix2 r j) := by
  show StableHlo.after hostOps0 _ _ _ = _
  after_reads_simp
  pointwise
  try rfl

theorem host3 (r : Fin 1024) (j : Fin 2816) :
    ((V m c main_v3 : FVec Ideal S1024x2816 .bf16) (ix2 r j) : EReal) = (m (c, Proc.tc.devRef main_arg5) : FVec Ideal S1024x2816 .f32) (ix2 r j) := by
  show StableHlo.after hostOps0 _ _ _ = _
  after_reads_simp
  pointwise
  try rfl

theorem host4 (r : Fin 2816) (j : Fin 1024) :
    ((V m c main_v4 : FVec Ideal S2816x1024 .bf16) (ix2 r j) : EReal) = (m (c, Proc.tc.devRef main_arg6) : FVec Ideal S2816x1024 .f32) (ix2 r j) := by
  show StableHlo.after hostOps0 _ _ _ = _
  after_reads_simp
  pointwise
  try rfl

theorem host1 (r : Fin 1) (j : Fin 1024) :
    ((V m c main_v1 : FVec Ideal S1x1024 .f32) (ix2 r j) : EReal) = (m (c, Proc.tc.devRef main_arg7) : FVec Ideal S1024 .f32) (ix1 j) := by
  show StableHlo.after hostOps0 _ _ _ = _
  after_reads_simp
  pointwise
  try rfl

theorem host6 (r : Fin 1024) (j : Fin 1536) :
    ((V m c main_v6 : FVec Ideal S1024x1536 .bf16) (ix2 r j) : EReal) = (m (c, Proc.tc.devRef main_arg8) : FVec Ideal S1024x2760 .f32) (ix2 r ⟨j.val, by omega⟩) := by
  show StableHlo.after hostOps0 _ _ _ = _
  after_reads_simp
  pointwise
  try rfl

theorem host8 (r : Fin 1024) (j : Fin 512) :
    ((V m c main_v8 : FVec Ideal S1024x512 .bf16) (ix2 r j) : EReal) = (m (c, Proc.tc.devRef main_arg8) : FVec Ideal S1024x2760 .f32) (ix2 r ⟨1536 + j.val, by omega⟩) := by
  show StableHlo.after hostOps0 _ _ _ = _
  after_reads_simp
  pointwise
  try rfl

theorem host14 (r : Fin 1024) (j : Fin 768) :
    ((V m c main_v14 : FVec Ideal S1024x768 .bf16) (ix2 r j) : EReal) = mcol (fun n => (m (c, Proc.tc.devRef main_arg8) : FVec Ideal S1024x2760 .f32) (ix2 r n)) j := by
  show StableHlo.after hostOps0 _ _ _ = _
  after_reads_simp
  unfold mcol
  pointwise
  after_reads_simp
  pointwise
  repeat' split
  all_goals first
    | (exfalso; omega)
    | rfl
    | exact congrArg (fun n => (m (c, Proc.tc.devRef main_arg8) : FVec Ideal S1024x2760 .f32) (ix2 r n)) (Fin.ext (by dsimp only <;> omega))

/-- The half step's row, and the products with its norm. -/
def halfAt (r : Fin 32768) (j : Fin 1024) : EReal :=
  half (fun j => (m (c, Proc.tc.devRef main_arg0) : FVec Ideal S4x8192x1024 .f32) (ix3 (rb r) (rs r) j))
    (fun j => (m (c, Proc.tc.devRef main_arg3) : FVec Ideal S1024 .f32) (ix1 j))
    (fun k f => (m (c, Proc.tc.devRef main_arg4) : FVec Ideal S1024x2816 .f32) (ix2 k f))
    (fun k f => (m (c, Proc.tc.devRef main_arg5) : FVec Ideal S1024x2816 .f32) (ix2 k f))
    (fun f j => (m (c, Proc.tc.devRef main_arg6) : FVec Ideal S2816x1024 .f32) (ix2 f j)) j

def projAt (r : Fin 32768) (w : Fin 1024 → EReal) : EReal :=
  proj (fun j => (m (c, Proc.tc.devRef main_arg0) : FVec Ideal S4x8192x1024 .f32) (ix3 (rb r) (rs r) j))
    (fun j => (m (c, Proc.tc.devRef main_arg3) : FVec Ideal S1024 .f32) (ix1 j))
    (fun k f => (m (c, Proc.tc.devRef main_arg4) : FVec Ideal S1024x2816 .f32) (ix2 k f))
    (fun k f => (m (c, Proc.tc.devRef main_arg5) : FVec Ideal S1024x2816 .f32) (ix2 k f))
    (fun f j => (m (c, Proc.tc.devRef main_arg6) : FVec Ideal S2816x1024 .f32) (ix2 f j))
    (fun j => (m (c, Proc.tc.devRef main_arg7) : FVec Ideal S1024 .f32) (ix1 j)) w

/-- Column `n` of the input projection. -/
def wAt (n : Fin 2760) (k : Fin 1024) : EReal := (m (c, Proc.tc.devRef main_arg8) : FVec Ideal S1024x2760 .f32) (ix2 k n)

theorem left11 (t : Fin cfg0.N) : (show Vec Ideal S512x1024 .f32 from (outsAt0 m c t.val t.isLt).1) = stepped (iblk m c 2 t) (iblk m c 3 t) (iblk m c 4 t) (iblk m c 0 t) (iblk m c 1 t) := by
  by_cases h0 : t.val % 65 = 0
  · have h1 : ¬t.val % 16 = 1 := by have := lt_of_lt_of_eq t.isLt (show cfg0.N = 65 from N_0); omega
    rw [outsAt0_A m c t h0 h1]
    dsimp only
    rw [outA11_eq (F := Ideal)]
  · by_cases h1 : t.val % 16 = 1
    · rw [outsAt0_B m c t h0 h1]
      dsimp only
      rw [outB11_eq (F := Ideal)]
    · rw [outsAt0_C m c t h0 h1]
      dsimp only
      rw [outC11_eq (F := Ideal)]

theorem left13 (t : Fin cfg0.N) : (show Vec Ideal S512x512 .f32 from (outsAt0 m c t.val t.isLt).2.2.1) = k0_pay269 (mixed (iblk m c 2 t) (iblk m c 3 t) (iblk m c 4 t) (iblk m c 0 t) (iblk m c 1 t) (iblk m c 5 t)) (iblk m c 7 t) := by
  by_cases h0 : t.val % 65 = 0
  · have h1 : ¬t.val % 16 = 1 := by have := lt_of_lt_of_eq t.isLt (show cfg0.N = 65 from N_0); omega
    rw [outsAt0_A m c t h0 h1]
    dsimp only
    rw [outA13_eq (F := Ideal)]
  · by_cases h1 : t.val % 16 = 1
    · rw [outsAt0_B m c t h0 h1]
      dsimp only
      rw [outB13_eq (F := Ideal)]
    · rw [outsAt0_C m c t h0 h1]
      dsimp only
      rw [outC13_eq (F := Ideal)]

theorem left14 (t : Fin cfg0.N) : (show Vec Ideal S512x768 .f32 from (outsAt0 m c t.val t.isLt).2.2.2.1) = k0_pay270 (mixed (iblk m c 2 t) (iblk m c 3 t) (iblk m c 4 t) (iblk m c 0 t) (iblk m c 1 t) (iblk m c 5 t)) (iblk m c 8 t) := by
  by_cases h0 : t.val % 65 = 0
  · have h1 : ¬t.val % 16 = 1 := by have := lt_of_lt_of_eq t.isLt (show cfg0.N = 65 from N_0); omega
    rw [outsAt0_A m c t h0 h1]
    dsimp only
    rw [outA14_eq (F := Ideal)]
  · by_cases h1 : t.val % 16 = 1
    · rw [outsAt0_B m c t h0 h1]
      dsimp only
      rw [outB14_eq (F := Ideal)]
    · rw [outsAt0_C m c t h0 h1]
      dsimp only
      rw [outC14_eq (F := Ideal)]

theorem left15 (t : Fin cfg0.N) : (show Vec Ideal S1x8x1536 .f32 from (outsAt0 m c t.val t.isLt).2.2.2.2.1) = k0_pay1 (k0_pay272 (k0_pay268 (mixed (iblk m c 2 t) (iblk m c 3 t) (iblk m c 4 t) (iblk m c 0 t) (iblk m c 1 t) (iblk m c 5 t)) (iblk m c 6 t))) := by
  by_cases h0 : t.val % 65 = 0
  · have h1 : ¬t.val % 16 = 1 := by have := lt_of_lt_of_eq t.isLt (show cfg0.N = 65 from N_0); omega
    rw [outsAt0_A m c t h0 h1]
    dsimp only
    rw [outA15_eq (F := Ideal)]
  · by_cases h1 : t.val % 16 = 1
    · rw [outsAt0_B m c t h0 h1]
      dsimp only
      rw [outB15_eq (F := Ideal)]
    · rw [outsAt0_C m c t h0 h1]
      dsimp only
      rw [outC15_eq (F := Ideal)]

theorem value11 (t : Fin cfg0.N) (i : Fin 512) (j : Fin 1024) :
    ((show Vec Ideal S512x1024 .f32 from (outsAt0 m c t.val t.isLt).1) (ix2 i j) : EReal) = halfAt m c (trow t i) j := by
  rw [left11]
  refine (stepped_apply _ _ _ _ _ i j).trans ?_
  exact half_of j (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))

theorem em11 (t : Fin cfg0.N) (i : Fin 512) (j : Fin 1024) :
    (show S32768x1024.Idx from ((cfg0.win 11).blk t).view.emb (show S512x1024.Idx from ix2 i j)) = ix2 (trow t i) j := by
  blk_ext [idx t, trow]

def at11 (r : Fin 32768) (j : Fin 1024) : EReal := halfAt m c r j

def arr11 : FVec Ideal S32768x1024 .f32 := fun y => at11 m c ⟨(y 0).val, (y 0).isLt⟩ ⟨(y 1).val, (y 1).isLt⟩

theorem array11 : (dats m 0 c).arrAt 11 cfg0.N = arr11 m c := by
  refine (dats m 0 c).arrAt_eq_of_covers 11 _ (by decide +kernel) fun t hf y => ?_
  blk_simp
  rw [after0_11]
  obtain ⟨i, j, rfl⟩ : ∃ (i : Fin 512) (j : Fin 1024), y = (show S512x1024.Idx from ix2 i j) :=
    ⟨⟨(y 0).val, (y 0).isLt⟩, ⟨(y 1).val, (y 1).isLt⟩, funext fun a => by
      match a with
      | 0 => rfl
      | 1 => rfl⟩
  refine (value11 m c t i j).trans ?_
  exact (congrArg (arr11 m c) (em11 t i j)).symm

theorem value13 (t : Fin cfg0.N) (i : Fin 512) (j : Fin 512) :
    ((show Vec Ideal S512x512 .f32 from (outsAt0 m c t.val t.isLt).2.2.1) (ix2 i j) : EReal) = projAt m c (trow t i) (wAt m c ⟨1536 + (j).val, by omega⟩) := by
  rw [left13]
  refine (z_value _ _ _ _ _ _ _ i j).trans ?_
  exact proj_of (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))
    (fun j => (blk5 m c t 0 j).trans (host1 m c 0 j)) (fun k => (blk7 m c t k j).trans (host8 m c k j))

theorem em13 (t : Fin cfg0.N) (i : Fin 512) (j : Fin 512) :
    (show S32768x512.Idx from ((cfg0.win 13).blk t).view.emb (show S512x512.Idx from ix2 i j)) = ix2 (trow t i) j := by
  blk_ext [idx t, trow]

def at13 (r : Fin 32768) (j : Fin 512) : EReal := projAt m c r (wAt m c ⟨1536 + (j).val, by omega⟩)

def arr13 : FVec Ideal S32768x512 .f32 := fun y => at13 m c ⟨(y 0).val, (y 0).isLt⟩ ⟨(y 1).val, (y 1).isLt⟩

theorem array13 : (dats m 0 c).arrAt 13 cfg0.N = arr13 m c := by
  refine (dats m 0 c).arrAt_eq_of_covers 13 _ (by decide +kernel) fun t hf y => ?_
  blk_simp
  rw [after0_13]
  obtain ⟨i, j, rfl⟩ : ∃ (i : Fin 512) (j : Fin 512), y = (show S512x512.Idx from ix2 i j) :=
    ⟨⟨(y 0).val, (y 0).isLt⟩, ⟨(y 1).val, (y 1).isLt⟩, funext fun a => by
      match a with
      | 0 => rfl
      | 1 => rfl⟩
  refine (value13 m c t i j).trans ?_
  exact (congrArg (arr13 m c) (em13 t i j)).symm

theorem value14 (t : Fin cfg0.N) (i : Fin 512) (j : Fin 768) :
    ((show Vec Ideal S512x768 .f32 from (outsAt0 m c t.val t.isLt).2.2.2.1) (ix2 i j) : EReal) = projAt m c (trow t i) (fun k => mcol (fun n => wAt m c n k) (j)) := by
  rw [left14]
  refine (mla_value _ _ _ _ _ _ _ i j).trans ?_
  exact proj_of (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))
    (fun j => (blk5 m c t 0 j).trans (host1 m c 0 j)) (fun k => (blk8 m c t k j).trans (host14 m c k j))

theorem em14 (t : Fin cfg0.N) (i : Fin 512) (j : Fin 768) :
    (show S32768x768.Idx from ((cfg0.win 14).blk t).view.emb (show S512x768.Idx from ix2 i j)) = ix2 (trow t i) j := by
  blk_ext [idx t, trow]

def at14 (r : Fin 32768) (j : Fin 768) : EReal := projAt m c r (fun k => mcol (fun n => wAt m c n k) (j))

def arr14 : FVec Ideal S32768x768 .f32 := fun y => at14 m c ⟨(y 0).val, (y 0).isLt⟩ ⟨(y 1).val, (y 1).isLt⟩

theorem array14 : (dats m 0 c).arrAt 14 cfg0.N = arr14 m c := by
  refine (dats m 0 c).arrAt_eq_of_covers 14 _ (by decide +kernel) fun t hf y => ?_
  blk_simp
  rw [after0_14]
  obtain ⟨i, j, rfl⟩ : ∃ (i : Fin 512) (j : Fin 768), y = (show S512x768.Idx from ix2 i j) :=
    ⟨⟨(y 0).val, (y 0).isLt⟩, ⟨(y 1).val, (y 1).isLt⟩, funext fun a => by
      match a with
      | 0 => rfl
      | 1 => rfl⟩
  refine (value14 m c t i j).trans ?_
  exact (congrArg (arr14 m c) (em14 t i j)).symm

/-- The tail of a tile: the product's last eight rows. -/
theorem value15 (t : Fin cfg0.N) (a : Fin 1) (i : Fin 8) (j : Fin 1536) :
    ((show Vec Ideal S1x8x1536 .f32 from (outsAt0 m c t.val t.isLt).2.2.2.2.1) (ix3 a i j) : EReal)
      = projAt m c (trow t ⟨504 + i.val, by omega⟩) (wAt m c ⟨j.val, by omega⟩) := by
  rw [left15]
  refine (tail_value _ _ _ _ _ _ _ a i j).trans ?_
  generalize (⟨504 + i.val, _⟩ : Fin 512) = i
  exact proj_of (fun j => (blk0 m c t i j).trans (host15 m c _ j)) (fun j => (blk1 m c t 0 j).trans (host0 m c 0 j))
    (fun k f => (blk2 m c t k f).trans (host2 m c k f)) (fun k f => (blk3 m c t k f).trans (host3 m c k f))
    (fun f j => (blk4 m c t f j).trans (host4 m c f j))
    (fun j => (blk5 m c t 0 j).trans (host1 m c 0 j)) (fun k => (blk6 m c t k j).trans (host6 m c k j))

theorem em15 (t : Fin cfg0.N) (a : Fin 1) (i : Fin 8) (j : Fin 1536) :
    (show S64x8x1536.Idx from ((cfg0.win 15).blk t).view.emb (show S1x8x1536.Idx from ix3 a i j)) = ix3 (tile t) i j := by
  blk_ext [idx t]

def at15 (t : Fin 64) (i : Fin 8) (j : Fin 1536) : EReal :=
  projAt m c ⟨512 * t.val + (504 + i.val), by omega⟩ (wAt m c ⟨j.val, by omega⟩)

def arr15 : FVec Ideal S64x8x1536 .f32 := fun y => at15 m c ⟨(y 0).val, (y 0).isLt⟩ ⟨(y 1).val, (y 1).isLt⟩ ⟨(y 2).val, (y 2).isLt⟩

theorem array15 : (dats m 0 c).arrAt 15 cfg0.N = arr15 m c := by
  refine (dats m 0 c).arrAt_eq_of_covers 15 _ (by decide +kernel) fun t hf y => ?_
  blk_simp
  rw [after0_15]
  obtain ⟨a, i, j, rfl⟩ : ∃ (a : Fin 1) (i : Fin 8) (j : Fin 1536), y = (show S1x8x1536.Idx from ix3 a i j) :=
    ⟨⟨(y 0).val, (y 0).isLt⟩, ⟨(y 1).val, (y 1).isLt⟩, ⟨(y 2).val, (y 2).isLt⟩, funext fun a => by
      match a with
      | 0 => rfl
      | 1 => rfl
      | 2 => rfl⟩
  refine (value15 m c t a i j).trans ?_
  exact (congrArg (arr15 m c) (em15 t a i j)).symm

end Cert.EntryBlocks
-- ==== Proof.EntryRef.lean ====
/-
The reference of the entry call for the prompt, stage by stage, at an element.
-/
module

public import proofs.«01_k».proof.Proof.Proj
public import proofs.«01_k».proof.Proof.Gen.Reference4Ideal.Read

@[expose] public section

set_option maxRecDepth 16384

noncomputable section

open Idealize.ShloMosaic

namespace Cert.EntryRef

open Cert.Reference4Ideal Cert.Reference4Ideal.Gen Cert.Reference4Ideal.Read Cert.Ffn Cert.Proj

variable (x0 : FVec Ideal S4x8192x1024 .f32) (x3 : FVec Ideal S1024 .f32) (x4 x5 : FVec Ideal S1024x2816 .f32)
  (x6 : FVec Ideal S2816x1024 .f32) (x7 : FVec Ideal S1024 .f32) (x8 : FVec Ideal S1024x2760 .f32)

theorem v12_apply (b : Fin 4) (s : Fin 8192) (j : Fin 1024) :
    (val_main_v12 (F := Ideal) x0 x3 (ix3 b s j) : EReal) = rms (fun j => x0 (ix3 b s j)) (fun j => x3 (ix1 j)) j := by
  unfold rms
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  try rfl

theorem v16_apply (b : Fin 4) (s : Fin 8192) (f : Fin 2816) :
    (val_main_v16 (F := Ideal) x0 x3 x4 x5 (ix3 b s f) : EReal)
      = hidden (rms (fun j => x0 (ix3 b s j)) (fun j => x3 (ix1 j))) (fun k f => x4 (ix2 k f)) (fun k f => x5 (ix2 k f)) f := by
  unfold Ffn.hidden gated Ideal.logistic
  pointwise [val_main_v16, val_main_v15, val_main_v14, val_main_v13, val_main_call0_v5, val_main_call0_v4, val_main_call0_v3, val_main_call0_v2, val_main_call0_v1, val_main_call0_v0, val_main_call0_cst, val_main_call0_cst_0, v12_apply]
  try rfl

theorem v20_apply (b : Fin 4) (s : Fin 8192) (j : Fin 1024) :
    (val_main_v20 (F := Ideal) x0 x3 x4 x5 x6 (ix3 b s j) : EReal)
      = half (fun j => x0 (ix3 b s j)) (fun j => x3 (ix1 j)) (fun k f => x4 (ix2 k f)) (fun k f => x5 (ix2 k f)) (fun f j => x6 (ix2 f j)) j := by
  unfold half
  pointwise [val_main_v20, val_main_v19, val_main_v18, val_main_v17, val_main_cst_2, v16_apply]
  try rfl

theorem v34_apply (b : Fin 4) (s : Fin 8192) (j : Fin 2760) :
    (val_main_v34 (F := Ideal) x0 x3 x4 x5 x6 x7 x8 (ix3 b s j) : EReal)
      = proj (fun j => x0 (ix3 b s j)) (fun j => x3 (ix1 j)) (fun k f => x4 (ix2 k f)) (fun k f => x5 (ix2 k f)) (fun f j => x6 (ix2 f j)) (fun j => x7 (ix1 j)) (fun k => x8 (ix2 k j)) := by
  unfold proj rms
  pointwise [val_main_v34, val_main_v33, val_main_v32, val_main_v31, val_main_v30, val_main_v29, val_main_v28, val_main_v27, val_main_v26, val_main_v25, val_main_v24, val_main_v23, val_main_v22, val_main_v21, val_main_cst_3, val_main_cst_4, val_main_cst_5, v20_apply]
  try rfl

theorem v44_apply (r : Fin 32768) (j : Fin 1024) :
    (val_main_v44 (F := Ideal) x0 x3 x4 x5 x6 (ix2 r j) : EReal)
      = val_main_v20 (F := Ideal) x0 x3 x4 x5 x6 (ix3 ⟨r.val / 8192, by omega⟩ ⟨r.val % 8192, by omega⟩ j) := by
  pointwise [val_main_v44]

theorem v45_apply (r : Fin 32768) (j : Fin 512) :
    (val_main_v45 (F := Ideal) x0 x3 x4 x5 x6 x7 x8 (ix2 r j) : EReal)
      = val_main_v34 (F := Ideal) x0 x3 x4 x5 x6 x7 x8 (ix3 ⟨r.val / 8192, by omega⟩ ⟨r.val % 8192, by omega⟩ ⟨1536 + j.val, by omega⟩) := by
  pointwise [val_main_v45, val_main_v36]
  try rfl

theorem v46_apply (r : Fin 32768) (j : Fin 768) :
    (val_main_v46 (F := Ideal) x0 x3 x4 x5 x6 x7 x8 (ix2 r j) : EReal)
      = mcol (fun n => (val_main_v34 (F := Ideal) x0 x3 x4 x5 x6 x7 x8 (ix3 ⟨r.val / 8192, by omega⟩ ⟨r.val % 8192, by omega⟩ n) : EReal)) j := by
  pointwise [val_main_v46, val_main_v43, val_main_v42, val_main_v41, val_main_v40, val_main_v39, val_main_v38, val_main_v37, val_main_cst_6]
  unfold mcol
  repeat' split
  all_goals first
    | (exfalso; omega)
    | rfl
    | exact congrArg (fun n => val_main_v34 (F := Ideal) x0 x3 x4 x5 x6 x7 x8 (ix3 ⟨r.val / 8192, by omega⟩ ⟨r.val % 8192, by omega⟩ n)) (Fin.ext (by dsimp only <;> omega))

theorem v48_apply (t : Fin 64) (i : Fin 8) (j : Fin 1536) :
    (val_main_v48 (F := Ideal) x0 x3 x4 x5 x6 x7 x8 (ix3 t i j) : EReal)
      = val_main_v34 (F := Ideal) x0 x3 x4 x5 x6 x7 x8 (ix3 ⟨(512 * t.val + (504 + i.val)) / 8192, by omega⟩ ⟨(512 * t.val + (504 + i.val)) % 8192, by omega⟩ ⟨j.val, by omega⟩) := by
  pointwise [val_main_v48, val_main_v47, val_main_v35]
  exact congrArg₂ (fun a b => val_main_v34 (F := Ideal) x0 x3 x4 x5 x6 x7 x8 (ix3 a b ⟨j.val, by omega⟩))
    (Fin.ext (by dsimp only <;> omega)) (Fin.ext (by dsimp only <;> omega))

end Cert.EntryRef
-- ==== Proof.EntryGoal.lean ====
/-
The entry call for the prompt and its reference return the same four arrays.
-/
module

public import proofs.«01_k».proof.Proof.EntryBlocks
public import proofs.«01_k».proof.Proof.EntryRef
public import proofs.«01_k».proof.Proof.Gen.Reference4Ideal.Run
public import proofs.«01_k».proof.Defs

@[expose] public section

set_option maxRecDepth 16384

noncomputable section

open Idealize.ShloMosaic Idealize.ShloMosaic.TcCoe Idealize.SL.Sem

namespace Cert.EntryGoal

open Cert.Kernel4Ideal

variable (m : (ℓ : Loc nD τ sig) → Buf (Elt Ideal) ℓ) (c : Dev nD)

/-- An index of a two dimensional array from its two coordinates, and of a three dimensional one. -/
theorem ix_eta {n k : ℕ} (y : (⟨2, ![n, k]⟩ : Shape).Idx) : y = ix2 (⟨(y 0).val, (y 0).isLt⟩ : Fin n) (⟨(y 1).val, (y 1).isLt⟩ : Fin k) :=
  funext fun a => by
    match a with
    | 0 => rfl
    | 1 => rfl

theorem ix_eta3 {n k l : ℕ} (y : (⟨3, ![n, k, l]⟩ : Shape).Idx) :
    y = ix3 (⟨(y 0).val, (y 0).isLt⟩ : Fin n) (⟨(y 1).val, (y 1).isLt⟩ : Fin k) (⟨(y 2).val, (y 2).isLt⟩ : Fin l) :=
  funext fun a => by
    match a with
    | 0 => rfl
    | 1 => rfl
    | 2 => rfl

theorem v44_array : Cert.Reference4Ideal.Read.val_main_v44 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) = Cert.EntryBlocks.arr11 m c := by
  funext y
  rw [show y = (show S32768x1024.Idx from ix2 (⟨(y 0).val, (y 0).isLt⟩ : Fin 32768) (⟨(y 1).val, (y 1).isLt⟩ : Fin 1024)) from ix_eta y]
  exact (Cert.EntryRef.v44_apply _ _ _ _ _ _ _).trans (Cert.EntryRef.v20_apply _ _ _ _ _ _ _ _)

theorem v45_array : Cert.Reference4Ideal.Read.val_main_v45 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = Cert.EntryBlocks.arr13 m c := by
  funext y
  rw [show y = (show S32768x512.Idx from ix2 (⟨(y 0).val, (y 0).isLt⟩ : Fin 32768) (⟨(y 1).val, (y 1).isLt⟩ : Fin 512)) from ix_eta y]
  exact (Cert.EntryRef.v45_apply _ _ _ _ _ _ _ _ _).trans (Cert.EntryRef.v34_apply _ _ _ _ _ _ _ _ _ _)

theorem v46_array : Cert.Reference4Ideal.Read.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = Cert.EntryBlocks.arr14 m c := by
  funext y
  rw [show y = (show S32768x768.Idx from ix2 (⟨(y 0).val, (y 0).isLt⟩ : Fin 32768) (⟨(y 1).val, (y 1).isLt⟩ : Fin 768)) from ix_eta y]
  refine (Cert.EntryRef.v46_apply _ _ _ _ _ _ _ _ _).trans ?_
  refine (congrArg (fun f => Cert.Proj.mcol f _) (funext fun n => Cert.EntryRef.v34_apply _ _ _ _ _ _ _ _ _ n)).trans ?_
  exact Cert.Proj.proj_mcol _ _ _ _ _ _ _ _

theorem v48_array : Cert.Reference4Ideal.Read.val_main_v48 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = Cert.EntryBlocks.arr15 m c := by
  funext y
  rw [show y = (show S64x8x1536.Idx from ix3 (⟨(y 0).val, (y 0).isLt⟩ : Fin 64) (⟨(y 1).val, (y 1).isLt⟩ : Fin 8) (⟨(y 2).val, (y 2).isLt⟩ : Fin 1536)) from ix_eta3 y]
  exact (Cert.EntryRef.v48_apply _ _ _ _ _ _ _ _ _ _).trans (Cert.EntryRef.v34_apply _ _ _ _ _ _ _ _ _ _)

section Reference

variable (m' : (ℓ : Loc Cert.Reference4Ideal.nD Cert.Reference4Ideal.τ Cert.Reference4Ideal.sig) → Buf (Elt Ideal) ℓ)
  (e0 : m' ((c.tc : Thread Cert.Reference4Ideal.nD Cert.Reference4Ideal.τ).loc Cert.Reference4Ideal.main_arg0) = m ((c.tc : Thread nD τ).loc main_arg0))
  (e3 : m' ((c.tc : Thread Cert.Reference4Ideal.nD Cert.Reference4Ideal.τ).loc Cert.Reference4Ideal.main_arg3) = m ((c.tc : Thread nD τ).loc main_arg3))
  (e4 : m' ((c.tc : Thread Cert.Reference4Ideal.nD Cert.Reference4Ideal.τ).loc Cert.Reference4Ideal.main_arg4) = m ((c.tc : Thread nD τ).loc main_arg4))
  (e5 : m' ((c.tc : Thread Cert.Reference4Ideal.nD Cert.Reference4Ideal.τ).loc Cert.Reference4Ideal.main_arg5) = m ((c.tc : Thread nD τ).loc main_arg5))
  (e6 : m' ((c.tc : Thread Cert.Reference4Ideal.nD Cert.Reference4Ideal.τ).loc Cert.Reference4Ideal.main_arg6) = m ((c.tc : Thread nD τ).loc main_arg6))
  (e7 : m' ((c.tc : Thread Cert.Reference4Ideal.nD Cert.Reference4Ideal.τ).loc Cert.Reference4Ideal.main_arg7) = m ((c.tc : Thread nD τ).loc main_arg7))
  (e8 : m' ((c.tc : Thread Cert.Reference4Ideal.nD Cert.Reference4Ideal.τ).loc Cert.Reference4Ideal.main_arg8) = m ((c.tc : Thread nD τ).loc main_arg8))

include e0 e3 e4 e5 e6 in
theorem v44_same : Cert.Reference4Ideal.Read.val_main_v44 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) = (Cert.Kernel4Ideal.Gen.dats m 0 c).arrAt 11 Cert.Kernel4Ideal.cfg0.N := by
  rw [e0, e3, e4, e5, e6, Cert.EntryBlocks.array11]
  exact v44_array m c

include e0 e3 e4 e5 e6 e7 e8 in
theorem v45_same : Cert.Reference4Ideal.Value.res_main_v45 m' c = (Cert.Kernel4Ideal.Gen.dats m 0 c).arrAt 13 Cert.Kernel4Ideal.cfg0.N := by
  rw [Cert.Reference4Ideal.Read.val_main_v45_eq, e0, e3, e4, e5, e6, e7, e8, Cert.EntryBlocks.array13]
  exact v45_array m c

include e0 e3 e4 e5 e6 e7 e8 in
theorem v46_same : Cert.Reference4Ideal.Value.res_main_v46 m' c = (Cert.Kernel4Ideal.Gen.dats m 0 c).arrAt 14 Cert.Kernel4Ideal.cfg0.N := by
  rw [Cert.Reference4Ideal.Read.val_main_v46_eq, e0, e3, e4, e5, e6, e7, e8, Cert.EntryBlocks.array14]
  exact v46_array m c

include e0 e3 e4 e5 e6 e7 e8 in
theorem v48_same : Cert.Reference4Ideal.Value.res_main_v48 m' c = (Cert.Kernel4Ideal.Gen.dats m 0 c).arrAt 15 Cert.Kernel4Ideal.cfg0.N := by
  rw [Cert.Reference4Ideal.Read.val_main_v48_eq, e0, e3, e4, e5, e6, e7, e8, Cert.EntryBlocks.array15]
  exact v48_array m c

end Reference

theorem algebraic : Cert.algebraic_Kernel4Ideal_Reference4Ideal := fun m ρ m' ρ' _ hag =>
  ⟨fun c => (Cert.Kernel4Ideal.Gen.dats m 0 c).arrAt 11 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    (θ_run _ _ _).mono (fun _ h c => ⟨(h c).1, (h c).2.2.1, (h c).2.2.2.1, (h c).2.2.2.2.1, (h c).2.2.2.2.2⟩) (Cert.Kernel4Ideal.Value.run_blocks m ρ),
    (θ_run _ _ _).mono (fun _ h c => ⟨(h c).1.trans ((Cert.Reference4Ideal.Read.val_main_v44_eq _ _ _ _ _).trans (v44_same m c m' (hag c).1 (hag c).2.2.2.1 (hag c).2.2.2.2.1 (hag c).2.2.2.2.2.1 (hag c).2.2.2.2.2.2.1)),
      (h c).2.1.trans (v45_same m c m' (hag c).1 (hag c).2.2.2.1 (hag c).2.2.2.2.1 (hag c).2.2.2.2.2.1 (hag c).2.2.2.2.2.2.1 (hag c).2.2.2.2.2.2.2.1 (hag c).2.2.2.2.2.2.2.2),
      (h c).2.2.1.trans (v46_same m c m' (hag c).1 (hag c).2.2.2.1 (hag c).2.2.2.2.1 (hag c).2.2.2.2.2.1 (hag c).2.2.2.2.2.2.1 (hag c).2.2.2.2.2.2.2.1 (hag c).2.2.2.2.2.2.2.2),
      (h c).2.2.2.1.trans (v48_same m c m' (hag c).1 (hag c).2.2.2.1 (hag c).2.2.2.2.1 (hag c).2.2.2.2.2.1 (hag c).2.2.2.2.2.2.1 (hag c).2.2.2.2.2.2.2.1 (hag c).2.2.2.2.2.2.2.2), (h c).2.2.2.2⟩)
      (Cert.Reference4Ideal.Value.run m' ρ')⟩

end Cert.EntryGoal
-- ==== Proof.PrepPure.lean ====
/-
The latent's norm and the key's rotation, as the kernel stores them, at an element.
-/
module

public import proofs.«01_k».proof.Proof.Ffn
public import proofs.«01_k».proof.Proof.Gen.Kernel5Ideal.Skeleton
public import Idealize.ShloMosaic.Lib.Pipeline.ValueKit

@[expose] public section

set_option maxRecDepth 16384

noncomputable section

open Idealize.ShloMosaic Idealize.ShloMosaic.TcCoe

namespace Cert.PrepPure

open Cert.Kernel5Ideal Cert.Kernel5Ideal.Gen

/-- The norm of a latent row: each element over the root of the mean square, times the gain. -/
def normed (x g : Fin 256 → EReal) (j : Fin 256) : EReal :=
  x j * Ideal.rsqrt (Ideal.div (∑ k, x k * x k) (Ideal.ofBits .f32 0x43800000#32) + Ideal.ofBits .f32 0x358637BD#32) * g j

/-- The lane a rotated lane takes its other factor from: 32 lanes up in the first half, 32 lanes down after it. -/
def other (j : Fin 128) : Fin 128 := if j.val < 32 then ⟨(j.val + 32) % 128, by omega⟩ else ⟨(j.val + 96) % 128, by omega⟩

/-- One lane of the key, rotated by the two tables. -/
def turn (x p q : Fin 128 → EReal) (j : Fin 128) : EReal := x j * p j + x (other j) * q j

/-- One lane of the rotated key, its last 64 lanes zero. -/
def rope (x : Fin 128 → EReal) (cs sn : Fin 32 → EReal) (j : Fin 128) : EReal :=
  if h : j.val < 32 then x j * cs ⟨j.val, h⟩ - x ⟨j.val + 32, by omega⟩ * sn ⟨j.val, h⟩
  else if h' : j.val < 64 then x j * cs ⟨j.val - 32, by omega⟩ + x ⟨j.val - 32, by omega⟩ * sn ⟨j.val - 32, by omega⟩
  else 0

/-- A lane of the cosine table. -/
def ctab (cs : Fin 32 → EReal) (j : Fin 128) : EReal :=
  if h : j.val < 32 then cs ⟨j.val, h⟩ else if h' : j.val < 64 then cs ⟨j.val - 32, by omega⟩ else 0

/-- A lane of the sine table, negated in its first 32 lanes. -/
def stab (sn : Fin 32 → EReal) (j : Fin 128) : EReal :=
  if h : j.val < 32 then - sn ⟨j.val, h⟩ else if h' : j.val < 64 then sn ⟨j.val - 32, by omega⟩ else 0

theorem turn_tab (x : Fin 128 → EReal) (cs sn : Fin 32 → EReal) (j : Fin 128) : turn x (ctab cs) (stab sn) j = rope x cs sn j := by
  unfold turn rope ctab stab other
  by_cases h : j.val < 32
  · simp only [dif_pos h, if_pos h, mul_neg, ← sub_eq_add_neg]
    exact congrArg (fun k => x j * cs ⟨j.val, h⟩ - x k * sn ⟨j.val, h⟩) (Fin.ext (by dsimp only; omega))
  · simp only [dif_neg h, if_neg h]
    by_cases h' : j.val < 64
    · simp only [dif_pos h']
      exact congrArg (fun k => x j * cs ⟨j.val - 32, by omega⟩ + x k * sn ⟨j.val - 32, by omega⟩) (Fin.ext (by dsimp only; omega))
    · simp only [dif_neg h', mul_zero, add_zero]

variable (x : Vec Ideal S1024x768 .f32) (g : Vec Ideal S1x256 .f32) (p q : Vec Ideal S1024x128 .f32)

theorem c_apply (i : Fin 1024) (j : Fin 256) :
    (k0_pay2 (F := Ideal) (k0_pay4 x) g (ix2 i j) : EReal)
      = normed (fun k => x (ix2 i ⟨384 + k.val, by omega⟩)) (fun k => g (ix2 0 k)) j := by
  unfold normed
  pointwise [k0_pay2, k0_pay4]
  try rfl

/-- Which lanes the comparison picks. -/
theorem lanes : ∀ j : Fin 128, IntOp.cmpi CmpIPredicate.slt (BitVec.ofNat 32 j.val) 32#32 = if j.val < 32 then 1#1 else 0#1 := by
  decide +kernel

theorem kr_apply (i : Fin 1024) (j : Fin 128) :
    (k0_pay3 (F := Ideal) (k0_pay4 x) (k0_pay5 p) (k0_pay6 q) (ix2 i j) : EReal)
      = turn (fun k => x (ix2 i ⟨640 + k.val, by omega⟩)) (fun k => p (ix2 i k)) (fun k => q (ix2 i k)) j := by
  unfold turn other
  pointwise [k0_pay3, k0_pay4, k0_pay5, k0_pay6]
  rw [lanes]
  by_cases h : j.val < 32
  · simp only [if_pos h]
    exact congrArg (fun n => (x (ix2 i ⟨640 + j.val, by omega⟩) * p (ix2 i j) + x (ix2 i n) * q (ix2 i j) : EReal)) (Fin.ext (by dsimp only; omega))
  · simp only [if_neg h]
    exact congrArg (fun n => (x (ix2 i ⟨640 + j.val, by omega⟩) * p (ix2 i j) + x (ix2 i n) * q (ix2 i j) : EReal)) (Fin.ext (by dsimp only; omega))

end Cert.PrepPure
-- ==== Proof.PrepBlocks.lean ====
/-
The blocks the latent call reads, as entries of its arguments, and its two result arrays: row `64 b + s` is the row of
batch row `b`, position `s`.
-/
module

public import proofs.«01_k».proof.Proof.PrepPure
public import proofs.«01_k».proof.Proof.Gen.Kernel5Ideal.Value
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.PrepBlocks

open Cert.Kernel5Ideal Cert.Kernel5Ideal.Gen Cert.PrepPure

variable (m : (ℓ : Loc nD τ sig) → Buf (Elt Ideal) ℓ) (c : Dev nD)

/-- Which block each window used takes at each grid point. -/
theorem idx : ∀ t : Fin cfg0.N, win0_0.index t = ![(grid0.coords t 0).val, 0]
    ∧ win0_1.index t = ![0, 0]
    ∧ win0_2.index t = ![0, 0]
    ∧ win0_4.index t = ![0, 0]
    ∧ win0_9.index t = ![(grid0.coords t 0).val, 0]
    ∧ win0_10.index t = ![(grid0.coords t 0).val, 0]
    ∧ (grid0.coords t 0).val < 2 :=
  (by decide +kernel : ∀ t : Fin grid0.N, _)

/-- Row `i` of a grid point's block. -/
def trow (t : Fin cfg0.N) (i : Fin 1024) : Fin 2048 :=
  ⟨1024 * (grid0.coords t 0).val + i.val, by have := (idx t).2.2.2.2.2.2; omega⟩

theorem iblk_def (w : Fin cfg0.W) (t : Fin cfg0.N) :
    iblk m c w t = ((cfg0.win w).blk t).view.read (Elt Ideal) (V m c (Pipeline.arrRef spec0 w)) := rfl

theorem rd0 (t : Fin cfg0.N) (f : FVec Ideal S2048x768 .f32) (y : S1024x768.Idx) :
    (show Vec Ideal S1024x768 .f32 from ((cfg0.win 0).blk t).view.read (Elt Ideal) f) y = f (((cfg0.win 0).blk t).view.emb y) := rfl

theorem em0 (t : Fin cfg0.N) (i : Fin 1024) (j : Fin 768) :
    (show S2048x768.Idx from ((cfg0.win 0).blk t).view.emb (show S1024x768.Idx from ix2 i j)) = ix2 (trow t i) j := by
  blk_ext [idx t, trow]

theorem blk0 (t : Fin cfg0.N) (i : Fin 1024) (j : Fin 768) :
    (show Vec Ideal S1024x768 .f32 from iblk m c 0 t) (ix2 i j) = (V m c main_v15 : FVec Ideal S2048x768 .f32) (ix2 (trow t i) j) := by
  rw [iblk_def]
  exact (rd0 t (V m c (Pipeline.arrRef spec0 0)) _).trans (congrArg (V m c main_v15 : FVec Ideal S2048x768 .f32) (em0 t i j))

theorem rd1 (t : Fin cfg0.N) (f : FVec Ideal S1024x128 .f32) (y : S1024x128.Idx) :
    (show Vec Ideal S1024x128 .f32 from ((cfg0.win 1).blk t).view.read (Elt Ideal) f) y = f (((cfg0.win 1).blk t).view.emb y) := rfl

theorem em1 (t : Fin cfg0.N) (i : Fin 1024) (j : Fin 128) :
    (show S1024x128.Idx from ((cfg0.win 1).blk t).view.emb (show S1024x128.Idx from ix2 i j)) = ix2 i j := by
  blk_ext [idx t]

theorem blk1 (t : Fin cfg0.N) (i : Fin 1024) (j : Fin 128) :
    (show Vec Ideal S1024x128 .f32 from iblk m c 1 t) (ix2 i j) = (V m c main_v19 : FVec Ideal S1024x128 .f32) (ix2 i j) := by
  rw [iblk_def]
  exact (rd1 t (V m c (Pipeline.arrRef spec0 1)) _).trans (congrArg (V m c main_v19 : FVec Ideal S1024x128 .f32) (em1 t i j))

theorem rd2 (t : Fin cfg0.N) (f : FVec Ideal S1024x128 .f32) (y : S1024x128.Idx) :
    (show Vec Ideal S1024x128 .f32 from ((cfg0.win 2).blk t).view.read (Elt Ideal) f) y = f (((cfg0.win 2).blk t).view.emb y) := rfl

theorem em2 (t : Fin cfg0.N) (i : Fin 1024) (j : Fin 128) :
    (show S1024x128.Idx from ((cfg0.win 2).blk t).view.emb (show S1024x128.Idx from ix2 i j)) = ix2 i j := by
  blk_ext [idx t]

theorem blk2 (t : Fin cfg0.N) (i : Fin 1024) (j : Fin 128) :
    (show Vec Ideal S1024x128 .f32 from iblk m c 2 t) (ix2 i j) = (V m c main_v24 : FVec Ideal S1024x128 .f32) (ix2 i j) := by
  rw [iblk_def]
  exact (rd2 t (V m c (Pipeline.arrRef spec0 2)) _).trans (congrArg (V m c main_v24 : FVec Ideal S1024x128 .f32) (em2 t i j))

theorem rd4 (t : Fin cfg0.N) (f : FVec Ideal S1x256 .f32) (y : S1x256.Idx) :
    (show Vec Ideal S1x256 .f32 from ((cfg0.win 4).blk t).view.read (Elt Ideal) f) y = f (((cfg0.win 4).blk t).view.emb y) := rfl

theorem em4 (t : Fin cfg0.N) (i : Fin 1) (j : Fin 256) :
    (show S1x256.Idx from ((cfg0.win 4).blk t).view.emb (show S1x256.Idx from ix2 i j)) = ix2 i j := by
  blk_ext [idx t]

theorem blk4 (t : Fin cfg0.N) (i : Fin 1) (j : Fin 256) :
    (show Vec Ideal S1x256 .f32 from iblk m c 4 t) (ix2 i j) = (V m c main_v1 : FVec Ideal S1x256 .f32) (ix2 i j) := by
  rw [iblk_def]
  exact (rd4 t (V m c (Pipeline.arrRef spec0 4)) _).trans (congrArg (V m c main_v1 : FVec Ideal S1x256 .f32) (em4 t i j))

/-- The row of the latent array at a row, its cosines, its sines and the gains. -/
abbrev xAt (r : Fin 2048) (k : Fin 768) : EReal :=
  (m ((c.tc : Thread nD τ).loc main_arg0) : FVec Ideal S32x64x768 .f32) (ix3 (⟨r.val / 64, by omega⟩ : Fin 32) (⟨r.val % 64, by omega⟩ : Fin 64) k)
abbrev cAt (s : Fin 64) (k : Fin 32) : EReal := (m ((c.tc : Thread nD τ).loc main_arg1) : FVec Ideal S64x32 .f32) (ix2 s k)
abbrev sAt (s : Fin 64) (k : Fin 32) : EReal := (m ((c.tc : Thread nD τ).loc main_arg2) : FVec Ideal S64x32 .f32) (ix2 s k)
abbrev gAt (k : Fin 256) : EReal := (m ((c.tc : Thread nD τ).loc main_arg4) : FVec Ideal S256 .f32) (ix1 k)

theorem host15 (r : Fin 2048) (k : Fin 768) : ((V m c main_v15 : FVec Ideal S2048x768 .f32) (ix2 r k) : EReal) = xAt m c r k := by
  unfold xAt
  after_reads_simp
  pointwise
  try rfl

theorem host1 (i : Fin 1) (k : Fin 256) : ((V m c main_v1 : FVec Ideal S1x256 .f32) (ix2 i k) : EReal) = gAt m c k := by
  unfold gAt
  after_reads_simp
  pointwise
  try rfl

theorem host19 (i : Fin 1024) (k : Fin 128) : ((V m c main_v19 : FVec Ideal S1024x128 .f32) (ix2 i k) : EReal) = ctab (cAt m c ⟨i.val % 64, by omega⟩) k := by
  after_reads_simp
  unfold ctab cAt
  pointwise
  after_reads_simp
  pointwise
  repeat' split
  all_goals first
    | (exfalso; omega)
    | rfl
    | exact congrArg (fun n => (m ((c.tc : Thread nD τ).loc main_arg1) : FVec Ideal S64x32 .f32) (ix2 _ n)) (Fin.ext (by dsimp only <;> omega))

theorem host24 (i : Fin 1024) (k : Fin 128) : ((V m c main_v24 : FVec Ideal S1024x128 .f32) (ix2 i k) : EReal) = stab (sAt m c ⟨i.val % 64, by omega⟩) k := by
  after_reads_simp
  unfold stab sAt
  pointwise
  after_reads_simp
  pointwise
  repeat' split
  all_goals first
    | (exfalso; omega)
    | rfl
    | exact congrArg (fun n => - (m ((c.tc : Thread nD τ).loc main_arg2) : FVec Ideal S64x32 .f32) (ix2 _ n)) (Fin.ext (by dsimp only <;> omega))
    | exact congrArg (fun n => (m ((c.tc : Thread nD τ).loc main_arg2) : FVec Ideal S64x32 .f32) (ix2 _ n)) (Fin.ext (by dsimp only <;> omega))

/-- An element of the latent's norm. -/
def at9 (r : Fin 2048) (j : Fin 256) : EReal := normed (fun k => xAt m c r ⟨384 + k.val, by omega⟩) (gAt m c) j

/-- An element of the rotated key. -/
def at10 (r : Fin 2048) (j : Fin 128) : EReal :=
  rope (fun k => xAt m c r ⟨640 + k.val, by omega⟩) (cAt m c ⟨r.val % 64, by omega⟩) (sAt m c ⟨r.val % 64, by omega⟩) j

theorem at_zero : ∀ a : Fin 2, (![0, 0] : Fin 2 → Nat) a = 0 := by decide

theorem out9_eq (x0 : Vec Ideal S1024x768 .f32) (x1 : Vec Ideal S1024x128 .f32) (x2 : Vec Ideal S1024x128 .f32) (x3 : Vec Ideal S1x384 .f32) (x4 : Vec Ideal S1x256 .f32) (x5 : Vec Ideal S384x1024 .bf16) (x6 : Vec Ideal S256x512 .bf16) (x7 : Vec Ideal S512x256 .bf16) :
    out0_9 (F := Ideal) x0 x1 x2 x3 x4 x5 x6 x7 = k0_pay2 (k0_pay4 x0) x4 := by
  unfold_out out0_9
  rw [View.canon_cons_unit_lit _ _ _ at_zero]
  exact congrArg₂ (fun a b => k0_pay2 (k0_pay4 a) b) (View.ld_unit_lit _ x0 at_zero) (View.ld_unit_lit _ x4 at_zero)

theorem out10_eq (x0 : Vec Ideal S1024x768 .f32) (x1 : Vec Ideal S1024x128 .f32) (x2 : Vec Ideal S1024x128 .f32) (x3 : Vec Ideal S1x384 .f32) (x4 : Vec Ideal S1x256 .f32) (x5 : Vec Ideal S384x1024 .bf16) (x6 : Vec Ideal S256x512 .bf16) (x7 : Vec Ideal S512x256 .bf16) :
    out0_10 (F := Ideal) x0 x1 x2 x3 x4 x5 x6 x7 = k0_pay3 (k0_pay4 x0) (k0_pay5 x1) (k0_pay6 x2) := by
  unfold_out out0_10
  rw [View.canon_cons_unit_lit _ _ _ at_zero]
  refine (congrArg (fun a => k0_pay3 (k0_pay4 a) _ _) (View.ld_unit_lit _ x0 at_zero)).trans ?_
  exact congrArg₂ (fun a b => k0_pay3 (k0_pay4 x0) (k0_pay5 a) (k0_pay6 b)) (View.ld_unit_lit _ x1 at_zero) (View.ld_unit_lit _ x2 at_zero)

theorem value9 (t : Fin cfg0.N) (i : Fin 1024) (j : Fin 256) :
    ((show Vec Ideal S1024x256 .f32 from out0_9 (iblk m c 0 t) (iblk m c 1 t) (iblk m c 2 t) (iblk m c 3 t) (iblk m c 4 t) (iblk m c 5 t) (iblk m c 6 t) (iblk m c 7 t)) (ix2 i j) : EReal)
      = at9 m c (trow t i) j := by
  dsimp only
  rw [out9_eq]
  refine (c_apply _ _ i j).trans ?_
  exact congrArg₂ (fun x g => normed x g j) (funext fun k => (blk0 m c t i _).trans (host15 m c _ _)) (funext fun k => (blk4 m c t 0 k).trans (host1 m c 0 k))

theorem trow_mod (t : Fin cfg0.N) (i : Fin 1024) : i.val % 64 = (trow t i).val % 64 := by
  unfold trow
  dsimp only
  omega

theorem value10 (t : Fin cfg0.N) (i : Fin 1024) (j : Fin 128) :
    ((show Vec Ideal S1024x128 .f32 from out0_10 (iblk m c 0 t) (iblk m c 1 t) (iblk m c 2 t) (iblk m c 3 t) (iblk m c 4 t) (iblk m c 5 t) (iblk m c 6 t) (iblk m c 7 t)) (ix2 i j) : EReal)
      = at10 m c (trow t i) j := by
  have hs : (⟨i.val % 64, by omega⟩ : Fin 64) = ⟨(trow t i).val % 64, by omega⟩ := Fin.ext (trow_mod t i)
  dsimp only
  rw [out10_eq]
  refine (kr_apply _ _ _ i j).trans ?_
  have h0 : (fun k : Fin 128 => ((show Vec Ideal S1024x768 .f32 from iblk m c 0 t) (ix2 i (⟨640 + k.val, by omega⟩ : Fin 768)) : EReal)) = fun k => xAt m c (trow t i) ⟨640 + k.val, by omega⟩ :=
    funext fun k => (blk0 m c t i _).trans (host15 m c _ _)
  have h1 : (fun k : Fin 128 => ((show Vec Ideal S1024x128 .f32 from iblk m c 1 t) (ix2 i k) : EReal)) = ctab (cAt m c ⟨(trow t i).val % 64, by omega⟩) :=
    funext fun k => ((blk1 m c t i k).trans (host19 m c i k)).trans (congrArg (fun s => ctab (cAt m c s) k) hs)
  have h2 : (fun k : Fin 128 => ((show Vec Ideal S1024x128 .f32 from iblk m c 2 t) (ix2 i k) : EReal)) = stab (sAt m c ⟨(trow t i).val % 64, by omega⟩) :=
    funext fun k => ((blk2 m c t i k).trans (host24 m c i k)).trans (congrArg (fun s => stab (sAt m c s) k) hs)
  refine (congrArg (fun x => turn x _ _ j) h0).trans ?_
  refine (congrArg₂ (fun p q => turn _ p q j) h1 h2).trans ?_
  exact turn_tab _ _ _ j

theorem em9 (t : Fin cfg0.N) (i : Fin 1024) (j : Fin 256) :
    (show S2048x256.Idx from ((cfg0.win 9).blk t).view.emb (show S1024x256.Idx from ix2 i j)) = ix2 (trow t i) j := by
  blk_ext [idx t, trow]

def arr9 : FVec Ideal S2048x256 .f32 := fun y => at9 m c ⟨(y 0).val, (y 0).isLt⟩ ⟨(y 1).val, (y 1).isLt⟩

theorem array9 : (dats m 0 c).arrAt 9 cfg0.N = arr9 m c := by
  refine (dats m 0 c).arrAt_eq_of_covers 9 _ (by decide +kernel) fun t hf y => ?_
  blk_simp
  rw [after0_9]
  obtain ⟨i, j, rfl⟩ : ∃ (i : Fin 1024) (j : Fin 256), y = (show S1024x256.Idx from ix2 i j) :=
    ⟨⟨(y 0).val, (y 0).isLt⟩, ⟨(y 1).val, (y 1).isLt⟩, funext fun a => by
      match a with
      | 0 => rfl
      | 1 => rfl⟩
  refine (value9 m c t i j).trans ?_
  exact (congrArg (arr9 m c) (em9 t i j)).symm

theorem em10 (t : Fin cfg0.N) (i : Fin 1024) (j : Fin 128) :
    (show S2048x128.Idx from ((cfg0.win 10).blk t).view.emb (show S1024x128.Idx from ix2 i j)) = ix2 (trow t i) j := by
  blk_ext [idx t, trow]

def arr10 : FVec Ideal S2048x128 .f32 := fun y => at10 m c ⟨(y 0).val, (y 0).isLt⟩ ⟨(y 1).val, (y 1).isLt⟩

theorem array10 : (dats m 0 c).arrAt 10 cfg0.N = arr10 m c := by
  refine (dats m 0 c).arrAt_eq_of_covers 10 _ (by decide +kernel) fun t hf y => ?_
  blk_simp
  rw [after0_10]
  obtain ⟨i, j, rfl⟩ : ∃ (i : Fin 1024) (j : Fin 128), y = (show S1024x128.Idx from ix2 i j) :=
    ⟨⟨(y 0).val, (y 0).isLt⟩, ⟨(y 1).val, (y 1).isLt⟩, funext fun a => by
      match a with
      | 0 => rfl
      | 1 => rfl⟩
  refine (value10 m c t i j).trans ?_
  exact (congrArg (arr10 m c) (em10 t i j)).symm

end Cert.PrepBlocks
-- ==== Proof.PrepRef.lean ====
/-
The reference's latent and key, stage by stage, at an element.
-/
module

public import proofs.«01_k».proof.Proof.PrepPure
public import proofs.«01_k».proof.Proof.Gen.Reference5Ideal.Read

@[expose] public section

set_option maxRecDepth 16384

noncomputable section

open Idealize.ShloMosaic

namespace Cert.PrepRef

open Cert.Reference5Ideal Cert.Reference5Ideal.Gen Cert.Reference5Ideal.Read Cert.PrepPure

variable (x0 : FVec Ideal S32x64x768 .f32) (x1 x2 : FVec Ideal S64x32 .f32) (x4 : FVec Ideal S256 .f32)

theorem v34_apply (r : Fin 2048) (j : Fin 256) :
    (val_main_v34 (F := Ideal) x0 x4 (ix2 r j) : EReal)
      = normed (fun k => x0 (ix3 (⟨r.val / 64, by omega⟩ : Fin 32) (⟨r.val % 64, by omega⟩ : Fin 64) (⟨384 + k.val, by omega⟩ : Fin 768))) (fun k => x4 (ix1 k)) j := by
  unfold normed
  pointwise [val_main_v34, val_main_v14, val_main_v13, val_main_v12, val_main_v11, val_main_v10, val_main_v9, val_main_v8, val_main_v7, val_main_v6, val_main_v5, val_main_v4, val_main_v3, val_main_v2, val_main_v0, val_main_cst, val_main_cst_0, val_main_cst_1]
  try rfl

theorem v35_apply (r : Fin 2048) (j : Fin 128) :
    (val_main_v35 (F := Ideal) x0 x1 x2 (ix2 r j) : EReal)
      = rope (fun k => x0 (ix3 (⟨r.val / 64, by omega⟩ : Fin 32) (⟨r.val % 64, by omega⟩ : Fin 64) (⟨640 + k.val, by omega⟩ : Fin 768)))
          (fun k => x1 (ix2 (⟨r.val % 64, by omega⟩ : Fin 64) k)) (fun k => x2 (ix2 (⟨r.val % 64, by omega⟩ : Fin 64) k)) j := by
  unfold rope
  pointwise [val_main_v35, val_main_v33, val_main_v32, val_main_cst_2, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v1]
  by_cases h : j.val < 32
  · have h' : j.val < 64 := by omega
    simp only [dif_pos h, dif_pos h']
    exact congrArg (fun n : Fin 768 => (x0 (ix3 (⟨r.val / 64, by omega⟩ : Fin 32) (⟨r.val % 64, by omega⟩ : Fin 64) (⟨640 + j.val, by omega⟩ : Fin 768)) * x1 (ix2 (⟨r.val % 64, by omega⟩ : Fin 64) (⟨j.val, h⟩ : Fin 32))
      - x0 (ix3 (⟨r.val / 64, by omega⟩ : Fin 32) (⟨r.val % 64, by omega⟩ : Fin 64) n) * x2 (ix2 (⟨r.val % 64, by omega⟩ : Fin 64) (⟨j.val, h⟩ : Fin 32)) : EReal)) (Fin.ext (by dsimp only; omega))
  · simp only [dif_neg h]
    by_cases h' : j.val < 64
    · simp only [dif_pos h']
      exact congrArg (fun n : Fin 768 => (x0 (ix3 (⟨r.val / 64, by omega⟩ : Fin 32) (⟨r.val % 64, by omega⟩ : Fin 64) n) * x1 (ix2 (⟨r.val % 64, by omega⟩ : Fin 64) (⟨j.val - 32, by omega⟩ : Fin 32))
        + x0 (ix3 (⟨r.val / 64, by omega⟩ : Fin 32) (⟨r.val % 64, by omega⟩ : Fin 64) (⟨640 + (j.val - 32), by omega⟩ : Fin 768)) * x2 (ix2 (⟨r.val % 64, by omega⟩ : Fin 64) (⟨j.val - 32, by omega⟩ : Fin 32)) : EReal)) (Fin.ext (by dsimp only; omega))
    · simp only [dif_neg h']

end Cert.PrepRef
-- ==== Proof.PrepGoal.lean ====
/-
The latent call and its reference return the same two arrays.
-/
module

public import proofs.«01_k».proof.Proof.PrepBlocks
public import proofs.«01_k».proof.Proof.PrepRef
public import proofs.«01_k».proof.Proof.Gen.Reference5Ideal.Run
public import proofs.«01_k».proof.Defs

@[expose] public section

set_option maxRecDepth 16384

noncomputable section

open Idealize.ShloMosaic Idealize.ShloMosaic.TcCoe Idealize.SL.Sem

namespace Cert.PrepGoal

open Cert.Kernel5Ideal

variable (m : (ℓ : Loc nD τ sig) → Buf (Elt Ideal) ℓ) (c : Dev nD)

/-- An index of a two dimensional array from its two coordinates. -/
theorem ix_eta {n k : ℕ} (y : (⟨2, ![n, k]⟩ : Shape).Idx) : y = ix2 (⟨(y 0).val, (y 0).isLt⟩ : Fin n) (⟨(y 1).val, (y 1).isLt⟩ : Fin k) :=
  funext fun a => by
    match a with
    | 0 => rfl
    | 1 => rfl

theorem v34_array : Cert.Reference5Ideal.Read.val_main_v34 (F := Ideal) (m ((c.tc : Thread nD τ).loc main_arg0)) (m ((c.tc : Thread nD τ).loc main_arg4)) = Cert.PrepBlocks.arr9 m c := by
  funext y
  rw [show y = (show S2048x256.Idx from ix2 (⟨(y 0).val, (y 0).isLt⟩ : Fin 2048) (⟨(y 1).val, (y 1).isLt⟩ : Fin 256)) from ix_eta y]
  exact Cert.PrepRef.v34_apply _ _ _ _

theorem v35_array : Cert.Reference5Ideal.Read.val_main_v35 (F := Ideal) (m ((c.tc : Thread nD τ).loc main_arg0)) (m ((c.tc : Thread nD τ).loc main_arg1)) (m ((c.tc : Thread nD τ).loc main_arg2)) = Cert.PrepBlocks.arr10 m c := by
  funext y
  rw [show y = (show S2048x128.Idx from ix2 (⟨(y 0).val, (y 0).isLt⟩ : Fin 2048) (⟨(y 1).val, (y 1).isLt⟩ : Fin 128)) from ix_eta y]
  exact Cert.PrepRef.v35_apply _ _ _ _ _

section Reference

variable (m' : (ℓ : Loc Cert.Reference5Ideal.nD Cert.Reference5Ideal.τ Cert.Reference5Ideal.sig) → Buf (Elt Ideal) ℓ)
  (e0 : m' ((c.tc : Thread Cert.Reference5Ideal.nD Cert.Reference5Ideal.τ).loc Cert.Reference5Ideal.main_arg0) = m ((c.tc : Thread nD τ).loc main_arg0))
  (e1 : m' ((c.tc : Thread Cert.Reference5Ideal.nD Cert.Reference5Ideal.τ).loc Cert.Reference5Ideal.main_arg1) = m ((c.tc : Thread nD τ).loc main_arg1))
  (e2 : m' ((c.tc : Thread Cert.Reference5Ideal.nD Cert.Reference5Ideal.τ).loc Cert.Reference5Ideal.main_arg2) = m ((c.tc : Thread nD τ).loc main_arg2))
  (e4 : m' ((c.tc : Thread Cert.Reference5Ideal.nD Cert.Reference5Ideal.τ).loc Cert.Reference5Ideal.main_arg4) = m ((c.tc : Thread nD τ).loc main_arg4))

include e0 e4 in
theorem v34_same : Cert.Reference5Ideal.Read.val_main_v34 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg4)) = (Cert.Kernel5Ideal.Gen.dats m 0 c).arrAt 9 Cert.Kernel5Ideal.cfg0.N := by
  rw [e0, e4, Cert.PrepBlocks.array9]
  exact v34_array m c

include e0 e1 e2 in
theorem v35_same : Cert.Reference5Ideal.Read.val_main_v35 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = (Cert.Kernel5Ideal.Gen.dats m 0 c).arrAt 10 Cert.Kernel5Ideal.cfg0.N := by
  rw [e0, e1, e2, Cert.PrepBlocks.array10]
  exact v35_array m c

end Reference

theorem algebraic : Cert.algebraic_Kernel5Ideal_Reference5Ideal := fun m ρ m' ρ' _ hag =>
  ⟨fun c => (Cert.Kernel5Ideal.Gen.dats m 0 c).arrAt 9 Cert.Kernel5Ideal.cfg0.N,
    fun c => (Cert.Kernel5Ideal.Gen.dats m 0 c).arrAt 10 Cert.Kernel5Ideal.cfg0.N,
    (θ_run _ _ _).mono (fun _ h c => ⟨(h c).2.1, (h c).2.2.1, (h c).2.2.2⟩) (Cert.Kernel5Ideal.Value.run_blocks m ρ),
    (θ_run _ _ _).mono (fun _ h c => ⟨(h c).1.trans ((Cert.Reference5Ideal.Read.val_main_v34_eq _ _).trans (v34_same m c m' (hag c).1 (hag c).2.2.2.2.1)),
      (h c).2.1.trans ((Cert.Reference5Ideal.Read.val_main_v35_eq _ _ _).trans (v35_same m c m' (hag c).1 (hag c).2.1 (hag c).2.2.1)), (h c).2.2⟩)
      (Cert.Reference5Ideal.Value.run m' ρ')⟩

end Cert.PrepGoal
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.Goal
public import proofs.«01_k».proof.Proof.OutGoal
public import proofs.«01_k».proof.Proof.ProjGoal
public import proofs.«01_k».proof.Proof.EntryGoal
public import proofs.«01_k».proof.Proof.PrepGoal
public import Idealize.ShloMosaic.Adequacy
public import Idealize.ShloMosaic.Init

@[expose] public section

noncomputable section

namespace Cert.Proof

open Idealize.ShloMosaic Idealize.SL.Sem Cert.Kernel

/-- The reference leaves its arguments alone, and has no counter to leave standing. -/
theorem reference_frame : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run m ρ)

theorem reference2_frame : Cert.quiescent_Reference2Ideal := fun m ρ _ =>
  (θ_run (Cert.Reference2Ideal.defs (F := Ideal)) _ _).mono
    (fun r h => ⟨fun c => (h c).2, Idealize.ShloMosaic.sem_eq_zero_of_no_sems (by decide) r.2⟩)
    (Cert.Reference2Ideal.Value.run m ρ)

theorem reference3_frame : Cert.quiescent_Reference3Ideal := fun m ρ _ =>
  (θ_run (Cert.Reference3Ideal.defs (F := Ideal)) _ _).mono
    (fun r h => ⟨fun c => (h c).2.2.2.2, Idealize.ShloMosaic.sem_eq_zero_of_no_sems (by decide) r.2⟩)
    (Cert.Reference3Ideal.Value.run m ρ)

theorem reference4_frame : Cert.quiescent_Reference4Ideal := fun m ρ _ =>
  (θ_run (Cert.Reference4Ideal.defs (F := Ideal)) _ _).mono
    (fun r h => ⟨fun c => (h c).2.2.2.2, Idealize.ShloMosaic.sem_eq_zero_of_no_sems (by decide) r.2⟩)
    (Cert.Reference4Ideal.Value.run m ρ)

theorem reference5_frame : Cert.quiescent_Reference5Ideal := fun m ρ _ =>
  (θ_run (Cert.Reference5Ideal.defs (F := Ideal)) _ _).mono
    (fun r h => ⟨fun c => (h c).2.2, Idealize.ShloMosaic.sem_eq_zero_of_no_sems (by decide) r.2⟩)
    (Cert.Reference5Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  IdealRules.named_const.statement Cert.KernelIdeal.κ "q_scale" .f32 0x3DD53B95#32
    (((Real.sqrt 192)⁻¹ * (Real.log 2)⁻¹ : ℝ) : EReal) rfl,
  Cert.Goal.algebraic, trivial, Cert.OutGoal.algebraic, trivial, Cert.ProjGoal.algebraic, trivial, Cert.EntryGoal.algebraic, trivial, Cert.PrepGoal.algebraic⟩

end Cert.Proof

end
